-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x32x3 : Shape := ⟨4, ![2, 1024, 32, 3]⟩
abbrev S64x3 : Shape := ⟨2, ![64, 3]⟩
abbrev S64 : Shape := ⟨1, ![64]⟩
abbrev S64x64 : Shape := ⟨2, ![64, 64]⟩
abbrev S128x64 : Shape := ⟨2, ![128, 64]⟩
abbrev S128 : Shape := ⟨1, ![128]⟩
abbrev S128x131 : Shape := ⟨2, ![128, 131]⟩
abbrev S256x128 : Shape := ⟨2, ![256, 128]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S2x1024x32x3 : S_.BroadcastsInDim S2x1024x32x3 (![] : Fin 0 → Fin S2x1024x32x3.rank)
  reducesTo_S2x1024x32x3_S_d0_1_2_3 : S2x1024x32x3.ReducesTo [0, 1, 2, 3] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x131 : S_.BroadcastsInDim S128x131 (![] : Fin 0 → Fin S128x131.rank)
  reducesTo_S128x131_S_d0_1 : S128x131.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part7 {F : FTy → Type} [FloatOps F] (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  main_v123

def fn_part6 {F : FTy → Type} [FloatOps F] (main_arg21 : FVec F S512x256 .f32) (main_arg22 : FVec F S512 .f32) (main_arg23 : FVec F S512 .f32) (main_arg24 : FVec F S512 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S512x256 .f32 := Host.absf main_arg21
  let main_cst_40 : FVec F S_ .f32 := constant S_ .f32 0x7F800000#32
  let main_v105 : FVec F S512x256 .f32 := broadcastInDim S512x256 ![] bcast_S_S512x256 main_cst_40
  let main_v106 : IVec S512x256 1 := cmpf .olt main_v104 main_v105
  let main_c_41 : IVec S_ 1 := constantI S_ 1 1#1
  let main_v107 : IVec S_ 1 := (fun x v => Host.reduce IntOp.andi x v reducesTo_S512x256_S_d0_1 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg24
  fn_part7 (F := F) main_v118 main_v119

def fn_part5 {F : FTy → Type} [FloatOps F] (main_arg18 : FVec F S256 .f32) (main_arg19 : FVec F S256 .f32) (main_arg20 : FVec F S256 .f32) (main_arg21 : FVec F S512x256 .f32) (main_arg22 : FVec F S512 .f32) (main_arg23 : FVec F S512 .f32) (main_arg24 : FVec F S512 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S128 .f32) (main_arg15 : FVec F S128 .f32) (main_arg16 : FVec F S128 .f32) (main_arg17 : FVec F S256x128 .f32) (main_arg18 : FVec F S256 .f32) (main_arg19 : FVec F S256 .f32) (main_arg20 : FVec F S256 .f32) (main_arg21 : FVec F S512x256 .f32) (main_arg22 : FVec F S512 .f32) (main_arg23 : FVec F S512 .f32) (main_arg24 : FVec F S512 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S128 .f32) (main_arg12 : FVec F S128 .f32) (main_arg13 : FVec F S128x131 .f32) (main_arg14 : FVec F S128 .f32) (main_arg15 : FVec F S128 .f32) (main_arg16 : FVec F S128 .f32) (main_arg17 : FVec F S256x128 .f32) (main_arg18 : FVec F S256 .f32) (main_arg19 : FVec F S256 .f32) (main_arg20 : FVec F S256 .f32) (main_arg21 : FVec F S512x256 .f32) (main_arg22 : FVec F S512 .f32) (main_arg23 : FVec F S512 .f32) (main_arg24 : FVec F S512 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x131 .f32 := Host.absf main_arg13
  let main_cst_24 : FVec F S_ .f32 := constant S_ .f32 0x7F800000#32
  let main_v65 : FVec F S128x131 .f32 := broadcastInDim S128x131 ![] bcast_S_S128x131 main_cst_24
  let main_v66 : IVec S128x131 1 := cmpf .olt main_v64 main_v65
  let main_c_25 : IVec S_ 1 := constantI S_ 1 1#1
  let main_v67 : IVec S_ 1 := (fun x v => Host.reduce IntOp.andi x v reducesTo_S128x131_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S64 .f32) (main_arg8 : FVec F S64 .f32) (main_arg9 : FVec F S128x64 .f32) (main_arg10 : FVec F S128 .f32) (main_arg11 : FVec F S128 .f32) (main_arg12 : FVec F S128 .f32) (main_arg13 : FVec F S128x131 .f32) (main_arg14 : FVec F S128 .f32) (main_arg15 : FVec F S128 .f32) (main_arg16 : FVec F S128 .f32) (main_arg17 : FVec F S256x128 .f32) (main_arg18 : FVec F S256 .f32) (main_arg19 : FVec F S256 .f32) (main_arg20 : FVec F S256 .f32) (main_arg21 : FVec F S512x256 .f32) (main_arg22 : FVec F S512 .f32) (main_arg23 : FVec F S512 .f32) (main_arg24 : FVec F S512 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S64 .f32) (main_arg5 : FVec F S64x64 .f32) (main_arg6 : FVec F S64 .f32) (main_arg7 : FVec F S64 .f32) (main_arg8 : FVec F S64 .f32) (main_arg9 : FVec F S128x64 .f32) (main_arg10 : FVec F S128 .f32) (main_arg11 : FVec F S128 .f32) (main_arg12 : FVec F S128 .f32) (main_arg13 : FVec F S128x131 .f32) (main_arg14 : FVec F S128 .f32) (main_arg15 : FVec F S128 .f32) (main_arg16 : FVec F S128 .f32) (main_arg17 : FVec F S256x128 .f32) (main_arg18 : FVec F S256 .f32) (main_arg19 : FVec F S256 .f32) (main_arg20 : FVec F S256 .f32) (main_arg21 : FVec F S512x256 .f32) (main_arg22 : FVec F S512 .f32) (main_arg23 : FVec F S512 .f32) (main_arg24 : FVec F S512 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S2x1024x32x3 .f32) (main_arg1 : FVec F S64x3 .f32) (main_arg2 : FVec F S64 .f32) (main_arg3 : FVec F S64 .f32) (main_arg4 : FVec F S64 .f32) (main_arg5 : FVec F S64x64 .f32) (main_arg6 : FVec F S64 .f32) (main_arg7 : FVec F S64 .f32) (main_arg8 : FVec F S64 .f32) (main_arg9 : FVec F S128x64 .f32) (main_arg10 : FVec F S128 .f32) (main_arg11 : FVec F S128 .f32) (main_arg12 : FVec F S128 .f32) (main_arg13 : FVec F S128x131 .f32) (main_arg14 : FVec F S128 .f32) (main_arg15 : FVec F S128 .f32) (main_arg16 : FVec F S128 .f32) (main_arg17 : FVec F S256x128 .f32) (main_arg18 : FVec F S256 .f32) (main_arg19 : FVec F S256 .f32) (main_arg20 : FVec F S256 .f32) (main_arg21 : FVec F S512x256 .f32) (main_arg22 : FVec F S512 .f32) (main_arg23 : FVec F S512 .f32) (main_arg24 : FVec F S512 .f32) : IVec S_ 1 :=
  let main_v0 : FVec F S2x1024x32x3 .f32 := Host.absf main_arg0
  let main_cst : FVec F S_ .f32 := constant S_ .f32 0x7F800000#32
  let main_v1 : FVec F S2x1024x32x3 .f32 := broadcastInDim S2x1024x32x3 ![] bcast_S_S2x1024x32x3 main_cst
  let main_v2 : IVec S2x1024x32x3 1 := cmpf .olt main_v0 main_v1
  let main_c : IVec S_ 1 := constantI S_ 1 1#1
  let main_v3 : IVec S_ 1 := (fun x v => Host.reduce IntOp.andi x v reducesTo_S2x1024x32x3_S_d0_1_2_3 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S2x1024x32x3 : Shape := ⟨4, ![2, 1024, 32, 3]⟩
abbrev S64x3 : Shape := ⟨2, ![64, 3]⟩
abbrev S64 : Shape := ⟨1, ![64]⟩
abbrev S64x64 : Shape := ⟨2, ![64, 64]⟩
abbrev S128x64 : Shape := ⟨2, ![128, 64]⟩
abbrev S128 : Shape := ⟨1, ![128]⟩
abbrev S128x131 : Shape := ⟨2, ![128, 131]⟩
abbrev S256x128 : Shape := ⟨2, ![256, 128]⟩
abbrev S256 : Shape := ⟨1, ![256]⟩
abbrev S512x256 : Shape := ⟨2, ![512, 256]⟩
abbrev S512 : Shape := ⟨1, ![512]⟩
abbrev S2048x32x3 : Shape := ⟨3, ![2048, 32, 3]⟩
abbrev S3x2048x32 : Shape := ⟨3, ![3, 2048, 32]⟩
abbrev S1x2048x32 : Shape := ⟨3, ![1, 2048, 32]⟩
abbrev S2048x32 : Shape := ⟨2, ![2048, 32]⟩
abbrev S3x64 : Shape := ⟨2, ![3, 64]⟩
abbrev S1x64 : Shape := ⟨2, ![1, 64]⟩
abbrev S2048x64x64 : Shape := ⟨3, ![2048, 64, 64]⟩
abbrev S2048x8 : Shape := ⟨2, ![2048, 8]⟩
abbrev S8x64 : Shape := ⟨2, ![8, 64]⟩
abbrev S128x32 : Shape := ⟨2, ![128, 32]⟩
abbrev S128x64x64 : Shape := ⟨3, ![128, 64, 64]⟩
abbrev S128x8 : Shape := ⟨2, ![128, 8]⟩
abbrev S128x1 : Shape := ⟨2, ![128, 1]⟩
abbrev S128x256 : Shape := ⟨2, ![128, 256]⟩
abbrev S256x256 : Shape := ⟨2, ![256, 256]⟩
abbrev S1024x32 : Shape := ⟨2, ![1024, 32]⟩
abbrev S1x1x64 : Shape := ⟨3, ![1, 1, 64]⟩
abbrev S128x1024 : Shape := ⟨2, ![128, 1024]⟩
abbrev S128x8x1 : Shape := ⟨3, ![128, 8, 1]⟩
abbrev S128x8x64 : Shape := ⟨3, ![128, 8, 64]⟩
abbrev S131072x64 : Shape := ⟨2, ![131072, 64]⟩
abbrev S8192x64 : Shape := ⟨2, ![8192, 64]⟩
abbrev S64x128 : Shape := ⟨2, ![64, 128]⟩
abbrev S1x128 : Shape := ⟨2, ![1, 128]⟩
abbrev S131072x128 : Shape := ⟨2, ![131072, 128]⟩
abbrev S8x128 : Shape := ⟨2, ![8, 128]⟩
abbrev S8192x128 : Shape := ⟨2, ![8192, 128]⟩
abbrev S2048x64x128 : Shape := ⟨3, ![2048, 64, 128]⟩
abbrev S16384x1 : Shape := ⟨2, ![16384, 1]⟩
abbrev S128x128 : Shape := ⟨2, ![128, 128]⟩
abbrev S16384x128 : Shape := ⟨2, ![16384, 128]⟩
abbrev S128x64x128 : Shape := ⟨3, ![128, 64, 128]⟩
abbrev S1024x1 : Shape := ⟨2, ![1024, 1]⟩
abbrev S1024x128 : Shape := ⟨2, ![1024, 128]⟩
abbrev S1x1x128 : Shape := ⟨3, ![1, 1, 128]⟩
abbrev S128x8x8x128 : Shape := ⟨4, ![128, 8, 8, 128]⟩
abbrev S128x8x128 : Shape := ⟨3, ![128, 8, 128]⟩
abbrev S1x256 : Shape := ⟨2, ![1, 256]⟩
abbrev S16384x256 : Shape := ⟨2, ![16384, 256]⟩
abbrev S8x256 : Shape := ⟨2, ![8, 256]⟩
abbrev S4096x128 : Shape := ⟨2, ![4096, 128]⟩
abbrev S4096x256 : Shape := ⟨2, ![4096, 256]⟩
abbrev S256x512 : Shape := ⟨2, ![256, 512]⟩
abbrev S1x512 : Shape := ⟨2, ![1, 512]⟩
abbrev S16384x512 : Shape := ⟨2, ![16384, 512]⟩
abbrev S8x512 : Shape := ⟨2, ![8, 512]⟩
abbrev S2048x256 : Shape := ⟨2, ![2048, 256]⟩
abbrev S2048x512 : Shape := ⟨2, ![2048, 512]⟩
abbrev S256x8x512 : Shape := ⟨3, ![256, 8, 512]⟩
abbrev S2x1024x512 : Shape := ⟨3, ![2, 1024, 512]⟩

abbrev nBuf : Space → Nat
  | .hbm => 89
  | .vmem => 83
  | .smem => 0
  | _ => 0

abbrev bufTy : (tb : Table) → Fin (tcTables nBuf tb) → BufTy
  | .hbm, ⟨0, _⟩ => ⟨S2x1024x32x3, .f32⟩
  | .hbm, ⟨1, _⟩ => ⟨S64x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128x64, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x131, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S256x128, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S512x256, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S2048x32x3, .f32⟩
  | .hbm, ⟨26, _⟩ => ⟨S3x2048x32, .f32⟩
  | .hbm, ⟨27, _⟩ => ⟨S1x2048x32, .f32⟩
  | .hbm, ⟨28, _⟩ => ⟨S2048x32, .f32⟩
  | .hbm, ⟨29, _⟩ => ⟨S1x2048x32, .f32⟩
  | .hbm, ⟨30, _⟩ => ⟨S2048x32, .f32⟩
  | .hbm, ⟨31, _⟩ => ⟨S1x2048x32, .f32⟩
  | .hbm, ⟨32, _⟩ => ⟨S2048x32, .f32⟩
  | .hbm, ⟨33, _⟩ => ⟨S3x64, .f32⟩
  | .hbm, ⟨34, _⟩ => ⟨S1x64, .f32⟩
  | .hbm, ⟨35, _⟩ => ⟨S2048x64x64, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S8x64, .f32⟩
  | .hbm, ⟨40, _⟩ => ⟨S131072x64, .f32⟩
  | .hbm, ⟨41, _⟩ => ⟨S1x64, .f32⟩
  | .hbm, ⟨42, _⟩ => ⟨S1x64, .f32⟩
  | .hbm, ⟨43, _⟩ => ⟨S64x64, .f32⟩
  | .hbm, ⟨44, _⟩ => ⟨S1x64, .f32⟩
  | .hbm, ⟨45, _⟩ => ⟨S131072x64, .f32⟩
  | .hbm, ⟨46, _⟩ => ⟨S8x64, .f32⟩
  | .hbm, ⟨47, _⟩ => ⟨S1x64, .f32⟩
  | .hbm, ⟨48, _⟩ => ⟨S1x64, .f32⟩
  | .hbm, ⟨49, _⟩ => ⟨S64x128, .f32⟩
  | .hbm, ⟨50, _⟩ => ⟨S1x128, .f32⟩
  | .hbm, ⟨51, _⟩ => ⟨S131072x128, .f32⟩
  | .hbm, ⟨52, _⟩ => ⟨S8x128, .f32⟩
  | .hbm, ⟨53, _⟩ => ⟨S2048x64x128, .f32⟩
  | .hbm, ⟨54, _⟩ => ⟨S1x128, .f32⟩
  | .hbm, ⟨55, _⟩ => ⟨S1x128, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S128x1, .f32⟩
  | .hbm, ⟨60, _⟩ => ⟨S128, .f32⟩
  | .hbm, ⟨61, _⟩ => ⟨S1x128, .f32⟩
  | .hbm, ⟨62, _⟩ => ⟨S128x1, .f32⟩
  | .hbm, ⟨63, _⟩ => ⟨S128, .f32⟩
  | .hbm, ⟨64, _⟩ => ⟨S1x128, .f32⟩
  | .hbm, ⟨65, _⟩ => ⟨S128x1, .f32⟩
  | .hbm, ⟨66, _⟩ => ⟨S128, .f32⟩
  | .hbm, ⟨67, _⟩ => ⟨S1x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S16384x128, .f32⟩
  | .hbm, ⟨72, _⟩ => ⟨S8x128, .f32⟩
  | .hbm, ⟨73, _⟩ => ⟨S1x128, .f32⟩
  | .hbm, ⟨74, _⟩ => ⟨S1x128, .f32⟩
  | .hbm, ⟨75, _⟩ => ⟨S128x256, .f32⟩
  | .hbm, ⟨76, _⟩ => ⟨S1x256, .f32⟩
  | .hbm, ⟨77, _⟩ => ⟨S16384x256, .f32⟩
  | .hbm, ⟨78, _⟩ => ⟨S8x256, .f32⟩
  | .hbm, ⟨79, _⟩ => ⟨S1x256, .f32⟩
  | .hbm, ⟨80, _⟩ => ⟨S1x256, .f32⟩
  | .hbm, ⟨81, _⟩ => ⟨S256x512, .f32⟩
  | .hbm, ⟨82, _⟩ => ⟨S1x512, .f32⟩
  | .hbm, ⟨83, _⟩ => ⟨S16384x512, .f32⟩
  | .hbm, ⟨84, _⟩ => ⟨S8x512, .f32⟩
  | .hbm, ⟨85, _⟩ => ⟨S1x512, .f32⟩
  | .hbm, ⟨86, _⟩ => ⟨S1x512, .f32⟩
  | .hbm, ⟨87, _⟩ => ⟨S2048x512, .f32⟩
  | .hbm, ⟨88, _⟩ => ⟨S2x1024x512, .f32⟩
  | .local _ .vmem, ⟨0, _⟩ => ⟨S128x32, .f32⟩
  | .local _ .vmem, ⟨1, _⟩ => ⟨S128x32, .f32⟩
  | .local _ .vmem, ⟨2, _⟩ => ⟨S128x32, .f32⟩
  | .local _ .vmem, ⟨3, _⟩ => ⟨S128x32, .f32⟩
  | .local _ .vmem, ⟨4, _⟩ => ⟨S128x32, .f32⟩
  | .local _ .vmem, ⟨5, _⟩ => ⟨S128x32, .f32⟩
  | .local _ .vmem, ⟨6, _⟩ => ⟨S3x64, .f32⟩
  | .local _ .vmem, ⟨7, _⟩ => ⟨S1x64, .f32⟩
  | .local _ .vmem, ⟨8, _⟩ => ⟨S128x64x64, .f32⟩
  | .local _ .vmem, ⟨9, _⟩ => ⟨S128x64x64, .f32⟩
  | .local _ .vmem, ⟨10, _⟩ => ⟨S128x8, .f32⟩
  | .local _ .vmem, ⟨11, _⟩ => ⟨S128x8, .f32⟩
  | .local _ .vmem, ⟨12, _⟩ => ⟨S128x8, .f32⟩
  | .local _ .vmem, ⟨13, _⟩ => ⟨S128x8, .f32⟩
  | .local _ .vmem, ⟨14, _⟩ => ⟨S128x8, .f32⟩
  | .local _ .vmem, ⟨15, _⟩ => ⟨S128x8, .f32⟩
  | .local _ .vmem, ⟨16, _⟩ => ⟨S8x64, .f32⟩
  | .local _ .vmem, ⟨17, _⟩ => ⟨S8192x64, .f32⟩
  | .local _ .vmem, ⟨18, _⟩ => ⟨S8192x64, .f32⟩
  | .local _ .vmem, ⟨19, _⟩ => ⟨S8x64, .f32⟩
  | .local _ .vmem, ⟨20, _⟩ => ⟨S1x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S8192x64, .f32⟩
  | .local _ .vmem, ⟨25, _⟩ => ⟨S8192x64, .f32⟩
  | .local _ .vmem, ⟨26, _⟩ => ⟨S8x64, .f32⟩
  | .local _ .vmem, ⟨27, _⟩ => ⟨S8192x64, .f32⟩
  | .local _ .vmem, ⟨28, _⟩ => ⟨S8192x64, .f32⟩
  | .local _ .vmem, ⟨29, _⟩ => ⟨S8x64, .f32⟩
  | .local _ .vmem, ⟨30, _⟩ => ⟨S1x64, .f32⟩
  | .local _ .vmem, ⟨31, _⟩ => ⟨S1x64, .f32⟩
  | .local _ .vmem, ⟨32, _⟩ => ⟨S64x128, .f32⟩
  | .local _ .vmem, ⟨33, _⟩ => ⟨S1x128, .f32⟩
  | .local _ .vmem, ⟨34, _⟩ => ⟨S8192x128, .f32⟩
  | .local _ .vmem, ⟨35, _⟩ => ⟨S8192x128, .f32⟩
  | .local _ .vmem, ⟨36, _⟩ => ⟨S8x128, .f32⟩
  | .local _ .vmem, ⟨37, _⟩ => ⟨S128x64x128, .f32⟩
  | .local _ .vmem, ⟨38, _⟩ => ⟨S128x64x128, .f32⟩
  | .local _ .vmem, ⟨39, _⟩ => ⟨S8x128, .f32⟩
  | .local _ .vmem, ⟨40, _⟩ => ⟨S1x128, .f32⟩
  | .local _ .vmem, ⟨41, _⟩ => ⟨S1x128, .f32⟩
  | .local _ .vmem, ⟨42, _⟩ => ⟨S1024x1, .f32⟩
  | .local _ .vmem, ⟨43, _⟩ => ⟨S1024x1, .f32⟩
  | .local _ .vmem, ⟨44, _⟩ => ⟨S1024x1, .f32⟩
  | .local _ .vmem, ⟨45, _⟩ => ⟨S1024x1, .f32⟩
  | .local _ .vmem, ⟨46, _⟩ => ⟨S1024x1, .f32⟩
  | .local _ .vmem, ⟨47, _⟩ => ⟨S1024x1, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S128x128, .f32⟩
  | .local _ .vmem, ⟨52, _⟩ => ⟨S1x128, .f32⟩
  | .local _ .vmem, ⟨53, _⟩ => ⟨S1024x128, .f32⟩
  | .local _ .vmem, ⟨54, _⟩ => ⟨S1024x128, .f32⟩
  | .local _ .vmem, ⟨55, _⟩ => ⟨S8x128, .f32⟩
  | .local _ .vmem, ⟨56, _⟩ => ⟨S4096x128, .f32⟩
  | .local _ .vmem, ⟨57, _⟩ => ⟨S4096x128, .f32⟩
  | .local _ .vmem, ⟨58, _⟩ => ⟨S8x128, .f32⟩
  | .local _ .vmem, ⟨59, _⟩ => ⟨S1x128, .f32⟩
  | .local _ .vmem, ⟨60, _⟩ => ⟨S1x128, .f32⟩
  | .local _ .vmem, ⟨61, _⟩ => ⟨S128x256, .f32⟩
  | .local _ .vmem, ⟨62, _⟩ => ⟨S1x256, .f32⟩
  | .local _ .vmem, ⟨63, _⟩ => ⟨S4096x256, .f32⟩
  | .local _ .vmem, ⟨64, _⟩ => ⟨S4096x256, .f32⟩
  | .local _ .vmem, ⟨65, _⟩ => ⟨S8x256, .f32⟩
  | .local _ .vmem, ⟨66, _⟩ => ⟨S2048x256, .f32⟩
  | .local _ .vmem, ⟨67, _⟩ => ⟨S2048x256, .f32⟩
  | .local _ .vmem, ⟨68, _⟩ => ⟨S8x256, .f32⟩
  | .local _ .vmem, ⟨69, _⟩ => ⟨S1x256, .f32⟩
  | .local _ .vmem, ⟨70, _⟩ => ⟨S1x256, .f32⟩
  | .local _ .vmem, ⟨71, _⟩ => ⟨S256x512, .f32⟩
  | .local _ .vmem, ⟨72, _⟩ => ⟨S1x512, .f32⟩
  | .local _ .vmem, ⟨73, _⟩ => ⟨S2048x512, .f32⟩
  | .local _ .vmem, ⟨74, _⟩ => ⟨S2048x512, .f32⟩
  | .local _ .vmem, ⟨75, _⟩ => ⟨S8x512, .f32⟩
  | .local _ .vmem, ⟨76, _⟩ => ⟨S2048x512, .f32⟩
  | .local _ .vmem, ⟨77, _⟩ => ⟨S2048x512, .f32⟩
  | .local _ .vmem, ⟨78, _⟩ => ⟨S8x512, .f32⟩
  | .local _ .vmem, ⟨79, _⟩ => ⟨S1x512, .f32⟩
  | .local _ .vmem, ⟨80, _⟩ => ⟨S1x512, .f32⟩
  | .local _ .vmem, ⟨81, _⟩ => ⟨S256x512, .f32⟩
  | .local _ .vmem, ⟨82, _⟩ => ⟨S256x512, .f32⟩
  | _, _ => ⟨S2x1024x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10_0 : Ref sig .tc := ⟨.hbm, 35, rfl⟩
abbrev main_v10_1 : Ref sig .tc := ⟨.hbm, 36, rfl⟩
abbrev main_v10_2 : Ref sig .tc := ⟨.hbm, 37, rfl⟩
abbrev main_v10_3 : Ref sig .tc := ⟨.hbm, 38, rfl⟩
abbrev main_v10_4 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16_0 : Ref sig .tc := ⟨.hbm, 45, rfl⟩
abbrev main_v16_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21_0 : Ref sig .tc := ⟨.hbm, 51, rfl⟩
abbrev main_v21_1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40_0 : Ref sig .tc := ⟨.hbm, 71, rfl⟩
abbrev main_v40_1 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45_0 : Ref sig .tc := ⟨.hbm, 77, rfl⟩
abbrev main_v45_1 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50_0 : Ref sig .tc := ⟨.hbm, 83, rfl⟩
abbrev main_v50_1 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg10_0 : Ref sig .tc := ⟨.vmem, 51, rfl⟩
abbrev cc3_stg11_0 : Ref sig .tc := ⟨.vmem, 52, rfl⟩
abbrev cc3_stg12_0 : Ref sig .tc := ⟨.vmem, 53, rfl⟩
abbrev cc3_stg12_1 : Ref sig .tc := ⟨.vmem, 54, rfl⟩
abbrev cc3_stg13_0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg6_1 : Ref sig .tc := ⟨.vmem, 64, rfl⟩
abbrev cc4_stg7_0 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg6_1 : Ref sig .tc := ⟨.vmem, 74, rfl⟩
abbrev cc5_stg7_0 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg2_0 : Ref sig .tc := ⟨.vmem, 79, rfl⟩
abbrev cc6_stg3_0 : Ref sig .tc := ⟨.vmem, 80, rfl⟩
abbrev cc6_stg4_0 : Ref sig .tc := ⟨.vmem, 81, rfl⟩
abbrev cc6_stg4_1 : Ref sig .tc := ⟨.vmem, 82, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem8_0 : DmaSem sig := 49
abbrev cc3_sem9_0 : DmaSem sig := 50
abbrev cc3_sem10_0 : DmaSem sig := 51
abbrev cc3_sem11_0 : DmaSem sig := 52
abbrev cc3_sem12_0 : DmaSem sig := 53
abbrev cc3_sem12_1 : DmaSem sig := 54
abbrev cc3_sem13_0 : DmaSem sig := 55
abbrev cc4_sem0_0 : DmaSem sig := 56
abbrev cc4_sem0_1 : DmaSem sig := 57
abbrev cc4_sem1_0 : DmaSem sig := 58
abbrev cc4_sem2_0 : DmaSem sig := 59
abbrev cc4_sem3_0 : DmaSem sig := 60
abbrev cc4_sem4_0 : DmaSem sig := 61
abbrev cc4_sem5_0 : DmaSem sig := 62
abbrev cc4_sem6_0 : DmaSem sig := 63
abbrev cc4_sem6_1 : DmaSem sig := 64
abbrev cc4_sem7_0 : DmaSem sig := 65
abbrev cc5_sem0_0 : DmaSem sig := 66
abbrev cc5_sem0_1 : DmaSem sig := 67
abbrev cc5_sem1_0 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem6_1 : DmaSem sig := 74
abbrev cc5_sem7_0 : DmaSem sig := 75
abbrev cc6_sem0_0 : DmaSem sig := 76
abbrev cc6_sem0_1 : DmaSem sig := 77
abbrev cc6_sem1_0 : DmaSem sig := 78
abbrev cc6_sem2_0 : DmaSem sig := 79
abbrev cc6_sem3_0 : DmaSem sig := 80
abbrev cc6_sem4_0 : DmaSem sig := 81
abbrev cc6_sem4_1 : DmaSem sig := 82

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_213 : BitVec 32 := 0#32
  let v946 : BitVec 1 := Scalar.cmpi .eq arg0 c0_i32_213
  let v947 : BitVec 32 := Scalar.extui v946
  let c0_i32_214 : BitVec 32 := 0#32
  let v948 : BitVec 1 := Scalar.cmpi .ne v947 c0_i32_214
  v948

def k0_cond2 (i : grid0.Coords) : BitVec 1 :=
  let arg0 : BitVec 32 := BitVec.ofNat 32 (i 0).val
  let c0_i32_215 : BitVec 32 := 0#32
  let v949 : BitVec 1 := Scalar.cmpi .ne arg0 c0_i32_215
  let v950 : BitVec 32 := Scalar.extui v949
  let c0_i32_216 : BitVec 32 := 0#32
  let v951 : BitVec 1 := Scalar.cmpi .ne v950 c0_i32_216
  v951

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![16], ![false]⟩

def k1_cond1 (i : grid1.Coords) : BitVec 1 :=
  let arg0 : BitVec 32 := BitVec.ofNat 32 (i 0).val
  let c0_i32_22 : BitVec 32 := 0#32
  let v57 : BitVec 1 := Scalar.cmpi .eq arg0 c0_i32_22
  let v58 : BitVec 32 := Scalar.extui v57
  let c0_i32_23 : BitVec 32 := 0#32
  let v59 : BitVec 1 := Scalar.cmpi .ne v58 c0_i32_23
  v59

def k1_cond2 (i : grid1.Coords) : BitVec 1 :=
  let arg0 : BitVec 32 := BitVec.ofNat 32 (i 0).val
  let c0_i32_24 : BitVec 32 := 0#32
  let v60 : BitVec 1 := Scalar.cmpi .ne arg0 c0_i32_24
  let v61 : BitVec 32 := Scalar.extui v60
  let c0_i32_25 : BitVec 32 := 0#32
  let v62 : BitVec 1 := Scalar.cmpi .ne v61 c0_i32_25
  v62

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def k2_cond1 (i : grid2.Coords) : BitVec 1 :=
  let arg0 : BitVec 32 := BitVec.ofNat 32 (i 0).val
  let c0_i32_22 : BitVec 32 := 0#32
  let v57 : BitVec 1 := Scalar.cmpi .eq arg0 c0_i32_22
  let v58 : BitVec 32 := Scalar.extui v57
  let c0_i32_23 : BitVec 32 := 0#32
  let v59 : BitVec 1 := Scalar.cmpi .ne v58 c0_i32_23
  v59

def k2_cond2 (i : grid2.Coords) : BitVec 1 :=
  let arg0 : BitVec 32 := BitVec.ofNat 32 (i 0).val
  let c0_i32_24 : BitVec 32 := 0#32
  let v60 : BitVec 1 := Scalar.cmpi .ne arg0 c0_i32_24
  let v61 : BitVec 32 := Scalar.extui v60
  let c0_i32_25 : BitVec 32 := 0#32
  let v62 : BitVec 1 := Scalar.cmpi .ne v61 c0_i32_25
  v62

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8192x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![16], ![false]⟩

def k3_cond1 (i : grid3.Coords) : BitVec 1 :=
  let arg0 : BitVec 32 := BitVec.ofNat 32 (i 0).val
  let c0_i32_36 : BitVec 32 := 0#32
  let v98 : BitVec 1 := Scalar.cmpi .eq arg0 c0_i32_36
  let v99 : BitVec 32 := Scalar.extui v98
  let c0_i32_37 : BitVec 32 := 0#32
  let v100 : BitVec 1 := Scalar.cmpi .ne v99 c0_i32_37
  v100

def k3_cond2 (i : grid3.Coords) : BitVec 1 :=
  let arg0 : BitVec 32 := BitVec.ofNat 32 (i 0).val
  let c0_i32_38 : BitVec 32 := 0#32
  let v101 : BitVec 1 := Scalar.cmpi .ne arg0 c0_i32_38
  let v102 : BitVec 32 := Scalar.extui v101
  let c0_i32_39 : BitVec 32 := 0#32
  let v103 : BitVec 1 := Scalar.cmpi .ne v102 c0_i32_39
  v103

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S128x64x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S1024x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 1 → Memref sig .tc .vmem S8x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev grid4 : Pipeline.Grid := ⟨1, ![4], ![false]⟩

def k4_cond1 (i : grid4.Coords) : BitVec 1 :=
  let arg0 : BitVec 32 := BitVec.ofNat 32 (i 0).val
  let c0_i32_22 : BitVec 32 := 0#32
  let v57 : BitVec 1 := Scalar.cmpi .eq arg0 c0_i32_22
  let v58 : BitVec 32 := Scalar.extui v57
  let c0_i32_23 : BitVec 32 := 0#32
  let v59 : BitVec 1 := Scalar.cmpi .ne v58 c0_i32_23
  v59

def k4_cond2 (i : grid4.Coords) : BitVec 1 :=
  let arg0 : BitVec 32 := BitVec.ofNat 32 (i 0).val
  let c0_i32_24 : BitVec 32 := 0#32
  let v60 : BitVec 1 := Scalar.cmpi .ne arg0 c0_i32_24
  let v61 : BitVec 32 := Scalar.extui v60
  let c0_i32_25 : BitVec 32 := 0#32
  let v62 : BitVec 1 := Scalar.cmpi .ne v61 c0_i32_25
  v62

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4096x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S8x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![8], ![false]⟩

def k5_cond1 (i : grid5.Coords) : BitVec 1 :=
  let arg0 : BitVec 32 := BitVec.ofNat 32 (i 0).val
  let c0_i32_22 : BitVec 32 := 0#32
  let v57 : BitVec 1 := Scalar.cmpi .eq arg0 c0_i32_22
  let v58 : BitVec 32 := Scalar.extui v57
  let c0_i32_23 : BitVec 32 := 0#32
  let v59 : BitVec 1 := Scalar.cmpi .ne v58 c0_i32_23
  v59

def k5_cond2 (i : grid5.Coords) : BitVec 1 :=
  let arg0 : BitVec 32 := BitVec.ofNat 32 (i 0).val
  let c0_i32_24 : BitVec 32 := 0#32
  let v60 : BitVec 1 := Scalar.cmpi .ne arg0 c0_i32_24
  let v61 : BitVec 32 := Scalar.extui v60
  let c0_i32_25 : BitVec 32 := 0#32
  let v62 : BitVec 1 := Scalar.cmpi .ne v61 c0_i32_25
  v62

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2048x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S8x512 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]
-- ==== ReferenceIdeal.lean ====
abbrev S2x1024x32x3 : Shape := ⟨4, ![2, 1024, 32, 3]⟩
abbrev S64x3 : Shape := ⟨2, ![64, 3]⟩
abbrev S64 : Shape := ⟨1, ![64]⟩
abbrev S64x64 : Shape := ⟨2, ![64, 64]⟩
abbrev S128x64 : Shape := ⟨2, ![128, 64]⟩
abbrev S128 : Shape := ⟨1, ![128]⟩
abbrev S128x131 : Shape := ⟨2, ![128, 131]⟩
abbrev S256x128 : Shape := ⟨2, ![256, 128]⟩
abbrev S256 : Shape := ⟨1, ![256]⟩
abbrev S512x256 : Shape := ⟨2, ![512, 256]⟩
abbrev S512 : Shape := ⟨1, ![512]⟩
abbrev S2048x32x3 : Shape := ⟨3, ![2048, 32, 3]⟩
abbrev S_ : Shape := ⟨0, ![]⟩
abbrev S2048x32 : Shape := ⟨2, ![2048, 32]⟩
abbrev S2048x1x3 : Shape := ⟨3, ![2048, 1, 3]⟩
abbrev S2048 : Shape := ⟨1, ![2048]⟩
abbrev S2048x1 : Shape := ⟨2, ![2048, 1]⟩
abbrev S2048x1x1 : Shape := ⟨3, ![2048, 1, 1]⟩
abbrev S2048x8x3 : Shape := ⟨3, ![2048, 8, 3]⟩
abbrev S2048x8x1x3 : Shape := ⟨4, ![2048, 8, 1, 3]⟩
abbrev S2048x1x32x3 : Shape := ⟨4, ![2048, 1, 32, 3]⟩
abbrev S2048x8x32x3 : Shape := ⟨4, ![2048, 8, 32, 3]⟩
abbrev S2048x8x32 : Shape := ⟨3, ![2048, 8, 32]⟩
abbrev S32 : Shape := ⟨1, ![32]⟩
abbrev S2048x8x8 : Shape := ⟨3, ![2048, 8, 8]⟩
abbrev S2048x8x1 : Shape := ⟨3, ![2048, 8, 1]⟩
abbrev S2048x8x8x1 : Shape := ⟨4, ![2048, 8, 8, 1]⟩
abbrev S2048x8x8x3 : Shape := ⟨4, ![2048, 8, 8, 3]⟩
abbrev S131072x3 : Shape := ⟨2, ![131072, 3]⟩
abbrev S131072x64 : Shape := ⟨2, ![131072, 64]⟩
abbrev S1x64 : Shape := ⟨2, ![1, 64]⟩
abbrev S131072x128 : Shape := ⟨2, ![131072, 128]⟩
abbrev S1x128 : Shape := ⟨2, ![1, 128]⟩
abbrev S2048x8x8x128 : Shape := ⟨4, ![2048, 8, 8, 128]⟩
abbrev S2048x8x128 : Shape := ⟨3, ![2048, 8, 128]⟩
abbrev S2048x8x131 : Shape := ⟨3, ![2048, 8, 131]⟩
abbrev S16384x131 : Shape := ⟨2, ![16384, 131]⟩
abbrev S16384x128 : Shape := ⟨2, ![16384, 128]⟩
abbrev S16384x256 : Shape := ⟨2, ![16384, 256]⟩
abbrev S1x256 : Shape := ⟨2, ![1, 256]⟩
abbrev S16384x512 : Shape := ⟨2, ![16384, 512]⟩
abbrev S1x512 : Shape := ⟨2, ![1, 512]⟩
abbrev S2048x8x512 : Shape := ⟨3, ![2048, 8, 512]⟩
abbrev S2048x512 : Shape := ⟨2, ![2048, 512]⟩
abbrev S2x1024x512 : Shape := ⟨3, ![2, 1024, 512]⟩

abbrev nBuf : Space → Nat
  | .hbm => 446
  | .vmem => 0
  | .smem => 0
  | _ => 0

abbrev hbmTy0_0 (i : Nat) : BufTy := match i % 128 with
  | 0 => ⟨S2x1024x32x3, .f32⟩
  | 1 => ⟨S64x3, .f32⟩
  | 2 => ⟨S64, .f32⟩
  | 3 => ⟨S64, .f32⟩
  | 4 => ⟨S64, .f32⟩
  | 5 => ⟨S64x64, .f32⟩
  | 6 => ⟨S64, .f32⟩
  | 7 => ⟨S64, .f32⟩
  | 8 => ⟨S64, .f32⟩
  | 9 => ⟨S128x64, .f32⟩
  | 10 => ⟨S128, .f32⟩
  | 11 => ⟨S128, .f32⟩
  | 12 => ⟨S128, .f32⟩
  | 13 => ⟨S128x131, .f32⟩
  | 14 => ⟨S128, .f32⟩
  | 15 => ⟨S128, .f32⟩
  | 16 => ⟨S128, .f32⟩
  | 17 => ⟨S256x128, .f32⟩
  | 18 => ⟨S256, .f32⟩
  | 19 => ⟨S256, .f32⟩
  | 20 => ⟨S256, .f32⟩
  | 21 => ⟨S512x256, .f32⟩
  | 22 => ⟨S512, .f32⟩
  | 23 => ⟨S512, .f32⟩
  | 24 => ⟨S512, .f32⟩
  | 25 => ⟨S2048x32x3, .f32⟩
  | 26 => ⟨S_, .f32⟩
  | 27 => ⟨S2048x32, .f32⟩
  | 28 => ⟨S2048x1x3, .f32⟩
  | 29 => ⟨S2048x32x3, .f32⟩
  | 30 => ⟨S2048x32x3, .f32⟩
  | 31 => ⟨S2048x32x3, .f32⟩
  | 32 => ⟨S_, .f32⟩
  | 33 => ⟨S2048x32, .f32⟩
  | 34 => ⟨S2048x32, .f32⟩
  | 35 => ⟨S2048x32, .i32⟩
  | 36 => ⟨S_, .f32⟩
  | 37 => ⟨S_, .i32⟩
  | 38 => ⟨S2048, .f32⟩
  | 39 => ⟨S2048, .i32⟩
  | 40 => ⟨S2048x1, .i32⟩
  | 41 => ⟨S_, .i32⟩
  | 42 => ⟨S2048x1, .i32⟩
  | 43 => ⟨S2048x1, .i1⟩
  | 44 => ⟨S_, .i32⟩
  | 45 => ⟨S2048x1, .i32⟩
  | 46 => ⟨S2048x1, .i32⟩
  | 47 => ⟨S2048x1, .i32⟩
  | 48 => ⟨S2048x1x1, .i32⟩
  | 49 => ⟨S2048x1x3, .f32⟩
  | 50 => ⟨S2048x32x3, .f32⟩
  | 51 => ⟨S2048x32x3, .f32⟩
  | 52 => ⟨S2048x32x3, .f32⟩
  | 53 => ⟨S_, .f32⟩
  | 54 => ⟨S2048x32, .f32⟩
  | 55 => ⟨S2048x32, .f32⟩
  | 56 => ⟨S2048x32, .i32⟩
  | 57 => ⟨S_, .f32⟩
  | 58 => ⟨S_, .i32⟩
  | 59 => ⟨S2048, .f32⟩
  | 60 => ⟨S2048, .i32⟩
  | 61 => ⟨S2048x1, .i32⟩
  | 62 => ⟨S_, .i32⟩
  | 63 => ⟨S2048x1, .i32⟩
  | 64 => ⟨S2048x1, .i1⟩
  | 65 => ⟨S_, .i32⟩
  | 66 => ⟨S2048x1, .i32⟩
  | 67 => ⟨S2048x1, .i32⟩
  | 68 => ⟨S2048x1, .i32⟩
  | 69 => ⟨S2048x1x1, .i32⟩
  | 70 => ⟨S2048x1x3, .f32⟩
  | 71 => ⟨S2048x32x3, .f32⟩
  | 72 => ⟨S2048x32x3, .f32⟩
  | 73 => ⟨S2048x32x3, .f32⟩
  | 74 => ⟨S_, .f32⟩
  | 75 => ⟨S2048x32, .f32⟩
  | 76 => ⟨S2048x32, .f32⟩
  | 77 => ⟨S2048x32, .i32⟩
  | 78 => ⟨S_, .f32⟩
  | 79 => ⟨S_, .i32⟩
  | 80 => ⟨S2048, .f32⟩
  | 81 => ⟨S2048, .i32⟩
  | 82 => ⟨S2048x1, .i32⟩
  | 83 => ⟨S_, .i32⟩
  | 84 => ⟨S2048x1, .i32⟩
  | 85 => ⟨S2048x1, .i1⟩
  | 86 => ⟨S_, .i32⟩
  | 87 => ⟨S2048x1, .i32⟩
  | 88 => ⟨S2048x1, .i32⟩
  | 89 => ⟨S2048x1, .i32⟩
  | 90 => ⟨S2048x1x1, .i32⟩
  | 91 => ⟨S2048x1x3, .f32⟩
  | 92 => ⟨S2048x32x3, .f32⟩
  | 93 => ⟨S2048x32x3, .f32⟩
  | 94 => ⟨S2048x32x3, .f32⟩
  | 95 => ⟨S_, .f32⟩
  | 96 => ⟨S2048x32, .f32⟩
  | 97 => ⟨S2048x32, .f32⟩
  | 98 => ⟨S2048x32, .i32⟩
  | 99 => ⟨S_, .f32⟩
  | 100 => ⟨S_, .i32⟩
  | 101 => ⟨S2048, .f32⟩
  | 102 => ⟨S2048, .i32⟩
  | 103 => ⟨S2048x1, .i32⟩
  | 104 => ⟨S_, .i32⟩
  | 105 => ⟨S2048x1, .i32⟩
  | 106 => ⟨S2048x1, .i1⟩
  | 107 => ⟨S_, .i32⟩
  | 108 => ⟨S2048x1, .i32⟩
  | 109 => ⟨S2048x1, .i32⟩
  | 110 => ⟨S2048x1, .i32⟩
  | 111 => ⟨S2048x1x1, .i32⟩
  | 112 => ⟨S2048x1x3, .f32⟩
  | 113 => ⟨S2048x32x3, .f32⟩
  | 114 => ⟨S2048x32x3, .f32⟩
  | 115 => ⟨S2048x32x3, .f32⟩
  | 116 => ⟨S_, .f32⟩
  | 117 => ⟨S2048x32, .f32⟩
  | 118 => ⟨S2048x32, .f32⟩
  | 119 => ⟨S2048x32, .i32⟩
  | 120 => ⟨S_, .f32⟩
  | 121 => ⟨S_, .i32⟩
  | 122 => ⟨S2048, .f32⟩
  | 123 => ⟨S2048, .i32⟩
  | 124 => ⟨S2048x1, .i32⟩
  | 125 => ⟨S_, .i32⟩
  | 126 => ⟨S2048x1, .i32⟩
  | 127 => ⟨S2048x1, .i1⟩
  | _ => ⟨S2x1024x32x3, .f32⟩

abbrev hbmTy0_1 (i : Nat) : BufTy := match i % 128 with
  | 0 => ⟨S_, .i32⟩
  | 1 => ⟨S2048x1, .i32⟩
  | 2 => ⟨S2048x1, .i32⟩
  | 3 => ⟨S2048x1, .i32⟩
  | 4 => ⟨S2048x1x1, .i32⟩
  | 5 => ⟨S2048x1x3, .f32⟩
  | 6 => ⟨S2048x32x3, .f32⟩
  | 7 => ⟨S2048x32x3, .f32⟩
  | 8 => ⟨S2048x32x3, .f32⟩
  | 9 => ⟨S_, .f32⟩
  | 10 => ⟨S2048x32, .f32⟩
  | 11 => ⟨S2048x32, .f32⟩
  | 12 => ⟨S2048x32, .i32⟩
  | 13 => ⟨S_, .f32⟩
  | 14 => ⟨S_, .i32⟩
  | 15 => ⟨S2048, .f32⟩
  | 16 => ⟨S2048, .i32⟩
  | 17 => ⟨S2048x1, .i32⟩
  | 18 => ⟨S_, .i32⟩
  | 19 => ⟨S2048x1, .i32⟩
  | 20 => ⟨S2048x1, .i1⟩
  | 21 => ⟨S_, .i32⟩
  | 22 => ⟨S2048x1, .i32⟩
  | 23 => ⟨S2048x1, .i32⟩
  | 24 => ⟨S2048x1, .i32⟩
  | 25 => ⟨S2048x1x1, .i32⟩
  | 26 => ⟨S2048x1x3, .f32⟩
  | 27 => ⟨S2048x32x3, .f32⟩
  | 28 => ⟨S2048x32x3, .f32⟩
  | 29 => ⟨S2048x32x3, .f32⟩
  | 30 => ⟨S_, .f32⟩
  | 31 => ⟨S2048x32, .f32⟩
  | 32 => ⟨S2048x32, .f32⟩
  | 33 => ⟨S2048x32, .i32⟩
  | 34 => ⟨S_, .f32⟩
  | 35 => ⟨S_, .i32⟩
  | 36 => ⟨S2048, .f32⟩
  | 37 => ⟨S2048, .i32⟩
  | 38 => ⟨S2048x1, .i32⟩
  | 39 => ⟨S_, .i32⟩
  | 40 => ⟨S2048x1, .i32⟩
  | 41 => ⟨S2048x1, .i1⟩
  | 42 => ⟨S_, .i32⟩
  | 43 => ⟨S2048x1, .i32⟩
  | 44 => ⟨S2048x1, .i32⟩
  | 45 => ⟨S2048x1, .i32⟩
  | 46 => ⟨S2048x1x1, .i32⟩
  | 47 => ⟨S2048x1x3, .f32⟩
  | 48 => ⟨S2048x8x3, .f32⟩
  | 49 => ⟨S2048x8x1x3, .f32⟩
  | 50 => ⟨S2048x1x32x3, .f32⟩
  | 51 => ⟨S2048x8x32x3, .f32⟩
  | 52 => ⟨S2048x8x32x3, .f32⟩
  | 53 => ⟨S2048x8x32x3, .f32⟩
  | 54 => ⟨S2048x8x32x3, .f32⟩
  | 55 => ⟨S_, .f32⟩
  | 56 => ⟨S2048x8x32, .f32⟩
  | 57 => ⟨S32, .i32⟩
  | 58 => ⟨S2048x8x32, .i32⟩
  | 59 => ⟨S_, .f32⟩
  | 60 => ⟨S2048x8x32, .f32⟩
  | 61 => ⟨S2048x8x32, .i1⟩
  | 62 => ⟨S_, .i32⟩
  | 63 => ⟨S_, .i32⟩
  | 64 => ⟨S2048x8x32, .i32⟩
  | 65 => ⟨S2048x8x32, .i32⟩
  | 66 => ⟨S2048x8x32, .i32⟩
  | 67 => ⟨S2048x8x8, .i32⟩
  | 68 => ⟨S_, .i32⟩
  | 69 => ⟨S2048x8x8, .i32⟩
  | 70 => ⟨S2048x8x8, .i1⟩
  | 71 => ⟨S2048x8x1, .i32⟩
  | 72 => ⟨S2048x8x8, .i32⟩
  | 73 => ⟨S2048x8x8, .i32⟩
  | 74 => ⟨S_, .i32⟩
  | 75 => ⟨S2048x8x8, .i32⟩
  | 76 => ⟨S2048x8x8, .i1⟩
  | 77 => ⟨S_, .i32⟩
  | 78 => ⟨S2048x8x8, .i32⟩
  | 79 => ⟨S2048x8x8, .i32⟩
  | 80 => ⟨S2048x8x8, .i32⟩
  | 81 => ⟨S2048x8x8x1, .i32⟩
  | 82 => ⟨S2048x8x8x3, .f32⟩
  | 83 => ⟨S2048x8x1x3, .f32⟩
  | 84 => ⟨S2048x8x8x3, .f32⟩
  | 85 => ⟨S2048x8x8x3, .f32⟩
  | 86 => ⟨S131072x3, .f32⟩
  | 87 => ⟨S131072x64, .f32⟩
  | 88 => ⟨S1x64, .f32⟩
  | 89 => ⟨S131072x64, .f32⟩
  | 90 => ⟨S131072x64, .f32⟩
  | 91 => ⟨S_, .f32⟩
  | 92 => ⟨S64, .f32⟩
  | 93 => ⟨S_, .f32⟩
  | 94 => ⟨S64, .f32⟩
  | 95 => ⟨S64, .f32⟩
  | 96 => ⟨S1x64, .f32⟩
  | 97 => ⟨S131072x64, .f32⟩
  | 98 => ⟨S131072x64, .f32⟩
  | 99 => ⟨S131072x64, .f32⟩
  | 100 => ⟨S_, .f32⟩
  | 101 => ⟨S64, .f32⟩
  | 102 => ⟨S_, .f32⟩
  | 103 => ⟨S64, .f32⟩
  | 104 => ⟨S64, .f32⟩
  | 105 => ⟨S1x64, .f32⟩
  | 106 => ⟨S131072x64, .f32⟩
  | 107 => ⟨S131072x64, .f32⟩
  | 108 => ⟨S_, .f32⟩
  | 109 => ⟨S64, .f32⟩
  | 110 => ⟨S64, .f32⟩
  | 111 => ⟨S64, .f32⟩
  | 112 => ⟨S1x64, .f32⟩
  | 113 => ⟨S131072x64, .f32⟩
  | 114 => ⟨S131072x64, .f32⟩
  | 115 => ⟨S1x64, .f32⟩
  | 116 => ⟨S131072x64, .f32⟩
  | 117 => ⟨S131072x64, .f32⟩
  | 118 => ⟨S1x64, .f32⟩
  | 119 => ⟨S131072x64, .f32⟩
  | 120 => ⟨S131072x64, .f32⟩
  | 121 => ⟨S_, .f32⟩
  | 122 => ⟨S131072x64, .f32⟩
  | 123 => ⟨S131072x64, .f32⟩
  | 124 => ⟨S131072x64, .f32⟩
  | 125 => ⟨S1x64, .f32⟩
  | 126 => ⟨S131072x64, .f32⟩
  | 127 => ⟨S131072x64, .f32⟩
  | _ => ⟨S2x1024x32x3, .f32⟩

abbrev hbmTy0_2 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S131072x64, .f32⟩
  | 7 => ⟨S131072x64, .f32⟩
  | 8 => ⟨S131072x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S131072x64, .f32⟩
  | 16 => ⟨S131072x64, .f32⟩
  | 17 => ⟨S_, .f32⟩
  | 18 => ⟨S64, .f32⟩
  | 19 => ⟨S64, .f32⟩
  | 20 => ⟨S64, .f32⟩
  | 21 => ⟨S1x64, .f32⟩
  | 22 => ⟨S131072x64, .f32⟩
  | 23 => ⟨S131072x64, .f32⟩
  | 24 => ⟨S1x64, .f32⟩
  | 25 => ⟨S131072x64, .f32⟩
  | 26 => ⟨S131072x64, .f32⟩
  | 27 => ⟨S1x64, .f32⟩
  | 28 => ⟨S131072x64, .f32⟩
  | 29 => ⟨S131072x64, .f32⟩
  | 30 => ⟨S_, .f32⟩
  | 31 => ⟨S131072x64, .f32⟩
  | 32 => ⟨S131072x64, .f32⟩
  | 33 => ⟨S131072x128, .f32⟩
  | 34 => ⟨S1x128, .f32⟩
  | 35 => ⟨S131072x128, .f32⟩
  | 36 => ⟨S131072x128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S131072x128, .f32⟩
  | 44 => ⟨S131072x128, .f32⟩
  | 45 => ⟨S131072x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S131072x128, .f32⟩
  | 53 => ⟨S131072x128, .f32⟩
  | 54 => ⟨S_, .f32⟩
  | 55 => ⟨S128, .f32⟩
  | 56 => ⟨S128, .f32⟩
  | 57 => ⟨S128, .f32⟩
  | 58 => ⟨S1x128, .f32⟩
  | 59 => ⟨S131072x128, .f32⟩
  | 60 => ⟨S131072x128, .f32⟩
  | 61 => ⟨S1x128, .f32⟩
  | 62 => ⟨S131072x128, .f32⟩
  | 63 => ⟨S131072x128, .f32⟩
  | 64 => ⟨S1x128, .f32⟩
  | 65 => ⟨S131072x128, .f32⟩
  | 66 => ⟨S131072x128, .f32⟩
  | 67 => ⟨S_, .f32⟩
  | 68 => ⟨S131072x128, .f32⟩
  | 69 => ⟨S131072x128, .f32⟩
  | 70 => ⟨S2048x8x8x128, .f32⟩
  | 71 => ⟨S_, .f32⟩
  | 72 => ⟨S2048x8x128, .f32⟩
  | 73 => ⟨S2048x8x131, .f32⟩
  | 74 => ⟨S16384x131, .f32⟩
  | 75 => ⟨S16384x128, .f32⟩
  | 76 => ⟨S1x128, .f32⟩
  | 77 => ⟨S16384x128, .f32⟩
  | 78 => ⟨S16384x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S16384x128, .f32⟩
  | 86 => ⟨S16384x128, .f32⟩
  | 87 => ⟨S16384x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S16384x128, .f32⟩
  | 95 => ⟨S16384x128, .f32⟩
  | 96 => ⟨S_, .f32⟩
  | 97 => ⟨S128, .f32⟩
  | 98 => ⟨S128, .f32⟩
  | 99 => ⟨S128, .f32⟩
  | 100 => ⟨S1x128, .f32⟩
  | 101 => ⟨S16384x128, .f32⟩
  | 102 => ⟨S16384x128, .f32⟩
  | 103 => ⟨S1x128, .f32⟩
  | 104 => ⟨S16384x128, .f32⟩
  | 105 => ⟨S16384x128, .f32⟩
  | 106 => ⟨S1x128, .f32⟩
  | 107 => ⟨S16384x128, .f32⟩
  | 108 => ⟨S16384x128, .f32⟩
  | 109 => ⟨S_, .f32⟩
  | 110 => ⟨S16384x128, .f32⟩
  | 111 => ⟨S16384x128, .f32⟩
  | 112 => ⟨S16384x256, .f32⟩
  | 113 => ⟨S1x256, .f32⟩
  | 114 => ⟨S16384x256, .f32⟩
  | 115 => ⟨S16384x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S16384x256, .f32⟩
  | 123 => ⟨S16384x256, .f32⟩
  | 124 => ⟨S16384x256, .f32⟩
  | 125 => ⟨S_, .f32⟩
  | 126 => ⟨S256, .f32⟩
  | 127 => ⟨S_, .f32⟩
  | _ => ⟨S2x1024x32x3, .f32⟩

abbrev hbmTy0_3 (i : Nat) : BufTy := match i % 128 with
  | 0 => ⟨S256, .f32⟩
  | 1 => ⟨S256, .f32⟩
  | 2 => ⟨S1x256, .f32⟩
  | 3 => ⟨S16384x256, .f32⟩
  | 4 => ⟨S16384x256, .f32⟩
  | 5 => ⟨S_, .f32⟩
  | 6 => ⟨S256, .f32⟩
  | 7 => ⟨S256, .f32⟩
  | 8 => ⟨S256, .f32⟩
  | 9 => ⟨S1x256, .f32⟩
  | 10 => ⟨S16384x256, .f32⟩
  | 11 => ⟨S16384x256, .f32⟩
  | 12 => ⟨S1x256, .f32⟩
  | 13 => ⟨S16384x256, .f32⟩
  | 14 => ⟨S16384x256, .f32⟩
  | 15 => ⟨S1x256, .f32⟩
  | 16 => ⟨S16384x256, .f32⟩
  | 17 => ⟨S16384x256, .f32⟩
  | 18 => ⟨S_, .f32⟩
  | 19 => ⟨S16384x256, .f32⟩
  | 20 => ⟨S16384x256, .f32⟩
  | 21 => ⟨S16384x512, .f32⟩
  | 22 => ⟨S1x512, .f32⟩
  | 23 => ⟨S16384x512, .f32⟩
  | 24 => ⟨S16384x512, .f32⟩
  | 25 => ⟨S_, .f32⟩
  | 26 => ⟨S512, .f32⟩
  | 27 => ⟨S_, .f32⟩
  | 28 => ⟨S512, .f32⟩
  | 29 => ⟨S512, .f32⟩
  | 30 => ⟨S1x512, .f32⟩
  | 31 => ⟨S16384x512, .f32⟩
  | 32 => ⟨S16384x512, .f32⟩
  | 33 => ⟨S16384x512, .f32⟩
  | 34 => ⟨S_, .f32⟩
  | 35 => ⟨S512, .f32⟩
  | 36 => ⟨S_, .f32⟩
  | 37 => ⟨S512, .f32⟩
  | 38 => ⟨S512, .f32⟩
  | 39 => ⟨S1x512, .f32⟩
  | 40 => ⟨S16384x512, .f32⟩
  | 41 => ⟨S16384x512, .f32⟩
  | 42 => ⟨S_, .f32⟩
  | 43 => ⟨S512, .f32⟩
  | 44 => ⟨S512, .f32⟩
  | 45 => ⟨S512, .f32⟩
  | 46 => ⟨S1x512, .f32⟩
  | 47 => ⟨S16384x512, .f32⟩
  | 48 => ⟨S16384x512, .f32⟩
  | 49 => ⟨S1x512, .f32⟩
  | 50 => ⟨S16384x512, .f32⟩
  | 51 => ⟨S16384x512, .f32⟩
  | 52 => ⟨S1x512, .f32⟩
  | 53 => ⟨S16384x512, .f32⟩
  | 54 => ⟨S16384x512, .f32⟩
  | 55 => ⟨S_, .f32⟩
  | 56 => ⟨S16384x512, .f32⟩
  | 57 => ⟨S16384x512, .f32⟩
  | 58 => ⟨S2048x8x512, .f32⟩
  | 59 => ⟨S_, .f32⟩
  | 60 => ⟨S2048x512, .f32⟩
  | 61 => ⟨S2x1024x512, .f32⟩
  | _ => ⟨S2x1024x32x3, .f32⟩

abbrev hbmTy (i : Nat) : BufTy := match i / 128 with
  | 0 => hbmTy0_0 i
  | 1 => hbmTy0_1 i
  | 2 => hbmTy0_2 i
  | 3 => hbmTy0_3 i
  | _ => ⟨S2x1024x32x3, .f32⟩

abbrev bufTy : (tb : Table) → Fin (tcTables nBuf tb) → BufTy
  | .hbm, ⟨i, _⟩ => hbmTy i
  | _, _ => ⟨S2x1024x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v8 : Ref sig .tc := ⟨.hbm, 39, rfl⟩
abbrev main_v9 : Ref sig .tc := ⟨.hbm, 40, rfl⟩
abbrev main_c : Ref sig .tc := ⟨.hbm, 41, rfl⟩
abbrev main_v10 : Ref sig .tc := ⟨.hbm, 42, rfl⟩
abbrev main_v11 : Ref sig .tc := ⟨.hbm, 43, rfl⟩
abbrev main_c_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_2 : Ref sig .tc := ⟨.hbm, 53, rfl⟩
abbrev main_v20 : Ref sig .tc := ⟨.hbm, 54, rfl⟩
abbrev main_v21 : Ref sig .tc := ⟨.hbm, 55, rfl⟩
abbrev main_call1_v0 : Ref sig .tc := ⟨.hbm, 56, rfl⟩
abbrev main_call1_cst : Ref sig .tc := ⟨.hbm, 57, rfl⟩
abbrev main_call1_c : Ref sig .tc := ⟨.hbm, 58, rfl⟩
abbrev main_call1_v1_0 : Ref sig .tc := ⟨.hbm, 59, rfl⟩
abbrev main_v22 : Ref sig .tc := ⟨.hbm, 60, rfl⟩
abbrev main_v23 : Ref sig .tc := ⟨.hbm, 61, rfl⟩
abbrev main_c_3 : Ref sig .tc := ⟨.hbm, 62, rfl⟩
abbrev main_v24 : Ref sig .tc := ⟨.hbm, 63, rfl⟩
abbrev main_v25 : Ref sig .tc := ⟨.hbm, 64, rfl⟩
abbrev main_c_4 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_5 : Ref sig .tc := ⟨.hbm, 74, rfl⟩
abbrev main_v34 : Ref sig .tc := ⟨.hbm, 75, rfl⟩
abbrev main_v35 : Ref sig .tc := ⟨.hbm, 76, rfl⟩
abbrev main_call2_v0 : Ref sig .tc := ⟨.hbm, 77, rfl⟩
abbrev main_call2_cst : Ref sig .tc := ⟨.hbm, 78, rfl⟩
abbrev main_call2_c : Ref sig .tc := ⟨.hbm, 79, rfl⟩
abbrev main_call2_v1_0 : Ref sig .tc := ⟨.hbm, 80, rfl⟩
abbrev main_v36 : Ref sig .tc := ⟨.hbm, 81, rfl⟩
abbrev main_v37 : Ref sig .tc := ⟨.hbm, 82, rfl⟩
abbrev main_c_6 : Ref sig .tc := ⟨.hbm, 83, rfl⟩
abbrev main_v38 : Ref sig .tc := ⟨.hbm, 84, rfl⟩
abbrev main_v39 : Ref sig .tc := ⟨.hbm, 85, rfl⟩
abbrev main_c_7 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_8 : Ref sig .tc := ⟨.hbm, 95, rfl⟩
abbrev main_v48 : Ref sig .tc := ⟨.hbm, 96, rfl⟩
abbrev main_v49 : Ref sig .tc := ⟨.hbm, 97, rfl⟩
abbrev main_call3_v0 : Ref sig .tc := ⟨.hbm, 98, rfl⟩
abbrev main_call3_cst : Ref sig .tc := ⟨.hbm, 99, rfl⟩
abbrev main_call3_c : Ref sig .tc := ⟨.hbm, 100, rfl⟩
abbrev main_call3_v1_0 : Ref sig .tc := ⟨.hbm, 101, rfl⟩
abbrev main_v50 : Ref sig .tc := ⟨.hbm, 102, rfl⟩
abbrev main_v51 : Ref sig .tc := ⟨.hbm, 103, rfl⟩
abbrev main_c_9 : Ref sig .tc := ⟨.hbm, 104, rfl⟩
abbrev main_v52 : Ref sig .tc := ⟨.hbm, 105, rfl⟩
abbrev main_v53 : Ref sig .tc := ⟨.hbm, 106, rfl⟩
abbrev main_c_10 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_11 : Ref sig .tc := ⟨.hbm, 116, rfl⟩
abbrev main_v62 : Ref sig .tc := ⟨.hbm, 117, rfl⟩
abbrev main_v63 : Ref sig .tc := ⟨.hbm, 118, rfl⟩
abbrev main_call4_v0 : Ref sig .tc := ⟨.hbm, 119, rfl⟩
abbrev main_call4_cst : Ref sig .tc := ⟨.hbm, 120, rfl⟩
abbrev main_call4_c : Ref sig .tc := ⟨.hbm, 121, rfl⟩
abbrev main_call4_v1_0 : Ref sig .tc := ⟨.hbm, 122, rfl⟩
abbrev main_v64 : Ref sig .tc := ⟨.hbm, 123, rfl⟩
abbrev main_v65 : Ref sig .tc := ⟨.hbm, 124, rfl⟩
abbrev main_c_12 : Ref sig .tc := ⟨.hbm, 125, rfl⟩
abbrev main_v66 : Ref sig .tc := ⟨.hbm, 126, rfl⟩
abbrev main_v67 : Ref sig .tc := ⟨.hbm, 127, rfl⟩
abbrev main_c_13 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_14 : Ref sig .tc := ⟨.hbm, 137, rfl⟩
abbrev main_v76 : Ref sig .tc := ⟨.hbm, 138, rfl⟩
abbrev main_v77 : Ref sig .tc := ⟨.hbm, 139, rfl⟩
abbrev main_call5_v0 : Ref sig .tc := ⟨.hbm, 140, rfl⟩
abbrev main_call5_cst : Ref sig .tc := ⟨.hbm, 141, rfl⟩
abbrev main_call5_c : Ref sig .tc := ⟨.hbm, 142, rfl⟩
abbrev main_call5_v1_0 : Ref sig .tc := ⟨.hbm, 143, rfl⟩
abbrev main_v78 : Ref sig .tc := ⟨.hbm, 144, rfl⟩
abbrev main_v79 : Ref sig .tc := ⟨.hbm, 145, rfl⟩
abbrev main_c_15 : Ref sig .tc := ⟨.hbm, 146, rfl⟩
abbrev main_v80 : Ref sig .tc := ⟨.hbm, 147, rfl⟩
abbrev main_v81 : Ref sig .tc := ⟨.hbm, 148, rfl⟩
abbrev main_c_16 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_17 : Ref sig .tc := ⟨.hbm, 158, rfl⟩
abbrev main_v90 : Ref sig .tc := ⟨.hbm, 159, rfl⟩
abbrev main_v91 : Ref sig .tc := ⟨.hbm, 160, rfl⟩
abbrev main_call6_v0 : Ref sig .tc := ⟨.hbm, 161, rfl⟩
abbrev main_call6_cst : Ref sig .tc := ⟨.hbm, 162, rfl⟩
abbrev main_call6_c : Ref sig .tc := ⟨.hbm, 163, rfl⟩
abbrev main_call6_v1_0 : Ref sig .tc := ⟨.hbm, 164, rfl⟩
abbrev main_v92 : Ref sig .tc := ⟨.hbm, 165, rfl⟩
abbrev main_v93 : Ref sig .tc := ⟨.hbm, 166, rfl⟩
abbrev main_c_18 : Ref sig .tc := ⟨.hbm, 167, rfl⟩
abbrev main_v94 : Ref sig .tc := ⟨.hbm, 168, rfl⟩
abbrev main_v95 : Ref sig .tc := ⟨.hbm, 169, rfl⟩
abbrev main_c_19 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_20 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_cst_21 : Ref sig .tc := ⟨.hbm, 187, rfl⟩
abbrev main_v111 : Ref sig .tc := ⟨.hbm, 188, rfl⟩
abbrev main_v112 : Ref sig .tc := ⟨.hbm, 189, rfl⟩
abbrev main_c_22 : Ref sig .tc := ⟨.hbm, 190, rfl⟩
abbrev main_call7_v0 : Ref sig .tc := ⟨.hbm, 191, rfl⟩
abbrev main_call7_v1 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_c_23 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_call9_v0 : Ref sig .tc := ⟨.hbm, 200, rfl⟩
abbrev main_v119 : Ref sig .tc := ⟨.hbm, 201, rfl⟩
abbrev main_c_24 : Ref sig .tc := ⟨.hbm, 202, rfl⟩
abbrev main_v120 : Ref sig .tc := ⟨.hbm, 203, rfl⟩
abbrev main_v121 : Ref sig .tc := ⟨.hbm, 204, rfl⟩
abbrev main_c_25 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_cst_26 : Ref sig .tc := ⟨.hbm, 219, rfl⟩
abbrev main_v135 : Ref sig .tc := ⟨.hbm, 220, rfl⟩
abbrev main_cst_27 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_cst_28 : Ref sig .tc := ⟨.hbm, 228, rfl⟩
abbrev main_v142 : Ref sig .tc := ⟨.hbm, 229, rfl⟩
abbrev main_cst_29 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_cst_30 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_cst_31 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_32 : Ref sig .tc := ⟨.hbm, 256, rfl⟩
abbrev main_v166 : Ref sig .tc := ⟨.hbm, 257, rfl⟩
abbrev main_cst_33 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_cst_34 : Ref sig .tc := ⟨.hbm, 265, rfl⟩
abbrev main_v173 : Ref sig .tc := ⟨.hbm, 266, rfl⟩
abbrev main_cst_35 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_cst_36 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_cst_37 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_cst_38 : Ref sig .tc := ⟨.hbm, 293, rfl⟩
abbrev main_v197 : Ref sig .tc := ⟨.hbm, 294, rfl⟩
abbrev main_cst_39 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_cst_40 : Ref sig .tc := ⟨.hbm, 302, rfl⟩
abbrev main_v204 : Ref sig .tc := ⟨.hbm, 303, rfl⟩
abbrev main_cst_41 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_cst_42 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_cst_43 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_cst_44 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_cst_45 : Ref sig .tc := ⟨.hbm, 335, rfl⟩
abbrev main_v232 : Ref sig .tc := ⟨.hbm, 336, rfl⟩
abbrev main_cst_46 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_cst_47 : Ref sig .tc := ⟨.hbm, 344, rfl⟩
abbrev main_v239 : Ref sig .tc := ⟨.hbm, 345, rfl⟩
abbrev main_cst_48 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_cst_49 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_v256 : Ref sig .tc := ⟨.hbm, 364, rfl⟩
abbrev main_cst_50 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_cst_51 : Ref sig .tc := ⟨.hbm, 372, rfl⟩
abbrev main_v263 : Ref sig .tc := ⟨.hbm, 373, rfl⟩
abbrev main_cst_52 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_cst_53 : Ref sig .tc := ⟨.hbm, 381, rfl⟩
abbrev main_v270 : Ref sig .tc := ⟨.hbm, 382, rfl⟩
abbrev main_cst_54 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_cst_55 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_cst_56 : Ref sig .tc := ⟨.hbm, 402, rfl⟩
abbrev main_v288 : Ref sig .tc := ⟨.hbm, 403, rfl⟩
abbrev main_v289 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_cst_57 : Ref sig .tc := ⟨.hbm, 409, rfl⟩
abbrev main_v294 : Ref sig .tc := ⟨.hbm, 410, rfl⟩
abbrev main_cst_58 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_cst_59 : Ref sig .tc := ⟨.hbm, 418, rfl⟩
abbrev main_v301 : Ref sig .tc := ⟨.hbm, 419, rfl⟩
abbrev main_cst_60 : Ref sig .tc := ⟨.hbm, 420, rfl⟩
abbrev main_v302 : Ref sig .tc := ⟨.hbm, 421, rfl⟩
abbrev main_v303 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_cst_61 : Ref sig .tc := ⟨.hbm, 426, rfl⟩
abbrev main_v307 : Ref sig .tc := ⟨.hbm, 427, rfl⟩
abbrev main_v308 : Ref sig .tc := ⟨.hbm, 428, rfl⟩
abbrev main_v309 : Ref sig .tc := ⟨.hbm, 429, rfl⟩
abbrev main_v310 : Ref sig .tc := ⟨.hbm, 430, rfl⟩
abbrev main_v311 : Ref sig .tc := ⟨.hbm, 431, rfl⟩
abbrev main_v312 : Ref sig .tc := ⟨.hbm, 432, rfl⟩
abbrev main_v313 : Ref sig .tc := ⟨.hbm, 433, rfl⟩
abbrev main_v314 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_cst_62 : Ref sig .tc := ⟨.hbm, 439, rfl⟩
abbrev main_v319 : Ref sig .tc := ⟨.hbm, 440, rfl⟩
abbrev main_v320 : Ref sig .tc := ⟨.hbm, 441, rfl⟩
abbrev main_v321 : Ref sig .tc := ⟨.hbm, 442, rfl⟩
abbrev main_cst_63 : Ref sig .tc := ⟨.hbm, 443, rfl⟩
abbrev main_v322 : Ref sig .tc := ⟨.hbm, 444, rfl⟩
abbrev main_v323 : Ref sig .tc := ⟨.hbm, 445, rfl⟩

abbrev nD : Nat := 1
abbrev τ : Topo := Topo.v7x

variable {F : FTy → Type} [FloatOps F]
-- ==== Proof.Mem.Region0.lean ====
/- The frame of region 0. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffers' contents when the region is entered
variable (V : (c : Dev nD) → (b : Ref sig .tc) → Buf (Elt F) ((c : Thread nD τ).loc b))

/-! # REGION 0 of @main: custom_call 0, `cc0__group_body` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

abbrev cond0_0 (i : grid0.Coords) : Prop := k0_cond1 i = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ 1 ≤ t.val :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ 1 ≤ t.val)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Whether output 9's buffer is fresh at each position, as a bitmask: bit `n` for position `n + 1`. -/
def freshTab0_9 : ℕ → Bool
  | 0 => true
  | n + 1 => (0x8000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → ¬cond0_1 (grid0.coords t) → cfg0.idle 9 (grid0.coords t) = false := by decide +kernel
theorem liveAt0_9_B : ∀ t : Fin cfg0.N, ¬cond0_0 (grid0.coords t) → cond0_1 (grid0.coords t) → cfg0.idle 9 (grid0.coords t) = false := by decide +kernel
theorem notFresh0_9_B : ∀ t : Fin cfg0.N, ¬cond0_0 (grid0.coords t) → cond0_1 (grid0.coords t) → cfg0.fresh 9 t.val = false := by
  intro t; rw [fresh0_9_eq t]; revert t; decide +kernel

/-! ## The body on any staging memrefs -/

abbrev VO0_5 : View sig .tc .vmem S128x64x64 .f32 := (Memref.whole cc0_stg5_0 : Memref sig .tc .vmem S128x64x64 .f32).view
abbrev VO0_6 : View sig .tc .vmem S128x8 .f32 := (Memref.whole cc0_stg6_0 : Memref sig .tc .vmem S128x8 .f32).view
abbrev VO0_7 : View sig .tc .vmem S128x8 .f32 := (Memref.whole cc0_stg7_0 : Memref sig .tc .vmem S128x8 .f32).view
abbrev VO0_8 : View sig .tc .vmem S128x8 .f32 := (Memref.whole cc0_stg8_0 : Memref sig .tc .vmem S128x8 .f32).view
abbrev VO0_9 : View sig .tc .vmem S8x64 .f32 := (Memref.whole cc0_stg9_0 : Memref sig .tc .vmem S8x64 .f32).view
/-- Each window's staging memref at point `t`, and its wholeness. -/
abbrev ms0_0 (t : Fin cfg0.N) : Memref sig .tc .vmem S128x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x64 .f32 := win0_9.stage (cfg0.slots t 9)
abbrev hs0_9 (t : Fin cfg0.N) : (ms0_9 t).IsWhole := hstage0_9 ((cfg0.slots t 9).cast nbuf0_9)

section
variable (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : cond0_0 i) (hc1 : ¬cond0_1 i)
    (x0 : Vec F S128x32 .f32) (x1 : Vec F S128x32 .f32) (x2 : Vec F S128x32 .f32) (x3 : Vec F S3x64 .f32) (x4 : Vec F S1x64 .f32)

set_option maxHeartbeats 1000000 in
/-- The body's run in case A: the pieces that its stores leave in the outputs' staging memrefs, found by running it. -/
noncomputable def kernelRun0_A :
    Σ' (L5 : List (View.Piece (Elt F) S128x64x64 .f32)), Σ' (L6 : List (View.Piece (Elt F) S128x8 .f32)), Σ' (L7 : List (View.Piece (Elt F) S128x8 .f32)), Σ' (L8 : List (View.Piece (Elt F) S128x8 .f32)), { L9 : List (View.Piece (Elt F) S8x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__group_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__group_body_eq_skeleton]; unfold cc0__group_body_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

theorem cover0_A_5 (y : S128x64x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S128x8x64.size (by sl_kernel_rfl) y

def out0_A_5 : Vec F S128x64x64 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

theorem cover0_A_6 (y : S128x8.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S128x8.size (by sl_kernel_rfl) y

def out0_A_6 : Vec F S128x8 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4).2.1)

theorem cover0_A_7 (y : S128x8.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S128x8.size (by sl_kernel_rfl) y

def out0_A_7 : Vec F S128x8 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4).2.2.1)

theorem cover0_A_8 (y : S128x8.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S128x8.size (by sl_kernel_rfl) y

def out0_A_8 : Vec F S128x8 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

theorem cover0_A_9 (y : S8x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S8x64.size (by sl_kernel_rfl) y

def out0_A_9 : Vec F S8x64 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

end

section
variable (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : ¬cond0_0 i) (hc1 : cond0_1 i)
    (x0 : Vec F S128x32 .f32) (x1 : Vec F S128x32 .f32) (x2 : Vec F S128x32 .f32) (x3 : Vec F S3x64 .f32) (x4 : Vec F S1x64 .f32) (xo9 : Vec F S8x64 .f32)

set_option maxHeartbeats 1000000 in
/-- The body's run in case B: the pieces that its stores leave in the outputs' staging memrefs, found by running it. -/
noncomputable def kernelRun0_B :
    Σ' (L5 : List (View.Piece (Elt F) S128x64x64 .f32)), Σ' (L6 : List (View.Piece (Elt F) S128x8 .f32)), Σ' (L7 : List (View.Piece (Elt F) S128x8 .f32)), Σ' (L8 : List (View.Piece (Elt F) S128x8 .f32)), { L9 : List (View.Piece (Elt F) S8x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__group_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__group_body_eq_skeleton]; unfold cc0__group_body_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

theorem cover0_B_5 (y : S128x64x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo9).1 S128x8x64.size (by sl_kernel_rfl) y

def out0_B_5 : Vec F S128x64x64 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xo9).1)

theorem cover0_B_6 (y : S128x8.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo9).2.1 S128x8.size (by sl_kernel_rfl) y

def out0_B_6 : Vec F S128x8 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 xo9).2.1)

theorem cover0_B_7 (y : S128x8.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo9).2.2.1 S128x8.size (by sl_kernel_rfl) y

def out0_B_7 : Vec F S128x8 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 xo9).2.2.1)

theorem cover0_B_8 (y : S128x8.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo9).2.2.2.1 S128x8.size (by sl_kernel_rfl) y

def out0_B_8 : Vec F S128x8 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 hc1 x0 x1 x2 x3 x4 xo9).2.2.2.1)

theorem cover0_B_9 (y : S8x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo9).2.2.2.2.1 S8x64.size (by sl_kernel_rfl) y

def out0_B_9 : Vec F S8x64 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 hc1 x0 x1 x2 x3 x4 xo9).2.2.2.2.1)

end

/-! ## What the outputs hold after each point -/

/-- What the outputs' staging buffers hold after the body at position `n`: the case that is met at `n`, over what `n - 1` left. -/
def outsAt0 (c : Dev nD) : (n : ℕ) → n < cfg0.N → Vec F S128x64x64 .f32 × Vec F S128x8 .f32 × Vec F S128x8 .f32 × Vec F S128x8 .f32 × Vec F S8x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : 1 ≤ (n + 1) then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.2)
      else
        False.elim (by have hN : n + 1 < 16 := lt_of_lt_of_eq hn (show cfg0.N = 16 from N_0); omega)

theorem outsAt0_A (c : Dev nD) (t : Fin cfg0.N) (h0 : t.val % 16 = 0) (h1 : ¬1 ≤ t.val) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk0 V c 0 t) (iblk0 V c 1 t) (iblk0 V c 2 t) (iblk0 V c 3 t) (iblk0 V c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk0 V c 0 t) (iblk0 V c 1 t) (iblk0 V c 2 t) (iblk0 V c 3 t) (iblk0 V c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : 1 ≤ t.val) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0: the arrays at `V`; after the body at a point, the inputs' buffers at their blocks and the outputs' at their contents. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
    | ⟨8, _⟩ => (outsAt0 V c t.val t.isLt).2.2.2.1
    | ⟨9, _⟩ => (outsAt0 V c t.val t.isLt).2.2.2.2
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]
theorem after0_8 (c : Dev nD) (t : Fin cfg0.N) : (dat0 V c).after 8 t = (outsAt0 V c t.val t.isLt).2.2.2.1 := by dsimp only [dat0]
theorem after0_9 (c : Dev nD) (t : Fin cfg0.N) : (dat0 V c).after 9 t = (outsAt0 V c t.val t.isLt).2.2.2.2 := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- Output 9's contents carry through the points that leave it idle. -/
theorem hcarry0_9 (c : Dev nD) : ∀ (t : Fin cfg0.N) (_ : t.val ≠ 0), cfg0.idle 9 (grid0.coords t) = true → cfg0.fresh 9 t.val = false →
    (dat0 V c).after 9 t = (dat0 V c).after 9 ⟨t.val - 1, by omega⟩ := by
  intro t _ hi _
  have hN : t.val < 16 := lt_of_lt_of_eq t.isLt (show cfg0.N = 16 from N_0)
  rw [after0_9, after0_9]
  by_cases h0 : t.val % 16 = 0
  · by_cases h1 : 1 ≤ t.val
    · exfalso; omega
    · rw [liveAt0_9_A t ((hcond0_0 t).mpr h0) (fun h => h1 ((hcond0_1 t).mp h))] at hi
      exact absurd hi Bool.false_ne_true
  · by_cases h1 : 1 ≤ t.val
    · rw [liveAt0_9_B t (fun h => h0 ((hcond0_0 t).mp h)) ((hcond0_1 t).mpr h1)] at hi
      exact absurd hi Bool.false_ne_true
    · exfalso; omega
/-- At a point of case B output 9's staging buffer holds what the point before left. -/
theorem before0_9_B (c : Dev nD) (t : Fin cfg0.N) (h0 : ¬t.val % 16 = 0) (h1 : 1 ≤ t.val) (d) :
    (dat0 V c).before 9 t d = (outsAt0 V c (t.val - 1) (Nat.lt_of_le_of_lt (Nat.sub_le _ _) t.isLt)).2.2.2.2 := by
  rw [Dat.before_out_traj _ 9 rfl (fun _ _ => rfl) (hcarry0_9 V c) t.val t rfl d,
    if_neg (by rw [notFresh0_9_B t (fun h => h0 ((hcond0_0 t).mp h)) ((hcond0_1 t).mpr h1)]; exact Bool.false_ne_true)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  have hN : t.val < 16 := lt_of_lt_of_eq t.isLt (show cfg0.N = 16 from N_0)
  by_cases h0 : t.val % 16 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9_A t ((hcond0_0 t).mpr h0) (fun h => h1 ((hcond0_1 t).mp h))], after0_9]
      rw [outsAt0_A V c t h0 h1]
      unfold out0_A_5 out0_A_6 out0_A_7 out0_A_8 out0_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9_B t (fun h => h0 ((hcond0_0 t).mp h)) ((hcond0_1 t).mpr h1)], after0_9]
      rw [outsAt0_B V c t h0 h1]
      simp only [before0_9_B V c t h0 h1]
      unfold out0_B_5 out0_B_6 out0_B_7 out0_B_8 out0_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexact H9
      iintro ⟨H0, H1, H2, H3, H4, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Mem.Region1.lean ====
/- The frame of region 1. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffers' contents when the region is entered
variable (V : (c : Dev nD) → (b : Ref sig .tc) → Buf (Elt F) ((c : Thread nD τ).loc b))

/-! # REGION 1 of @main: custom_call 1, `cc1_body` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

abbrev cond1_0 (i : grid1.Coords) : Prop := k1_cond1 i = 1#1
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, k1_cond1, e0]
    word_cmp
   : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ 1 ≤ t.val :=
  (fun t => by
    have ht : t.val < 16 := Nat.lt_of_lt_of_eq t.isLt N_1
    have e0 : (grid1.coords t 0).val = t.val / 1 % 16 := Pipeline.Grid.coords_val t 0 (by decide) rfl
    simp only [cond1_1, k1_cond2, e0]
    word_cmp
   : ∀ t : Fin grid1.N, cond1_1 (grid1.coords t) ↔ 1 ≤ t.val)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Whether output 7's buffer is fresh at each position, as a bitmask: bit `n` for position `n + 1`. -/
def freshTab1_7 : ℕ → Bool
  | 0 => true
  | n + 1 => (0x8000 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem fresh1_7_eq (t : Fin cfg1.N) : cfg1.fresh 7 t.val = freshTab1_7 t.val :=
  Pipeline.Cfg.fresh_tab cfg1 7 freshTab1_7 rfl freshTab1_7_step t.val (Nat.le_of_lt t.isLt)
theorem liveAt1_7_A : ∀ t : Fin cfg1.N, cond1_0 (grid1.coords t) → ¬cond1_1 (grid1.coords t) → cfg1.idle 7 (grid1.coords t) = false := by decide +kernel
theorem liveAt1_7_B : ∀ t : Fin cfg1.N, ¬cond1_0 (grid1.coords t) → cond1_1 (grid1.coords t) → cfg1.idle 7 (grid1.coords t) = false := by decide +kernel
theorem notFresh1_7_B : ∀ t : Fin cfg1.N, ¬cond1_0 (grid1.coords t) → cond1_1 (grid1.coords t) → cfg1.fresh 7 t.val = false := by
  intro t; rw [fresh1_7_eq t]; revert t; decide +kernel

/-! ## The body on any staging memrefs -/

abbrev VO1_6 : View sig .tc .vmem S8192x64 .f32 := (Memref.whole cc1_stg6_0 : Memref sig .tc .vmem S8192x64 .f32).view
abbrev VO1_7 : View sig .tc .vmem S8x64 .f32 := (Memref.whole cc1_stg7_0 : Memref sig .tc .vmem S8x64 .f32).view
/-- Each window's staging memref at point `t`, and its wholeness. -/
abbrev ms1_0 (t : Fin cfg1.N) : Memref sig .tc .vmem S8192x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8192x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x64 .f32 := win1_7.stage (cfg1.slots t 7)
abbrev hs1_7 (t : Fin cfg1.N) : (ms1_7 t).IsWhole := hstage1_7 ((cfg1.slots t 7).cast nbuf1_7)

section
variable (c : Dev nD) (i : grid1.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x64 .f32) (harg8 : arg8.IsWhole) (hc0 : cond1_0 i) (hc1 : ¬cond1_1 i)
    (x0 : Vec F S8192x64 .f32) (x1 : Vec F S8x64 .f32) (x2 : Vec F S1x64 .f32) (x3 : Vec F S1x64 .f32) (x4 : Vec F S64x64 .f32) (x5 : Vec F S1x64 .f32)

set_option maxHeartbeats 1000000 in
/-- The body's run in case A: the pieces that its stores leave in the outputs' staging memrefs, found by running it. -/
noncomputable def kernelRun1_A :
    Σ' (L6 : List (View.Piece (Elt F) S8192x64 .f32)), { L7 : List (View.Piece (Elt F) S8x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_body i arg1 harg1 arg2 harg2 arg3 harg3 arg4 harg4 arg5 harg5 arg6 harg6 arg7 harg7 arg8 harg8) K } := by
  refine ⟨?_, ?_, fun E K => ?run⟩
  case run =>
    simp only [cc1_body_eq_skeleton]; unfold cc1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover1_A_6 (y : S8192x64.Idx) :
    ∃ pc ∈ (kernelRun1_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).1 S8192x64.size (by sl_kernel_rfl) y

def out1_A_6 : Vec F S8192x64 .f32 :=
  VO1_6.read (Elt F) (VO1_6.writes (Elt F) VO1_6.junk (kernelRun1_A c i arg1 harg1 arg2 harg2 arg3 harg3 arg4 harg4 arg5 harg5 arg6 harg6 arg7 harg7 arg8 harg8 hc0 hc1 x0 x1 x2 x3 x4 x5).1)

theorem cover1_A_7 (y : S8x64.Idx) :
    ∃ pc ∈ (kernelRun1_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).2.1 S8x64.size (by sl_kernel_rfl) y

def out1_A_7 : Vec F S8x64 .f32 :=
  VO1_7.read (Elt F) (VO1_7.writes (Elt F) VO1_7.junk (kernelRun1_A c i arg1 harg1 arg2 harg2 arg3 harg3 arg4 harg4 arg5 harg5 arg6 harg6 arg7 harg7 arg8 harg8 hc0 hc1 x0 x1 x2 x3 x4 x5).2.1)

end

section
variable (c : Dev nD) (i : grid1.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x64 .f32) (harg8 : arg8.IsWhole) (hc0 : ¬cond1_0 i) (hc1 : cond1_1 i)
    (x0 : Vec F S8192x64 .f32) (x1 : Vec F S8x64 .f32) (x2 : Vec F S1x64 .f32) (x3 : Vec F S1x64 .f32) (x4 : Vec F S64x64 .f32) (x5 : Vec F S1x64 .f32) (xo7 : Vec F S8x64 .f32)

set_option maxHeartbeats 1000000 in
/-- The body's run in case B: the pieces that its stores leave in the outputs' staging memrefs, found by running it. -/
noncomputable def kernelRun1_B :
    Σ' (L6 : List (View.Piece (Elt F) S8192x64 .f32)), { L7 : List (View.Piece (Elt F) S8x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_body i arg1 harg1 arg2 harg2 arg3 harg3 arg4 harg4 arg5 harg5 arg6 harg6 arg7 harg7 arg8 harg8) K } := by
  refine ⟨?_, ?_, fun E K => ?run⟩
  case run =>
    simp only [cc1_body_eq_skeleton]; unfold cc1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover1_B_6 (y : S8192x64.Idx) :
    ∃ pc ∈ (kernelRun1_B c i arg1 harg1 arg2 harg2 arg3 harg3 arg4 harg4 arg5 harg5 arg6 harg6 arg7 harg7 arg8 harg8 hc0 hc1 x0 x1 x2 x3 x4 x5 xo7).1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo7).1 S8192x64.size (by sl_kernel_rfl) y

def out1_B_6 : Vec F S8192x64 .f32 :=
  VO1_6.read (Elt F) (VO1_6.writes (Elt F) VO1_6.junk (kernelRun1_B c i arg1 harg1 arg2 harg2 arg3 harg3 arg4 harg4 arg5 harg5 arg6 harg6 arg7 harg7 arg8 harg8 hc0 hc1 x0 x1 x2 x3 x4 x5 xo7).1)

theorem cover1_B_7 (y : S8x64.Idx) :
    ∃ pc ∈ (kernelRun1_B c i arg1 harg1 arg2 harg2 arg3 harg3 arg4 harg4 arg5 harg5 arg6 harg6 arg7 harg7 arg8 harg8 hc0 hc1 x0 x1 x2 x3 x4 x5 xo7).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo7).2.1 S8x64.size (by sl_kernel_rfl) y

def out1_B_7 : Vec F S8x64 .f32 :=
  VO1_7.read (Elt F) (VO1_7.writes (Elt F) VO1_7.junk (kernelRun1_B c i arg1 harg1 arg2 harg2 arg3 harg3 arg4 harg4 arg5 harg5 arg6 harg6 arg7 harg7 arg8 harg8 hc0 hc1 x0 x1 x2 x3 x4 x5 xo7).2.1)

end

/-! ## What the outputs hold after each point -/

/-- What the outputs' staging buffers hold after the body at position `n`: the case that is met at `n`, over what `n - 1` left. -/
def outsAt1 (c : Dev nD) : (n : ℕ) → n < cfg1.N → Vec F S8192x64 .f32 × Vec F S8x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : 1 ≤ (n + 1) then
        False.elim (by have hN : n + 1 < 16 := lt_of_lt_of_eq hn (show cfg1.N = 16 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : 1 ≤ (n + 1) then
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        False.elim (by have hN : n + 1 < 16 := lt_of_lt_of_eq hn (show cfg1.N = 16 from N_1); omega)

theorem outsAt1_A (c : Dev nD) (t : Fin cfg1.N) (h0 : t.val % 16 = 0) (h1 : ¬1 ≤ t.val) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : 1 ≤ t.val) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1: the arrays at `V`; after the body at a point, the inputs' buffers at their blocks and the outputs' at their contents. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Output 7's contents carry through the points that leave it idle. -/
theorem hcarry1_7 (c : Dev nD) : ∀ (t : Fin cfg1.N) (_ : t.val ≠ 0), cfg1.idle 7 (grid1.coords t) = true → cfg1.fresh 7 t.val = false →
    (dat1 V c).after 7 t = (dat1 V c).after 7 ⟨t.val - 1, by omega⟩ := by
  intro t _ hi _
  have hN : t.val < 16 := lt_of_lt_of_eq t.isLt (show cfg1.N = 16 from N_1)
  rw [after1_7, after1_7]
  by_cases h0 : t.val % 16 = 0
  · by_cases h1 : 1 ≤ t.val
    · exfalso; omega
    · rw [liveAt1_7_A t ((hcond1_0 t).mpr h0) (fun h => h1 ((hcond1_1 t).mp h))] at hi
      exact absurd hi Bool.false_ne_true
  · by_cases h1 : 1 ≤ t.val
    · rw [liveAt1_7_B t (fun h => h0 ((hcond1_0 t).mp h)) ((hcond1_1 t).mpr h1)] at hi
      exact absurd hi Bool.false_ne_true
    · exfalso; omega
/-- At a point of case B output 7's staging buffer holds what the point before left. -/
theorem before1_7_B (c : Dev nD) (t : Fin cfg1.N) (h0 : ¬t.val % 16 = 0) (h1 : 1 ≤ t.val) (d) :
    (dat1 V c).before 7 t d = (outsAt1 V c (t.val - 1) (Nat.lt_of_le_of_lt (Nat.sub_le _ _) t.isLt)).2 := by
  rw [Dat.before_out_traj _ 7 rfl (fun _ _ => rfl) (hcarry1_7 V c) t.val t rfl d,
    if_neg (by rw [notFresh1_7_B t (fun h => h0 ((hcond1_0 t).mp h)) ((hcond1_1 t).mpr h1)]; exact Bool.false_ne_true)]
  dsimp only [dat1]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  have hN : t.val < 16 := lt_of_lt_of_eq t.isLt (show cfg1.N = 16 from N_1)
  by_cases h0 : t.val % 16 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_A t ((hcond1_0 t).mpr h0) (fun h => h1 ((hcond1_1 t).mp h))], after1_7]
      rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_B t (fun h => h0 ((hcond1_0 t).mp h)) ((hcond1_1 t).mpr h1)], after1_7]
      rw [outsAt1_B V c t h0 h1]
      simp only [before1_7_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Mem.Region2.lean ====
/- The frame of region 2. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffers' contents when the region is entered
variable (V : (c : Dev nD) → (b : Ref sig .tc) → Buf (Elt F) ((c : Thread nD τ).loc b))

/-! # REGION 2 of @main: custom_call 2, `cc2_body` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

abbrev cond2_0 (i : grid2.Coords) : Prop := k2_cond1 i = 1#1
theorem hcond2_0 : ∀ t : Fin cfg2.N, cond2_0 (grid2.coords t) ↔ t.val % 16 = 0 :=
  (fun t => by
    have ht : t.val < 16 := Nat.lt_of_lt_of_eq t.isLt N_2
    have e0 : (grid2.coords t 0).val = t.val / 1 % 16 := Pipeline.Grid.coords_val t 0 (by decide) rfl
    simp only [cond2_0, k2_cond1, e0]
    word_cmp
   : ∀ t : Fin grid2.N, cond2_0 (grid2.coords t) ↔ t.val % 16 = 0)

abbrev cond2_1 (i : grid2.Coords) : Prop := k2_cond2 i = 1#1
theorem hcond2_1 : ∀ t : Fin cfg2.N, cond2_1 (grid2.coords t) ↔ 1 ≤ t.val :=
  (fun t => by
    have ht : t.val < 16 := Nat.lt_of_lt_of_eq t.isLt N_2
    have e0 : (grid2.coords t 0).val = t.val / 1 % 16 := Pipeline.Grid.coords_val t 0 (by decide) rfl
    simp only [cond2_1, k2_cond2, e0]
    word_cmp
   : ∀ t : Fin grid2.N, cond2_1 (grid2.coords t) ↔ 1 ≤ t.val)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Whether output 7's buffer is fresh at each position, as a bitmask: bit `n` for position `n + 1`. -/
def freshTab2_7 : ℕ → Bool
  | 0 => true
  | n + 1 => (0x8000 : ℕ).testBit n
theorem freshTab2_7_step : ∀ t : Fin cfg2.N,
    freshTab2_7 (t.val + 1) = ((cfg2.win 7).flush t || (cfg2.idle 7 (cfg2.grid.coords t) && freshTab2_7 t.val)) := by decide +kernel
theorem fresh2_7_eq (t : Fin cfg2.N) : cfg2.fresh 7 t.val = freshTab2_7 t.val :=
  Pipeline.Cfg.fresh_tab cfg2 7 freshTab2_7 rfl freshTab2_7_step t.val (Nat.le_of_lt t.isLt)
theorem liveAt2_7_A : ∀ t : Fin cfg2.N, cond2_0 (grid2.coords t) → ¬cond2_1 (grid2.coords t) → cfg2.idle 7 (grid2.coords t) = false := by decide +kernel
theorem liveAt2_7_B : ∀ t : Fin cfg2.N, ¬cond2_0 (grid2.coords t) → cond2_1 (grid2.coords t) → cfg2.idle 7 (grid2.coords t) = false := by decide +kernel
theorem notFresh2_7_B : ∀ t : Fin cfg2.N, ¬cond2_0 (grid2.coords t) → cond2_1 (grid2.coords t) → cfg2.fresh 7 t.val = false := by
  intro t; rw [fresh2_7_eq t]; revert t; decide +kernel

/-! ## The body on any staging memrefs -/

abbrev VO2_6 : View sig .tc .vmem S8192x128 .f32 := (Memref.whole cc2_stg6_0 : Memref sig .tc .vmem S8192x128 .f32).view
abbrev VO2_7 : View sig .tc .vmem S8x128 .f32 := (Memref.whole cc2_stg7_0 : Memref sig .tc .vmem S8x128 .f32).view
/-- Each window's staging memref at point `t`, and its wholeness. -/
abbrev ms2_0 (t : Fin cfg2.N) : Memref sig .tc .vmem S8192x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S8192x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S8x128 .f32 := win2_7.stage (cfg2.slots t 7)
abbrev hs2_7 (t : Fin cfg2.N) : (ms2_7 t).IsWhole := hstage2_7 ((cfg2.slots t 7).cast nbuf2_7)

section
variable (c : Dev nD) (i : grid2.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S8x128 .f32) (harg8 : arg8.IsWhole) (hc0 : cond2_0 i) (hc1 : ¬cond2_1 i)
    (x0 : Vec F S8192x64 .f32) (x1 : Vec F S8x64 .f32) (x2 : Vec F S1x64 .f32) (x3 : Vec F S1x64 .f32) (x4 : Vec F S64x128 .f32) (x5 : Vec F S1x128 .f32)

set_option maxHeartbeats 1000000 in
/-- The body's run in case A: the pieces that its stores leave in the outputs' staging memrefs, found by running it. -/
noncomputable def kernelRun2_A :
    Σ' (L6 : List (View.Piece (Elt F) S8192x128 .f32)), { L7 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2_body i arg1 harg1 arg2 harg2 arg3 harg3 arg4 harg4 arg5 harg5 arg6 harg6 arg7 harg7 arg8 harg8) K } := by
  refine ⟨?_, ?_, fun E K => ?run⟩
  case run =>
    simp only [cc2_body_eq_skeleton]; unfold cc2_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover2_A_6 (y : S8192x128.Idx) :
    ∃ pc ∈ (kernelRun2_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).1 S8192x128.size (by sl_kernel_rfl) y

def out2_A_6 : Vec F S8192x128 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

theorem cover2_A_7 (y : S8x128.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S8x128.size (by sl_kernel_rfl) y

def out2_A_7 : Vec F S8x128 .f32 :=
  VO2_7.read (Elt F) (VO2_7.writes (Elt F) VO2_7.junk (kernelRun2_A c i arg1 harg1 arg2 harg2 arg3 harg3 arg4 harg4 arg5 harg5 arg6 harg6 arg7 harg7 arg8 harg8 hc0 hc1 x0 x1 x2 x3 x4 x5).2.1)

end

section
variable (c : Dev nD) (i : grid2.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S8x128 .f32) (harg8 : arg8.IsWhole) (hc0 : ¬cond2_0 i) (hc1 : cond2_1 i)
    (x0 : Vec F S8192x64 .f32) (x1 : Vec F S8x64 .f32) (x2 : Vec F S1x64 .f32) (x3 : Vec F S1x64 .f32) (x4 : Vec F S64x128 .f32) (x5 : Vec F S1x128 .f32) (xo7 : Vec F S8x128 .f32)

set_option maxHeartbeats 1000000 in
/-- The body's run in case B: the pieces that its stores leave in the outputs' staging memrefs, found by running it. -/
noncomputable def kernelRun2_B :
    Σ' (L6 : List (View.Piece (Elt F) S8192x128 .f32)), { L7 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2_body i arg1 harg1 arg2 harg2 arg3 harg3 arg4 harg4 arg5 harg5 arg6 harg6 arg7 harg7 arg8 harg8) K } := by
  refine ⟨?_, ?_, fun E K => ?run⟩
  case run =>
    simp only [cc2_body_eq_skeleton]; unfold cc2_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover2_B_6 (y : S8192x128.Idx) :
    ∃ pc ∈ (kernelRun2_B c i arg1 harg1 arg2 harg2 arg3 harg3 arg4 harg4 arg5 harg5 arg6 harg6 arg7 harg7 arg8 harg8 hc0 hc1 x0 x1 x2 x3 x4 x5 xo7).1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xo7).1 S8192x128.size (by sl_kernel_rfl) y

def out2_B_6 : Vec F S8192x128 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xo7).1)

theorem cover2_B_7 (y : S8x128.Idx) :
    ∃ pc ∈ (kernelRun2_B c i arg1 harg1 arg2 harg2 arg3 harg3 arg4 harg4 arg5 harg5 arg6 harg6 arg7 harg7 arg8 harg8 hc0 hc1 x0 x1 x2 x3 x4 x5 xo7).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xo7).2.1 S8x128.size (by sl_kernel_rfl) y

def out2_B_7 : Vec F S8x128 .f32 :=
  VO2_7.read (Elt F) (VO2_7.writes (Elt F) VO2_7.junk (kernelRun2_B c i arg1 harg1 arg2 harg2 arg3 harg3 arg4 harg4 arg5 harg5 arg6 harg6 arg7 harg7 arg8 harg8 hc0 hc1 x0 x1 x2 x3 x4 x5 xo7).2.1)

end

/-! ## What the outputs hold after each point -/

/-- What the outputs' staging buffers hold after the body at position `n`: the case that is met at `n`, over what `n - 1` left. -/
def outsAt2 (c : Dev nD) : (n : ℕ) → n < cfg2.N → Vec F S8192x128 .f32 × Vec F S8x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 16 = 0 then
      if h1 : 1 ≤ (n + 1) then
        False.elim (by have hN : n + 1 < 16 := lt_of_lt_of_eq hn (show cfg2.N = 16 from N_2); omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : 1 ≤ (n + 1) then
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        False.elim (by have hN : n + 1 < 16 := lt_of_lt_of_eq hn (show cfg2.N = 16 from N_2); omega)

theorem outsAt2_A (c : Dev nD) (t : Fin cfg2.N) (h0 : t.val % 16 = 0) (h1 : ¬1 ≤ t.val) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : 1 ≤ t.val) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2: the arrays at `V`; after the body at a point, the inputs' buffers at their blocks and the outputs' at their contents. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2 := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- Output 7's contents carry through the points that leave it idle. -/
theorem hcarry2_7 (c : Dev nD) : ∀ (t : Fin cfg2.N) (_ : t.val ≠ 0), cfg2.idle 7 (grid2.coords t) = true → cfg2.fresh 7 t.val = false →
    (dat2 V c).after 7 t = (dat2 V c).after 7 ⟨t.val - 1, by omega⟩ := by
  intro t _ hi _
  have hN : t.val < 16 := lt_of_lt_of_eq t.isLt (show cfg2.N = 16 from N_2)
  rw [after2_7, after2_7]
  by_cases h0 : t.val % 16 = 0
  · by_cases h1 : 1 ≤ t.val
    · exfalso; omega
    · rw [liveAt2_7_A t ((hcond2_0 t).mpr h0) (fun h => h1 ((hcond2_1 t).mp h))] at hi
      exact absurd hi Bool.false_ne_true
  · by_cases h1 : 1 ≤ t.val
    · rw [liveAt2_7_B t (fun h => h0 ((hcond2_0 t).mp h)) ((hcond2_1 t).mpr h1)] at hi
      exact absurd hi Bool.false_ne_true
    · exfalso; omega
/-- At a point of case B output 7's staging buffer holds what the point before left. -/
theorem before2_7_B (c : Dev nD) (t : Fin cfg2.N) (h0 : ¬t.val % 16 = 0) (h1 : 1 ≤ t.val) (d) :
    (dat2 V c).before 7 t d = (outsAt2 V c (t.val - 1) (Nat.lt_of_le_of_lt (Nat.sub_le _ _) t.isLt)).2 := by
  rw [Dat.before_out_traj _ 7 rfl (fun _ _ => rfl) (hcarry2_7 V c) t.val t rfl d,
    if_neg (by rw [notFresh2_7_B t (fun h => h0 ((hcond2_0 t).mp h)) ((hcond2_1 t).mpr h1)]; exact Bool.false_ne_true)]
  dsimp only [dat2]

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 1600000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  have hN : t.val < 16 := lt_of_lt_of_eq t.isLt (show cfg2.N = 16 from N_2)
  by_cases h0 : t.val % 16 = 0
  · by_cases h1 : 1 ≤ t.val
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7_A t ((hcond2_0 t).mpr h0) (fun h => h1 ((hcond2_1 t).mp h))], after2_7]
      rw [outsAt2_A V c t h0 h1]
      unfold out2_A_6 out2_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_A_6 c _ _ _ _ _ _ _ _ _ _ _ _ _ _ _ _ _ _ _ _ _ _ _ _ _)
      unfold owns; iexists _; isplitr
      swap; · iexact H7
      ipureintro; exact View.read_writes_of_cover _ _ _ _ _ (cover2_A_7 c _ _ _ _ _ _ _ _ _ _ _ _ _ _ _ _ _ _ _ _ _ _ _ _ _)
  · by_cases h1 : 1 ≤ t.val
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7_B t (fun h => h0 ((hcond2_0 t).mp h)) ((hcond2_1 t).mpr h1)], after2_7]
      rw [outsAt2_B V c t h0 h1]
      simp only [before2_7_B V c t h0 h1]
      unfold out2_B_6 out2_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _)
      unfold owns; iexists _; isplitr
      swap; · iexact H7
      ipureintro; exact View.read_writes_of_cover _ _ _ _ _ (cover2_B_7 c _ _ _ _ _ _ _ _ _ _ _ _ _ _ _ _ _ _ _ _ _ _ _ _ _ _)
    · exfalso; omega

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Mem.Region3.lean ====
/- The frame of region 3. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffers' contents when the region is entered
variable (V : (c : Dev nD) → (b : Ref sig .tc) → Buf (Elt F) ((c : Thread nD τ).loc b))

/-! # REGION 3 of @main: custom_call 3, `cc3_body` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

abbrev cond3_0 (i : grid3.Coords) : Prop := k3_cond1 i = 1#1
theorem hcond3_0 : ∀ t : Fin cfg3.N, cond3_0 (grid3.coords t) ↔ t.val % 16 = 0 :=
  (fun t => by
    have ht : t.val < 16 := Nat.lt_of_lt_of_eq t.isLt N_3
    have e0 : (grid3.coords t 0).val = t.val / 1 % 16 := Pipeline.Grid.coords_val t 0 (by decide) rfl
    simp only [cond3_0, k3_cond1, e0]
    word_cmp
   : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ 1 ≤ t.val :=
  (fun t => by
    have ht : t.val < 16 := Nat.lt_of_lt_of_eq t.isLt N_3
    have e0 : (grid3.coords t 0).val = t.val / 1 % 16 := Pipeline.Grid.coords_val t 0 (by decide) rfl
    simp only [cond3_1, k3_cond2, e0]
    word_cmp
   : ∀ t : Fin grid3.N, cond3_1 (grid3.coords t) ↔ 1 ≤ t.val)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
theorem liveAt3_7 : ∀ t : Fin cfg3.N, cfg3.idle 7 (grid3.coords t) = false := fun _ => rfl
theorem liveAt3_8 : ∀ t : Fin cfg3.N, cfg3.idle 8 (grid3.coords t) = false := fun _ => rfl
theorem liveAt3_9 : ∀ t : Fin cfg3.N, cfg3.idle 9 (grid3.coords t) = false := fun _ => rfl
theorem liveAt3_10 : ∀ t : Fin cfg3.N, cfg3.idle 10 (grid3.coords t) = false := fun _ => rfl
theorem liveAt3_11 : ∀ t : Fin cfg3.N, cfg3.idle 11 (grid3.coords t) = false := fun _ => rfl
theorem liveAt3_12 : ∀ t : Fin cfg3.N, cfg3.idle 12 (grid3.coords t) = false := fun _ => rfl
/-- Whether output 13's buffer is fresh at each position, as a bitmask: bit `n` for position `n + 1`. -/
def freshTab3_13 : ℕ → Bool
  | 0 => true
  | n + 1 => (0x8000 : ℕ).testBit n
theorem freshTab3_13_step : ∀ t : Fin cfg3.N,
    freshTab3_13 (t.val + 1) = ((cfg3.win 13).flush t || (cfg3.idle 13 (cfg3.grid.coords t) && freshTab3_13 t.val)) := by decide +kernel
theorem fresh3_13_eq (t : Fin cfg3.N) : cfg3.fresh 13 t.val = freshTab3_13 t.val :=
  Pipeline.Cfg.fresh_tab cfg3 13 freshTab3_13 rfl freshTab3_13_step t.val (Nat.le_of_lt t.isLt)
theorem liveAt3_13_A : ∀ t : Fin cfg3.N, cond3_0 (grid3.coords t) → ¬cond3_1 (grid3.coords t) → cfg3.idle 13 (grid3.coords t) = false := by decide +kernel
theorem liveAt3_13_B : ∀ t : Fin cfg3.N, ¬cond3_0 (grid3.coords t) → cond3_1 (grid3.coords t) → cfg3.idle 13 (grid3.coords t) = false := by decide +kernel
theorem notFresh3_13_B : ∀ t : Fin cfg3.N, ¬cond3_0 (grid3.coords t) → cond3_1 (grid3.coords t) → cfg3.fresh 13 t.val = false := by
  intro t; rw [fresh3_13_eq t]; revert t; decide +kernel

/-! ## The body on any staging memrefs -/

abbrev VO3_12 : View sig .tc .vmem S1024x128 .f32 := (Memref.whole cc3_stg12_0 : Memref sig .tc .vmem S1024x128 .f32).view
abbrev VO3_13 : View sig .tc .vmem S8x128 .f32 := (Memref.whole cc3_stg13_0 : Memref sig .tc .vmem S8x128 .f32).view
/-- Each window's staging memref at point `t`, and its wholeness. -/
abbrev ms3_0 (t : Fin cfg3.N) : Memref sig .tc .vmem S128x64x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x1 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x128 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S128x128 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S1x128 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S1024x128 .f32 := win3_12.stage (cfg3.slots t 12)
abbrev hs3_12 (t : Fin cfg3.N) : (ms3_12 t).IsWhole := hstage3_12 ((cfg3.slots t 12).cast nbuf3_12)
abbrev ms3_13 (t : Fin cfg3.N) : Memref sig .tc .vmem S8x128 .f32 := win3_13.stage (cfg3.slots t 13)
abbrev hs3_13 (t : Fin cfg3.N) : (ms3_13 t).IsWhole := hstage3_13 ((cfg3.slots t 13).cast nbuf3_13)

section
variable (c : Dev nD) (i : grid3.Coords) (arg1 : Memref sig .tc .vmem S128x64x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S8x128 .f32) (harg14 : arg14.IsWhole) (hc0 : cond3_0 i) (hc1 : ¬cond3_1 i)
    (x0 : Vec F S128x64x128 .f32) (x1 : Vec F S8x128 .f32) (x2 : Vec F S1x128 .f32) (x3 : Vec F S1x128 .f32) (x4 : Vec F S1024x1 .f32) (x5 : Vec F S1024x1 .f32) (x6 : Vec F S1024x1 .f32) (x7 : Vec F S1x128 .f32) (x8 : Vec F S1x128 .f32) (x9 : Vec F S1x128 .f32) (x10 : Vec F S128x128 .f32) (x11 : Vec F S1x128 .f32)

set_option maxHeartbeats 1000000 in
/-- The body's run in case A: the pieces that its stores leave in the outputs' staging memrefs, found by running it. -/
noncomputable def kernelRun3_A :
    Σ' (L12 : List (View.Piece (Elt F) S1024x128 .f32)), { L13 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc3_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact H13

theorem cover3_A_12 (y : S1024x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1 S1024x128.size (by sl_kernel_rfl) y

def out3_A_12 : Vec F S1024x128 .f32 :=
  VO3_12.read (Elt F) (VO3_12.writes (Elt F) VO3_12.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1)

theorem cover3_A_13 (y : S8x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).2.1 S8x128.size (by sl_kernel_rfl) y

def out3_A_13 : Vec F S8x128 .f32 :=
  VO3_13.read (Elt F) (VO3_13.writes (Elt F) VO3_13.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).2.1)

end

section
variable (c : Dev nD) (i : grid3.Coords) (arg1 : Memref sig .tc .vmem S128x64x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S8x128 .f32) (harg14 : arg14.IsWhole) (hc0 : ¬cond3_0 i) (hc1 : cond3_1 i)
    (x0 : Vec F S128x64x128 .f32) (x1 : Vec F S8x128 .f32) (x2 : Vec F S1x128 .f32) (x3 : Vec F S1x128 .f32) (x4 : Vec F S1024x1 .f32) (x5 : Vec F S1024x1 .f32) (x6 : Vec F S1024x1 .f32) (x7 : Vec F S1x128 .f32) (x8 : Vec F S1x128 .f32) (x9 : Vec F S1x128 .f32) (x10 : Vec F S128x128 .f32) (x11 : Vec F S1x128 .f32) (xo13 : Vec F S8x128 .f32)

set_option maxHeartbeats 1000000 in
/-- The body's run in case B: the pieces that its stores leave in the outputs' staging memrefs, found by running it. -/
noncomputable def kernelRun3_B :
    Σ' (L12 : List (View.Piece (Elt F) S1024x128 .f32)), { L13 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xo13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc3_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact H13

theorem cover3_B_12 (y : S1024x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13).1 S1024x128.size (by sl_kernel_rfl) y

def out3_B_12 : Vec F S1024x128 .f32 :=
  VO3_12.read (Elt F) (VO3_12.writes (Elt F) VO3_12.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13).1)

theorem cover3_B_13 (y : S8x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13).2.1 S8x128.size (by sl_kernel_rfl) y

def out3_B_13 : Vec F S8x128 .f32 :=
  VO3_13.read (Elt F) (VO3_13.writes (Elt F) VO3_13.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13).2.1)

end

/-! ## What the outputs hold after each point -/

/-- What the outputs' staging buffers hold after the body at position `n`: the case that is met at `n`, over what `n - 1` left. -/
def outsAt3 (c : Dev nD) : (n : ℕ) → n < cfg3.N → Vec F S1024x128 .f32 × Vec F S8x128 .f32
  | 0, hn => (out3_A_12 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) (ms3_13 ⟨0, hn⟩) (hs3_13 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩), out3_A_13 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) (ms3_13 ⟨0, hn⟩) (hs3_13 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩))
  | n + 1, hn =>
    if h0 : (n + 1) % 16 = 0 then
      if h1 : 1 ≤ (n + 1) then
        False.elim (by have hN : n + 1 < 16 := lt_of_lt_of_eq hn (show cfg3.N = 16 from N_3); omega)
      else
        (out3_A_12 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩), out3_A_13 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩))
    else
      if h1 : 1 ≤ (n + 1) then
        (out3_B_12 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (outsAt3 c n (Nat.lt_of_succ_lt hn)).2, out3_B_13 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (outsAt3 c n (Nat.lt_of_succ_lt hn)).2)
      else
        False.elim (by have hN : n + 1 < 16 := lt_of_lt_of_eq hn (show cfg3.N = 16 from N_3); omega)

theorem outsAt3_A (c : Dev nD) (t : Fin cfg3.N) (h0 : t.val % 16 = 0) (h1 : ¬1 ≤ t.val) :
    outsAt3 V c t.val t.isLt = (out3_A_12 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t), out3_A_13 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : 1 ≤ t.val) :
    outsAt3 V c t.val t.isLt = (out3_B_12 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (outsAt3 V c (t.val - 1) (Nat.lt_of_le_of_lt (Nat.sub_le _ _) t.isLt)).2, out3_B_13 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 3: the arrays at `V`; after the body at a point, the inputs' buffers at their blocks and the outputs' at their contents. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => (outsAt3 V c t.val t.isLt).1
    | ⟨13, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = (outsAt3 V c t.val t.isLt).1 := by dsimp only [dat3]
theorem after3_13 (c : Dev nD) (t : Fin cfg3.N) : (dat3 V c).after 13 t = (outsAt3 V c t.val t.isLt).2 := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d

/-- Output 13's contents carry through the points that leave it idle. -/
theorem hcarry3_13 (c : Dev nD) : ∀ (t : Fin cfg3.N) (_ : t.val ≠ 0), cfg3.idle 13 (grid3.coords t) = true → cfg3.fresh 13 t.val = false →
    (dat3 V c).after 13 t = (dat3 V c).after 13 ⟨t.val - 1, by omega⟩ := by
  intro t _ hi _
  have hN : t.val < 16 := lt_of_lt_of_eq t.isLt (show cfg3.N = 16 from N_3)
  rw [after3_13, after3_13]
  by_cases h0 : t.val % 16 = 0
  · by_cases h1 : 1 ≤ t.val
    · exfalso; omega
    · rw [liveAt3_13_A t ((hcond3_0 t).mpr h0) (fun h => h1 ((hcond3_1 t).mp h))] at hi
      exact absurd hi Bool.false_ne_true
  · by_cases h1 : 1 ≤ t.val
    · rw [liveAt3_13_B t (fun h => h0 ((hcond3_0 t).mp h)) ((hcond3_1 t).mpr h1)] at hi
      exact absurd hi Bool.false_ne_true
    · exfalso; omega
/-- At a point of case B output 13's staging buffer holds what the point before left. -/
theorem before3_13_B (c : Dev nD) (t : Fin cfg3.N) (h0 : ¬t.val % 16 = 0) (h1 : 1 ≤ t.val) (d) :
    (dat3 V c).before 13 t d = (outsAt3 V c (t.val - 1) (Nat.lt_of_le_of_lt (Nat.sub_le _ _) t.isLt)).2 := by
  rw [Dat.before_out_traj _ 13 rfl (fun _ _ => rfl) (hcarry3_13 V c) t.val t rfl d,
    if_neg (by rw [notFresh3_13_B t (fun h => h0 ((hcond3_0 t).mp h)) ((hcond3_1 t).mpr h1)]; exact Bool.false_ne_true)]
  dsimp only [dat3]

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d))
    ∗ (∃ d, owns (c : Thread nD τ) (ms3_11 t) fullShare ((dat3 V c).before 11 t d))
    ∗ (∃ d, owns (c : Thread nD τ) (ms3_12 t) fullShare ((dat3 V c).before 12 t d))
    ∗ (∃ d, owns (c : Thread nD τ) (ms3_13 t) fullShare ((dat3 V c).before 13 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t
    ∗ (dat3 V c).leavesExact 11 t
    ∗ (dat3 V c).leavesExact 12 t
    ∗ (dat3 V c).leavesExact 13 t)

set_option maxHeartbeats 2400000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11]
  rw [show (dat3 V c).Φ t.succ = (dat3 V c).Φ t.castSucc from rfl,
    show (dat3 V c).owesAt () t.succ = (dat3 V c).owesAt () t.castSucc from rfl]
  have hN : t.val < 16 := lt_of_lt_of_eq t.isLt (show cfg3.N = 16 from N_3)
  by_cases h0 : t.val % 16 = 0
  · by_cases h1 : 1 ≤ t.val
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [show (dat3 V c).leavesExact 9 t = owns (c : Thread nD τ) (ms3_9 t) fullShare ((dat3 V c).after 9 t) from by
      unfold Dat.leavesExact; rw [liveAt3_9 t], after3_9]
      rw [show (dat3 V c).leavesExact 10 t = owns (c : Thread nD τ) (ms3_10 t) fullShare ((dat3 V c).after 10 t) from by
      unfold Dat.leavesExact; rw [liveAt3_10 t], after3_10]
      rw [show (dat3 V c).leavesExact 11 t = owns (c : Thread nD τ) (ms3_11 t) fullShare ((dat3 V c).after 11 t) from by
      unfold Dat.leavesExact; rw [liveAt3_11 t], after3_11]
      rw [show (dat3 V c).leavesExact 12 t = owns (c : Thread nD τ) (ms3_12 t) fullShare ((dat3 V c).after 12 t) from by
      unfold Dat.leavesExact; rw [liveAt3_12 t], after3_12]
      rw [show (dat3 V c).leavesExact 13 t = owns (c : Thread nD τ) (ms3_13 t) fullShare ((dat3 V c).after 13 t) from by
      unfold Dat.leavesExact; rw [liveAt3_13_A t ((hcond3_0 t).mpr h0) (fun h => h1 ((hcond3_1 t).mp h))], after3_13]
      rw [outsAt3_A V c t h0 h1]
      unfold out3_A_12 out3_A_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun3_A c (grid3.coords t) _ _ _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      iintro ⟨H0, H1, H2, H3, H4, H5, H6, H7, H8, H9, H10, H11, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover3_A_12 c _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover3_A_13 c _ _ _ _ _ _ _ _ _ _ _ _ _ _ _ _ _ _ _ _ _ _ _ _ _ _ _ _ _ _ _ _ _ _ _ _ _ _ _ _ _ _ _)
  · by_cases h1 : 1 ≤ t.val
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [show (dat3 V c).leavesExact 9 t = owns (c : Thread nD τ) (ms3_9 t) fullShare ((dat3 V c).after 9 t) from by
      unfold Dat.leavesExact; rw [liveAt3_9 t], after3_9]
      rw [show (dat3 V c).leavesExact 10 t = owns (c : Thread nD τ) (ms3_10 t) fullShare ((dat3 V c).after 10 t) from by
      unfold Dat.leavesExact; rw [liveAt3_10 t], after3_10]
      rw [show (dat3 V c).leavesExact 11 t = owns (c : Thread nD τ) (ms3_11 t) fullShare ((dat3 V c).after 11 t) from by
      unfold Dat.leavesExact; rw [liveAt3_11 t], after3_11]
      rw [show (dat3 V c).leavesExact 12 t = owns (c : Thread nD τ) (ms3_12 t) fullShare ((dat3 V c).after 12 t) from by
      unfold Dat.leavesExact; rw [liveAt3_12 t], after3_12]
      rw [show (dat3 V c).leavesExact 13 t = owns (c : Thread nD τ) (ms3_13 t) fullShare ((dat3 V c).after 13 t) from by
      unfold Dat.leavesExact; rw [liveAt3_13_B t (fun h => h0 ((hcond3_0 t).mp h)) ((hcond3_1 t).mpr h1)], after3_13]
      rw [outsAt3_B V c t h0 h1]
      simp only [before3_13_B V c t h0 h1]
      unfold out3_B_12 out3_B_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun3_B c (grid3.coords t) _ _ _ _ _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      iintro ⟨H0, H1, H2, H3, H4, H5, H6, H7, H8, H9, H10, H11, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover3_B_12 c _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover3_B_13 c _ _ _ _ _ _ _ _ _ _ _ _ _ _ _ _ _ _ _ _ _ _ _ _ _ _ _ _ _ _ _ _ _ _ _ _ _ _ _ _ _ _ _ _)
    · exfalso; omega

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Mem.Region4.lean ====
/- The frame of region 4. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffers' contents when the region is entered
variable (V : (c : Dev nD) → (b : Ref sig .tc) → Buf (Elt F) ((c : Thread nD τ).loc b))

/-! # REGION 4 of @main: custom_call 4, `cc4_body` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

abbrev cond4_0 (i : grid4.Coords) : Prop := k4_cond1 i = 1#1
theorem hcond4_0 : ∀ t : Fin cfg4.N, cond4_0 (grid4.coords t) ↔ t.val % 4 = 0 :=
  (fun t => by
    have ht : t.val < 4 := Nat.lt_of_lt_of_eq t.isLt N_4
    have e0 : (grid4.coords t 0).val = t.val / 1 % 4 := Pipeline.Grid.coords_val t 0 (by decide) rfl
    simp only [cond4_0, k4_cond1, e0]
    word_cmp
   : ∀ t : Fin grid4.N, cond4_0 (grid4.coords t) ↔ t.val % 4 = 0)

abbrev cond4_1 (i : grid4.Coords) : Prop := k4_cond2 i = 1#1
theorem hcond4_1 : ∀ t : Fin cfg4.N, cond4_1 (grid4.coords t) ↔ 1 ≤ t.val :=
  (fun t => by
    have ht : t.val < 4 := Nat.lt_of_lt_of_eq t.isLt N_4
    have e0 : (grid4.coords t 0).val = t.val / 1 % 4 := Pipeline.Grid.coords_val t 0 (by decide) rfl
    simp only [cond4_1, k4_cond2, e0]
    word_cmp
   : ∀ t : Fin grid4.N, cond4_1 (grid4.coords t) ↔ 1 ≤ t.val)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
/-- Whether output 7's buffer is fresh at each position, as a bitmask: bit `n` for position `n + 1`. -/
def freshTab4_7 : ℕ → Bool
  | 0 => true
  | n + 1 => (0x8 : ℕ).testBit n
theorem freshTab4_7_step : ∀ t : Fin cfg4.N,
    freshTab4_7 (t.val + 1) = ((cfg4.win 7).flush t || (cfg4.idle 7 (cfg4.grid.coords t) && freshTab4_7 t.val)) := by decide +kernel
theorem fresh4_7_eq (t : Fin cfg4.N) : cfg4.fresh 7 t.val = freshTab4_7 t.val :=
  Pipeline.Cfg.fresh_tab cfg4 7 freshTab4_7 rfl freshTab4_7_step t.val (Nat.le_of_lt t.isLt)
theorem liveAt4_7_A : ∀ t : Fin cfg4.N, cond4_0 (grid4.coords t) → ¬cond4_1 (grid4.coords t) → cfg4.idle 7 (grid4.coords t) = false := by decide +kernel
theorem liveAt4_7_B : ∀ t : Fin cfg4.N, ¬cond4_0 (grid4.coords t) → cond4_1 (grid4.coords t) → cfg4.idle 7 (grid4.coords t) = false := by decide +kernel
theorem notFresh4_7_B : ∀ t : Fin cfg4.N, ¬cond4_0 (grid4.coords t) → cond4_1 (grid4.coords t) → cfg4.fresh 7 t.val = false := by
  intro t; rw [fresh4_7_eq t]; revert t; decide +kernel

/-! ## The body on any staging memrefs -/

abbrev VO4_6 : View sig .tc .vmem S4096x256 .f32 := (Memref.whole cc4_stg6_0 : Memref sig .tc .vmem S4096x256 .f32).view
abbrev VO4_7 : View sig .tc .vmem S8x256 .f32 := (Memref.whole cc4_stg7_0 : Memref sig .tc .vmem S8x256 .f32).view
/-- Each window's staging memref at point `t`, and its wholeness. -/
abbrev ms4_0 (t : Fin cfg4.N) : Memref sig .tc .vmem S4096x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S4096x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S8x256 .f32 := win4_7.stage (cfg4.slots t 7)
abbrev hs4_7 (t : Fin cfg4.N) : (ms4_7 t).IsWhole := hstage4_7 ((cfg4.slots t 7).cast nbuf4_7)

section
variable (c : Dev nD) (i : grid4.Coords) (arg1 : Memref sig .tc .vmem S4096x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S4096x256 .f32) (harg7 : arg7.IsWhole) (arg8 : Memref sig .tc .vmem S8x256 .f32) (harg8 : arg8.IsWhole) (hc0 : cond4_0 i) (hc1 : ¬cond4_1 i)
    (x0 : Vec F S4096x128 .f32) (x1 : Vec F S8x128 .f32) (x2 : Vec F S1x128 .f32) (x3 : Vec F S1x128 .f32) (x4 : Vec F S128x256 .f32) (x5 : Vec F S1x256 .f32)

set_option maxHeartbeats 1000000 in
/-- The body's run in case A: the pieces that its stores leave in the outputs' staging memrefs, found by running it. -/
noncomputable def kernelRun4_A :
    Σ' (L6 : List (View.Piece (Elt F) S4096x256 .f32)), { L7 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_body i arg1 harg1 arg2 harg2 arg3 harg3 arg4 harg4 arg5 harg5 arg6 harg6 arg7 harg7 arg8 harg8) K } := by
  refine ⟨?_, ?_, fun E K => ?run⟩
  case run =>
    simp only [cc4_body_eq_skeleton]; unfold cc4_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover4_A_6 (y : S4096x256.Idx) :
    ∃ pc ∈ (kernelRun4_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 hc0 hc1 x0 x1 x2 x3 x4 x5).1 S4096x256.size (by sl_kernel_rfl) y

def out4_A_6 : Vec F S4096x256 .f32 :=
  VO4_6.read (Elt F) (VO4_6.writes (Elt F) VO4_6.junk (kernelRun4_A c i arg1 harg1 arg2 harg2 arg3 harg3 arg4 harg4 arg5 harg5 arg6 harg6 arg7 harg7 arg8 harg8 hc0 hc1 x0 x1 x2 x3 x4 x5).1)

theorem cover4_A_7 (y : S8x256.Idx) :
    ∃ pc ∈ (kernelRun4_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 hc0 hc1 x0 x1 x2 x3 x4 x5).2.1 S8x256.size (by sl_kernel_rfl) y

def out4_A_7 : Vec F S8x256 .f32 :=
  VO4_7.read (Elt F) (VO4_7.writes (Elt F) VO4_7.junk (kernelRun4_A c i arg1 harg1 arg2 harg2 arg3 harg3 arg4 harg4 arg5 harg5 arg6 harg6 arg7 harg7 arg8 harg8 hc0 hc1 x0 x1 x2 x3 x4 x5).2.1)

end

section
variable (c : Dev nD) (i : grid4.Coords) (arg1 : Memref sig .tc .vmem S4096x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S4096x256 .f32) (harg7 : arg7.IsWhole) (arg8 : Memref sig .tc .vmem S8x256 .f32) (harg8 : arg8.IsWhole) (hc0 : ¬cond4_0 i) (hc1 : cond4_1 i)
    (x0 : Vec F S4096x128 .f32) (x1 : Vec F S8x128 .f32) (x2 : Vec F S1x128 .f32) (x3 : Vec F S1x128 .f32) (x4 : Vec F S128x256 .f32) (x5 : Vec F S1x256 .f32) (xo7 : Vec F S8x256 .f32)

set_option maxHeartbeats 1000000 in
/-- The body's run in case B: the pieces that its stores leave in the outputs' staging memrefs, found by running it. -/
noncomputable def kernelRun4_B :
    Σ' (L6 : List (View.Piece (Elt F) S4096x256 .f32)), { L7 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_body i arg1 harg1 arg2 harg2 arg3 harg3 arg4 harg4 arg5 harg5 arg6 harg6 arg7 harg7 arg8 harg8) K } := by
  refine ⟨?_, ?_, fun E K => ?run⟩
  case run =>
    simp only [cc4_body_eq_skeleton]; unfold cc4_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover4_B_6 (y : S4096x256.Idx) :
    ∃ pc ∈ (kernelRun4_B c i arg1 harg1 arg2 harg2 arg3 harg3 arg4 harg4 arg5 harg5 arg6 harg6 arg7 harg7 arg8 harg8 hc0 hc1 x0 x1 x2 x3 x4 x5 xo7).1, y ∈ pc.1.set :=
  View.cover_of_tiledL (kernelRun4_B c i arg1 harg1 arg2 harg2 arg3 harg3 arg4 harg4 arg5 harg5 arg6 harg6 arg7 harg7 arg8 harg8 hc0 hc1 x0 x1 x2 x3 x4 x5 xo7).1 S4096x256.size (by sl_kernel_rfl) y

def out4_B_6 : Vec F S4096x256 .f32 :=
  VO4_6.read (Elt F) (VO4_6.writes (Elt F) VO4_6.junk (kernelRun4_B c i arg1 harg1 arg2 harg2 arg3 harg3 arg4 harg4 arg5 harg5 arg6 harg6 arg7 harg7 arg8 harg8 hc0 hc1 x0 x1 x2 x3 x4 x5 xo7).1)

theorem cover4_B_7 (y : S8x256.Idx) :
    ∃ pc ∈ (kernelRun4_B c i arg1 harg1 arg2 harg2 arg3 harg3 arg4 harg4 arg5 harg5 arg6 harg6 arg7 harg7 arg8 harg8 hc0 hc1 x0 x1 x2 x3 x4 x5 xo7).2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 x4 x5 xo7).2.1 S8x256.size (by sl_kernel_rfl) y

def out4_B_7 : Vec F S8x256 .f32 :=
  VO4_7.read (Elt F) (VO4_7.writes (Elt F) VO4_7.junk (kernelRun4_B c i arg1 harg1 arg2 harg2 arg3 harg3 arg4 harg4 arg5 harg5 arg6 harg6 arg7 harg7 arg8 harg8 hc0 hc1 x0 x1 x2 x3 x4 x5 xo7).2.1)

end

/-! ## What the outputs hold after each point -/

/-- What the outputs' staging buffers hold after the body at position `n`: the case that is met at `n`, over what `n - 1` left. -/
def outsAt4 (c : Dev nD) : (n : ℕ) → n < cfg4.N → Vec F S4096x256 .f32 × Vec F S8x256 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 4 = 0 then
      if h1 : 1 ≤ (n + 1) then
        False.elim (by have hN : n + 1 < 4 := lt_of_lt_of_eq hn (show cfg4.N = 4 from N_4); omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : 1 ≤ (n + 1) then
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)
      else
        False.elim (by have hN : n + 1 < 4 := lt_of_lt_of_eq hn (show cfg4.N = 4 from N_4); omega)

theorem outsAt4_A (c : Dev nD) (t : Fin cfg4.N) (h0 : t.val % 4 = 0) (h1 : ¬1 ≤ t.val) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : 1 ≤ t.val) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 4: the arrays at `V`; after the body at a point, the inputs' buffers at their blocks and the outputs' at their contents. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2 := by dsimp only [dat4]

/-- Each input's staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- Output 7's contents carry through the points that leave it idle. -/
theorem hcarry4_7 (c : Dev nD) : ∀ (t : Fin cfg4.N) (_ : t.val ≠ 0), cfg4.idle 7 (grid4.coords t) = true → cfg4.fresh 7 t.val = false →
    (dat4 V c).after 7 t = (dat4 V c).after 7 ⟨t.val - 1, by omega⟩ := by
  intro t _ hi _
  have hN : t.val < 4 := lt_of_lt_of_eq t.isLt (show cfg4.N = 4 from N_4)
  rw [after4_7, after4_7]
  by_cases h0 : t.val % 4 = 0
  · by_cases h1 : 1 ≤ t.val
    · exfalso; omega
    · rw [liveAt4_7_A t ((hcond4_0 t).mpr h0) (fun h => h1 ((hcond4_1 t).mp h))] at hi
      exact absurd hi Bool.false_ne_true
  · by_cases h1 : 1 ≤ t.val
    · rw [liveAt4_7_B t (fun h => h0 ((hcond4_0 t).mp h)) ((hcond4_1 t).mpr h1)] at hi
      exact absurd hi Bool.false_ne_true
    · exfalso; omega
/-- At a point of case B output 7's staging buffer holds what the point before left. -/
theorem before4_7_B (c : Dev nD) (t : Fin cfg4.N) (h0 : ¬t.val % 4 = 0) (h1 : 1 ≤ t.val) (d) :
    (dat4 V c).before 7 t d = (outsAt4 V c (t.val - 1) (Nat.lt_of_le_of_lt (Nat.sub_le _ _) t.isLt)).2 := by
  rw [Dat.before_out_traj _ 7 rfl (fun _ _ => rfl) (hcarry4_7 V c) t.val t rfl d,
    if_neg (by rw [notFresh4_7_B t (fun h => h0 ((hcond4_0 t).mp h)) ((hcond4_1 t).mpr h1)]; exact Bool.false_ne_true)]
  dsimp only [dat4]

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 1600000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  have hN : t.val < 4 := lt_of_lt_of_eq t.isLt (show cfg4.N = 4 from N_4)
  by_cases h0 : t.val % 4 = 0
  · by_cases h1 : 1 ≤ t.val
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6 t], after4_6]
      rw [show (dat4 V c).leavesExact 7 t = owns (c : Thread nD τ) (ms4_7 t) fullShare ((dat4 V c).after 7 t) from by
      unfold Dat.leavesExact; rw [liveAt4_7_A t ((hcond4_0 t).mpr h0) (fun h => h1 ((hcond4_1 t).mp h))], after4_7]
      rw [outsAt4_A V c t h0 h1]
      unfold out4_A_6 out4_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_A_6 c _ _ _ _ _ _ _ _ _ _ _ _ _ _ _ _ _ _ _ _ _ _ _ _ _)
      unfold owns; iexists _; isplitr
      swap; · iexact H7
      ipureintro; exact View.read_writes_of_cover _ _ _ _ _ (cover4_A_7 c _ _ _ _ _ _ _ _ _ _ _ _ _ _ _ _ _ _ _ _ _ _ _ _ _)
  · by_cases h1 : 1 ≤ t.val
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6 t], after4_6]
      rw [show (dat4 V c).leavesExact 7 t = owns (c : Thread nD τ) (ms4_7 t) fullShare ((dat4 V c).after 7 t) from by
      unfold Dat.leavesExact; rw [liveAt4_7_B t (fun h => h0 ((hcond4_0 t).mp h)) ((hcond4_1 t).mpr h1)], after4_7]
      rw [outsAt4_B V c t h0 h1]
      simp only [before4_7_B V c t h0 h1]
      unfold out4_B_6 out4_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _)
      unfold owns; iexists _; isplitr
      swap; · iexact H7
      ipureintro; exact View.read_writes_of_cover _ _ _ _ _ (cover4_B_7 c _ _ _ _ _ _ _ _ _ _ _ _ _ _ _ _ _ _ _ _ _ _ _ _ _ _)
    · exfalso; omega

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Mem.Region5.lean ====
/- The frame of region 5. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffers' contents when the region is entered
variable (V : (c : Dev nD) → (b : Ref sig .tc) → Buf (Elt F) ((c : Thread nD τ).loc b))

/-! # REGION 5 of @main: custom_call 5, `cc5_body` -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

abbrev cond5_0 (i : grid5.Coords) : Prop := k5_cond1 i = 1#1
theorem hcond5_0 : ∀ t : Fin cfg5.N, cond5_0 (grid5.coords t) ↔ t.val % 8 = 0 :=
  (fun t => by
    have ht : t.val < 8 := Nat.lt_of_lt_of_eq t.isLt N_5
    have e0 : (grid5.coords t 0).val = t.val / 1 % 8 := Pipeline.Grid.coords_val t 0 (by decide) rfl
    simp only [cond5_0, k5_cond1, e0]
    word_cmp
   : ∀ t : Fin grid5.N, cond5_0 (grid5.coords t) ↔ t.val % 8 = 0)

abbrev cond5_1 (i : grid5.Coords) : Prop := k5_cond2 i = 1#1
theorem hcond5_1 : ∀ t : Fin cfg5.N, cond5_1 (grid5.coords t) ↔ 1 ≤ t.val :=
  (fun t => by
    have ht : t.val < 8 := Nat.lt_of_lt_of_eq t.isLt N_5
    have e0 : (grid5.coords t 0).val = t.val / 1 % 8 := Pipeline.Grid.coords_val t 0 (by decide) rfl
    simp only [cond5_1, k5_cond2, e0]
    word_cmp
   : ∀ t : Fin grid5.N, cond5_1 (grid5.coords t) ↔ 1 ≤ t.val)

/-! ## Where the windows are idle -/

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl
theorem liveAt5_5 : ∀ t : Fin cfg5.N, cfg5.idle 5 (grid5.coords t) = false := fun _ => rfl
theorem liveAt5_6 : ∀ t : Fin cfg5.N, cfg5.idle 6 (grid5.coords t) = false := fun _ => rfl
/-- Whether output 7's buffer is fresh at each position, as a bitmask: bit `n` for position `n + 1`. -/
def freshTab5_7 : ℕ → Bool
  | 0 => true
  | n + 1 => (0x80 : ℕ).testBit n
theorem freshTab5_7_step : ∀ t : Fin cfg5.N,
    freshTab5_7 (t.val + 1) = ((cfg5.win 7).flush t || (cfg5.idle 7 (cfg5.grid.coords t) && freshTab5_7 t.val)) := by decide +kernel
theorem fresh5_7_eq (t : Fin cfg5.N) : cfg5.fresh 7 t.val = freshTab5_7 t.val :=
  Pipeline.Cfg.fresh_tab cfg5 7 freshTab5_7 rfl freshTab5_7_step t.val (Nat.le_of_lt t.isLt)
theorem liveAt5_7_A : ∀ t : Fin cfg5.N, cond5_0 (grid5.coords t) → ¬cond5_1 (grid5.coords t) → cfg5.idle 7 (grid5.coords t) = false := by decide +kernel
theorem liveAt5_7_B : ∀ t : Fin cfg5.N, ¬cond5_0 (grid5.coords t) → cond5_1 (grid5.coords t) → cfg5.idle 7 (grid5.coords t) = false := by decide +kernel
theorem notFresh5_7_B : ∀ t : Fin cfg5.N, ¬cond5_0 (grid5.coords t) → cond5_1 (grid5.coords t) → cfg5.fresh 7 t.val = false := by
  intro t; rw [fresh5_7_eq t]; revert t; decide +kernel

/-! ## The body on any staging memrefs -/

abbrev VO5_6 : View sig .tc .vmem S2048x512 .f32 := (Memref.whole cc5_stg6_0 : Memref sig .tc .vmem S2048x512 .f32).view
abbrev VO5_7 : View sig .tc .vmem S8x512 .f32 := (Memref.whole cc5_stg7_0 : Memref sig .tc .vmem S8x512 .f32).view
/-- Each window's staging memref at point `t`, and its wholeness. -/
abbrev ms5_0 (t : Fin cfg5.N) : Memref sig .tc .vmem S2048x256 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8x256 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x256 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S256x512 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x512 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S2048x512 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S8x512 .f32 := win5_7.stage (cfg5.slots t 7)
abbrev hs5_7 (t : Fin cfg5.N) : (ms5_7 t).IsWhole := hstage5_7 ((cfg5.slots t 7).cast nbuf5_7)

section
variable (c : Dev nD) (i : grid5.Coords) (arg1 : Memref sig .tc .vmem S2048x256 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S8x512 .f32) (harg8 : arg8.IsWhole) (hc0 : cond5_0 i) (hc1 : ¬cond5_1 i)
    (x0 : Vec F S2048x256 .f32) (x1 : Vec F S8x256 .f32) (x2 : Vec F S1x256 .f32) (x3 : Vec F S1x256 .f32) (x4 : Vec F S256x512 .f32) (x5 : Vec F S1x512 .f32)

set_option maxHeartbeats 1000000 in
/-- The body's run in case A: the pieces that its stores leave in the outputs' staging memrefs, found by running it. -/
noncomputable def kernelRun5_A :
    Σ' (L6 : List (View.Piece (Elt F) S2048x512 .f32)), { L7 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc5_body i arg1 harg1 arg2 harg2 arg3 harg3 arg4 harg4 arg5 harg5 arg6 harg6 arg7 harg7 arg8 harg8) K } := by
  refine ⟨?_, ?_, fun E K => ?run⟩
  case run =>
    simp only [cc5_body_eq_skeleton]; unfold cc5_body_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover5_A_6 (y : S2048x512.Idx) :
    ∃ pc ∈ (kernelRun5_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun5_A c i arg1 harg1 arg2 harg2 arg3 harg3 arg4 harg4 arg5 harg5 arg6 harg6 arg7 harg7 arg8 harg8 hc0 hc1 x0 x1 x2 x3 x4 x5).1 S2048x512.size (by sl_kernel_rfl) y

def out5_A_6 : Vec F S2048x512 .f32 :=
  VO5_6.read (Elt F) (VO5_6.writes (Elt F) VO5_6.junk (kernelRun5_A c i arg1 harg1 arg2 harg2 arg3 harg3 arg4 harg4 arg5 harg5 arg6 harg6 arg7 harg7 arg8 harg8 hc0 hc1 x0 x1 x2 x3 x4 x5).1)

theorem cover5_A_7 (y : S8x512.Idx) :
    ∃ pc ∈ (kernelRun5_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun5_A c i arg1 harg1 arg2 harg2 arg3 harg3 arg4 harg4 arg5 harg5 arg6 harg6 arg7 harg7 arg8 harg8 hc0 hc1 x0 x1 x2 x3 x4 x5).2.1 S8x512.size (by sl_kernel_rfl) y

def out5_A_7 : Vec F S8x512 .f32 :=
  VO5_7.read (Elt F) (VO5_7.writes (Elt F) VO5_7.junk (kernelRun5_A c i arg1 harg1 arg2 harg2 arg3 harg3 arg4 harg4 arg5 harg5 arg6 harg6 arg7 harg7 arg8 harg8 hc0 hc1 x0 x1 x2 x3 x4 x5).2.1)

end

section
variable (c : Dev nD) (i : grid5.Coords) (arg1 : Memref sig .tc .vmem S2048x256 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S8x512 .f32) (harg8 : arg8.IsWhole) (hc0 : ¬cond5_0 i) (hc1 : cond5_1 i)
    (x0 : Vec F S2048x256 .f32) (x1 : Vec F S8x256 .f32) (x2 : Vec F S1x256 .f32) (x3 : Vec F S1x256 .f32) (x4 : Vec F S256x512 .f32) (x5 : Vec F S1x512 .f32) (xo7 : Vec F S8x512 .f32)

set_option maxHeartbeats 1000000 in
/-- The body's run in case B: the pieces that its stores leave in the outputs' staging memrefs, found by running it. -/
noncomputable def kernelRun5_B :
    Σ' (L6 : List (View.Piece (Elt F) S2048x512 .f32)), { L7 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc5_body i arg1 harg1 arg2 harg2 arg3 harg3 arg4 harg4 arg5 harg5 arg6 harg6 arg7 harg7 arg8 harg8) K } := by
  refine ⟨?_, ?_, fun E K => ?run⟩
  case run =>
    simp only [cc5_body_eq_skeleton]; unfold cc5_body_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover5_B_6 (y : S2048x512.Idx) :
    ∃ pc ∈ (kernelRun5_B c i arg1 harg1 arg2 harg2 arg3 harg3 arg4 harg4 arg5 harg5 arg6 harg6 arg7 harg7 arg8 harg8 hc0 hc1 x0 x1 x2 x3 x4 x5 xo7).1, y ∈ pc.1.set :=
  View.cover_of_tiledL (kernelRun5_B c i arg1 harg1 arg2 harg2 arg3 harg3 arg4 harg4 arg5 harg5 arg6 harg6 arg7 harg7 arg8 harg8 hc0 hc1 x0 x1 x2 x3 x4 x5 xo7).1 S2048x512.size (by sl_kernel_rfl) y

def out5_B_6 : Vec F S2048x512 .f32 :=
  VO5_6.read (Elt F) (VO5_6.writes (Elt F) VO5_6.junk (kernelRun5_B c i arg1 harg1 arg2 harg2 arg3 harg3 arg4 harg4 arg5 harg5 arg6 harg6 arg7 harg7 arg8 harg8 hc0 hc1 x0 x1 x2 x3 x4 x5 xo7).1)

theorem cover5_B_7 (y : S8x512.Idx) :
    ∃ pc ∈ (kernelRun5_B c i arg1 harg1 arg2 harg2 arg3 harg3 arg4 harg4 arg5 harg5 arg6 harg6 arg7 harg7 arg8 harg8 hc0 hc1 x0 x1 x2 x3 x4 x5 xo7).2.1, y ∈ pc.1.set :=
  View.cover_of_tiledL (kernelRun5_B c i arg1 harg1 arg2 harg2 arg3 harg3 arg4 harg4 arg5 harg5 arg6 harg6 arg7 harg7 arg8 harg8 hc0 hc1 x0 x1 x2 x3 x4 x5 xo7).2.1 S8x512.size (by sl_kernel_rfl) y

def out5_B_7 : Vec F S8x512 .f32 :=
  VO5_7.read (Elt F) (VO5_7.writes (Elt F) VO5_7.junk (kernelRun5_B c i arg1 harg1 arg2 harg2 arg3 harg3 arg4 harg4 arg5 harg5 arg6 harg6 arg7 harg7 arg8 harg8 hc0 hc1 x0 x1 x2 x3 x4 x5 xo7).2.1)

end

/-! ## What the outputs hold after each point -/

/-- What the outputs' staging buffers hold after the body at position `n`: the case that is met at `n`, over what `n - 1` left. -/
def outsAt5 (c : Dev nD) : (n : ℕ) → n < cfg5.N → Vec F S2048x512 .f32 × Vec F S8x512 .f32
  | 0, hn => (out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩), out5_A_7 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩))
  | n + 1, hn =>
    if h0 : (n + 1) % 8 = 0 then
      if h1 : 1 ≤ (n + 1) then
        False.elim (by have hN : n + 1 < 8 := lt_of_lt_of_eq hn (show cfg5.N = 8 from N_5); omega)
      else
        (out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩), out5_A_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩))
    else
      if h1 : 1 ≤ (n + 1) then
        (out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2, out5_B_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2)
      else
        False.elim (by have hN : n + 1 < 8 := lt_of_lt_of_eq hn (show cfg5.N = 8 from N_5); omega)

theorem outsAt5_A (c : Dev nD) (t : Fin cfg5.N) (h0 : t.val % 8 = 0) (h1 : ¬1 ≤ t.val) :
    outsAt5 V c t.val t.isLt = (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (fun h => h1 ((hcond5_1 t).mp h)) (iblk5 V c 0 t) (iblk5 V c 1 t) (iblk5 V c 2 t) (iblk5 V c 3 t) (iblk5 V c 4 t) (iblk5 V c 5 t), out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (fun h => h1 ((hcond5_1 t).mp h)) (iblk5 V c 0 t) (iblk5 V c 1 t) (iblk5 V c 2 t) (iblk5 V c 3 t) (iblk5 V c 4 t) (iblk5 V c 5 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : 1 ≤ t.val) :
    outsAt5 V c t.val t.isLt = (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2, out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 5: the arrays at `V`; after the body at a point, the inputs' buffers at their blocks and the outputs' at their contents. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = (outsAt5 V c t.val t.isLt).1 := by dsimp only [dat5]
theorem after5_7 (c : Dev nD) (t : Fin cfg5.N) : (dat5 V c).after 7 t = (outsAt5 V c t.val t.isLt).2 := by dsimp only [dat5]

/-- Each input's staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- Output 7's contents carry through the points that leave it idle. -/
theorem hcarry5_7 (c : Dev nD) : ∀ (t : Fin cfg5.N) (_ : t.val ≠ 0), cfg5.idle 7 (grid5.coords t) = true → cfg5.fresh 7 t.val = false →
    (dat5 V c).after 7 t = (dat5 V c).after 7 ⟨t.val - 1, by omega⟩ := by
  intro t _ hi _
  have hN : t.val < 8 := lt_of_lt_of_eq t.isLt (show cfg5.N = 8 from N_5)
  rw [after5_7, after5_7]
  by_cases h0 : t.val % 8 = 0
  · by_cases h1 : 1 ≤ t.val
    · exfalso; omega
    · rw [liveAt5_7_A t ((hcond5_0 t).mpr h0) (fun h => h1 ((hcond5_1 t).mp h))] at hi
      exact absurd hi Bool.false_ne_true
  · by_cases h1 : 1 ≤ t.val
    · rw [liveAt5_7_B t (fun h => h0 ((hcond5_0 t).mp h)) ((hcond5_1 t).mpr h1)] at hi
      exact absurd hi Bool.false_ne_true
    · exfalso; omega
/-- At a point of case B output 7's staging buffer holds what the point before left. -/
theorem before5_7_B (c : Dev nD) (t : Fin cfg5.N) (h0 : ¬t.val % 8 = 0) (h1 : 1 ≤ t.val) (d) :
    (dat5 V c).before 7 t d = (outsAt5 V c (t.val - 1) (Nat.lt_of_le_of_lt (Nat.sub_le _ _) t.isLt)).2 := by
  rw [Dat.before_out_traj _ 7 rfl (fun _ _ => rfl) (hcarry5_7 V c) t.val t rfl d,
    if_neg (by rw [notFresh5_7_B t (fun h => h0 ((hcond5_0 t).mp h)) ((hcond5_1 t).mpr h1)]; exact Bool.false_ne_true)]
  dsimp only [dat5]

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t)

set_option maxHeartbeats 1600000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl]
  have hN : t.val < 8 := lt_of_lt_of_eq t.isLt (show cfg5.N = 8 from N_5)
  by_cases h0 : t.val % 8 = 0
  · by_cases h1 : 1 ≤ t.val
    · exfalso; omega
    · rw [show (dat5 V c).leavesExact 0 t = owns (c : Thread nD τ) (ms5_0 t) fullShare ((dat5 V c).after 0 t) from by
      unfold Dat.leavesExact; rw [liveAt5_0 t], after5_0]
      rw [show (dat5 V c).leavesExact 1 t = owns (c : Thread nD τ) (ms5_1 t) fullShare ((dat5 V c).after 1 t) from by
      unfold Dat.leavesExact; rw [liveAt5_1 t], after5_1]
      rw [show (dat5 V c).leavesExact 2 t = owns (c : Thread nD τ) (ms5_2 t) fullShare ((dat5 V c).after 2 t) from by
      unfold Dat.leavesExact; rw [liveAt5_2 t], after5_2]
      rw [show (dat5 V c).leavesExact 3 t = owns (c : Thread nD τ) (ms5_3 t) fullShare ((dat5 V c).after 3 t) from by
      unfold Dat.leavesExact; rw [liveAt5_3 t], after5_3]
      rw [show (dat5 V c).leavesExact 4 t = owns (c : Thread nD τ) (ms5_4 t) fullShare ((dat5 V c).after 4 t) from by
      unfold Dat.leavesExact; rw [liveAt5_4 t], after5_4]
      rw [show (dat5 V c).leavesExact 5 t = owns (c : Thread nD τ) (ms5_5 t) fullShare ((dat5 V c).after 5 t) from by
      unfold Dat.leavesExact; rw [liveAt5_5 t], after5_5]
      rw [show (dat5 V c).leavesExact 6 t = owns (c : Thread nD τ) (ms5_6 t) fullShare ((dat5 V c).after 6 t) from by
      unfold Dat.leavesExact; rw [liveAt5_6 t], after5_6]
      rw [show (dat5 V c).leavesExact 7 t = owns (c : Thread nD τ) (ms5_7 t) fullShare ((dat5 V c).after 7 t) from by
      unfold Dat.leavesExact; rw [liveAt5_7_A t ((hcond5_0 t).mpr h0) (fun h => h1 ((hcond5_1 t).mp h))], after5_7]
      rw [outsAt5_A V c t h0 h1]
      unfold out5_A_6 out5_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun5_A c (grid5.coords t) _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover5_A_6 c _ _ _ _ _ _ _ _ _ _ _ _ _ _ _ _ _ _ _ _ _ _ _ _ _)
      unfold owns; iexists _; isplitr
      swap; · iexact H7
      ipureintro; exact View.read_writes_of_cover _ _ _ _ _ (cover5_A_7 c _ _ _ _ _ _ _ _ _ _ _ _ _ _ _ _ _ _ _ _ _ _ _ _ _)
  · by_cases h1 : 1 ≤ t.val
    · rw [show (dat5 V c).leavesExact 0 t = owns (c : Thread nD τ) (ms5_0 t) fullShare ((dat5 V c).after 0 t) from by
      unfold Dat.leavesExact; rw [liveAt5_0 t], after5_0]
      rw [show (dat5 V c).leavesExact 1 t = owns (c : Thread nD τ) (ms5_1 t) fullShare ((dat5 V c).after 1 t) from by
      unfold Dat.leavesExact; rw [liveAt5_1 t], after5_1]
      rw [show (dat5 V c).leavesExact 2 t = owns (c : Thread nD τ) (ms5_2 t) fullShare ((dat5 V c).after 2 t) from by
      unfold Dat.leavesExact; rw [liveAt5_2 t], after5_2]
      rw [show (dat5 V c).leavesExact 3 t = owns (c : Thread nD τ) (ms5_3 t) fullShare ((dat5 V c).after 3 t) from by
      unfold Dat.leavesExact; rw [liveAt5_3 t], after5_3]
      rw [show (dat5 V c).leavesExact 4 t = owns (c : Thread nD τ) (ms5_4 t) fullShare ((dat5 V c).after 4 t) from by
      unfold Dat.leavesExact; rw [liveAt5_4 t], after5_4]
      rw [show (dat5 V c).leavesExact 5 t = owns (c : Thread nD τ) (ms5_5 t) fullShare ((dat5 V c).after 5 t) from by
      unfold Dat.leavesExact; rw [liveAt5_5 t], after5_5]
      rw [show (dat5 V c).leavesExact 6 t = owns (c : Thread nD τ) (ms5_6 t) fullShare ((dat5 V c).after 6 t) from by
      unfold Dat.leavesExact; rw [liveAt5_6 t], after5_6]
      rw [show (dat5 V c).leavesExact 7 t = owns (c : Thread nD τ) (ms5_7 t) fullShare ((dat5 V c).after 7 t) from by
      unfold Dat.leavesExact; rw [liveAt5_7_B t (fun h => h0 ((hcond5_0 t).mp h)) ((hcond5_1 t).mpr h1)], after5_7]
      rw [outsAt5_B V c t h0 h1]
      simp only [before5_7_B V c t h0 h1]
      unfold out5_B_6 out5_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun5_B c (grid5.coords t) _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover5_B_6 c _ _ _ _ _ _ _ _ _ _ _ _ _ _ _ _ _ _ _ _ _ _ _ _ _ _)
      unfold owns; iexists _; isplitr
      swap; · iexact H7
      ipureintro; exact View.read_writes_of_cover _ _ _ _ _ (cover5_B_7 c _ _ _ _ _ _ _ _ _ _ _ _ _ _ _ _ _ _ _ _ _ _ _ _ _ _)
    · exfalso; omega

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Gen

end
-- ==== Proof.Mem.Region6.lean ====
/- The frame of region 6. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffers' contents when the region is entered
variable (V : (c : Dev nD) → (b : Ref sig .tc) → Buf (Elt F) ((c : Thread nD τ).loc b))

/-! # REGION 6 of @main: custom_call 6, `cc6_body` -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S8x512 := Rect.unit (s := S8x512) ![0, 0] S1x512.size inb_S8x512_S1x512_0_0
abbrev r6_1 : Rect S8x512 := Rect.unit (s := S8x512) ![1, 0] S1x512.size inb_S8x512_S1x512_1_0
abbrev r6_2 : Rect S1x512 := Rect.unit (s := S1x512) ![0, 0] S1x512.size inb_S1x512_S1x512_0_0
abbrev r6_3 : Rect S2048x512 := Rect.unit (s := S2048x512) ![0, 0] S2048x512.size inb_S2048x512_S2048x512_0_0
abbrev r6_4 : Rect S256x512 := Rect.unit (s := S256x512) ![0, 0] S256x512.size inb_S256x512_S256x512_0_0

/-! ## What the body leaves in each output window's buffer -/

/-- Window 4's staging buffer after the body, from the input windows' blocks: its 1 store as pieces, LAST
    FIRST (Lib/Pipeline/FrameBody.lean `View.canon`; the payloads are the skeleton's). -/
def out6_4 (x0 : Vec F S2048x512 .f32) (x1 : Vec F S8x512 .f32) (x2 : Vec F S1x512 .f32) (x3 : Vec F S1x512 .f32) : Vec F S256x512 .f32 :=
  View.canon [⟨r6_4, k6_pay1 (View.ld x1 r6_0) (View.ld x1 r6_1) (View.ld x2 r6_2) (View.ld x3 r6_2) (View.ld x0 r6_3)⟩]

theorem cover6_4 (p0 : Vec F S256x512 .f32) (y : S256x512.Idx) :
    ∃ pc ∈ ([⟨r6_4, p0⟩] : List (View.Piece (Elt F) S256x512 .f32)), y ∈ pc.1.set :=
  View.cover_of_tiled [⟨r6_4, p0⟩] S256x512.size (by rfl) y

/-! ## The body's triple -/

set_option maxHeartbeats 1000000 in
/-- The body on whole staging memrefs: the inputs' stay as they were, each output's ends at `out`. -/
theorem sound_kernel6 (c : Dev nD) (E : Set ℕ) (i : grid6.Coords) (arg1 : Memref sig .tc .vmem S2048x512 .f32) (harg1 : arg1.IsWhole) (arg2 : Memref sig .tc .vmem S8x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .f32) (harg5 : arg5.IsWhole)
    (x0 : Vec F S2048x512 .f32) (x1 : Vec F S8x512 .f32) (x2 : Vec F S1x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6_body i arg1 harg1 arg2 harg2 arg3 harg3 arg4 harg4 arg5 harg5) K := by
  simp only [cc6_body_eq_skeleton]; unfold cc6_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6: the arrays at `V`; after the body at a point, the inputs' buffers at their blocks and the outputs' at their contents. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

/-- Each input's staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row6 (t : Fin cfg6.N) :
    defs₀ (F := F) .tc cfg6.body (cfg6.bodyArgs t (cfg6.slots t)) = bodyAt6 t := by
  unfold defs₀; rw [Defs.onTc_tc]

theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Gen

end
-- ==== Proof.Mem.Hosts0.lean ====
/- The host stretches. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v11, main_v12, main_v13, main_v14, main_v15]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v17, main_v18, main_v19, main_v20]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v22, main_v23, main_v24, main_v25, main_v26, main_v27, main_v28, main_v29, main_v30, main_v31, main_v32, main_v33, main_v34, main_v35, main_v36, main_v37, main_v38, main_v39]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v41, main_v42, main_v43, main_v44]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v46, main_v47, main_v48, main_v49]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v51, main_v52]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v54]
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays (checked: each argument against each reference it writes). -/
theorem hostOps7_args : ∀ a ∈ argRefs, a ∉ hostOps7_W := ListAll.forall_mem_of_all_decide (by decide +kernel)

end Cert.KernelIdeal.Gen

end
-- ==== Proof.Mem.Fold0.lean ====
/- The buffers' contents at each segment's boundary. -/
module

public import proofs.«01_k».proof.Proof.Mem.Region0
public import proofs.«01_k».proof.Proof.Mem.Region1
public import proofs.«01_k».proof.Proof.Mem.Region2
public import proofs.«01_k».proof.Proof.Mem.Region3
public import proofs.«01_k».proof.Proof.Mem.Region4
public import proofs.«01_k».proof.Proof.Mem.Region5
public import proofs.«01_k».proof.Proof.Mem.Region6
public import proofs.«01_k».proof.Proof.Mem.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The contents at region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's output arrays keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The contents at region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's output arrays keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- The contents at region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's output arrays keeps its contents. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
abbrev V7 : (c : Dev nD) → (b : Ref sig .tc) → Buf (Elt F) ((c : Thread nD τ).loc b) := fun c b => W7 m ρ c b
/-- The contents at region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's output arrays keeps its contents. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
abbrev V9 : (c : Dev nD) → (b : Ref sig .tc) → Buf (Elt F) ((c : Thread nD τ).loc b) := fun c b => W9 m ρ c b
/-- The contents at region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's output arrays keeps its contents. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
abbrev V11 : (c : Dev nD) → (b : Ref sig .tc) → Buf (Elt F) ((c : Thread nD τ).loc b) := fun c b => W11 m ρ c b
/-- The contents at region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- A reference that is none of region 5's output arrays keeps its contents. -/
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6` (region 6's entry). -/
abbrev W13 : Dev nD → Valuation τ sig (Elt F) := fun c => StableHlo.after hostOps6 (W12 m ρ c)
/-- A reference `hostOps6` does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h
theorem W13_args (c : Dev nD) : ∀ a ∈ argRefs, W13 m ρ c (Proc.devRef .tc a) = m ((c : Thread nD τ).loc a) :=
  fun a ha => (W13_of m ρ c a (hostOps6_args a ha)).trans (W12_args m ρ c a ha)
abbrev V13 : (c : Dev nD) → (b : Ref sig .tc) → Buf (Elt F) ((c : Thread nD τ).loc b) := fun c b => W13 m ρ c b
/-- The contents at region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- A reference that is none of region 6's output arrays keeps its contents. -/
theorem W14_of (c : Dev nD) (r : Ref sig .tc) (h : ∀ w : Fin cfg6.W, Pipeline.arrRef spec6 w = r → (cfg6.win w).isOut = false) :
    W14 m ρ c (Proc.devRef .tc r) = W13 m ρ c (Proc.devRef .tc r) := by
  by_cases hw : ∃ w : Fin cfg6.W, Pipeline.arrRef spec6 w = r
  · obtain ⟨w, rfl⟩ := hw
    exact (W14_arr m ρ c w).trans (((dat6 (V13 m ρ) c).arrAt_in w (h w rfl) _).trans (A_eq6 (V13 m ρ) c w))
  · exact W14_of_ne m ρ c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn6 a ha)).trans (W13_args m ρ c a ha)
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7`. -/
abbrev W15 : Dev nD → Valuation τ sig (Elt F) := fun c => StableHlo.after hostOps7 (W14 m ρ c)
/-- A reference `hostOps7` does not write keeps its contents across it. -/
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h
theorem W15_args (c : Dev nD) : ∀ a ∈ argRefs, W15 m ρ c (Proc.devRef .tc a) = m ((c : Thread nD τ).loc a) :=
  fun a ha => (W15_of m ρ c a (hostOps7_args a ha)).trans (W14_args m ρ c a ha)

/-! ### The arguments end as launched: no host stretch writes one and no region may change one (a region reads it
    through an input window or bypasses it) -/

theorem W15_main_arg0 (c : Dev nD) : W15 m ρ c (Proc.devRef .tc main_arg0) = m ((c : Thread nD τ).loc main_arg0) :=
  W15_args m ρ c main_arg0 (by decide)
theorem W15_main_arg1 (c : Dev nD) : W15 m ρ c (Proc.devRef .tc main_arg1) = m ((c : Thread nD τ).loc main_arg1) :=
  W15_args m ρ c main_arg1 (by decide)
theorem W15_main_arg2 (c : Dev nD) : W15 m ρ c (Proc.devRef .tc main_arg2) = m ((c : Thread nD τ).loc main_arg2) :=
  W15_args m ρ c main_arg2 (by decide)
theorem W15_main_arg3 (c : Dev nD) : W15 m ρ c (Proc.devRef .tc main_arg3) = m ((c : Thread nD τ).loc main_arg3) :=
  W15_args m ρ c main_arg3 (by decide)
theorem W15_main_arg4 (c : Dev nD) : W15 m ρ c (Proc.devRef .tc main_arg4) = m ((c : Thread nD τ).loc main_arg4) :=
  W15_args m ρ c main_arg4 (by decide)
theorem W15_main_arg5 (c : Dev nD) : W15 m ρ c (Proc.devRef .tc main_arg5) = m ((c : Thread nD τ).loc main_arg5) :=
  W15_args m ρ c main_arg5 (by decide)
theorem W15_main_arg6 (c : Dev nD) : W15 m ρ c (Proc.devRef .tc main_arg6) = m ((c : Thread nD τ).loc main_arg6) :=
  W15_args m ρ c main_arg6 (by decide)
theorem W15_main_arg7 (c : Dev nD) : W15 m ρ c (Proc.devRef .tc main_arg7) = m ((c : Thread nD τ).loc main_arg7) :=
  W15_args m ρ c main_arg7 (by decide)
theorem W15_main_arg8 (c : Dev nD) : W15 m ρ c (Proc.devRef .tc main_arg8) = m ((c : Thread nD τ).loc main_arg8) :=
  W15_args m ρ c main_arg8 (by decide)
theorem W15_main_arg9 (c : Dev nD) : W15 m ρ c (Proc.devRef .tc main_arg9) = m ((c : Thread nD τ).loc main_arg9) :=
  W15_args m ρ c main_arg9 (by decide)
theorem W15_main_arg10 (c : Dev nD) : W15 m ρ c (Proc.devRef .tc main_arg10) = m ((c : Thread nD τ).loc main_arg10) :=
  W15_args m ρ c main_arg10 (by decide)
theorem W15_main_arg11 (c : Dev nD) : W15 m ρ c (Proc.devRef .tc main_arg11) = m ((c : Thread nD τ).loc main_arg11) :=
  W15_args m ρ c main_arg11 (by decide)
theorem W15_main_arg12 (c : Dev nD) : W15 m ρ c (Proc.devRef .tc main_arg12) = m ((c : Thread nD τ).loc main_arg12) :=
  W15_args m ρ c main_arg12 (by decide)
theorem W15_main_arg13 (c : Dev nD) : W15 m ρ c (Proc.devRef .tc main_arg13) = m ((c : Thread nD τ).loc main_arg13) :=
  W15_args m ρ c main_arg13 (by decide)
theorem W15_main_arg14 (c : Dev nD) : W15 m ρ c (Proc.devRef .tc main_arg14) = m ((c : Thread nD τ).loc main_arg14) :=
  W15_args m ρ c main_arg14 (by decide)
theorem W15_main_arg15 (c : Dev nD) : W15 m ρ c (Proc.devRef .tc main_arg15) = m ((c : Thread nD τ).loc main_arg15) :=
  W15_args m ρ c main_arg15 (by decide)
theorem W15_main_arg16 (c : Dev nD) : W15 m ρ c (Proc.devRef .tc main_arg16) = m ((c : Thread nD τ).loc main_arg16) :=
  W15_args m ρ c main_arg16 (by decide)
theorem W15_main_arg17 (c : Dev nD) : W15 m ρ c (Proc.devRef .tc main_arg17) = m ((c : Thread nD τ).loc main_arg17) :=
  W15_args m ρ c main_arg17 (by decide)
theorem W15_main_arg18 (c : Dev nD) : W15 m ρ c (Proc.devRef .tc main_arg18) = m ((c : Thread nD τ).loc main_arg18) :=
  W15_args m ρ c main_arg18 (by decide)
theorem W15_main_arg19 (c : Dev nD) : W15 m ρ c (Proc.devRef .tc main_arg19) = m ((c : Thread nD τ).loc main_arg19) :=
  W15_args m ρ c main_arg19 (by decide)
theorem W15_main_arg20 (c : Dev nD) : W15 m ρ c (Proc.devRef .tc main_arg20) = m ((c : Thread nD τ).loc main_arg20) :=
  W15_args m ρ c main_arg20 (by decide)
theorem W15_main_arg21 (c : Dev nD) : W15 m ρ c (Proc.devRef .tc main_arg21) = m ((c : Thread nD τ).loc main_arg21) :=
  W15_args m ρ c main_arg21 (by decide)
theorem W15_main_arg22 (c : Dev nD) : W15 m ρ c (Proc.devRef .tc main_arg22) = m ((c : Thread nD τ).loc main_arg22) :=
  W15_args m ρ c main_arg22 (by decide)
theorem W15_main_arg23 (c : Dev nD) : W15 m ρ c (Proc.devRef .tc main_arg23) = m ((c : Thread nD τ).loc main_arg23) :=
  W15_args m ρ c main_arg23 (by decide)
theorem W15_main_arg24 (c : Dev nD) : W15 m ρ c (Proc.devRef .tc main_arg24) = m ((c : Thread nD τ).loc main_arg24) :=
  W15_args m ρ c main_arg24 (by decide)
end Cert.KernelIdeal.Gen

end
-- ==== Proof.Mem.State.lean ====
/- The proof data family and the thread state. -/
module

public import proofs.«01_k».proof.Proof.Mem.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W15`, the generator register at some state. -/
abbrev Tₙ (c : Dev nD) : sProp 𝕄 := iprop(StableHlo.held (c : Thread nD τ) (Pipeline.ucRefs τ sig) (W15 m ρ c) ∗ ∃ r, prngReg c r)

end Cert.KernelIdeal.Gen

end
-- ==== Proof.Mem.Record0.lean ====
/- Region 0 as a segment of the program. -/
module

public import proofs.«01_k».proof.Proof.Mem.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- Region 0 over the thread state: its arrays leave the unscoped buffers at entry and return to them at its exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Mem.Record1.lean ====
/- Region 1 as a segment of the program. -/
module

public import proofs.«01_k».proof.Proof.Mem.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: its arrays leave the unscoped buffers at entry and return to them at its exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Mem.Record2.lean ====
/- Region 2 as a segment of the program. -/
module

public import proofs.«01_k».proof.Proof.Mem.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: its arrays leave the unscoped buffers at entry and return to them at its exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Mem.Record3.lean ====
/- Region 3 as a segment of the program. -/
module

public import proofs.«01_k».proof.Proof.Mem.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: its arrays leave the unscoped buffers at entry and return to them at its exit. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Mem.Record4.lean ====
/- Region 4 as a segment of the program. -/
module

public import proofs.«01_k».proof.Proof.Mem.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 over the thread state: its arrays leave the unscoped buffers at entry and return to them at its exit. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Mem.Record5.lean ====
/- Region 5 as a segment of the program. -/
module

public import proofs.«01_k».proof.Proof.Mem.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 over the thread state: its arrays leave the unscoped buffers at entry and return to them at its exit. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Mem.Record6.lean ====
/- Region 6 as a segment of the program. -/
module

public import proofs.«01_k».proof.Proof.Mem.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6 over the thread state: its arrays leave the unscoped buffers at entry and return to them at its exit. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) (A_eq6 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Mem.Run.lean ====
/- The whole program, run. -/
module

public import proofs.«01_k».proof.Proof.Mem.Record0
public import proofs.«01_k».proof.Proof.Mem.Record1
public import proofs.«01_k».proof.Proof.Mem.Record2
public import proofs.«01_k».proof.Proof.Mem.Record3
public import proofs.«01_k».proof.Proof.Mem.Record4
public import proofs.«01_k».proof.Proof.Mem.Record5
public import proofs.«01_k».proof.Proof.Mem.Record6

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 15 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)) ]
/-- @main is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The program runs to its end; then every unscoped buffer holds what the fold through the program gives it, and every counter is
    at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W15 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  (θ_run defs _ _).mono (fun r q => ⟨(fun c =>
    have k : ∀ a ∈ argRefs, Proc.devRef .tc a ∈ Pipeline.ucRefs τ sig → r.2.mem ((c : Thread nD τ).loc a) = m ((c : Thread nD τ).loc a) := fun a ha hu =>
      (q.1 c _ hu).trans (W15_args m ρ c a ha)
    ⟨k main_arg0 (by decide) (mem_uc main_arg0 (by decide)), k main_arg1 (by decide) (mem_uc main_arg1 (by decide)), k main_arg2 (by decide) (mem_uc main_arg2 (by decide)), k main_arg3 (by decide) (mem_uc main_arg3 (by decide)), k main_arg4 (by decide) (mem_uc main_arg4 (by decide)), k main_arg5 (by decide) (mem_uc main_arg5 (by decide)), k main_arg6 (by decide) (mem_uc main_arg6 (by decide)), k main_arg7 (by decide) (mem_uc main_arg7 (by decide)), k main_arg8 (by decide) (mem_uc main_arg8 (by decide)), k main_arg9 (by decide) (mem_uc main_arg9 (by decide)), k main_arg10 (by decide) (mem_uc main_arg10 (by decide)), k main_arg11 (by decide) (mem_uc main_arg11 (by decide)), k main_arg12 (by decide) (mem_uc main_arg12 (by decide)), k main_arg13 (by decide) (mem_uc main_arg13 (by decide)), k main_arg14 (by decide) (mem_uc main_arg14 (by decide)), k main_arg15 (by decide) (mem_uc main_arg15 (by decide)), k main_arg16 (by decide) (mem_uc main_arg16 (by decide)), k main_arg17 (by decide) (mem_uc main_arg17 (by decide)), k main_arg18 (by decide) (mem_uc main_arg18 (by decide)), k main_arg19 (by decide) (mem_uc main_arg19 (by decide)), k main_arg20 (by decide) (mem_uc main_arg20 (by decide)), k main_arg21 (by decide) (mem_uc main_arg21 (by decide)), k main_arg22 (by decide) (mem_uc main_arg22 (by decide)), k main_arg23 (by decide) (mem_uc main_arg23 (by decide)), k main_arg24 (by decide) (mem_uc main_arg24 (by decide))⟩), q.2⟩) (run m ρ)

end Cert.KernelIdeal.Gen

end
-- ==== Proof.Same.lean ====
/- The kernel as compiled and the idealized kernel are one program: the same pipelines and the same host text. -/
module

public import proofs.«01_k».proof.Proof.Gen.Kernel
public import proofs.«01_k».proof.Proof.Gen.KernelIdeal
public import Idealize.ShloMosaic.Lib.Tactic

@[expose] public section

set_option maxRecDepth 16384

noncomputable section

namespace Cert.Proof

open Idealize.ShloMosaic Idealize.SL.Sem

variable {F : FTy → Type} [FloatOps F]

set_option maxHeartbeats 8000000 in
/-- The two programs define the same kernels and pipelines. -/
theorem defs_same : Cert.Kernel.defs (F := F) = Cert.KernelIdeal.defs (F := F) := by sl_kernel_rfl

set_option maxHeartbeats 8000000 in
/-- The two programs have the same main function. -/
theorem main_same : Cert.Kernel.main (F := F) = Cert.KernelIdeal.main (F := F) := by sl_kernel_rfl

end Cert.Proof

end
-- ==== Proof.Bits.lean ====
/- The frame of the kernel as compiled: its text is the idealized one's, so the run proved there at any float values is this one's. -/
module

public import proofs.«01_k».proof.Defs
public import proofs.«01_k».proof.Proof.Gen.Kernel
public import proofs.«01_k».proof.Proof.Mem.Run
public import proofs.«01_k».proof.Proof.Same

@[expose] public section

set_option maxRecDepth 16384

noncomputable section

namespace Cert.Proof

open Idealize.ShloMosaic Idealize.SL.Sem

set_option maxHeartbeats 8000000 in
/-- The kernel as compiled runs, leaves its arguments alone and every semaphore at zero. -/
theorem frame_Kernel : Cert.quiescent_Kernel (hKernel := Cert.Kernel.Gen.facts) := by
  intro m ρ _
  rw [defs_same, main_same]
  exact Cert.KernelIdeal.Gen.frame (F := Bits) m ρ

end Cert.Proof

end
-- ==== Proof.Ref.Ops.lean ====
/- The reference's operations, in the groups that the value proof reads one by one: the farthest points, the samples, the affine maps, the
    rectified batch normalisations, the two maxima and the concatenation. -/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- An array of shape `s` and element type `e`. -/
abbrev A (F : FTy → Type) (s : Shape) (e : EltTy) : Type := (⟨s, e⟩ : BufTy).Contents (Elt F)

/-- The concatenation that writes `main_v101`, of its operands as plain arguments. -/
def fn_main_v101 : (main_v2 : Ref sig .tc).ty.Contents (Elt F) → (main_v16 : Ref sig .tc).ty.Contents (Elt F) → (main_v30 : Ref sig .tc).ty.Contents (Elt F) → (main_v44 : Ref sig .tc).ty.Contents (Elt F) → (main_v58 : Ref sig .tc).ty.Contents (Elt F) → (main_v72 : Ref sig .tc).ty.Contents (Elt F) → (main_v86 : Ref sig .tc).ty.Contents (Elt F) → (main_v100 : Ref sig .tc).ty.Contents (Elt F) → (main_v101 : Ref sig .tc).ty.Contents (Elt F) :=
  (fun u0 u1 u2 u3 u4 u5 u6 u7 => (concatenate S2048x8x3 1 [⟨S2048x1x3, (u0 : A F S2048x1x3 .f32)⟩, ⟨S2048x1x3, (u1 : A F S2048x1x3 .f32)⟩, ⟨S2048x1x3, (u2 : A F S2048x1x3 .f32)⟩, ⟨S2048x1x3, (u3 : A F S2048x1x3 .f32)⟩, ⟨S2048x1x3, (u4 : A F S2048x1x3 .f32)⟩, ⟨S2048x1x3, (u5 : A F S2048x1x3 .f32)⟩, ⟨S2048x1x3, (u6 : A F S2048x1x3 .f32)⟩, ⟨S2048x1x3, (u7 : A F S2048x1x3 .f32)⟩] concatenates_S2048x1x3_S2048x1x3_S2048x1x3_S2048x1x3_S2048x1x3_S2048x1x3_S2048x1x3_S2048x1x3_S2048x8x3_d1 : A F S2048x8x3 .f32))

/-- The concatenation that writes `main_v226`, of its operands as plain arguments. -/
def fn_main_v226 : A F S2048x8x3 .f32 → A F S2048x8x128 .f32 → A F S2048x8x131 .f32 :=
  (fun a b => concatenate S2048x8x131 2 [⟨S2048x8x3, a⟩, ⟨S2048x8x128, b⟩] concatenates_S2048x8x3_S2048x8x128_S2048x8x131_d2)

/-- The groups, a far distance and the first centre. -/
def start : List (HloOp τ sig (Elt F)) :=
  [ reshape main_arg0 main_v0 (rfl : (.f32 : EltTy) = .f32) shapeCasts_S2x1024x32x3_S2048x32x3,
    nullary main_cst (constant S_ .f32 0x501502F9#32),
    unary main_cst main_v1 (broadcastInDim S2048x32 ![] bcast_S_S2048x32 : A F S_ .f32 → A F S2048x32 .f32),
    unary main_v0 main_v2 ((extractStridedSlice S2048x1x3 ![0, 0, 0] · slices_S2048x32x3_S2048x1x3_0_0_0) : A F S2048x32x3 .f32 → A F S2048x1x3 .f32) ]

/-- Step 0 of the farthest-point search. -/
def step0 : List (HloOp τ sig (Elt F)) :=
  [ unary main_v2 main_v3 (broadcastInDim S2048x32x3 ![0, 1, 2] bcast_S2048x1x3_S2048x32x3_0_1_2 : A F S2048x1x3 .f32 → A F S2048x32x3 .f32),
    binary main_v0 main_v3 main_v4 (subf : A F S2048x32x3 .f32 → A F S2048x32x3 .f32 → A F S2048x32x3 .f32),
    binary main_v4 main_v4 main_v5 (mulf : A F S2048x32x3 .f32 → A F S2048x32x3 .f32 → A F S2048x32x3 .f32),
    nullary main_cst_0 (constant S_ .f32 0x00000000#32),
    binary main_v5 main_cst_0 main_v6 ((fun x v => Host.reduceAdd x v reducesTo_S2048x32x3_S2048x32_d2 h_S_) : A F S2048x32x3 .f32 → A F S_ .f32 → A F S2048x32 .f32),
    binary main_v1 main_v6 main_v7 (minimumf : A F S2048x32 .f32 → A F S2048x32 .f32 → A F S2048x32 .f32),
    TRef.nullary (TRef.of (T := ⟨S2048x32, .i32⟩) main_call0_v0) (iotaInDim S2048x32 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S2048x32, .f32⟩) main_v7) (TRef.of (T := ⟨S2048x32, .i32⟩) main_call0_v0) (TRef.of (T := ⟨S_, .f32⟩) main_call0_cst) (TRef.of (T := ⟨S_, .i32⟩) main_call0_c) (TRef.of (T := ⟨S2048, .f32⟩) main_call0_v1_0) (fun x y u v j => (Host.argReduce reducer_argmax_f32_i32 x y u v reducesTo_S2048x32_S2048_d1 h_S_ j).1),
    TRef.quaternary (TRef.of (T := ⟨S2048x32, .f32⟩) main_v7) (TRef.of (T := ⟨S2048x32, .i32⟩) main_call0_v0) (TRef.of (T := ⟨S_, .f32⟩) main_call0_cst) (TRef.of (T := ⟨S_, .i32⟩) main_call0_c) (TRef.of (T := ⟨S2048, .i32⟩) main_v8) (fun x y u v j => (Host.argReduce reducer_argmax_f32_i32 x y u v reducesTo_S2048x32_S2048_d1 h_S_ j).2),
    unary main_v8 main_v9 (broadcastInDim S2048x1 ![0] bcast_S2048_S2048x1_0 : A F S2048 .i32 → A F S2048x1 .i32),
    nullary main_c (constantI S_ 32 0#32),
    unary main_c main_v10 (broadcastInDim S2048x1 ![] bcast_S_S2048x1 : A F S_ .i32 → A F S2048x1 .i32),
    binary main_v9 main_v10 main_v11 (cmpi .slt : A F S2048x1 .i32 → A F S2048x1 .i32 → A F S2048x1 .i1),
    nullary main_c_1 (constantI S_ 32 32#32),
    unary main_c_1 main_v12 (broadcastInDim S2048x1 ![] bcast_S_S2048x1 : A F S_ .i32 → A F S2048x1 .i32),
    binary main_v9 main_v12 main_v13 (addi : A F S2048x1 .i32 → A F S2048x1 .i32 → A F S2048x1 .i32),
    ternary main_v11 main_v13 main_v9 main_v14 (select : A F S2048x1 .i1 → A F S2048x1 .i32 → A F S2048x1 .i32 → A F S2048x1 .i32),
    unary main_v14 main_v15 (broadcastInDim S2048x1x1 ![0, 1] bcast_S2048x1_S2048x1x1_0_1 : A F S2048x1 .i32 → A F S2048x1x1 .i32),
    binary main_v0 main_v15 main_v16 ((fun x i => Host.gather gather_S2048x32x3_S2048x1x1_S2048x1x3_2_1_0_0_1_2_113 x i) : A F S2048x32x3 .f32 → A F S2048x1x1 .i32 → A F S2048x1x3 .f32) ]

/-- Step 1 of the farthest-point search. -/
def step1 : List (HloOp τ sig (Elt F)) :=
  [ unary main_v16 main_v17 (broadcastInDim S2048x32x3 ![0, 1, 2] bcast_S2048x1x3_S2048x32x3_0_1_2 : A F S2048x1x3 .f32 → A F S2048x32x3 .f32),
    binary main_v0 main_v17 main_v18 (subf : A F S2048x32x3 .f32 → A F S2048x32x3 .f32 → A F S2048x32x3 .f32),
    binary main_v18 main_v18 main_v19 (mulf : A F S2048x32x3 .f32 → A F S2048x32x3 .f32 → A F S2048x32x3 .f32),
    nullary main_cst_2 (constant S_ .f32 0x00000000#32),
    binary main_v19 main_cst_2 main_v20 ((fun x v => Host.reduceAdd x v reducesTo_S2048x32x3_S2048x32_d2 h_S_) : A F S2048x32x3 .f32 → A F S_ .f32 → A F S2048x32 .f32),
    binary main_v7 main_v20 main_v21 (minimumf : A F S2048x32 .f32 → A F S2048x32 .f32 → A F S2048x32 .f32),
    TRef.nullary (TRef.of (T := ⟨S2048x32, .i32⟩) main_call1_v0) (iotaInDim S2048x32 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S2048x32, .f32⟩) main_v21) (TRef.of (T := ⟨S2048x32, .i32⟩) main_call1_v0) (TRef.of (T := ⟨S_, .f32⟩) main_call1_cst) (TRef.of (T := ⟨S_, .i32⟩) main_call1_c) (TRef.of (T := ⟨S2048, .f32⟩) main_call1_v1_0) (fun x y u v j => (Host.argReduce reducer_argmax_f32_i32 x y u v reducesTo_S2048x32_S2048_d1 h_S_ j).1),
    TRef.quaternary (TRef.of (T := ⟨S2048x32, .f32⟩) main_v21) (TRef.of (T := ⟨S2048x32, .i32⟩) main_call1_v0) (TRef.of (T := ⟨S_, .f32⟩) main_call1_cst) (TRef.of (T := ⟨S_, .i32⟩) main_call1_c) (TRef.of (T := ⟨S2048, .i32⟩) main_v22) (fun x y u v j => (Host.argReduce reducer_argmax_f32_i32 x y u v reducesTo_S2048x32_S2048_d1 h_S_ j).2),
    unary main_v22 main_v23 (broadcastInDim S2048x1 ![0] bcast_S2048_S2048x1_0 : A F S2048 .i32 → A F S2048x1 .i32),
    nullary main_c_3 (constantI S_ 32 0#32),
    unary main_c_3 main_v24 (broadcastInDim S2048x1 ![] bcast_S_S2048x1 : A F S_ .i32 → A F S2048x1 .i32),
    binary main_v23 main_v24 main_v25 (cmpi .slt : A F S2048x1 .i32 → A F S2048x1 .i32 → A F S2048x1 .i1),
    nullary main_c_4 (constantI S_ 32 32#32),
    unary main_c_4 main_v26 (broadcastInDim S2048x1 ![] bcast_S_S2048x1 : A F S_ .i32 → A F S2048x1 .i32),
    binary main_v23 main_v26 main_v27 (addi : A F S2048x1 .i32 → A F S2048x1 .i32 → A F S2048x1 .i32),
    ternary main_v25 main_v27 main_v23 main_v28 (select : A F S2048x1 .i1 → A F S2048x1 .i32 → A F S2048x1 .i32 → A F S2048x1 .i32),
    unary main_v28 main_v29 (broadcastInDim S2048x1x1 ![0, 1] bcast_S2048x1_S2048x1x1_0_1 : A F S2048x1 .i32 → A F S2048x1x1 .i32),
    binary main_v0 main_v29 main_v30 ((fun x i => Host.gather gather_S2048x32x3_S2048x1x1_S2048x1x3_2_1_0_0_1_2_113 x i) : A F S2048x32x3 .f32 → A F S2048x1x1 .i32 → A F S2048x1x3 .f32) ]

/-- Step 2 of the farthest-point search. -/
def step2 : List (HloOp τ sig (Elt F)) :=
  [ unary main_v30 main_v31 (broadcastInDim S2048x32x3 ![0, 1, 2] bcast_S2048x1x3_S2048x32x3_0_1_2 : A F S2048x1x3 .f32 → A F S2048x32x3 .f32),
    binary main_v0 main_v31 main_v32 (subf : A F S2048x32x3 .f32 → A F S2048x32x3 .f32 → A F S2048x32x3 .f32),
    binary main_v32 main_v32 main_v33 (mulf : A F S2048x32x3 .f32 → A F S2048x32x3 .f32 → A F S2048x32x3 .f32),
    nullary main_cst_5 (constant S_ .f32 0x00000000#32),
    binary main_v33 main_cst_5 main_v34 ((fun x v => Host.reduceAdd x v reducesTo_S2048x32x3_S2048x32_d2 h_S_) : A F S2048x32x3 .f32 → A F S_ .f32 → A F S2048x32 .f32),
    binary main_v21 main_v34 main_v35 (minimumf : A F S2048x32 .f32 → A F S2048x32 .f32 → A F S2048x32 .f32),
    TRef.nullary (TRef.of (T := ⟨S2048x32, .i32⟩) main_call2_v0) (iotaInDim S2048x32 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S2048x32, .f32⟩) main_v35) (TRef.of (T := ⟨S2048x32, .i32⟩) main_call2_v0) (TRef.of (T := ⟨S_, .f32⟩) main_call2_cst) (TRef.of (T := ⟨S_, .i32⟩) main_call2_c) (TRef.of (T := ⟨S2048, .f32⟩) main_call2_v1_0) (fun x y u v j => (Host.argReduce reducer_argmax_f32_i32 x y u v reducesTo_S2048x32_S2048_d1 h_S_ j).1),
    TRef.quaternary (TRef.of (T := ⟨S2048x32, .f32⟩) main_v35) (TRef.of (T := ⟨S2048x32, .i32⟩) main_call2_v0) (TRef.of (T := ⟨S_, .f32⟩) main_call2_cst) (TRef.of (T := ⟨S_, .i32⟩) main_call2_c) (TRef.of (T := ⟨S2048, .i32⟩) main_v36) (fun x y u v j => (Host.argReduce reducer_argmax_f32_i32 x y u v reducesTo_S2048x32_S2048_d1 h_S_ j).2),
    unary main_v36 main_v37 (broadcastInDim S2048x1 ![0] bcast_S2048_S2048x1_0 : A F S2048 .i32 → A F S2048x1 .i32),
    nullary main_c_6 (constantI S_ 32 0#32),
    unary main_c_6 main_v38 (broadcastInDim S2048x1 ![] bcast_S_S2048x1 : A F S_ .i32 → A F S2048x1 .i32),
    binary main_v37 main_v38 main_v39 (cmpi .slt : A F S2048x1 .i32 → A F S2048x1 .i32 → A F S2048x1 .i1),
    nullary main_c_7 (constantI S_ 32 32#32),
    unary main_c_7 main_v40 (broadcastInDim S2048x1 ![] bcast_S_S2048x1 : A F S_ .i32 → A F S2048x1 .i32),
    binary main_v37 main_v40 main_v41 (addi : A F S2048x1 .i32 → A F S2048x1 .i32 → A F S2048x1 .i32),
    ternary main_v39 main_v41 main_v37 main_v42 (select : A F S2048x1 .i1 → A F S2048x1 .i32 → A F S2048x1 .i32 → A F S2048x1 .i32),
    unary main_v42 main_v43 (broadcastInDim S2048x1x1 ![0, 1] bcast_S2048x1_S2048x1x1_0_1 : A F S2048x1 .i32 → A F S2048x1x1 .i32),
    binary main_v0 main_v43 main_v44 ((fun x i => Host.gather gather_S2048x32x3_S2048x1x1_S2048x1x3_2_1_0_0_1_2_113 x i) : A F S2048x32x3 .f32 → A F S2048x1x1 .i32 → A F S2048x1x3 .f32) ]

/-- Step 3 of the farthest-point search. -/
def step3 : List (HloOp τ sig (Elt F)) :=
  [ unary main_v44 main_v45 (broadcastInDim S2048x32x3 ![0, 1, 2] bcast_S2048x1x3_S2048x32x3_0_1_2 : A F S2048x1x3 .f32 → A F S2048x32x3 .f32),
    binary main_v0 main_v45 main_v46 (subf : A F S2048x32x3 .f32 → A F S2048x32x3 .f32 → A F S2048x32x3 .f32),
    binary main_v46 main_v46 main_v47 (mulf : A F S2048x32x3 .f32 → A F S2048x32x3 .f32 → A F S2048x32x3 .f32),
    nullary main_cst_8 (constant S_ .f32 0x00000000#32),
    binary main_v47 main_cst_8 main_v48 ((fun x v => Host.reduceAdd x v reducesTo_S2048x32x3_S2048x32_d2 h_S_) : A F S2048x32x3 .f32 → A F S_ .f32 → A F S2048x32 .f32),
    binary main_v35 main_v48 main_v49 (minimumf : A F S2048x32 .f32 → A F S2048x32 .f32 → A F S2048x32 .f32),
    TRef.nullary (TRef.of (T := ⟨S2048x32, .i32⟩) main_call3_v0) (iotaInDim S2048x32 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S2048x32, .f32⟩) main_v49) (TRef.of (T := ⟨S2048x32, .i32⟩) main_call3_v0) (TRef.of (T := ⟨S_, .f32⟩) main_call3_cst) (TRef.of (T := ⟨S_, .i32⟩) main_call3_c) (TRef.of (T := ⟨S2048, .f32⟩) main_call3_v1_0) (fun x y u v j => (Host.argReduce reducer_argmax_f32_i32 x y u v reducesTo_S2048x32_S2048_d1 h_S_ j).1),
    TRef.quaternary (TRef.of (T := ⟨S2048x32, .f32⟩) main_v49) (TRef.of (T := ⟨S2048x32, .i32⟩) main_call3_v0) (TRef.of (T := ⟨S_, .f32⟩) main_call3_cst) (TRef.of (T := ⟨S_, .i32⟩) main_call3_c) (TRef.of (T := ⟨S2048, .i32⟩) main_v50) (fun x y u v j => (Host.argReduce reducer_argmax_f32_i32 x y u v reducesTo_S2048x32_S2048_d1 h_S_ j).2),
    unary main_v50 main_v51 (broadcastInDim S2048x1 ![0] bcast_S2048_S2048x1_0 : A F S2048 .i32 → A F S2048x1 .i32),
    nullary main_c_9 (constantI S_ 32 0#32),
    unary main_c_9 main_v52 (broadcastInDim S2048x1 ![] bcast_S_S2048x1 : A F S_ .i32 → A F S2048x1 .i32),
    binary main_v51 main_v52 main_v53 (cmpi .slt : A F S2048x1 .i32 → A F S2048x1 .i32 → A F S2048x1 .i1),
    nullary main_c_10 (constantI S_ 32 32#32),
    unary main_c_10 main_v54 (broadcastInDim S2048x1 ![] bcast_S_S2048x1 : A F S_ .i32 → A F S2048x1 .i32),
    binary main_v51 main_v54 main_v55 (addi : A F S2048x1 .i32 → A F S2048x1 .i32 → A F S2048x1 .i32),
    ternary main_v53 main_v55 main_v51 main_v56 (select : A F S2048x1 .i1 → A F S2048x1 .i32 → A F S2048x1 .i32 → A F S2048x1 .i32),
    unary main_v56 main_v57 (broadcastInDim S2048x1x1 ![0, 1] bcast_S2048x1_S2048x1x1_0_1 : A F S2048x1 .i32 → A F S2048x1x1 .i32),
    binary main_v0 main_v57 main_v58 ((fun x i => Host.gather gather_S2048x32x3_S2048x1x1_S2048x1x3_2_1_0_0_1_2_113 x i) : A F S2048x32x3 .f32 → A F S2048x1x1 .i32 → A F S2048x1x3 .f32) ]

/-- Step 4 of the farthest-point search. -/
def step4 : List (HloOp τ sig (Elt F)) :=
  [ unary main_v58 main_v59 (broadcastInDim S2048x32x3 ![0, 1, 2] bcast_S2048x1x3_S2048x32x3_0_1_2 : A F S2048x1x3 .f32 → A F S2048x32x3 .f32),
    binary main_v0 main_v59 main_v60 (subf : A F S2048x32x3 .f32 → A F S2048x32x3 .f32 → A F S2048x32x3 .f32),
    binary main_v60 main_v60 main_v61 (mulf : A F S2048x32x3 .f32 → A F S2048x32x3 .f32 → A F S2048x32x3 .f32),
    nullary main_cst_11 (constant S_ .f32 0x00000000#32),
    binary main_v61 main_cst_11 main_v62 ((fun x v => Host.reduceAdd x v reducesTo_S2048x32x3_S2048x32_d2 h_S_) : A F S2048x32x3 .f32 → A F S_ .f32 → A F S2048x32 .f32),
    binary main_v49 main_v62 main_v63 (minimumf : A F S2048x32 .f32 → A F S2048x32 .f32 → A F S2048x32 .f32),
    TRef.nullary (TRef.of (T := ⟨S2048x32, .i32⟩) main_call4_v0) (iotaInDim S2048x32 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S2048x32, .f32⟩) main_v63) (TRef.of (T := ⟨S2048x32, .i32⟩) main_call4_v0) (TRef.of (T := ⟨S_, .f32⟩) main_call4_cst) (TRef.of (T := ⟨S_, .i32⟩) main_call4_c) (TRef.of (T := ⟨S2048, .f32⟩) main_call4_v1_0) (fun x y u v j => (Host.argReduce reducer_argmax_f32_i32 x y u v reducesTo_S2048x32_S2048_d1 h_S_ j).1),
    TRef.quaternary (TRef.of (T := ⟨S2048x32, .f32⟩) main_v63) (TRef.of (T := ⟨S2048x32, .i32⟩) main_call4_v0) (TRef.of (T := ⟨S_, .f32⟩) main_call4_cst) (TRef.of (T := ⟨S_, .i32⟩) main_call4_c) (TRef.of (T := ⟨S2048, .i32⟩) main_v64) (fun x y u v j => (Host.argReduce reducer_argmax_f32_i32 x y u v reducesTo_S2048x32_S2048_d1 h_S_ j).2),
    unary main_v64 main_v65 (broadcastInDim S2048x1 ![0] bcast_S2048_S2048x1_0 : A F S2048 .i32 → A F S2048x1 .i32),
    nullary main_c_12 (constantI S_ 32 0#32),
    unary main_c_12 main_v66 (broadcastInDim S2048x1 ![] bcast_S_S2048x1 : A F S_ .i32 → A F S2048x1 .i32),
    binary main_v65 main_v66 main_v67 (cmpi .slt : A F S2048x1 .i32 → A F S2048x1 .i32 → A F S2048x1 .i1),
    nullary main_c_13 (constantI S_ 32 32#32),
    unary main_c_13 main_v68 (broadcastInDim S2048x1 ![] bcast_S_S2048x1 : A F S_ .i32 → A F S2048x1 .i32),
    binary main_v65 main_v68 main_v69 (addi : A F S2048x1 .i32 → A F S2048x1 .i32 → A F S2048x1 .i32),
    ternary main_v67 main_v69 main_v65 main_v70 (select : A F S2048x1 .i1 → A F S2048x1 .i32 → A F S2048x1 .i32 → A F S2048x1 .i32),
    unary main_v70 main_v71 (broadcastInDim S2048x1x1 ![0, 1] bcast_S2048x1_S2048x1x1_0_1 : A F S2048x1 .i32 → A F S2048x1x1 .i32),
    binary main_v0 main_v71 main_v72 ((fun x i => Host.gather gather_S2048x32x3_S2048x1x1_S2048x1x3_2_1_0_0_1_2_113 x i) : A F S2048x32x3 .f32 → A F S2048x1x1 .i32 → A F S2048x1x3 .f32) ]

/-- Step 5 of the farthest-point search. -/
def step5 : List (HloOp τ sig (Elt F)) :=
  [ unary main_v72 main_v73 (broadcastInDim S2048x32x3 ![0, 1, 2] bcast_S2048x1x3_S2048x32x3_0_1_2 : A F S2048x1x3 .f32 → A F S2048x32x3 .f32),
    binary main_v0 main_v73 main_v74 (subf : A F S2048x32x3 .f32 → A F S2048x32x3 .f32 → A F S2048x32x3 .f32),
    binary main_v74 main_v74 main_v75 (mulf : A F S2048x32x3 .f32 → A F S2048x32x3 .f32 → A F S2048x32x3 .f32),
    nullary main_cst_14 (constant S_ .f32 0x00000000#32),
    binary main_v75 main_cst_14 main_v76 ((fun x v => Host.reduceAdd x v reducesTo_S2048x32x3_S2048x32_d2 h_S_) : A F S2048x32x3 .f32 → A F S_ .f32 → A F S2048x32 .f32),
    binary main_v63 main_v76 main_v77 (minimumf : A F S2048x32 .f32 → A F S2048x32 .f32 → A F S2048x32 .f32),
    TRef.nullary (TRef.of (T := ⟨S2048x32, .i32⟩) main_call5_v0) (iotaInDim S2048x32 32 1),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S2048x32, .f32⟩) main_v77) (TRef.of (T := ⟨S2048x32, .i32⟩) main_call5_v0) (TRef.of (T := ⟨S_, .f32⟩) main_call5_cst) (TRef.of (T := ⟨S_, .i32⟩) main_call5_c) (TRef.of (T := ⟨S2048, .f32⟩) main_call5_v1_0) (fun x y u v j => (Host.argReduce reducer_argmax_f32_i32 x y u v reducesTo_S2048x32_S2048_d1 h_S_ j).1),
    TRef.quaternary (TRef.of (T := ⟨S2048x32, .f32⟩) main_v77) (TRef.of (T := ⟨S2048x32, .i32⟩) main_call5_v0) (TRef.of (T := ⟨S_, .f32⟩) main_call5_cst) (TRef.of (T := ⟨S_, .i32⟩) main_call5_c) (TRef.of (T := ⟨S2048, .i32⟩) main_v78) (fun x y u v j => (Host.argReduce reducer_argmax_f32_i32 x y u v reducesTo_S2048x32_S2048_d1 h_S_ j).2),
    unary main_v78 main_v79 (broadcastInDim S2048x1 ![0] bcast_S2048_S2048x1_0 : A F S2048 .i32 → A F S2048x1 .i32),
    nullary main_c_15 (constantI S_ 32 0#32),
    unary main_c_15 main_v80 (broadcastInDim S2048x1 ![] bcast_S_S2048x1 : A F S_ .i32 → A F S2048x1 .i32),
    binary main_v79 main_v80 main_v81 (cmpi .slt : A F S2048x1 .i32 → A F S2048x1 .i32 → A F S2048x1 .i1),
    nullary main_c_16 (constantI S_ 32 32#32),
    unary main_c_16 main_v82 (broadcastInDim S2048x1 ![] bcast_S_S2048x1 : A F S_ .i32 → A F S2048x1 .i32),
    binary main_v79 main_v82 main_v83 (addi : A F S2048x1 .i32 → A F S2048x1 .i32 → A F S2048x1 .i32),
    ternary main_v81 main_v83 main_v79 main_v84 (select : A F S2048x1 .i1 → A F S2048x1 .i32 → A F S2048x1 .i32 → A F S2048x1 .i32),
    unary main_v84 main_v85 (broadcastInDim S2048x1x1 ![0, 1] bcast_S2048x1_S2048x1x1_0_1 : A F S2048x1 .i32 → A F S2048x1x1 .i32),
    binary main_v0 main_v85 main_v86 ((fun x i => Host.gather gather_S2048x32x3_S2048x1x1_S2048x1x3_2_1_0_0_1_2_113 x i) : A F S2048x32x3 .f32 → A F S2048x1x1 .i32 → A F S2048x1x3 .f32) ]

/-- Step 6 of the farthest-point search. -/
def step6 : List (HloOp τ sig (Elt F)) :=
  [ unary main_v86 main_v87 (broadcastInDim S2048x32x3 ![0, 1, 2] bcast_S2048x1x3_S2048x32x3_0_1_2 : A F S2048x1x3 .f32 → A F S2048x32x3 .f32),
    binary main_v0 main_v87 main_v88 (subf : A F S2048x32x3 .f32 → A F S2048x32x3 .f32 → A F S2048x32x3 .f32),
    binary main_v88 main_v88 main_v89 (mulf : A F S2048x32x3 .f32 → A F S2048x32x3 .f32 → A F S2048x32x3 .f32),
    nullary main_cst_17 (constant S_ .f32 0x00000000#32),
    binary main_v89 main_cst_17 main_v90 ((fun x v => Host.reduceAdd x v reducesTo_S2048x32x3_S2048x32_d2 h_S_) : A F S2048x32x3 .f32 → A F S_ .f32 → A F S2048x32 .f32),
    binary main_v77 main_v90 main_v91 (minimumf : A F S2048x32 .f32 → A F S2048x32 .f32 → A F S2048x32 .f32),
    TRef.nullary (TRef.of (T := ⟨S2048x32, .i32⟩) main_call6_v0) (iotaInDim S2048x32 32 1),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S2048x32, .f32⟩) main_v91) (TRef.of (T := ⟨S2048x32, .i32⟩) main_call6_v0) (TRef.of (T := ⟨S_, .f32⟩) main_call6_cst) (TRef.of (T := ⟨S_, .i32⟩) main_call6_c) (TRef.of (T := ⟨S2048, .f32⟩) main_call6_v1_0) (fun x y u v j => (Host.argReduce reducer_argmax_f32_i32 x y u v reducesTo_S2048x32_S2048_d1 h_S_ j).1),
    TRef.quaternary (TRef.of (T := ⟨S2048x32, .f32⟩) main_v91) (TRef.of (T := ⟨S2048x32, .i32⟩) main_call6_v0) (TRef.of (T := ⟨S_, .f32⟩) main_call6_cst) (TRef.of (T := ⟨S_, .i32⟩) main_call6_c) (TRef.of (T := ⟨S2048, .i32⟩) main_v92) (fun x y u v j => (Host.argReduce reducer_argmax_f32_i32 x y u v reducesTo_S2048x32_S2048_d1 h_S_ j).2),
    unary main_v92 main_v93 (broadcastInDim S2048x1 ![0] bcast_S2048_S2048x1_0 : A F S2048 .i32 → A F S2048x1 .i32),
    nullary main_c_18 (constantI S_ 32 0#32),
    unary main_c_18 main_v94 (broadcastInDim S2048x1 ![] bcast_S_S2048x1 : A F S_ .i32 → A F S2048x1 .i32),
    binary main_v93 main_v94 main_v95 (cmpi .slt : A F S2048x1 .i32 → A F S2048x1 .i32 → A F S2048x1 .i1),
    nullary main_c_19 (constantI S_ 32 32#32),
    unary main_c_19 main_v96 (broadcastInDim S2048x1 ![] bcast_S_S2048x1 : A F S_ .i32 → A F S2048x1 .i32),
    binary main_v93 main_v96 main_v97 (addi : A F S2048x1 .i32 → A F S2048x1 .i32 → A F S2048x1 .i32),
    ternary main_v95 main_v97 main_v93 main_v98 (select : A F S2048x1 .i1 → A F S2048x1 .i32 → A F S2048x1 .i32 → A F S2048x1 .i32),
    unary main_v98 main_v99 (broadcastInDim S2048x1x1 ![0, 1] bcast_S2048x1_S2048x1x1_0_1 : A F S2048x1 .i32 → A F S2048x1x1 .i32),
    binary main_v0 main_v99 main_v100 ((fun x i => Host.gather gather_S2048x32x3_S2048x1x1_S2048x1x3_2_1_0_0_1_2_113 x i) : A F S2048x32x3 .f32 → A F S2048x1x1 .i32 → A F S2048x1x3 .f32) ]

/-- The eight centres. -/
def cents : List (HloOp τ sig (Elt F)) :=
  [ nary ![main_v2, main_v16, main_v30, main_v44, main_v58, main_v72, main_v86, main_v100] main_v101 (fun u => fn_main_v101 (F := F) (u 0) (u 1) (u 2) (u 3) (u 4) (u 5) (u 6) (u 7)) ]

/-- The squared distances from the centres. -/
def dists : List (HloOp τ sig (Elt F)) :=
  [ unary main_v101 main_v102 (broadcastInDim S2048x8x1x3 ![0, 1, 3] bcast_S2048x8x3_S2048x8x1x3_0_1_3 : A F S2048x8x3 .f32 → A F S2048x8x1x3 .f32),
    unary main_v0 main_v103 (broadcastInDim S2048x1x32x3 ![0, 2, 3] bcast_S2048x32x3_S2048x1x32x3_0_2_3 : A F S2048x32x3 .f32 → A F S2048x1x32x3 .f32),
    unary main_v102 main_v104 (broadcastInDim S2048x8x32x3 ![0, 1, 2, 3] bcast_S2048x8x1x3_S2048x8x32x3_0_1_2_3 : A F S2048x8x1x3 .f32 → A F S2048x8x32x3 .f32),
    unary main_v103 main_v105 (broadcastInDim S2048x8x32x3 ![0, 1, 2, 3] bcast_S2048x1x32x3_S2048x8x32x3_0_1_2_3 : A F S2048x1x32x3 .f32 → A F S2048x8x32x3 .f32),
    binary main_v104 main_v105 main_v106 (subf : A F S2048x8x32x3 .f32 → A F S2048x8x32x3 .f32 → A F S2048x8x32x3 .f32),
    binary main_v106 main_v106 main_v107 (mulf : A F S2048x8x32x3 .f32 → A F S2048x8x32x3 .f32 → A F S2048x8x32x3 .f32),
    nullary main_cst_20 (constant S_ .f32 0x00000000#32),
    binary main_v107 main_cst_20 main_v108 ((fun x v => Host.reduceAdd x v reducesTo_S2048x8x32x3_S2048x8x32_d3 h_S_) : A F S2048x8x32x3 .f32 → A F S_ .f32 → A F S2048x8x32 .f32) ]

/-- A point beyond the radius gets the number 32, any other its own. -/
def keys : List (HloOp τ sig (Elt F)) :=
  [ nullary main_v109 (iotaInDim S32 32 0),
    unary main_v109 main_v110 (broadcastInDim S2048x8x32 ![2] bcast_S32_S2048x8x32_2 : A F S32 .i32 → A F S2048x8x32 .i32),
    nullary main_cst_21 (constant S_ .f32 0x3E23D70A#32),
    unary main_cst_21 main_v111 (broadcastInDim S2048x8x32 ![] bcast_S_S2048x8x32 : A F S_ .f32 → A F S2048x8x32 .f32),
    binary main_v108 main_v111 main_v112 (cmpf .ogt : A F S2048x8x32 .f32 → A F S2048x8x32 .f32 → A F S2048x8x32 .i1),
    nullary main_c_22 (constantI S_ 32 32#32),
    TRef.unary (TRef.of (T := ⟨S_, .i32⟩) main_c_22) (TRef.of (T := ⟨S_, .i32⟩) main_call7_v0) id,
    TRef.unary (TRef.of (T := ⟨S_, .i32⟩) main_call7_v0) (TRef.of (T := ⟨S2048x8x32, .i32⟩) main_call7_v1) (broadcastInDim S2048x8x32 ![] bcast_S_S2048x8x32),
    TRef.ternary (TRef.of (T := ⟨S2048x8x32, .i1⟩) main_v112) (TRef.of (T := ⟨S2048x8x32, .i32⟩) main_call7_v1) (TRef.of (T := ⟨S2048x8x32, .i32⟩) main_v110) (TRef.of (T := ⟨S2048x8x32, .i32⟩) main_v113) select ]

/-- The first eight of the sorted numbers. -/
def sorted : List (HloOp τ sig (Elt F)) :=
  [ TRef.unary (TRef.of (T := ⟨S2048x8x32, .i32⟩) main_v113) (TRef.of (T := ⟨S2048x8x32, .i32⟩) main_v114) (fun x => Host.sort S2048x8x32 2 comparator_i32_d2 x),
    unary main_v114 main_v115 ((extractStridedSlice S2048x8x8 ![0, 0, 0] · slices_S2048x8x32_S2048x8x8_0_0_0) : A F S2048x8x32 .i32 → A F S2048x8x8 .i32) ]

/-- The numbers of the samples. -/
def picks : List (HloOp τ sig (Elt F)) :=
  [ nullary main_c_23 (constantI S_ 32 32#32),
    unary main_c_23 main_v116 (broadcastInDim S2048x8x8 ![] bcast_S_S2048x8x8 : A F S_ .i32 → A F S2048x8x8 .i32),
    binary main_v115 main_v116 main_v117 (cmpi .eq : A F S2048x8x8 .i32 → A F S2048x8x8 .i32 → A F S2048x8x8 .i1),
    unary main_v115 main_v118 ((extractStridedSlice S2048x8x1 ![0, 0, 0] · slices_S2048x8x8_S2048x8x1_0_0_0) : A F S2048x8x8 .i32 → A F S2048x8x1 .i32),
    TRef.unary (TRef.of (T := ⟨S2048x8x1, .i32⟩) main_v118) (TRef.of (T := ⟨S2048x8x8, .i32⟩) main_call9_v0) (broadcastInDim S2048x8x8 ![0, 1, 2] bcast_S2048x8x1_S2048x8x8_0_1_2),
    TRef.ternary (TRef.of (T := ⟨S2048x8x8, .i1⟩) main_v117) (TRef.of (T := ⟨S2048x8x8, .i32⟩) main_call9_v0) (TRef.of (T := ⟨S2048x8x8, .i32⟩) main_v115) (TRef.of (T := ⟨S2048x8x8, .i32⟩) main_v119) select,
    nullary main_c_24 (constantI S_ 32 0#32),
    unary main_c_24 main_v120 (broadcastInDim S2048x8x8 ![] bcast_S_S2048x8x8 : A F S_ .i32 → A F S2048x8x8 .i32),
    binary main_v119 main_v120 main_v121 (cmpi .slt : A F S2048x8x8 .i32 → A F S2048x8x8 .i32 → A F S2048x8x8 .i1),
    nullary main_c_25 (constantI S_ 32 32#32),
    unary main_c_25 main_v122 (broadcastInDim S2048x8x8 ![] bcast_S_S2048x8x8 : A F S_ .i32 → A F S2048x8x8 .i32),
    binary main_v119 main_v122 main_v123 (addi : A F S2048x8x8 .i32 → A F S2048x8x8 .i32 → A F S2048x8x8 .i32),
    ternary main_v121 main_v123 main_v119 main_v124 (select : A F S2048x8x8 .i1 → A F S2048x8x8 .i32 → A F S2048x8x8 .i32 → A F S2048x8x8 .i32),
    unary main_v124 main_v125 (broadcastInDim S2048x8x8x1 ![0, 1, 2] bcast_S2048x8x8_S2048x8x8x1_0_1_2 : A F S2048x8x8 .i32 → A F S2048x8x8x1 .i32) ]

/-- The samples less their centres, flat. -/
def offsets : List (HloOp τ sig (Elt F)) :=
  [ binary main_v0 main_v125 main_v126 ((fun x i => Host.gather gather_S2048x32x3_S2048x8x8x1_S2048x8x8x3_3_1_0_0_1_3_113 x i) : A F S2048x32x3 .f32 → A F S2048x8x8x1 .i32 → A F S2048x8x8x3 .f32),
    unary main_v101 main_v127 (broadcastInDim S2048x8x1x3 ![0, 1, 3] bcast_S2048x8x3_S2048x8x1x3_0_1_3 : A F S2048x8x3 .f32 → A F S2048x8x1x3 .f32),
    unary main_v127 main_v128 (broadcastInDim S2048x8x8x3 ![0, 1, 2, 3] bcast_S2048x8x1x3_S2048x8x8x3_0_1_2_3 : A F S2048x8x1x3 .f32 → A F S2048x8x8x3 .f32),
    binary main_v126 main_v128 main_v129 (subf : A F S2048x8x8x3 .f32 → A F S2048x8x8x3 .f32 → A F S2048x8x8x3 .f32),
    reshape main_v129 main_v130 (rfl : (.f32 : EltTy) = .f32) shapeCasts_S2048x8x8x3_S131072x3 ]

/-- The affine map of layer 1. -/
def lin1 : List (HloOp τ sig (Elt F)) :=
  [ binary main_v130 main_arg1 main_v131 ((fun l r => Host.dotGeneral dot_S131072x3_S64x3_S131072x64_1_1_0_0_n_n none l r) : A F S131072x3 .f32 → A F S64x3 .f32 → A F S131072x64 .f32),
    unary main_arg2 main_v132 (broadcastInDim S1x64 ![1] bcast_S64_S1x64_1 : A F S64 .f32 → A F S1x64 .f32),
    unary main_v132 main_v133 (broadcastInDim S131072x64 ![0, 1] bcast_S1x64_S131072x64_0_1 : A F S1x64 .f32 → A F S131072x64 .f32),
    binary main_v131 main_v133 main_v134 (addf : A F S131072x64 .f32 → A F S131072x64 .f32 → A F S131072x64 .f32) ]

/-- The rectified batch normalisation of layer 1. -/
def bn1 : List (HloOp τ sig (Elt F)) :=
  [ nullary main_cst_26 (constant S_ .f32 0x00000000#32),
    binary main_v134 main_cst_26 main_v135 ((fun x v => Host.reduceAdd x v reducesTo_S131072x64_S64_d0 h_S_) : A F S131072x64 .f32 → A F S_ .f32 → A F S64 .f32),
    nullary main_cst_27 (constant S_ .f32 0x48000000#32),
    unary main_cst_27 main_v136 (broadcastInDim S64 ![] bcast_S_S64 : A F S_ .f32 → A F S64 .f32),
    binary main_v135 main_v136 main_v137 (Host.divf : A F S64 .f32 → A F S64 .f32 → A F S64 .f32),
    unary main_v137 main_v138 (broadcastInDim S1x64 ![1] bcast_S64_S1x64_1 : A F S64 .f32 → A F S1x64 .f32),
    unary main_v138 main_v139 (broadcastInDim S131072x64 ![0, 1] bcast_S1x64_S131072x64_0_1 : A F S1x64 .f32 → A F S131072x64 .f32),
    binary main_v134 main_v139 main_v140 (subf : A F S131072x64 .f32 → A F S131072x64 .f32 → A F S131072x64 .f32),
    binary main_v140 main_v140 main_v141 (mulf : A F S131072x64 .f32 → A F S131072x64 .f32 → A F S131072x64 .f32),
    nullary main_cst_28 (constant S_ .f32 0x00000000#32),
    binary main_v141 main_cst_28 main_v142 ((fun x v => Host.reduceAdd x v reducesTo_S131072x64_S64_d0 h_S_) : A F S131072x64 .f32 → A F S_ .f32 → A F S64 .f32),
    nullary main_cst_29 (constant S_ .f32 0x48000000#32),
    unary main_cst_29 main_v143 (broadcastInDim S64 ![] bcast_S_S64 : A F S_ .f32 → A F S64 .f32),
    binary main_v142 main_v143 main_v144 (Host.divf : A F S64 .f32 → A F S64 .f32 → A F S64 .f32),
    unary main_v137 main_v145 (broadcastInDim S1x64 ![1] bcast_S64_S1x64_1 : A F S64 .f32 → A F S1x64 .f32),
    unary main_v145 main_v146 (broadcastInDim S131072x64 ![0, 1] bcast_S1x64_S131072x64_0_1 : A F S1x64 .f32 → A F S131072x64 .f32),
    binary main_v134 main_v146 main_v147 (subf : A F S131072x64 .f32 → A F S131072x64 .f32 → A F S131072x64 .f32),
    nullary main_cst_30 (constant S_ .f32 0x3727C5AC#32),
    unary main_cst_30 main_v148 (broadcastInDim S64 ![] bcast_S_S64 : A F S_ .f32 → A F S64 .f32),
    binary main_v144 main_v148 main_v149 (addf : A F S64 .f32 → A F S64 .f32 → A F S64 .f32),
    unary main_v149 main_v150 (Host.sqrt : A F S64 .f32 → A F S64 .f32),
    unary main_v150 main_v151 (broadcastInDim S1x64 ![1] bcast_S64_S1x64_1 : A F S64 .f32 → A F S1x64 .f32),
    unary main_v151 main_v152 (broadcastInDim S131072x64 ![0, 1] bcast_S1x64_S131072x64_0_1 : A F S1x64 .f32 → A F S131072x64 .f32),
    binary main_v147 main_v152 main_v153 (Host.divf : A F S131072x64 .f32 → A F S131072x64 .f32 → A F S131072x64 .f32),
    unary main_arg3 main_v154 (broadcastInDim S1x64 ![1] bcast_S64_S1x64_1 : A F S64 .f32 → A F S1x64 .f32),
    unary main_v154 main_v155 (broadcastInDim S131072x64 ![0, 1] bcast_S1x64_S131072x64_0_1 : A F S1x64 .f32 → A F S131072x64 .f32),
    binary main_v153 main_v155 main_v156 (mulf : A F S131072x64 .f32 → A F S131072x64 .f32 → A F S131072x64 .f32),
    unary main_arg4 main_v157 (broadcastInDim S1x64 ![1] bcast_S64_S1x64_1 : A F S64 .f32 → A F S1x64 .f32),
    unary main_v157 main_v158 (broadcastInDim S131072x64 ![0, 1] bcast_S1x64_S131072x64_0_1 : A F S1x64 .f32 → A F S131072x64 .f32),
    binary main_v156 main_v158 main_v159 (addf : A F S131072x64 .f32 → A F S131072x64 .f32 → A F S131072x64 .f32),
    nullary main_cst_31 (constant S_ .f32 0x00000000#32),
    unary main_cst_31 main_v160 (broadcastInDim S131072x64 ![] bcast_S_S131072x64 : A F S_ .f32 → A F S131072x64 .f32),
    binary main_v159 main_v160 main_v161 (maximumf : A F S131072x64 .f32 → A F S131072x64 .f32 → A F S131072x64 .f32) ]

/-- The affine map of layer 2. -/
def lin2 : List (HloOp τ sig (Elt F)) :=
  [ binary main_v161 main_arg5 main_v162 ((fun l r => Host.dotGeneral dot_S131072x64_S64x64_S131072x64_1_1_0_0_n_n none l r) : A F S131072x64 .f32 → A F S64x64 .f32 → A F S131072x64 .f32),
    unary main_arg6 main_v163 (broadcastInDim S1x64 ![1] bcast_S64_S1x64_1 : A F S64 .f32 → A F S1x64 .f32),
    unary main_v163 main_v164 (broadcastInDim S131072x64 ![0, 1] bcast_S1x64_S131072x64_0_1 : A F S1x64 .f32 → A F S131072x64 .f32),
    binary main_v162 main_v164 main_v165 (addf : A F S131072x64 .f32 → A F S131072x64 .f32 → A F S131072x64 .f32) ]

/-- The rectified batch normalisation of layer 2. -/
def bn2 : List (HloOp τ sig (Elt F)) :=
  [ nullary main_cst_32 (constant S_ .f32 0x00000000#32),
    binary main_v165 main_cst_32 main_v166 ((fun x v => Host.reduceAdd x v reducesTo_S131072x64_S64_d0 h_S_) : A F S131072x64 .f32 → A F S_ .f32 → A F S64 .f32),
    nullary main_cst_33 (constant S_ .f32 0x48000000#32),
    unary main_cst_33 main_v167 (broadcastInDim S64 ![] bcast_S_S64 : A F S_ .f32 → A F S64 .f32),
    binary main_v166 main_v167 main_v168 (Host.divf : A F S64 .f32 → A F S64 .f32 → A F S64 .f32),
    unary main_v168 main_v169 (broadcastInDim S1x64 ![1] bcast_S64_S1x64_1 : A F S64 .f32 → A F S1x64 .f32),
    unary main_v169 main_v170 (broadcastInDim S131072x64 ![0, 1] bcast_S1x64_S131072x64_0_1 : A F S1x64 .f32 → A F S131072x64 .f32),
    binary main_v165 main_v170 main_v171 (subf : A F S131072x64 .f32 → A F S131072x64 .f32 → A F S131072x64 .f32),
    binary main_v171 main_v171 main_v172 (mulf : A F S131072x64 .f32 → A F S131072x64 .f32 → A F S131072x64 .f32),
    nullary main_cst_34 (constant S_ .f32 0x00000000#32),
    binary main_v172 main_cst_34 main_v173 ((fun x v => Host.reduceAdd x v reducesTo_S131072x64_S64_d0 h_S_) : A F S131072x64 .f32 → A F S_ .f32 → A F S64 .f32),
    nullary main_cst_35 (constant S_ .f32 0x48000000#32),
    unary main_cst_35 main_v174 (broadcastInDim S64 ![] bcast_S_S64 : A F S_ .f32 → A F S64 .f32),
    binary main_v173 main_v174 main_v175 (Host.divf : A F S64 .f32 → A F S64 .f32 → A F S64 .f32),
    unary main_v168 main_v176 (broadcastInDim S1x64 ![1] bcast_S64_S1x64_1 : A F S64 .f32 → A F S1x64 .f32),
    unary main_v176 main_v177 (broadcastInDim S131072x64 ![0, 1] bcast_S1x64_S131072x64_0_1 : A F S1x64 .f32 → A F S131072x64 .f32),
    binary main_v165 main_v177 main_v178 (subf : A F S131072x64 .f32 → A F S131072x64 .f32 → A F S131072x64 .f32),
    nullary main_cst_36 (constant S_ .f32 0x3727C5AC#32),
    unary main_cst_36 main_v179 (broadcastInDim S64 ![] bcast_S_S64 : A F S_ .f32 → A F S64 .f32),
    binary main_v175 main_v179 main_v180 (addf : A F S64 .f32 → A F S64 .f32 → A F S64 .f32),
    unary main_v180 main_v181 (Host.sqrt : A F S64 .f32 → A F S64 .f32),
    unary main_v181 main_v182 (broadcastInDim S1x64 ![1] bcast_S64_S1x64_1 : A F S64 .f32 → A F S1x64 .f32),
    unary main_v182 main_v183 (broadcastInDim S131072x64 ![0, 1] bcast_S1x64_S131072x64_0_1 : A F S1x64 .f32 → A F S131072x64 .f32),
    binary main_v178 main_v183 main_v184 (Host.divf : A F S131072x64 .f32 → A F S131072x64 .f32 → A F S131072x64 .f32),
    unary main_arg7 main_v185 (broadcastInDim S1x64 ![1] bcast_S64_S1x64_1 : A F S64 .f32 → A F S1x64 .f32),
    unary main_v185 main_v186 (broadcastInDim S131072x64 ![0, 1] bcast_S1x64_S131072x64_0_1 : A F S1x64 .f32 → A F S131072x64 .f32),
    binary main_v184 main_v186 main_v187 (mulf : A F S131072x64 .f32 → A F S131072x64 .f32 → A F S131072x64 .f32),
    unary main_arg8 main_v188 (broadcastInDim S1x64 ![1] bcast_S64_S1x64_1 : A F S64 .f32 → A F S1x64 .f32),
    unary main_v188 main_v189 (broadcastInDim S131072x64 ![0, 1] bcast_S1x64_S131072x64_0_1 : A F S1x64 .f32 → A F S131072x64 .f32),
    binary main_v187 main_v189 main_v190 (addf : A F S131072x64 .f32 → A F S131072x64 .f32 → A F S131072x64 .f32),
    nullary main_cst_37 (constant S_ .f32 0x00000000#32),
    unary main_cst_37 main_v191 (broadcastInDim S131072x64 ![] bcast_S_S131072x64 : A F S_ .f32 → A F S131072x64 .f32),
    binary main_v190 main_v191 main_v192 (maximumf : A F S131072x64 .f32 → A F S131072x64 .f32 → A F S131072x64 .f32) ]

/-- The affine map of layer 3. -/
def lin3 : List (HloOp τ sig (Elt F)) :=
  [ binary main_v192 main_arg9 main_v193 ((fun l r => Host.dotGeneral dot_S131072x64_S128x64_S131072x128_1_1_0_0_n_n none l r) : A F S131072x64 .f32 → A F S128x64 .f32 → A F S131072x128 .f32),
    unary main_arg10 main_v194 (broadcastInDim S1x128 ![1] bcast_S128_S1x128_1 : A F S128 .f32 → A F S1x128 .f32),
    unary main_v194 main_v195 (broadcastInDim S131072x128 ![0, 1] bcast_S1x128_S131072x128_0_1 : A F S1x128 .f32 → A F S131072x128 .f32),
    binary main_v193 main_v195 main_v196 (addf : A F S131072x128 .f32 → A F S131072x128 .f32 → A F S131072x128 .f32) ]

/-- The rectified batch normalisation of layer 3. -/
def bn3 : List (HloOp τ sig (Elt F)) :=
  [ nullary main_cst_38 (constant S_ .f32 0x00000000#32),
    binary main_v196 main_cst_38 main_v197 ((fun x v => Host.reduceAdd x v reducesTo_S131072x128_S128_d0 h_S_) : A F S131072x128 .f32 → A F S_ .f32 → A F S128 .f32),
    nullary main_cst_39 (constant S_ .f32 0x48000000#32),
    unary main_cst_39 main_v198 (broadcastInDim S128 ![] bcast_S_S128 : A F S_ .f32 → A F S128 .f32),
    binary main_v197 main_v198 main_v199 (Host.divf : A F S128 .f32 → A F S128 .f32 → A F S128 .f32),
    unary main_v199 main_v200 (broadcastInDim S1x128 ![1] bcast_S128_S1x128_1 : A F S128 .f32 → A F S1x128 .f32),
    unary main_v200 main_v201 (broadcastInDim S131072x128 ![0, 1] bcast_S1x128_S131072x128_0_1 : A F S1x128 .f32 → A F S131072x128 .f32),
    binary main_v196 main_v201 main_v202 (subf : A F S131072x128 .f32 → A F S131072x128 .f32 → A F S131072x128 .f32),
    binary main_v202 main_v202 main_v203 (mulf : A F S131072x128 .f32 → A F S131072x128 .f32 → A F S131072x128 .f32),
    nullary main_cst_40 (constant S_ .f32 0x00000000#32),
    binary main_v203 main_cst_40 main_v204 ((fun x v => Host.reduceAdd x v reducesTo_S131072x128_S128_d0 h_S_) : A F S131072x128 .f32 → A F S_ .f32 → A F S128 .f32),
    nullary main_cst_41 (constant S_ .f32 0x48000000#32),
    unary main_cst_41 main_v205 (broadcastInDim S128 ![] bcast_S_S128 : A F S_ .f32 → A F S128 .f32),
    binary main_v204 main_v205 main_v206 (Host.divf : A F S128 .f32 → A F S128 .f32 → A F S128 .f32),
    unary main_v199 main_v207 (broadcastInDim S1x128 ![1] bcast_S128_S1x128_1 : A F S128 .f32 → A F S1x128 .f32),
    unary main_v207 main_v208 (broadcastInDim S131072x128 ![0, 1] bcast_S1x128_S131072x128_0_1 : A F S1x128 .f32 → A F S131072x128 .f32),
    binary main_v196 main_v208 main_v209 (subf : A F S131072x128 .f32 → A F S131072x128 .f32 → A F S131072x128 .f32),
    nullary main_cst_42 (constant S_ .f32 0x3727C5AC#32),
    unary main_cst_42 main_v210 (broadcastInDim S128 ![] bcast_S_S128 : A F S_ .f32 → A F S128 .f32),
    binary main_v206 main_v210 main_v211 (addf : A F S128 .f32 → A F S128 .f32 → A F S128 .f32),
    unary main_v211 main_v212 (Host.sqrt : A F S128 .f32 → A F S128 .f32),
    unary main_v212 main_v213 (broadcastInDim S1x128 ![1] bcast_S128_S1x128_1 : A F S128 .f32 → A F S1x128 .f32),
    unary main_v213 main_v214 (broadcastInDim S131072x128 ![0, 1] bcast_S1x128_S131072x128_0_1 : A F S1x128 .f32 → A F S131072x128 .f32),
    binary main_v209 main_v214 main_v215 (Host.divf : A F S131072x128 .f32 → A F S131072x128 .f32 → A F S131072x128 .f32),
    unary main_arg11 main_v216 (broadcastInDim S1x128 ![1] bcast_S128_S1x128_1 : A F S128 .f32 → A F S1x128 .f32),
    unary main_v216 main_v217 (broadcastInDim S131072x128 ![0, 1] bcast_S1x128_S131072x128_0_1 : A F S1x128 .f32 → A F S131072x128 .f32),
    binary main_v215 main_v217 main_v218 (mulf : A F S131072x128 .f32 → A F S131072x128 .f32 → A F S131072x128 .f32),
    unary main_arg12 main_v219 (broadcastInDim S1x128 ![1] bcast_S128_S1x128_1 : A F S128 .f32 → A F S1x128 .f32),
    unary main_v219 main_v220 (broadcastInDim S131072x128 ![0, 1] bcast_S1x128_S131072x128_0_1 : A F S1x128 .f32 → A F S131072x128 .f32),
    binary main_v218 main_v220 main_v221 (addf : A F S131072x128 .f32 → A F S131072x128 .f32 → A F S131072x128 .f32),
    nullary main_cst_43 (constant S_ .f32 0x00000000#32),
    unary main_cst_43 main_v222 (broadcastInDim S131072x128 ![] bcast_S_S131072x128 : A F S_ .f32 → A F S131072x128 .f32),
    binary main_v221 main_v222 main_v223 (maximumf : A F S131072x128 .f32 → A F S131072x128 .f32 → A F S131072x128 .f32) ]

/-- The maximum over the samples. -/
def pool : List (HloOp τ sig (Elt F)) :=
  [ reshape main_v223 main_v224 (rfl : (.f32 : EltTy) = .f32) shapeCasts_S131072x128_S2048x8x8x128,
    nullary main_cst_44 (constant S_ .f32 0xFF800000#32),
    binary main_v224 main_cst_44 main_v225 ((fun x v => Host.reduce FloatOps.maximumf x v reducesTo_S2048x8x8x128_S2048x8x128_d2 h_S_) : A F S2048x8x8x128 .f32 → A F S_ .f32 → A F S2048x8x128 .f32) ]

/-- The centres beside the pooled features, flat. -/
def cat : List (HloOp τ sig (Elt F)) :=
  [ binary main_v101 main_v225 main_v226 (fn_main_v226 (F := F)),
    reshape main_v226 main_v227 (rfl : (.f32 : EltTy) = .f32) shapeCasts_S2048x8x131_S16384x131 ]

/-- The affine map of layer 4. -/
def lin4 : List (HloOp τ sig (Elt F)) :=
  [ binary main_v227 main_arg13 main_v228 ((fun l r => Host.dotGeneral dot_S16384x131_S128x131_S16384x128_1_1_0_0_n_n none l r) : A F S16384x131 .f32 → A F S128x131 .f32 → A F S16384x128 .f32),
    unary main_arg14 main_v229 (broadcastInDim S1x128 ![1] bcast_S128_S1x128_1 : A F S128 .f32 → A F S1x128 .f32),
    unary main_v229 main_v230 (broadcastInDim S16384x128 ![0, 1] bcast_S1x128_S16384x128_0_1 : A F S1x128 .f32 → A F S16384x128 .f32),
    binary main_v228 main_v230 main_v231 (addf : A F S16384x128 .f32 → A F S16384x128 .f32 → A F S16384x128 .f32) ]

/-- The rectified batch normalisation of layer 4. -/
def bn4 : List (HloOp τ sig (Elt F)) :=
  [ nullary main_cst_45 (constant S_ .f32 0x00000000#32),
    binary main_v231 main_cst_45 main_v232 ((fun x v => Host.reduceAdd x v reducesTo_S16384x128_S128_d0 h_S_) : A F S16384x128 .f32 → A F S_ .f32 → A F S128 .f32),
    nullary main_cst_46 (constant S_ .f32 0x46800000#32),
    unary main_cst_46 main_v233 (broadcastInDim S128 ![] bcast_S_S128 : A F S_ .f32 → A F S128 .f32),
    binary main_v232 main_v233 main_v234 (Host.divf : A F S128 .f32 → A F S128 .f32 → A F S128 .f32),
    unary main_v234 main_v235 (broadcastInDim S1x128 ![1] bcast_S128_S1x128_1 : A F S128 .f32 → A F S1x128 .f32),
    unary main_v235 main_v236 (broadcastInDim S16384x128 ![0, 1] bcast_S1x128_S16384x128_0_1 : A F S1x128 .f32 → A F S16384x128 .f32),
    binary main_v231 main_v236 main_v237 (subf : A F S16384x128 .f32 → A F S16384x128 .f32 → A F S16384x128 .f32),
    binary main_v237 main_v237 main_v238 (mulf : A F S16384x128 .f32 → A F S16384x128 .f32 → A F S16384x128 .f32),
    nullary main_cst_47 (constant S_ .f32 0x00000000#32),
    binary main_v238 main_cst_47 main_v239 ((fun x v => Host.reduceAdd x v reducesTo_S16384x128_S128_d0 h_S_) : A F S16384x128 .f32 → A F S_ .f32 → A F S128 .f32),
    nullary main_cst_48 (constant S_ .f32 0x46800000#32),
    unary main_cst_48 main_v240 (broadcastInDim S128 ![] bcast_S_S128 : A F S_ .f32 → A F S128 .f32),
    binary main_v239 main_v240 main_v241 (Host.divf : A F S128 .f32 → A F S128 .f32 → A F S128 .f32),
    unary main_v234 main_v242 (broadcastInDim S1x128 ![1] bcast_S128_S1x128_1 : A F S128 .f32 → A F S1x128 .f32),
    unary main_v242 main_v243 (broadcastInDim S16384x128 ![0, 1] bcast_S1x128_S16384x128_0_1 : A F S1x128 .f32 → A F S16384x128 .f32),
    binary main_v231 main_v243 main_v244 (subf : A F S16384x128 .f32 → A F S16384x128 .f32 → A F S16384x128 .f32),
    nullary main_cst_49 (constant S_ .f32 0x3727C5AC#32),
    unary main_cst_49 main_v245 (broadcastInDim S128 ![] bcast_S_S128 : A F S_ .f32 → A F S128 .f32),
    binary main_v241 main_v245 main_v246 (addf : A F S128 .f32 → A F S128 .f32 → A F S128 .f32),
    unary main_v246 main_v247 (Host.sqrt : A F S128 .f32 → A F S128 .f32),
    unary main_v247 main_v248 (broadcastInDim S1x128 ![1] bcast_S128_S1x128_1 : A F S128 .f32 → A F S1x128 .f32),
    unary main_v248 main_v249 (broadcastInDim S16384x128 ![0, 1] bcast_S1x128_S16384x128_0_1 : A F S1x128 .f32 → A F S16384x128 .f32),
    binary main_v244 main_v249 main_v250 (Host.divf : A F S16384x128 .f32 → A F S16384x128 .f32 → A F S16384x128 .f32),
    unary main_arg15 main_v251 (broadcastInDim S1x128 ![1] bcast_S128_S1x128_1 : A F S128 .f32 → A F S1x128 .f32),
    unary main_v251 main_v252 (broadcastInDim S16384x128 ![0, 1] bcast_S1x128_S16384x128_0_1 : A F S1x128 .f32 → A F S16384x128 .f32),
    binary main_v250 main_v252 main_v253 (mulf : A F S16384x128 .f32 → A F S16384x128 .f32 → A F S16384x128 .f32),
    unary main_arg16 main_v254 (broadcastInDim S1x128 ![1] bcast_S128_S1x128_1 : A F S128 .f32 → A F S1x128 .f32),
    unary main_v254 main_v255 (broadcastInDim S16384x128 ![0, 1] bcast_S1x128_S16384x128_0_1 : A F S1x128 .f32 → A F S16384x128 .f32),
    binary main_v253 main_v255 main_v256 (addf : A F S16384x128 .f32 → A F S16384x128 .f32 → A F S16384x128 .f32),
    nullary main_cst_50 (constant S_ .f32 0x00000000#32),
    unary main_cst_50 main_v257 (broadcastInDim S16384x128 ![] bcast_S_S16384x128 : A F S_ .f32 → A F S16384x128 .f32),
    binary main_v256 main_v257 main_v258 (maximumf : A F S16384x128 .f32 → A F S16384x128 .f32 → A F S16384x128 .f32) ]

/-- The affine map of layer 5. -/
def lin5 : List (HloOp τ sig (Elt F)) :=
  [ binary main_v258 main_arg17 main_v259 ((fun l r => Host.dotGeneral dot_S16384x128_S256x128_S16384x256_1_1_0_0_n_n none l r) : A F S16384x128 .f32 → A F S256x128 .f32 → A F S16384x256 .f32),
    unary main_arg18 main_v260 (broadcastInDim S1x256 ![1] bcast_S256_S1x256_1 : A F S256 .f32 → A F S1x256 .f32),
    unary main_v260 main_v261 (broadcastInDim S16384x256 ![0, 1] bcast_S1x256_S16384x256_0_1 : A F S1x256 .f32 → A F S16384x256 .f32),
    binary main_v259 main_v261 main_v262 (addf : A F S16384x256 .f32 → A F S16384x256 .f32 → A F S16384x256 .f32) ]

/-- The rectified batch normalisation of layer 5. -/
def bn5 : List (HloOp τ sig (Elt F)) :=
  [ nullary main_cst_51 (constant S_ .f32 0x00000000#32),
    binary main_v262 main_cst_51 main_v263 ((fun x v => Host.reduceAdd x v reducesTo_S16384x256_S256_d0 h_S_) : A F S16384x256 .f32 → A F S_ .f32 → A F S256 .f32),
    nullary main_cst_52 (constant S_ .f32 0x46800000#32),
    unary main_cst_52 main_v264 (broadcastInDim S256 ![] bcast_S_S256 : A F S_ .f32 → A F S256 .f32),
    binary main_v263 main_v264 main_v265 (Host.divf : A F S256 .f32 → A F S256 .f32 → A F S256 .f32),
    unary main_v265 main_v266 (broadcastInDim S1x256 ![1] bcast_S256_S1x256_1 : A F S256 .f32 → A F S1x256 .f32),
    unary main_v266 main_v267 (broadcastInDim S16384x256 ![0, 1] bcast_S1x256_S16384x256_0_1 : A F S1x256 .f32 → A F S16384x256 .f32),
    binary main_v262 main_v267 main_v268 (subf : A F S16384x256 .f32 → A F S16384x256 .f32 → A F S16384x256 .f32),
    binary main_v268 main_v268 main_v269 (mulf : A F S16384x256 .f32 → A F S16384x256 .f32 → A F S16384x256 .f32),
    nullary main_cst_53 (constant S_ .f32 0x00000000#32),
    binary main_v269 main_cst_53 main_v270 ((fun x v => Host.reduceAdd x v reducesTo_S16384x256_S256_d0 h_S_) : A F S16384x256 .f32 → A F S_ .f32 → A F S256 .f32),
    nullary main_cst_54 (constant S_ .f32 0x46800000#32),
    unary main_cst_54 main_v271 (broadcastInDim S256 ![] bcast_S_S256 : A F S_ .f32 → A F S256 .f32),
    binary main_v270 main_v271 main_v272 (Host.divf : A F S256 .f32 → A F S256 .f32 → A F S256 .f32),
    unary main_v265 main_v273 (broadcastInDim S1x256 ![1] bcast_S256_S1x256_1 : A F S256 .f32 → A F S1x256 .f32),
    unary main_v273 main_v274 (broadcastInDim S16384x256 ![0, 1] bcast_S1x256_S16384x256_0_1 : A F S1x256 .f32 → A F S16384x256 .f32),
    binary main_v262 main_v274 main_v275 (subf : A F S16384x256 .f32 → A F S16384x256 .f32 → A F S16384x256 .f32),
    nullary main_cst_55 (constant S_ .f32 0x3727C5AC#32),
    unary main_cst_55 main_v276 (broadcastInDim S256 ![] bcast_S_S256 : A F S_ .f32 → A F S256 .f32),
    binary main_v272 main_v276 main_v277 (addf : A F S256 .f32 → A F S256 .f32 → A F S256 .f32),
    unary main_v277 main_v278 (Host.sqrt : A F S256 .f32 → A F S256 .f32),
    unary main_v278 main_v279 (broadcastInDim S1x256 ![1] bcast_S256_S1x256_1 : A F S256 .f32 → A F S1x256 .f32),
    unary main_v279 main_v280 (broadcastInDim S16384x256 ![0, 1] bcast_S1x256_S16384x256_0_1 : A F S1x256 .f32 → A F S16384x256 .f32),
    binary main_v275 main_v280 main_v281 (Host.divf : A F S16384x256 .f32 → A F S16384x256 .f32 → A F S16384x256 .f32),
    unary main_arg19 main_v282 (broadcastInDim S1x256 ![1] bcast_S256_S1x256_1 : A F S256 .f32 → A F S1x256 .f32),
    unary main_v282 main_v283 (broadcastInDim S16384x256 ![0, 1] bcast_S1x256_S16384x256_0_1 : A F S1x256 .f32 → A F S16384x256 .f32),
    binary main_v281 main_v283 main_v284 (mulf : A F S16384x256 .f32 → A F S16384x256 .f32 → A F S16384x256 .f32),
    unary main_arg20 main_v285 (broadcastInDim S1x256 ![1] bcast_S256_S1x256_1 : A F S256 .f32 → A F S1x256 .f32),
    unary main_v285 main_v286 (broadcastInDim S16384x256 ![0, 1] bcast_S1x256_S16384x256_0_1 : A F S1x256 .f32 → A F S16384x256 .f32),
    binary main_v284 main_v286 main_v287 (addf : A F S16384x256 .f32 → A F S16384x256 .f32 → A F S16384x256 .f32),
    nullary main_cst_56 (constant S_ .f32 0x00000000#32),
    unary main_cst_56 main_v288 (broadcastInDim S16384x256 ![] bcast_S_S16384x256 : A F S_ .f32 → A F S16384x256 .f32),
    binary main_v287 main_v288 main_v289 (maximumf : A F S16384x256 .f32 → A F S16384x256 .f32 → A F S16384x256 .f32) ]

/-- The affine map of layer 6. -/
def lin6 : List (HloOp τ sig (Elt F)) :=
  [ binary main_v289 main_arg21 main_v290 ((fun l r => Host.dotGeneral dot_S16384x256_S512x256_S16384x512_1_1_0_0_n_n none l r) : A F S16384x256 .f32 → A F S512x256 .f32 → A F S16384x512 .f32),
    unary main_arg22 main_v291 (broadcastInDim S1x512 ![1] bcast_S512_S1x512_1 : A F S512 .f32 → A F S1x512 .f32),
    unary main_v291 main_v292 (broadcastInDim S16384x512 ![0, 1] bcast_S1x512_S16384x512_0_1 : A F S1x512 .f32 → A F S16384x512 .f32),
    binary main_v290 main_v292 main_v293 (addf : A F S16384x512 .f32 → A F S16384x512 .f32 → A F S16384x512 .f32) ]

/-- The rectified batch normalisation of layer 6. -/
def bn6 : List (HloOp τ sig (Elt F)) :=
  [ nullary main_cst_57 (constant S_ .f32 0x00000000#32),
    binary main_v293 main_cst_57 main_v294 ((fun x v => Host.reduceAdd x v reducesTo_S16384x512_S512_d0 h_S_) : A F S16384x512 .f32 → A F S_ .f32 → A F S512 .f32),
    nullary main_cst_58 (constant S_ .f32 0x46800000#32),
    unary main_cst_58 main_v295 (broadcastInDim S512 ![] bcast_S_S512 : A F S_ .f32 → A F S512 .f32),
    binary main_v294 main_v295 main_v296 (Host.divf : A F S512 .f32 → A F S512 .f32 → A F S512 .f32),
    unary main_v296 main_v297 (broadcastInDim S1x512 ![1] bcast_S512_S1x512_1 : A F S512 .f32 → A F S1x512 .f32),
    unary main_v297 main_v298 (broadcastInDim S16384x512 ![0, 1] bcast_S1x512_S16384x512_0_1 : A F S1x512 .f32 → A F S16384x512 .f32),
    binary main_v293 main_v298 main_v299 (subf : A F S16384x512 .f32 → A F S16384x512 .f32 → A F S16384x512 .f32),
    binary main_v299 main_v299 main_v300 (mulf : A F S16384x512 .f32 → A F S16384x512 .f32 → A F S16384x512 .f32),
    nullary main_cst_59 (constant S_ .f32 0x00000000#32),
    binary main_v300 main_cst_59 main_v301 ((fun x v => Host.reduceAdd x v reducesTo_S16384x512_S512_d0 h_S_) : A F S16384x512 .f32 → A F S_ .f32 → A F S512 .f32),
    nullary main_cst_60 (constant S_ .f32 0x46800000#32),
    unary main_cst_60 main_v302 (broadcastInDim S512 ![] bcast_S_S512 : A F S_ .f32 → A F S512 .f32),
    binary main_v301 main_v302 main_v303 (Host.divf : A F S512 .f32 → A F S512 .f32 → A F S512 .f32),
    unary main_v296 main_v304 (broadcastInDim S1x512 ![1] bcast_S512_S1x512_1 : A F S512 .f32 → A F S1x512 .f32),
    unary main_v304 main_v305 (broadcastInDim S16384x512 ![0, 1] bcast_S1x512_S16384x512_0_1 : A F S1x512 .f32 → A F S16384x512 .f32),
    binary main_v293 main_v305 main_v306 (subf : A F S16384x512 .f32 → A F S16384x512 .f32 → A F S16384x512 .f32),
    nullary main_cst_61 (constant S_ .f32 0x3727C5AC#32),
    unary main_cst_61 main_v307 (broadcastInDim S512 ![] bcast_S_S512 : A F S_ .f32 → A F S512 .f32),
    binary main_v303 main_v307 main_v308 (addf : A F S512 .f32 → A F S512 .f32 → A F S512 .f32),
    unary main_v308 main_v309 (Host.sqrt : A F S512 .f32 → A F S512 .f32),
    unary main_v309 main_v310 (broadcastInDim S1x512 ![1] bcast_S512_S1x512_1 : A F S512 .f32 → A F S1x512 .f32),
    unary main_v310 main_v311 (broadcastInDim S16384x512 ![0, 1] bcast_S1x512_S16384x512_0_1 : A F S1x512 .f32 → A F S16384x512 .f32),
    binary main_v306 main_v311 main_v312 (Host.divf : A F S16384x512 .f32 → A F S16384x512 .f32 → A F S16384x512 .f32),
    unary main_arg23 main_v313 (broadcastInDim S1x512 ![1] bcast_S512_S1x512_1 : A F S512 .f32 → A F S1x512 .f32),
    unary main_v313 main_v314 (broadcastInDim S16384x512 ![0, 1] bcast_S1x512_S16384x512_0_1 : A F S1x512 .f32 → A F S16384x512 .f32),
    binary main_v312 main_v314 main_v315 (mulf : A F S16384x512 .f32 → A F S16384x512 .f32 → A F S16384x512 .f32),
    unary main_arg24 main_v316 (broadcastInDim S1x512 ![1] bcast_S512_S1x512_1 : A F S512 .f32 → A F S1x512 .f32),
    unary main_v316 main_v317 (broadcastInDim S16384x512 ![0, 1] bcast_S1x512_S16384x512_0_1 : A F S1x512 .f32 → A F S16384x512 .f32),
    binary main_v315 main_v317 main_v318 (addf : A F S16384x512 .f32 → A F S16384x512 .f32 → A F S16384x512 .f32),
    nullary main_cst_62 (constant S_ .f32 0x00000000#32),
    unary main_cst_62 main_v319 (broadcastInDim S16384x512 ![] bcast_S_S16384x512 : A F S_ .f32 → A F S16384x512 .f32),
    binary main_v318 main_v319 main_v320 (maximumf : A F S16384x512 .f32 → A F S16384x512 .f32 → A F S16384x512 .f32) ]

/-- The maximum over the centres, and the result's shape. -/
def fin : List (HloOp τ sig (Elt F)) :=
  [ reshape main_v320 main_v321 (rfl : (.f32 : EltTy) = .f32) shapeCasts_S16384x512_S2048x8x512,
    nullary main_cst_63 (constant S_ .f32 0xFF800000#32),
    binary main_v321 main_cst_63 main_v322 ((fun x v => Host.reduce FloatOps.maximumf x v reducesTo_S2048x8x512_S2048x512_d1 h_S_) : A F S2048x8x512 .f32 → A F S_ .f32 → A F S2048x512 .f32),
    reshape main_v322 main_v323 (rfl : (.f32 : EltTy) = .f32) shapeCasts_S2048x512_S2x1024x512 ]

/-- All of @main's operations, in order. -/
def ops : List (HloOp τ sig (Elt F)) :=
  start ++ (step0 ++ (step1 ++ (step2 ++ (step3 ++ (step4 ++ (step5 ++ (step6 ++ (cents ++ (dists ++ (keys ++ (sorted ++ (picks ++ (offsets ++ (lin1 ++ (bn1 ++ (lin2 ++ (bn2 ++ (lin3 ++ (bn3 ++ (pool ++ (cat ++ (lin4 ++ (bn4 ++ (lin5 ++ (bn5 ++ (lin6 ++ (bn6 ++ (fin))))))))))))))))))))))))))))

end Cert.ReferenceIdeal.Value

end
-- ==== Proof.Ref.Run.lean ====
/- The reference's run: @main is the line of its operations, every execution ends with each buffer at what the line leaves in
    it, and the arguments are never written. -/
module

public import proofs.«01_k».proof.Proof.Ref.Ops

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem main_eq (c : Dev nD) : main (F := F) c = seq ops := rfl

theorem scopedRefs_eq : (Finset.univ.filter fun b : Ref sig .tc => b.isScoped) = ∅ := by decide +kernel
theorem scopedSems_eq : (Finset.univ.filter fun sm : SemLoc sig => sm.isScoped .tc) = ∅ := by decide +kernel

/-- Every operation's buffers are the TensorCore's. -/
theorem ops_sub : (ops : List (HloOp τ sig (Elt F))).Forall fun op => op.bufs ⊆ tcRefs τ sig := by
  simp only [ops, List.forall_append]
  exact ⟨⟨reshape_bufs_sub .., nullary_bufs_sub .., unary_bufs_sub .., unary_bufs_sub ..⟩,
    ⟨unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩,
    ⟨unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩,
    ⟨unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩,
    ⟨unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩,
    ⟨unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩,
    ⟨unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩,
    ⟨unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩,
    nary_bufs_sub ..,
    ⟨unary_bufs_sub .., unary_bufs_sub .., unary_bufs_sub .., unary_bufs_sub .., binary_bufs_sub .., binary_bufs_sub .., nullary_bufs_sub .., binary_bufs_sub ..⟩,
    ⟨nullary_bufs_sub .., unary_bufs_sub .., nullary_bufs_sub .., unary_bufs_sub .., binary_bufs_sub .., nullary_bufs_sub .., unary_bufs_sub .., unary_bufs_sub .., ternary_bufs_sub ..⟩,
    ⟨unary_bufs_sub .., unary_bufs_sub ..⟩,
    ⟨nullary_bufs_sub .., unary_bufs_sub .., binary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub ..⟩,
    ⟨binary_bufs_sub .., unary_bufs_sub .., unary_bufs_sub .., binary_bufs_sub .., reshape_bufs_sub ..⟩,
    ⟨binary_bufs_sub .., unary_bufs_sub .., unary_bufs_sub .., binary_bufs_sub ..⟩,
    ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    ⟨binary_bufs_sub .., unary_bufs_sub .., unary_bufs_sub .., binary_bufs_sub ..⟩,
    ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    ⟨binary_bufs_sub .., unary_bufs_sub .., unary_bufs_sub .., binary_bufs_sub ..⟩,
    ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    ⟨reshape_bufs_sub .., nullary_bufs_sub .., binary_bufs_sub ..⟩,
    ⟨binary_bufs_sub .., reshape_bufs_sub ..⟩,
    ⟨binary_bufs_sub .., unary_bufs_sub .., unary_bufs_sub .., binary_bufs_sub ..⟩,
    ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    ⟨binary_bufs_sub .., unary_bufs_sub .., unary_bufs_sub .., binary_bufs_sub ..⟩,
    ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    ⟨binary_bufs_sub .., unary_bufs_sub .., unary_bufs_sub .., binary_bufs_sub ..⟩,
    ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    ⟨reshape_bufs_sub .., nullary_bufs_sub .., binary_bufs_sub .., reshape_bufs_sub ..⟩⟩

/-- Every operation determines what it writes. -/
theorem ops_fresh : ∀ op ∈ (ops : List (HloOp τ sig (Elt F))), op.fresh = ∅ := by
  rw [← List.forall_iff_forall_mem]
  simp only [ops, List.forall_append]
  exact ⟨⟨rfl, rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl, rfl, rfl⟩,
    rfl,
    ⟨rfl, rfl, rfl, rfl, rfl, rfl, rfl, rfl⟩,
    ⟨rfl, rfl, rfl, rfl, rfl, rfl, rfl, rfl, rfl⟩,
    ⟨rfl, rfl⟩,
    ⟨rfl, rfl, rfl, rfl, rfl, rfl, rfl, rfl, rfl, rfl, rfl, rfl, rfl, rfl⟩,
    ⟨rfl, rfl, rfl, rfl, rfl⟩,
    ⟨rfl, rfl, rfl, rfl⟩,
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    ⟨rfl, rfl, rfl, rfl⟩,
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    ⟨rfl, rfl, rfl, rfl⟩,
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    ⟨rfl, rfl, rfl⟩,
    ⟨rfl, rfl⟩,
    ⟨rfl, rfl, rfl, rfl⟩,
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    ⟨rfl, rfl, rfl, rfl⟩,
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    ⟨rfl, rfl, rfl, rfl⟩,
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    ⟨rfl, rfl, rfl, rfl⟩⟩

/-- Every execution of @main ends with each buffer at what the operations leave in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ fun _ => ops_fresh

end Cert.ReferenceIdeal.Value

end
-- ==== Proof.Ref.Writes.lean ====
/- What each group of the reference's operations writes, and that the program leaves its arguments alone. -/
module

public import proofs.«01_k».proof.Proof.Ref.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev start_W : List (Ref sig .tc) := [main_v0, main_cst, main_v1, main_v2]
theorem start_keep (V : Valuation τ sig (Elt F)) {r : Ref sig .tc} (h : r ∉ start_W) :
    after start V (Proc.devRef .tc r) = V (Proc.devRef .tc r) := after_unwritten start_W rfl h V

abbrev step0_W : List (Ref sig .tc) := [main_v3, main_v4, main_v5, main_cst_0, main_v6, main_v7, main_call0_v0, main_call0_cst, main_call0_c, main_call0_v1_0, main_v8, main_v9, main_c, main_v10, main_v11, main_c_1, main_v12, main_v13, main_v14, main_v15, main_v16]
theorem step0_keep (V : Valuation τ sig (Elt F)) {r : Ref sig .tc} (h : r ∉ step0_W) :
    after step0 V (Proc.devRef .tc r) = V (Proc.devRef .tc r) := after_unwritten step0_W rfl h V

abbrev step1_W : List (Ref sig .tc) := [main_v17, main_v18, main_v19, main_cst_2, main_v20, main_v21, main_call1_v0, main_call1_cst, main_call1_c, main_call1_v1_0, main_v22, main_v23, main_c_3, main_v24, main_v25, main_c_4, main_v26, main_v27, main_v28, main_v29, main_v30]
theorem step1_keep (V : Valuation τ sig (Elt F)) {r : Ref sig .tc} (h : r ∉ step1_W) :
    after step1 V (Proc.devRef .tc r) = V (Proc.devRef .tc r) := after_unwritten step1_W rfl h V

abbrev step2_W : List (Ref sig .tc) := [main_v31, main_v32, main_v33, main_cst_5, main_v34, main_v35, main_call2_v0, main_call2_cst, main_call2_c, main_call2_v1_0, main_v36, main_v37, main_c_6, main_v38, main_v39, main_c_7, main_v40, main_v41, main_v42, main_v43, main_v44]
theorem step2_keep (V : Valuation τ sig (Elt F)) {r : Ref sig .tc} (h : r ∉ step2_W) :
    after step2 V (Proc.devRef .tc r) = V (Proc.devRef .tc r) := after_unwritten step2_W rfl h V

abbrev step3_W : List (Ref sig .tc) := [main_v45, main_v46, main_v47, main_cst_8, main_v48, main_v49, main_call3_v0, main_call3_cst, main_call3_c, main_call3_v1_0, main_v50, main_v51, main_c_9, main_v52, main_v53, main_c_10, main_v54, main_v55, main_v56, main_v57, main_v58]
theorem step3_keep (V : Valuation τ sig (Elt F)) {r : Ref sig .tc} (h : r ∉ step3_W) :
    after step3 V (Proc.devRef .tc r) = V (Proc.devRef .tc r) := after_unwritten step3_W rfl h V

abbrev step4_W : List (Ref sig .tc) := [main_v59, main_v60, main_v61, main_cst_11, main_v62, main_v63, main_call4_v0, main_call4_cst, main_call4_c, main_call4_v1_0, main_v64, main_v65, main_c_12, main_v66, main_v67, main_c_13, main_v68, main_v69, main_v70, main_v71, main_v72]
theorem step4_keep (V : Valuation τ sig (Elt F)) {r : Ref sig .tc} (h : r ∉ step4_W) :
    after step4 V (Proc.devRef .tc r) = V (Proc.devRef .tc r) := after_unwritten step4_W rfl h V

abbrev step5_W : List (Ref sig .tc) := [main_v73, main_v74, main_v75, main_cst_14, main_v76, main_v77, main_call5_v0, main_call5_cst, main_call5_c, main_call5_v1_0, main_v78, main_v79, main_c_15, main_v80, main_v81, main_c_16, main_v82, main_v83, main_v84, main_v85, main_v86]
theorem step5_keep (V : Valuation τ sig (Elt F)) {r : Ref sig .tc} (h : r ∉ step5_W) :
    after step5 V (Proc.devRef .tc r) = V (Proc.devRef .tc r) := after_unwritten step5_W rfl h V

abbrev step6_W : List (Ref sig .tc) := [main_v87, main_v88, main_v89, main_cst_17, main_v90, main_v91, main_call6_v0, main_call6_cst, main_call6_c, main_call6_v1_0, main_v92, main_v93, main_c_18, main_v94, main_v95, main_c_19, main_v96, main_v97, main_v98, main_v99, main_v100]
theorem step6_keep (V : Valuation τ sig (Elt F)) {r : Ref sig .tc} (h : r ∉ step6_W) :
    after step6 V (Proc.devRef .tc r) = V (Proc.devRef .tc r) := after_unwritten step6_W rfl h V

abbrev cents_W : List (Ref sig .tc) := [main_v101]
theorem cents_keep (V : Valuation τ sig (Elt F)) {r : Ref sig .tc} (h : r ∉ cents_W) :
    after cents V (Proc.devRef .tc r) = V (Proc.devRef .tc r) := after_unwritten cents_W rfl h V

abbrev dists_W : List (Ref sig .tc) := [main_v102, main_v103, main_v104, main_v105, main_v106, main_v107, main_cst_20, main_v108]
theorem dists_keep (V : Valuation τ sig (Elt F)) {r : Ref sig .tc} (h : r ∉ dists_W) :
    after dists V (Proc.devRef .tc r) = V (Proc.devRef .tc r) := after_unwritten dists_W rfl h V

abbrev keys_W : List (Ref sig .tc) := [main_v109, main_v110, main_cst_21, main_v111, main_v112, main_c_22, main_call7_v0, main_call7_v1, main_v113]
theorem keys_keep (V : Valuation τ sig (Elt F)) {r : Ref sig .tc} (h : r ∉ keys_W) :
    after keys V (Proc.devRef .tc r) = V (Proc.devRef .tc r) := after_unwritten keys_W rfl h V

abbrev sorted_W : List (Ref sig .tc) := [main_v114, main_v115]
theorem sorted_keep (V : Valuation τ sig (Elt F)) {r : Ref sig .tc} (h : r ∉ sorted_W) :
    after sorted V (Proc.devRef .tc r) = V (Proc.devRef .tc r) := after_unwritten sorted_W rfl h V

abbrev picks_W : List (Ref sig .tc) := [main_c_23, main_v116, main_v117, main_v118, main_call9_v0, main_v119, main_c_24, main_v120, main_v121, main_c_25, main_v122, main_v123, main_v124, main_v125]
theorem picks_keep (V : Valuation τ sig (Elt F)) {r : Ref sig .tc} (h : r ∉ picks_W) :
    after picks V (Proc.devRef .tc r) = V (Proc.devRef .tc r) := after_unwritten picks_W rfl h V

abbrev offsets_W : List (Ref sig .tc) := [main_v126, main_v127, main_v128, main_v129, main_v130]
theorem offsets_keep (V : Valuation τ sig (Elt F)) {r : Ref sig .tc} (h : r ∉ offsets_W) :
    after offsets V (Proc.devRef .tc r) = V (Proc.devRef .tc r) := after_unwritten offsets_W rfl h V

abbrev lin1_W : List (Ref sig .tc) := [main_v131, main_v132, main_v133, main_v134]
theorem lin1_keep (V : Valuation τ sig (Elt F)) {r : Ref sig .tc} (h : r ∉ lin1_W) :
    after lin1 V (Proc.devRef .tc r) = V (Proc.devRef .tc r) := after_unwritten lin1_W rfl h V

abbrev bn1_W : List (Ref sig .tc) := [main_cst_26, main_v135, main_cst_27, main_v136, main_v137, main_v138, main_v139, main_v140, main_v141, main_cst_28, main_v142, main_cst_29, main_v143, main_v144, main_v145, main_v146, main_v147, main_cst_30, main_v148, main_v149, main_v150, main_v151, main_v152, main_v153, main_v154, main_v155, main_v156, main_v157, main_v158, main_v159, main_cst_31, main_v160, main_v161]
theorem bn1_keep (V : Valuation τ sig (Elt F)) {r : Ref sig .tc} (h : r ∉ bn1_W) :
    after bn1 V (Proc.devRef .tc r) = V (Proc.devRef .tc r) := after_unwritten bn1_W rfl h V

abbrev lin2_W : List (Ref sig .tc) := [main_v162, main_v163, main_v164, main_v165]
theorem lin2_keep (V : Valuation τ sig (Elt F)) {r : Ref sig .tc} (h : r ∉ lin2_W) :
    after lin2 V (Proc.devRef .tc r) = V (Proc.devRef .tc r) := after_unwritten lin2_W rfl h V

abbrev bn2_W : List (Ref sig .tc) := [main_cst_32, main_v166, main_cst_33, main_v167, main_v168, main_v169, main_v170, main_v171, main_v172, main_cst_34, main_v173, main_cst_35, main_v174, main_v175, main_v176, main_v177, main_v178, main_cst_36, main_v179, main_v180, main_v181, main_v182, main_v183, main_v184, main_v185, main_v186, main_v187, main_v188, main_v189, main_v190, main_cst_37, main_v191, main_v192]
theorem bn2_keep (V : Valuation τ sig (Elt F)) {r : Ref sig .tc} (h : r ∉ bn2_W) :
    after bn2 V (Proc.devRef .tc r) = V (Proc.devRef .tc r) := after_unwritten bn2_W rfl h V

abbrev lin3_W : List (Ref sig .tc) := [main_v193, main_v194, main_v195, main_v196]
theorem lin3_keep (V : Valuation τ sig (Elt F)) {r : Ref sig .tc} (h : r ∉ lin3_W) :
    after lin3 V (Proc.devRef .tc r) = V (Proc.devRef .tc r) := after_unwritten lin3_W rfl h V

abbrev bn3_W : List (Ref sig .tc) := [main_cst_38, main_v197, main_cst_39, main_v198, main_v199, main_v200, main_v201, main_v202, main_v203, main_cst_40, main_v204, main_cst_41, main_v205, main_v206, main_v207, main_v208, main_v209, main_cst_42, main_v210, main_v211, main_v212, main_v213, main_v214, main_v215, main_v216, main_v217, main_v218, main_v219, main_v220, main_v221, main_cst_43, main_v222, main_v223]
theorem bn3_keep (V : Valuation τ sig (Elt F)) {r : Ref sig .tc} (h : r ∉ bn3_W) :
    after bn3 V (Proc.devRef .tc r) = V (Proc.devRef .tc r) := after_unwritten bn3_W rfl h V

abbrev pool_W : List (Ref sig .tc) := [main_v224, main_cst_44, main_v225]
theorem pool_keep (V : Valuation τ sig (Elt F)) {r : Ref sig .tc} (h : r ∉ pool_W) :
    after pool V (Proc.devRef .tc r) = V (Proc.devRef .tc r) := after_unwritten pool_W rfl h V

abbrev cat_W : List (Ref sig .tc) := [main_v226, main_v227]
theorem cat_keep (V : Valuation τ sig (Elt F)) {r : Ref sig .tc} (h : r ∉ cat_W) :
    after cat V (Proc.devRef .tc r) = V (Proc.devRef .tc r) := after_unwritten cat_W rfl h V

abbrev lin4_W : List (Ref sig .tc) := [main_v228, main_v229, main_v230, main_v231]
theorem lin4_keep (V : Valuation τ sig (Elt F)) {r : Ref sig .tc} (h : r ∉ lin4_W) :
    after lin4 V (Proc.devRef .tc r) = V (Proc.devRef .tc r) := after_unwritten lin4_W rfl h V

abbrev bn4_W : List (Ref sig .tc) := [main_cst_45, main_v232, main_cst_46, main_v233, main_v234, main_v235, main_v236, main_v237, main_v238, main_cst_47, main_v239, main_cst_48, main_v240, main_v241, main_v242, main_v243, main_v244, main_cst_49, main_v245, main_v246, main_v247, main_v248, main_v249, main_v250, main_v251, main_v252, main_v253, main_v254, main_v255, main_v256, main_cst_50, main_v257, main_v258]
theorem bn4_keep (V : Valuation τ sig (Elt F)) {r : Ref sig .tc} (h : r ∉ bn4_W) :
    after bn4 V (Proc.devRef .tc r) = V (Proc.devRef .tc r) := after_unwritten bn4_W rfl h V

abbrev lin5_W : List (Ref sig .tc) := [main_v259, main_v260, main_v261, main_v262]
theorem lin5_keep (V : Valuation τ sig (Elt F)) {r : Ref sig .tc} (h : r ∉ lin5_W) :
    after lin5 V (Proc.devRef .tc r) = V (Proc.devRef .tc r) := after_unwritten lin5_W rfl h V

abbrev bn5_W : List (Ref sig .tc) := [main_cst_51, main_v263, main_cst_52, main_v264, main_v265, main_v266, main_v267, main_v268, main_v269, main_cst_53, main_v270, main_cst_54, main_v271, main_v272, main_v273, main_v274, main_v275, main_cst_55, main_v276, main_v277, main_v278, main_v279, main_v280, main_v281, main_v282, main_v283, main_v284, main_v285, main_v286, main_v287, main_cst_56, main_v288, main_v289]
theorem bn5_keep (V : Valuation τ sig (Elt F)) {r : Ref sig .tc} (h : r ∉ bn5_W) :
    after bn5 V (Proc.devRef .tc r) = V (Proc.devRef .tc r) := after_unwritten bn5_W rfl h V

abbrev lin6_W : List (Ref sig .tc) := [main_v290, main_v291, main_v292, main_v293]
theorem lin6_keep (V : Valuation τ sig (Elt F)) {r : Ref sig .tc} (h : r ∉ lin6_W) :
    after lin6 V (Proc.devRef .tc r) = V (Proc.devRef .tc r) := after_unwritten lin6_W rfl h V

abbrev bn6_W : List (Ref sig .tc) := [main_cst_57, main_v294, main_cst_58, main_v295, main_v296, main_v297, main_v298, main_v299, main_v300, main_cst_59, main_v301, main_cst_60, main_v302, main_v303, main_v304, main_v305, main_v306, main_cst_61, main_v307, main_v308, main_v309, main_v310, main_v311, main_v312, main_v313, main_v314, main_v315, main_v316, main_v317, main_v318, main_cst_62, main_v319, main_v320]
theorem bn6_keep (V : Valuation τ sig (Elt F)) {r : Ref sig .tc} (h : r ∉ bn6_W) :
    after bn6 V (Proc.devRef .tc r) = V (Proc.devRef .tc r) := after_unwritten bn6_W rfl h V

abbrev fin_W : List (Ref sig .tc) := [main_v321, main_cst_63, main_v322, main_v323]
theorem fin_keep (V : Valuation τ sig (Elt F)) {r : Ref sig .tc} (h : r ∉ fin_W) :
    after fin V (Proc.devRef .tc r) = V (Proc.devRef .tc r) := after_unwritten fin_W rfl h V

/-- The arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

theorem start_args : ∀ a ∈ args, a ∉ start_W := by decide +kernel
theorem step0_args : ∀ a ∈ args, a ∉ step0_W := by decide +kernel
theorem step1_args : ∀ a ∈ args, a ∉ step1_W := by decide +kernel
theorem step2_args : ∀ a ∈ args, a ∉ step2_W := by decide +kernel
theorem step3_args : ∀ a ∈ args, a ∉ step3_W := by decide +kernel
theorem step4_args : ∀ a ∈ args, a ∉ step4_W := by decide +kernel
theorem step5_args : ∀ a ∈ args, a ∉ step5_W := by decide +kernel
theorem step6_args : ∀ a ∈ args, a ∉ step6_W := by decide +kernel
theorem cents_args : ∀ a ∈ args, a ∉ cents_W := by decide +kernel
theorem dists_args : ∀ a ∈ args, a ∉ dists_W := by decide +kernel
theorem keys_args : ∀ a ∈ args, a ∉ keys_W := by decide +kernel
theorem sorted_args : ∀ a ∈ args, a ∉ sorted_W := by decide +kernel
theorem picks_args : ∀ a ∈ args, a ∉ picks_W := by decide +kernel
theorem offsets_args : ∀ a ∈ args, a ∉ offsets_W := by decide +kernel
theorem lin1_args : ∀ a ∈ args, a ∉ lin1_W := by decide +kernel
theorem bn1_args : ∀ a ∈ args, a ∉ bn1_W := by decide +kernel
theorem lin2_args : ∀ a ∈ args, a ∉ lin2_W := by decide +kernel
theorem bn2_args : ∀ a ∈ args, a ∉ bn2_W := by decide +kernel
theorem lin3_args : ∀ a ∈ args, a ∉ lin3_W := by decide +kernel
theorem bn3_args : ∀ a ∈ args, a ∉ bn3_W := by decide +kernel
theorem pool_args : ∀ a ∈ args, a ∉ pool_W := by decide +kernel
theorem cat_args : ∀ a ∈ args, a ∉ cat_W := by decide +kernel
theorem lin4_args : ∀ a ∈ args, a ∉ lin4_W := by decide +kernel
theorem bn4_args : ∀ a ∈ args, a ∉ bn4_W := by decide +kernel
theorem lin5_args : ∀ a ∈ args, a ∉ lin5_W := by decide +kernel
theorem bn5_args : ∀ a ∈ args, a ∉ bn5_W := by decide +kernel
theorem lin6_args : ∀ a ∈ args, a ∉ lin6_W := by decide +kernel
theorem bn6_args : ∀ a ∈ args, a ∉ bn6_W := by decide +kernel
theorem fin_args : ∀ a ∈ args, a ∉ fin_W := by decide +kernel

/-- No operation writes an argument. -/
theorem ops_args (V : Valuation τ sig (Elt F)) (a : Ref sig .tc) (h : a ∈ args) : after ops V (Proc.devRef .tc a) = V (Proc.devRef .tc a) := by
  simp only [ops, after_append]
  rw [fin_keep _ (fin_args a h), bn6_keep _ (bn6_args a h), lin6_keep _ (lin6_args a h), bn5_keep _ (bn5_args a h), lin5_keep _ (lin5_args a h), bn4_keep _ (bn4_args a h), lin4_keep _ (lin4_args a h), cat_keep _ (cat_args a h), pool_keep _ (pool_args a h), bn3_keep _ (bn3_args a h), lin3_keep _ (lin3_args a h), bn2_keep _ (bn2_args a h), lin2_keep _ (lin2_args a h), bn1_keep _ (bn1_args a h), lin1_keep _ (lin1_args a h), offsets_keep _ (offsets_args a h), picks_keep _ (picks_args a h), sorted_keep _ (sorted_args a h), keys_keep _ (keys_args a h), dists_keep _ (dists_args a h), cents_keep _ (cents_args a h), step6_keep _ (step6_args a h), step5_keep _ (step5_args a h), step4_keep _ (step4_args a h), step3_keep _ (step3_args a h), step2_keep _ (step2_args a h), step1_keep _ (step1_args a h), step0_keep _ (step0_args a h), start_keep _ (start_args a h)]

end Cert.ReferenceIdeal.Value

end
-- ==== Proof.Ref.Frame.lean ====
/- The reference's frame. -/
module

public import proofs.«01_k».proof.Defs
public import proofs.«01_k».proof.Proof.Ref.Writes

@[expose] public section

set_option maxRecDepth 16384

noncomputable section

namespace Cert.Proof

open Idealize.ShloMosaic Idealize.ShloMosaic.TcCoe Idealize.SL.Sem Idealize.ShloMosaic.StableHlo Cert.ReferenceIdeal Cert.ReferenceIdeal.Value

/-- The reference runs, leaves its arguments alone and every semaphore at zero. -/
theorem frame_ReferenceIdeal : Cert.quiescent_ReferenceIdeal (hReferenceIdeal := Cert.ReferenceIdeal.Gen.facts) := fun m ρ _ =>
  (θ_run Cert.ReferenceIdeal.defs _ _).mono (fun r h => ⟨fun c =>
      have k : ∀ a ∈ args, r.2.mem ((c.tc : Thread nD τ).loc a) = m ((c.tc : Thread nD τ).loc a) := fun a ha => (h c a).trans (ops_args (launchContents m c) a ha)
      ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide), k main_arg17 (by decide), k main_arg18 (by decide), k main_arg19 (by decide), k main_arg20 (by decide), k main_arg21 (by decide), k main_arg22 (by decide), k main_arg23 (by decide), k main_arg24 (by decide)⟩,
      Idealize.ShloMosaic.sem_eq_zero_of_no_sems (by decide) r.2⟩)
    (Cert.ReferenceIdeal.Value.run (F := Ideal) m ρ)

end Cert.Proof

end
-- ==== Proof.Val.Spec.lean ====
/- The mathematics of one layer over the reals: batch normalisation over all rows with a positive part, and the affine map that
    follows; and the two spellings of it, the kernel's (sums and sums of squares, scale and shift) and the reference's (mean,
    mean squared deviation, quotient by a root), read at real entries. -/
module

public import Idealize.ShloMosaic.PureOps.Ideal
public import Idealize.ShloMosaic.Lib.IdealHost
public import Mathlib.Analysis.SpecialFunctions.Pow.NNReal
public import Mathlib.Algebra.BigOperators.Field
public import Mathlib.Tactic.FieldSimp

@[expose] public section

noncomputable section

namespace Cert.Spec

open Idealize.ShloMosaic

variable {ι C D : Type} [Fintype ι] [Fintype C]

/-- The number added to the variance: the rational of the float word of 1e-5. -/
def eps : ℝ := 10995116 / 2 ^ 40

theorem eps_pos : 0 < eps := by unfold eps; positivity

theorem ofBits_eps : Ideal.ofBits .f32 0x3727C5AC#32 = ((eps : ℝ) : EReal) := by
  unfold eps; simp [Ideal.ofBits, Ideal.ieee]; norm_num [← EReal.coe_mul]

theorem ofBits_n1 : Ideal.ofBits .f32 0x48000000#32 = ((131072 : ℝ) : EReal) := by
  simp [Ideal.ofBits, Ideal.ieee]; norm_num [← EReal.coe_mul]

theorem ofBits_n2 : Ideal.ofBits .f32 0x46800000#32 = ((16384 : ℝ) : EReal) := by
  simp [Ideal.ofBits, Ideal.ieee]; norm_num [← EReal.coe_mul]

theorem ofBits_i1 : Ideal.ofBits .f32 0x37000000#32 = (((131072 : ℝ)⁻¹ : ℝ) : EReal) := by
  simp [Ideal.ofBits, Ideal.ieee]; norm_num [← EReal.coe_mul]

theorem ofBits_i2 : Ideal.ofBits .f32 0x38800000#32 = (((16384 : ℝ)⁻¹ : ℝ) : EReal) := by
  simp [Ideal.ofBits, Ideal.ieee]; norm_num [← EReal.coe_mul]

/-- The sum of a column. -/
def sum1 (y : ι → C → ℝ) (c : C) : ℝ := ∑ r, y r c
/-- The sum of a column's squares. -/
def sum2 (y : ι → C → ℝ) (c : C) : ℝ := ∑ r, y r c * y r c
/-- A column's mean. -/
def mean (n : ℝ) (y : ι → C → ℝ) (c : C) : ℝ := sum1 y c / n
/-- A column's mean squared deviation. -/
def var (n : ℝ) (y : ι → C → ℝ) (c : C) : ℝ := (∑ r, (y r c - mean n y c) * (y r c - mean n y c)) / n
/-- Normalise every column, scale, shift, and keep the positive part. -/
def bn (n : ℝ) (y : ι → C → ℝ) (g be : C → ℝ) (r : ι) (c : C) : ℝ :=
  max ((y r c - mean n y c) / Real.sqrt (var n y c + eps) * g c + be c) 0
/-- The affine map of the rows. -/
def lin (z : ι → C → ℝ) (W : D → C → ℝ) (b : D → ℝ) (r : ι) (o : D) : ℝ := (∑ c, z r c * W o c) + b o

theorem var_nonneg (n : ℝ) (hn : 0 < n) (y : ι → C → ℝ) (c : C) : 0 ≤ var n y c :=
  div_nonneg (Finset.sum_nonneg fun _ _ => mul_self_nonneg _) hn.le

/-- The mean squared deviation is the mean square less the square of the mean. -/
theorem var_eq (n : ℝ) (hn : 0 < n) (hc : (Fintype.card ι : ℝ) = n) (y : ι → C → ℝ) (c : C) :
    var n y c = sum2 y c * n⁻¹ - sum1 y c * n⁻¹ * (sum1 y c * n⁻¹) := by
  have h : ∑ r, (y r c - mean n y c) * (y r c - mean n y c)
      = sum2 y c - 2 * mean n y c * sum1 y c + n * (mean n y c * mean n y c) := by
    unfold sum1 sum2
    rw [Finset.mul_sum, ← Finset.sum_sub_distrib, ← hc, ← nsmul_eq_mul, ← Finset.card_univ, ← Finset.sum_const,
      ← Finset.sum_add_distrib]
    exact Finset.sum_congr rfl fun r _ => by ring
  unfold var
  rw [h]
  unfold mean
  field_simp
  ring

/-- The kernel's spelling at real entries. -/
theorem ker_bn (n : ℝ) (hn : 0 < n) (hc : (Fintype.card ι : ℝ) = n) (y : ι → C → ℝ) (g be : C → ℝ) (r : ι) (c : C) :
    max ((y r c : EReal) * ((g c : EReal) * Ideal.rsqrt ((sum2 y c : EReal) * ((n⁻¹ : ℝ) : EReal)
        - (sum1 y c : EReal) * ((n⁻¹ : ℝ) : EReal) * ((sum1 y c : EReal) * ((n⁻¹ : ℝ) : EReal)) + (eps : EReal)))
      + ((be c : EReal) - (sum1 y c : EReal) * ((n⁻¹ : ℝ) : EReal) * ((g c : EReal) * Ideal.rsqrt ((sum2 y c : EReal) * ((n⁻¹ : ℝ) : EReal)
        - (sum1 y c : EReal) * ((n⁻¹ : ℝ) : EReal) * ((sum1 y c : EReal) * ((n⁻¹ : ℝ) : EReal)) + (eps : EReal))))) 0
      = ((bn n y g be r c : ℝ) : EReal) := by
  have hv : 0 < var n y c + eps := add_pos_of_nonneg_of_pos (var_nonneg n hn y c) eps_pos
  have hr : Ideal.rsqrt ((sum2 y c : EReal) * ((n⁻¹ : ℝ) : EReal)
        - (sum1 y c : EReal) * ((n⁻¹ : ℝ) : EReal) * ((sum1 y c : EReal) * ((n⁻¹ : ℝ) : EReal)) + (eps : EReal))
      = (((Real.sqrt (var n y c + eps))⁻¹ : ℝ) : EReal) := by
    rw [var_eq n hn hc] at hv ⊢
    rw [← EReal.coe_mul, ← EReal.coe_mul, ← EReal.coe_mul, ← EReal.coe_sub, ← EReal.coe_add, Ideal.rsqrt_coe, if_neg hv.le.not_gt, if_neg hv.ne']
  rw [hr]
  unfold bn mean
  rw [← EReal.coe_zero]
  simp only [← EReal.coe_mul, ← EReal.coe_sub, ← EReal.coe_add, ← EReal.coe_strictMono.monotone.map_max]
  congr 2
  rw [div_eq_mul_inv, div_eq_mul_inv]
  ring

/-- The reference's spelling at real entries. -/
theorem ref_bn (n : ℝ) (hn : 0 < n) (y : ι → C → ℝ) (g be : C → ℝ) (r : ι) (c : C) :
    max (Ideal.div ((y r c : EReal) - (mean n y c : EReal)) (Ideal.sqrt ((var n y c : EReal) + (eps : EReal))) * (g c : EReal) + (be c : EReal)) 0
      = ((bn n y g be r c : ℝ) : EReal) := by
  have hv : 0 < var n y c + eps := add_pos_of_nonneg_of_pos (var_nonneg n hn y c) eps_pos
  rw [← EReal.coe_add, Ideal.sqrt_coe, if_neg hv.le.not_gt, Ideal.div_coe (Real.sqrt_pos.mpr hv).ne', one_div]
  unfold bn
  rw [← EReal.coe_zero]
  simp only [← EReal.coe_mul, ← EReal.coe_sub, ← EReal.coe_add, ← EReal.coe_strictMono.monotone.map_max, div_eq_mul_inv]

theorem coe_sum {α : Type} (s : Finset α) (f : α → ℝ) : ∑ i ∈ s, (f i : EReal) = ((∑ i ∈ s, f i : ℝ) : EReal) :=
  (map_sum (⟨⟨fun x : ℝ => (x : EReal), rfl⟩, fun _ _ => EReal.coe_add _ _⟩ : ℝ →+ EReal) f s).symm

theorem coe_lin (z w : C → ℝ) (b : ℝ) : (∑ c, (z c : EReal) * (w c : EReal)) + (b : EReal) = (((∑ c, z c * w c) + b : ℝ) : EReal) := by
  simp only [← EReal.coe_mul, coe_sum, ← EReal.coe_add]

theorem coe_div (x n : ℝ) (hn : n ≠ 0) : Ideal.div (x : EReal) (n : EReal) = ((x / n : ℝ) : EReal) := by
  rw [Ideal.div_coe hn, ← EReal.coe_mul, one_div, div_eq_mul_inv]

/-- A function of the rows, as one of all naturals, zero past the last row. -/
def ext {R : ℕ} (z : Fin R → ℝ) (i : ℕ) : ℝ := if h : i < R then z ⟨i, h⟩ else 0

theorem ext_of {R : ℕ} (z : Fin R → ℝ) {i : ℕ} (h : i < R) : ext z i = z ⟨i, h⟩ := dif_pos h

theorem sum_ext {R : ℕ} (z : Fin R → ℝ) : ∑ i ∈ Finset.range R, ext z i = ∑ r, z r := by
  rw [Finset.sum_range]; exact Finset.sum_congr rfl fun r _ => ext_of z r.isLt

/-- One more block of `B` rows. -/
theorem block_step (f : ℕ → ℝ) (B n : ℕ) :
    ∑ i ∈ Finset.range ((n + 1) * B), f i = ∑ i ∈ Finset.range (n * B), f i + ∑ q : Fin B, f (n * B + q.val) := by
  rw [Nat.add_mul, Nat.one_mul, Finset.sum_range_add, Finset.sum_range fun x => f (n * B + x)]

/-- A running sum that every point adds a block of `B` rows to. -/
theorem run_sum (B N : ℕ) (f : ℕ → ℝ) (s : (n : ℕ) → n < N → EReal) (h0 : ∀ h, s 0 h = ((∑ q : Fin B, f (0 * B + q.val) : ℝ) : EReal))
    (hs : ∀ n h, s (n + 1) h = s n (Nat.lt_of_succ_lt h) + ((∑ q : Fin B, f ((n + 1) * B + q.val) : ℝ) : EReal)) (n : ℕ) (h : n < N) :
    s n h = ((∑ i ∈ Finset.range ((n + 1) * B), f i : ℝ) : EReal) := by
  induction n with
  | zero => rw [h0, block_step, Nat.zero_mul, Finset.range_zero, Finset.sum_empty, zero_add]
  | succ n ih => rw [hs, ih, block_step f B (n + 1), EReal.coe_add]

/-- The greatest of eight numbers. -/
def top8 (f : Fin 8 → ℝ) : ℝ := Finset.univ.sup' ⟨0, Finset.mem_univ _⟩ f

/-- A maximum of eight real entries, from the word of minus infinity. -/
theorem fold_max (f : Fin 8 → ℝ) : Finset.univ.fold max (Ideal.ofBits .f32 0xFF800000#32) (fun x => (f x : EReal)) = ((top8 f : ℝ) : EReal) := by
  have hb : Ideal.ofBits .f32 0xFF800000#32 = ⊥ := by simp [Ideal.ofBits, Ideal.ieee]
  rw [hb]
  show Finset.univ.sup (fun x => (f x : EReal)) = _
  refine le_antisymm (Finset.sup_le fun x hx => EReal.coe_le_coe_iff.mpr (Finset.le_sup' f hx)) ?_
  obtain ⟨x, hx, h⟩ := Finset.exists_mem_eq_sup' ⟨0, Finset.mem_univ _⟩ f
  unfold top8
  rw [h]
  exact Finset.le_sup (f := fun x => (f x : EReal)) hx

/-- Every centre's maximum over its eight samples: row `b * 64 + t * 8 + j` is sample `t` of centre `j` of cloud `b`. -/
def pool (z : Fin 131072 → C → ℝ) (r : Fin 16384) (c : C) : ℝ :=
  top8 fun t => z ⟨r.val / 8 * 64 + (t.val * 8 + r.val % 8), by have := r.isLt; have := t.isLt; omega⟩ c
/-- Every cloud's maximum over its eight centres. -/
def peak (z : Fin 16384 → C → ℝ) (b : Fin 2048) (c : C) : ℝ :=
  top8 fun j => z ⟨b.val * 8 + j.val, by have := b.isLt; have := j.isLt; omega⟩ c
/-- The three coordinates beside the features. -/
def cat (p q s : Fin 16384 → ℝ) (z : Fin 16384 → Fin 128 → ℝ) (r : Fin 16384) : Fin 131 → ℝ :=
  Fin.cons (p r) (Fin.cons (q r) (Fin.cons (s r) (z r)))

/-- An affine map of coordinates and features is that of the features and three products more. -/
theorem lin_cat (p q s : Fin 16384 → ℝ) (z : Fin 16384 → Fin 128 → ℝ) (W : D → Fin 131 → ℝ) (b : D → ℝ) (r : Fin 16384) (o : D) :
    lin (cat p q s z) W b r o = (∑ c : Fin 128, z r c * W o ⟨c.val + 3, by omega⟩) + p r * W o 0 + q r * W o 1 + s r * W o 2 + b o := by
  have h : ∑ k, cat p q s z r k * W o k = p r * W o 0 + (q r * W o 1 + (s r * W o 2 + ∑ c : Fin 128, z r c * W o ⟨c.val + 3, by omega⟩)) := by
    rw [Fin.sum_univ_succ, Fin.sum_univ_succ, Fin.sum_univ_succ]; rfl
  unfold lin
  rw [h]
  ring

end Cert.Spec

end
-- ==== Proof.Val.Arrs.lean ====
/- The arguments as arrays of real numbers, and the layers of the network on them. -/
module

public import proofs.«01_k».proof.Proof.Val.Spec
public import Idealize.ShloMosaic.Lib.Pointwise

@[expose] public section

noncomputable section

namespace Cert.Spec

open Idealize.ShloMosaic

/-- An array of extended reals. -/
abbrev Arr (s : Shape) : Type := FVec Ideal s .f32

/-- The arguments, by their positions. -/
structure Arrs where
  a0 : Arr ⟨3, ![2048, 64, 64]⟩
  a1 : Arr ⟨2, ![8, 64]⟩
  a2 : Arr ⟨2, ![2048, 8]⟩
  a3 : Arr ⟨2, ![2048, 8]⟩
  a4 : Arr ⟨2, ![2048, 8]⟩
  a5 : Arr ⟨1, ![64]⟩
  a6 : Arr ⟨1, ![64]⟩
  a7 : Arr ⟨2, ![64, 64]⟩
  a8 : Arr ⟨1, ![64]⟩
  a9 : Arr ⟨1, ![64]⟩
  a10 : Arr ⟨1, ![64]⟩
  a11 : Arr ⟨2, ![128, 64]⟩
  a12 : Arr ⟨1, ![128]⟩
  a13 : Arr ⟨1, ![128]⟩
  a14 : Arr ⟨1, ![128]⟩
  a15 : Arr ⟨2, ![128, 131]⟩
  a16 : Arr ⟨1, ![128]⟩
  a17 : Arr ⟨1, ![128]⟩
  a18 : Arr ⟨1, ![128]⟩
  a19 : Arr ⟨2, ![256, 128]⟩
  a20 : Arr ⟨1, ![256]⟩
  a21 : Arr ⟨1, ![256]⟩
  a22 : Arr ⟨1, ![256]⟩
  a23 : Arr ⟨2, ![512, 256]⟩
  a24 : Arr ⟨1, ![512]⟩
  a25 : Arr ⟨1, ![512]⟩
  a26 : Arr ⟨1, ![512]⟩

/-- The rows of a box of 2048 groups of 64. -/
def rows {n : ℕ} (x : Arr ⟨3, ![2048, 64, n]⟩) (r : Fin 131072) (k : Fin n) : ℝ := (x (ix3 ⟨r.val / 64, by omega⟩ ⟨r.val % 64, by omega⟩ k)).toReal
/-- A coordinate of every centre. -/
def coord (x : Arr ⟨2, ![2048, 8]⟩) (r : Fin 16384) : ℝ := (x (ix2 ⟨r.val / 8, by omega⟩ ⟨r.val % 8, by omega⟩)).toReal
/-- A vector of reals. -/
def vec {n : ℕ} (x : Arr ⟨1, ![n]⟩) (k : Fin n) : ℝ := (x (ix1 k)).toReal
/-- A matrix of reals. -/
def mat {n p : ℕ} (x : Arr ⟨2, ![n, p]⟩) (o : Fin n) (k : Fin p) : ℝ := (x (ix2 o k)).toReal

theorem coe_of {x : EReal} (h : ∃ r : ℝ, x = (r : EReal)) : x = ((x.toReal : ℝ) : EReal) := by
  obtain ⟨r, rfl⟩ := h; rfl

namespace Arrs
variable (A : Arrs)

def z1 := bn 131072 (rows A.a0) (vec A.a5) (vec A.a6)
def y2 := lin A.z1 (mat A.a7) (vec A.a8)
def z2 := bn 131072 A.y2 (vec A.a9) (vec A.a10)
def y3 := lin A.z2 (mat A.a11) (vec A.a12)
def z3 := bn 131072 A.y3 (vec A.a13) (vec A.a14)
def x4 := cat (coord A.a2) (coord A.a3) (coord A.a4) (pool A.z3)
def y4 := lin A.x4 (mat A.a15) (vec A.a16)
def z4 := bn 16384 A.y4 (vec A.a17) (vec A.a18)
def y5 := lin A.z4 (mat A.a19) (vec A.a20)
def z5 := bn 16384 A.y5 (vec A.a21) (vec A.a22)
def y6 := lin A.z5 (mat A.a23) (vec A.a24)
def z6 := bn 16384 A.y6 (vec A.a25) (vec A.a26)
/-- The result: every cloud's features. -/
def out := peak A.z6

end Arrs

/-- Every entry is real, and two rows of `a1` hold the sums of the columns of the rows and of their squares. -/
structure Good (A : Arrs) : Prop where
  h0 : ∀ r k, A.a0 (ix3 ⟨r.val / 64, by omega⟩ ⟨r.val % 64, by omega⟩ k) = ((rows A.a0 r k : ℝ) : EReal)
  h1 : ∀ k, A.a1 (ix2 0 k) = ((sum1 (rows A.a0) k : ℝ) : EReal)
  h1' : ∀ k, A.a1 (ix2 1 k) = ((sum2 (rows A.a0) k : ℝ) : EReal)
  h2 : ∀ r : Fin 16384, A.a2 (ix2 ⟨r.val / 8, by omega⟩ ⟨r.val % 8, by omega⟩) = ((coord A.a2 r : ℝ) : EReal)
  h3 : ∀ r : Fin 16384, A.a3 (ix2 ⟨r.val / 8, by omega⟩ ⟨r.val % 8, by omega⟩) = ((coord A.a3 r : ℝ) : EReal)
  h4 : ∀ r : Fin 16384, A.a4 (ix2 ⟨r.val / 8, by omega⟩ ⟨r.val % 8, by omega⟩) = ((coord A.a4 r : ℝ) : EReal)
  h5 : ∀ k, A.a5 (ix1 k) = ((vec A.a5 k : ℝ) : EReal)
  h6 : ∀ k, A.a6 (ix1 k) = ((vec A.a6 k : ℝ) : EReal)
  h7 : ∀ o k, A.a7 (ix2 o k) = ((mat A.a7 o k : ℝ) : EReal)
  h8 : ∀ k, A.a8 (ix1 k) = ((vec A.a8 k : ℝ) : EReal)
  h9 : ∀ k, A.a9 (ix1 k) = ((vec A.a9 k : ℝ) : EReal)
  h10 : ∀ k, A.a10 (ix1 k) = ((vec A.a10 k : ℝ) : EReal)
  h11 : ∀ o k, A.a11 (ix2 o k) = ((mat A.a11 o k : ℝ) : EReal)
  h12 : ∀ k, A.a12 (ix1 k) = ((vec A.a12 k : ℝ) : EReal)
  h13 : ∀ k, A.a13 (ix1 k) = ((vec A.a13 k : ℝ) : EReal)
  h14 : ∀ k, A.a14 (ix1 k) = ((vec A.a14 k : ℝ) : EReal)
  h15 : ∀ o k, A.a15 (ix2 o k) = ((mat A.a15 o k : ℝ) : EReal)
  h16 : ∀ k, A.a16 (ix1 k) = ((vec A.a16 k : ℝ) : EReal)
  h17 : ∀ k, A.a17 (ix1 k) = ((vec A.a17 k : ℝ) : EReal)
  h18 : ∀ k, A.a18 (ix1 k) = ((vec A.a18 k : ℝ) : EReal)
  h19 : ∀ o k, A.a19 (ix2 o k) = ((mat A.a19 o k : ℝ) : EReal)
  h20 : ∀ k, A.a20 (ix1 k) = ((vec A.a20 k : ℝ) : EReal)
  h21 : ∀ k, A.a21 (ix1 k) = ((vec A.a21 k : ℝ) : EReal)
  h22 : ∀ k, A.a22 (ix1 k) = ((vec A.a22 k : ℝ) : EReal)
  h23 : ∀ o k, A.a23 (ix2 o k) = ((mat A.a23 o k : ℝ) : EReal)
  h24 : ∀ k, A.a24 (ix1 k) = ((vec A.a24 k : ℝ) : EReal)
  h25 : ∀ k, A.a25 (ix1 k) = ((vec A.a25 k : ℝ) : EReal)
  h26 : ∀ k, A.a26 (ix1 k) = ((vec A.a26 k : ℝ) : EReal)

end Cert.Spec
-- ==== Proof.Val.Host.lean ====
/- What the host operations between the regions leave, entry by entry: the parameters as rows, the weights transposed. -/
module

public import proofs.«01_k».proof.Proof.Mem.Hosts0
public import Idealize.ShloMosaic.Lib.Pointwise
public import Idealize.ShloMosaic.Lib.StableHlo.ReadAt

@[expose] public section

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo

variable (V : Valuation τ sig (Elt Ideal))

theorem h0_px (a : Fin 2048) (l : Fin 32) : after (hostOps0 (F := Ideal)) V (Proc.devRef .tc main_v3) (ix2 a l)
    = V (Proc.devRef .tc main_arg0) (ix4 ⟨a.val / 1024, by omega⟩ ⟨a.val % 1024, by omega⟩ l 0) := by
  after_reads_at

theorem h0_py (a : Fin 2048) (l : Fin 32) : after (hostOps0 (F := Ideal)) V (Proc.devRef .tc main_v5) (ix2 a l)
    = V (Proc.devRef .tc main_arg0) (ix4 ⟨a.val / 1024, by omega⟩ ⟨a.val % 1024, by omega⟩ l 1) := by
  after_reads_at

theorem h0_pz (a : Fin 2048) (l : Fin 32) : after (hostOps0 (F := Ideal)) V (Proc.devRef .tc main_v7) (ix2 a l)
    = V (Proc.devRef .tc main_arg0) (ix4 ⟨a.val / 1024, by omega⟩ ⟨a.val % 1024, by omega⟩ l 2) := by
  after_reads_at

theorem h0_8 (k : Fin 3) (o : Fin 64) : after (hostOps0 (F := Ideal)) V (Proc.devRef .tc main_v8) (ix2 k o)
    = V (Proc.devRef .tc main_arg1) (ix2 o k) := by
  after_reads_at

theorem h0_9 (o : Fin 64) : after (hostOps0 (F := Ideal)) V (Proc.devRef .tc main_v9) (ix2 0 o)
    = V (Proc.devRef .tc main_arg2) (ix1 o) := by
  after_reads_at

theorem h1_11 (r : Fin 131072) (k : Fin 64) : after (hostOps1 (F := Ideal)) V (Proc.devRef .tc main_v11) (ix2 r k)
    = V (Proc.devRef .tc main_v10_0) (ix3 ⟨r.val / 64, by omega⟩ ⟨r.val % 64, by omega⟩ k) := by
  after_reads_at

theorem h1_12 (k : Fin 64) : after (hostOps1 (F := Ideal)) V (Proc.devRef .tc main_v12) (ix2 0 k)
    = V (Proc.devRef .tc main_arg3) (ix1 k) := by
  after_reads_at

theorem h1_13 (k : Fin 64) : after (hostOps1 (F := Ideal)) V (Proc.devRef .tc main_v13) (ix2 0 k)
    = V (Proc.devRef .tc main_arg4) (ix1 k) := by
  after_reads_at

theorem h1_14 (k : Fin 64) (o : Fin 64) : after (hostOps1 (F := Ideal)) V (Proc.devRef .tc main_v14) (ix2 k o)
    = V (Proc.devRef .tc main_arg5) (ix2 o k) := by
  after_reads_at

theorem h1_15 (k : Fin 64) : after (hostOps1 (F := Ideal)) V (Proc.devRef .tc main_v15) (ix2 0 k)
    = V (Proc.devRef .tc main_arg6) (ix1 k) := by
  after_reads_at

theorem h2_17 (k : Fin 64) : after (hostOps2 (F := Ideal)) V (Proc.devRef .tc main_v17) (ix2 0 k)
    = V (Proc.devRef .tc main_arg7) (ix1 k) := by
  after_reads_at

theorem h2_18 (k : Fin 64) : after (hostOps2 (F := Ideal)) V (Proc.devRef .tc main_v18) (ix2 0 k)
    = V (Proc.devRef .tc main_arg8) (ix1 k) := by
  after_reads_at

theorem h2_19 (k : Fin 64) (o : Fin 128) : after (hostOps2 (F := Ideal)) V (Proc.devRef .tc main_v19) (ix2 k o)
    = V (Proc.devRef .tc main_arg9) (ix2 o k) := by
  after_reads_at

theorem h2_20 (k : Fin 128) : after (hostOps2 (F := Ideal)) V (Proc.devRef .tc main_v20) (ix2 0 k)
    = V (Proc.devRef .tc main_arg10) (ix1 k) := by
  after_reads_at

theorem h3_22 (a : Fin 2048) (s : Fin 64) (k : Fin 128) : after (hostOps3 (F := Ideal)) V (Proc.devRef .tc main_v22) (ix3 a s k)
    = V (Proc.devRef .tc main_v21_0) (ix2 ⟨a.val * 64 + s.val, by omega⟩ k) := by
  after_reads_at

theorem h3_38 (k o : Fin 128) : after (hostOps3 (F := Ideal)) V (Proc.devRef .tc main_v38) (ix2 k o)
    = V (Proc.devRef .tc main_arg13) (ix2 o ⟨k.val + 3, by omega⟩) := by
  after_reads_at
  simp only [Nat.add_comm]

theorem h3_23 (k : Fin 128) : after (hostOps3 (F := Ideal)) V (Proc.devRef .tc main_v23) (ix2 0 k)
    = V (Proc.devRef .tc main_arg11) (ix1 k) := by
  after_reads_at

theorem h3_24 (k : Fin 128) : after (hostOps3 (F := Ideal)) V (Proc.devRef .tc main_v24) (ix2 0 k)
    = V (Proc.devRef .tc main_arg12) (ix1 k) := by
  after_reads_at

theorem h3_25 (r : Fin 16384) : after (hostOps3 (F := Ideal)) V (Proc.devRef .tc main_v25) (ix2 r 0)
    = V (Proc.devRef .tc main_v10_1) (ix2 ⟨r.val / 8, by omega⟩ ⟨r.val % 8, by omega⟩) := by
  after_reads_at

theorem h3_26 (r : Fin 16384) : after (hostOps3 (F := Ideal)) V (Proc.devRef .tc main_v26) (ix2 r 0)
    = V (Proc.devRef .tc main_v10_2) (ix2 ⟨r.val / 8, by omega⟩ ⟨r.val % 8, by omega⟩) := by
  after_reads_at

theorem h3_27 (r : Fin 16384) : after (hostOps3 (F := Ideal)) V (Proc.devRef .tc main_v27) (ix2 r 0)
    = V (Proc.devRef .tc main_v10_3) (ix2 ⟨r.val / 8, by omega⟩ ⟨r.val % 8, by omega⟩) := by
  after_reads_at

theorem h3_30 (o : Fin 128) : after (hostOps3 (F := Ideal)) V (Proc.devRef .tc main_v30) (ix2 0 o)
    = V (Proc.devRef .tc main_arg13) (ix2 o 0) := by
  after_reads_at

theorem h3_33 (o : Fin 128) : after (hostOps3 (F := Ideal)) V (Proc.devRef .tc main_v33) (ix2 0 o)
    = V (Proc.devRef .tc main_arg13) (ix2 o 1) := by
  after_reads_at

theorem h3_36 (o : Fin 128) : after (hostOps3 (F := Ideal)) V (Proc.devRef .tc main_v36) (ix2 0 o)
    = V (Proc.devRef .tc main_arg13) (ix2 o 2) := by
  after_reads_at

theorem h3_39 (k : Fin 128) : after (hostOps3 (F := Ideal)) V (Proc.devRef .tc main_v39) (ix2 0 k)
    = V (Proc.devRef .tc main_arg14) (ix1 k) := by
  after_reads_at

theorem h4_41 (k : Fin 128) : after (hostOps4 (F := Ideal)) V (Proc.devRef .tc main_v41) (ix2 0 k)
    = V (Proc.devRef .tc main_arg15) (ix1 k) := by
  after_reads_at

theorem h4_42 (k : Fin 128) : after (hostOps4 (F := Ideal)) V (Proc.devRef .tc main_v42) (ix2 0 k)
    = V (Proc.devRef .tc main_arg16) (ix1 k) := by
  after_reads_at

theorem h4_43 (k : Fin 128) (o : Fin 256) : after (hostOps4 (F := Ideal)) V (Proc.devRef .tc main_v43) (ix2 k o)
    = V (Proc.devRef .tc main_arg17) (ix2 o k) := by
  after_reads_at

theorem h4_44 (k : Fin 256) : after (hostOps4 (F := Ideal)) V (Proc.devRef .tc main_v44) (ix2 0 k)
    = V (Proc.devRef .tc main_arg18) (ix1 k) := by
  after_reads_at

theorem h5_46 (k : Fin 256) : after (hostOps5 (F := Ideal)) V (Proc.devRef .tc main_v46) (ix2 0 k)
    = V (Proc.devRef .tc main_arg19) (ix1 k) := by
  after_reads_at

theorem h5_47 (k : Fin 256) : after (hostOps5 (F := Ideal)) V (Proc.devRef .tc main_v47) (ix2 0 k)
    = V (Proc.devRef .tc main_arg20) (ix1 k) := by
  after_reads_at

theorem h5_48 (k : Fin 256) (o : Fin 512) : after (hostOps5 (F := Ideal)) V (Proc.devRef .tc main_v48) (ix2 k o)
    = V (Proc.devRef .tc main_arg21) (ix2 o k) := by
  after_reads_at

theorem h5_49 (k : Fin 512) : after (hostOps5 (F := Ideal)) V (Proc.devRef .tc main_v49) (ix2 0 k)
    = V (Proc.devRef .tc main_arg22) (ix1 k) := by
  after_reads_at

theorem h6_51 (k : Fin 512) : after (hostOps6 (F := Ideal)) V (Proc.devRef .tc main_v51) (ix2 0 k)
    = V (Proc.devRef .tc main_arg23) (ix1 k) := by
  after_reads_at

theorem h6_52 (k : Fin 512) : after (hostOps6 (F := Ideal)) V (Proc.devRef .tc main_v52) (ix2 0 k)
    = V (Proc.devRef .tc main_arg24) (ix1 k) := by
  after_reads_at

theorem h7_54 (p : Fin 2) (q : Fin 1024) (o : Fin 512) : after (hostOps7 (F := Ideal)) V (Proc.devRef .tc main_v54) (ix3 p q o)
    = V (Proc.devRef .tc main_v53) (ix2 ⟨p.val * 1024 + q.val, by omega⟩ o) := by
  after_reads_at

end Cert.KernelIdeal.Val
-- ==== Proof.Val.Far.lean ====
/- The mathematics of the grouping, cloud by cloud: the farthest-point walk over a cloud's 32 points, the points that lie in the
    ball about a centre in their order, and the padding of that list by its first entry. -/
module

public import proofs.«01_k».proof.Proof.Val.Spec

@[expose] public section

set_option maxRecDepth 16384

noncomputable section

namespace Cert.Spec

open Idealize.ShloMosaic

/-- The lane `f` is the first at which `d` is greatest. -/
def IsFirst (d : Fin 32 → ℝ) (f : Fin 32) : Prop := (∀ l, d l ≤ d f) ∧ ∀ l, d l = d f → f ≤ l

theorem exists_first (d : Fin 32 → ℝ) : ∃ f, IsFirst d f := by
  obtain ⟨m, -, hm⟩ := Finset.exists_max_image Finset.univ d ⟨0, Finset.mem_univ _⟩
  obtain ⟨f, hf, hl⟩ := Finset.exists_min_image (Finset.univ.filter fun l => d l = d m) id ⟨m, by simp⟩
  have hf : d f = d m := (Finset.mem_filter.mp hf).2
  exact ⟨f, fun l => hf ▸ hm l (Finset.mem_univ _), fun l h => hl l (Finset.mem_filter.mpr ⟨Finset.mem_univ _, h.trans hf⟩)⟩

/-- The first lane at which `d` is greatest. -/
def first (d : Fin 32 → ℝ) : Fin 32 := (exists_first d).choose

theorem first_spec (d : Fin 32 → ℝ) : IsFirst d (first d) := (exists_first d).choose_spec

/-- The squared distance of two of a cloud's points. -/
def sqd (x y z : Fin 32 → ℝ) (f l : Fin 32) : ℝ := (x l - x f) * (x l - x f) + (y l - y f) * (y l - y f) + (z l - z f) * (z l - z f)

/-- The farthest-point walk: the lane of centre `n`, and every point's distance to the nearest of the centres up to it. -/
def walk (x y z : Fin 32 → ℝ) : ℕ → Fin 32 × (Fin 32 → ℝ)
  | 0 => (0, fun l => min 10000000000 (sqd x y z 0 l))
  | n + 1 => (first (walk x y z n).2, fun l => min ((walk x y z n).2 l) (sqd x y z (first (walk x y z n).2) l))

/-- The lane of centre `n`. -/
def far (x y z : Fin 32 → ℝ) (n : ℕ) : Fin 32 := (walk x y z n).1
/-- The distances to the nearest of the centres up to `n`. -/
def near (x y z : Fin 32 → ℝ) (n : ℕ) : Fin 32 → ℝ := (walk x y z n).2

/-- The square of the radius: the rational of the float word of 0.16. -/
def rad : ℝ := 10737418 / 2 ^ 26

theorem rad_nonneg : 0 ≤ rad := by unfold rad; positivity

theorem ofBits_rad : Ideal.ofBits .f32 0x3E23D70A#32 = ((rad : ℝ) : EReal) := by
  unfold rad; simp [Ideal.ofBits, Ideal.ieee]; norm_num [← EReal.coe_mul]

theorem ofBits_far : Ideal.ofBits .f32 0x501502F9#32 = ((10000000000 : ℝ) : EReal) := by
  simp [Ideal.ofBits, Ideal.ieee]
  change ((9765625 : ℝ) : EReal) * ((2 : ℝ) : EReal) ^ 10 = _
  rw [← EReal.coe_pow, ← EReal.coe_mul]
  norm_num

open Classical in
/-- The lanes in the ball about a lane, in order. -/
def ball (x y z : Fin 32 → ℝ) (f : Fin 32) : List (Fin 32) := (List.finRange 32).filter fun l => decide (sqd x y z f l ≤ rad)

theorem mem_ball (x y z : Fin 32 → ℝ) (f l : Fin 32) : l ∈ ball x y z f ↔ sqd x y z f l ≤ rad := by
  simp [ball]

theorem self_mem_ball (x y z : Fin 32 → ℝ) (f : Fin 32) : f ∈ ball x y z f := by
  rw [mem_ball]; simpa [sqd] using rad_nonneg

theorem ball_pos (x y z : Fin 32 → ℝ) (f : Fin 32) : 0 < (ball x y z f).length := List.length_pos_of_mem (self_mem_ball x y z f)

theorem ball_lt (x y z : Fin 32 → ℝ) (f : Fin 32) : (ball x y z f).Pairwise (· < ·) := (List.pairwise_lt_finRange 32).filter _

/-- Sample `t` of the ball about a lane: its lane number `t`, or its first one if it has no more than `t`. -/
def pick (x y z : Fin 32 → ℝ) (f : Fin 32) (t : ℕ) : Fin 32 := ((ball x y z f)[t]?).getD ((ball x y z f)[0]'(ball_pos x y z f))

/-- In an ascending list the number of entries up to entry `t` is `t + 1`. -/
theorem count_le (L : List (Fin 32)) (h : L.Pairwise (· < ·)) (t : ℕ) (ht : t < L.length) : L.countP (fun a => decide (a ≤ L[t])) = t + 1 := by
  induction L generalizing t with
  | nil => simp at ht
  | cons a L ih =>
    rw [List.pairwise_cons] at h
    cases t with
    | zero =>
      have : L.countP (fun b => decide (b ≤ a)) = 0 := by
        rw [List.countP_eq_zero]; intro b hb; simpa using h.1 b hb
      simp [this]
    | succ t =>
      have ht : t < L.length := by simpa using ht
      have := ih h.2 t ht
      simp [List.countP_cons, this, (h.1 _ (List.getElem_mem ht)).le]

/-- A lane of an ascending list is its entry `t` just if `t + 1` entries come up to it. -/
theorem getElem?_iff (L : List (Fin 32)) (h : L.Pairwise (· < ·)) (t : ℕ) (l : Fin 32) :
    L[t]? = some l ↔ l ∈ L ∧ L.countP (fun a => decide (a ≤ l)) = t + 1 := by
  constructor
  · intro e
    obtain ⟨ht, rfl⟩ := List.getElem?_eq_some_iff.mp e
    exact ⟨List.getElem_mem ht, count_le L h t ht⟩
  · rintro ⟨hl, e⟩
    obtain ⟨n, hn, rfl⟩ := List.getElem_of_mem hl
    rw [count_le L h n hn] at e
    obtain rfl : n = t := by omega
    exact List.getElem?_eq_getElem hn

theorem sum_indicator (p : Fin 32 → Bool) : ∑ l : Fin 32, (if p l then (1 : ℝ) else 0) = (((List.finRange 32).countP p : ℕ) : ℝ) := by
  rw [Fin.sum_univ_def]
  generalize List.finRange 32 = L
  induction L with
  | nil => simp
  | cons a L ih => rw [List.map_cons, List.sum_cons, ih, List.countP_cons]; split <;> push_cast <;> ring

open Classical in
/-- The number of lanes up to `l` in the ball. -/
theorem rank_eq (x y z : Fin 32 → ℝ) (f l : Fin 32) :
    ∑ a : Fin 32, (if sqd x y z f a ≤ rad ∧ a ≤ l then (1 : ℝ) else 0) = (((ball x y z f).countP (fun a => decide (a ≤ l)) : ℕ) : ℝ) := by
  have := sum_indicator fun a => decide (a ≤ l) && decide (sqd x y z f a ≤ rad)
  rw [ball, List.countP_filter, ← this]
  refine Finset.sum_congr rfl fun a _ => ?_
  by_cases h1 : a ≤ l <;> by_cases h2 : sqd x y z f a ≤ rad <;> simp [h1, h2]

open Classical in
/-- The sum over the lanes of rank `t + 1` picks the entry of the ball's lane number `t`. -/
theorem sum_pick (x y z w : Fin 32 → ℝ) (f : Fin 32) (t : ℕ) :
    ∑ l : Fin 32, (if (∑ a : Fin 32, (if sqd x y z f a ≤ rad ∧ a ≤ l then (1 : ℝ) else 0)) = (t : ℝ) + 1 ∧ sqd x y z f l ≤ rad then w l else 0)
      = ((ball x y z f)[t]?.map w).getD 0 := by
  have e : ∀ l, ((∑ a : Fin 32, (if sqd x y z f a ≤ rad ∧ a ≤ l then (1 : ℝ) else 0)) = (t : ℝ) + 1 ∧ sqd x y z f l ≤ rad) ↔ (ball x y z f)[t]? = some l := by
    intro l
    rw [getElem?_iff _ (ball_lt x y z f), mem_ball, rank_eq, and_comm]
    refine and_congr_right fun _ => ?_
    rw [← Nat.cast_succ, Nat.cast_inj]
  simp only [e]
  cases h : (ball x y z f)[t]? with
  | none => simp
  | some m => simp

/-- Whether the ball has a lane number `t`, and which point is sample `t`, from the two sums that the kernel takes. -/
theorem pick_eq (x y z w : Fin 32 → ℝ) (f : Fin 32) (t : ℕ) :
    (if (1 / 2 : ℝ) < ((ball x y z f)[t]?.map fun _ => (1 : ℝ)).getD 0 then ((ball x y z f)[t]?.map w).getD 0 else ((ball x y z f)[0]?.map w).getD 0)
      = w (pick x y z f t) := by
  unfold pick
  cases h : (ball x y z f)[t]? with
  | none => norm_num [List.getElem?_eq_getElem (ball_pos x y z f)]
  | some m => norm_num

variable (x y z : Fin 2048 → Fin 32 → ℝ)

/-- A coordinate `w` of centre `r % 8` of cloud `r / 8`. -/
def cen (w : Fin 2048 → Fin 32 → ℝ) (r : Fin 16384) : ℝ :=
  w ⟨r.val / 8, by omega⟩ (far (x ⟨r.val / 8, by omega⟩) (y ⟨r.val / 8, by omega⟩) (z ⟨r.val / 8, by omega⟩) (r.val % 8))

/-- The lane of centre `r % 8` of cloud `r / 64`. -/
def lane (r : Fin 131072) : Fin 32 := far (x ⟨r.val / 64, by omega⟩) (y ⟨r.val / 64, by omega⟩) (z ⟨r.val / 64, by omega⟩) (r.val % 8)
/-- The lane of sample `r % 64 / 8` of the ball about it. -/
def samp (r : Fin 131072) : Fin 32 :=
  pick (x ⟨r.val / 64, by omega⟩) (y ⟨r.val / 64, by omega⟩) (z ⟨r.val / 64, by omega⟩) (lane x y z r) (r.val % 64 / 8)

/-- The offset of every sample from its centre. -/
def offs (r : Fin 131072) : Fin 3 → ℝ := fun k =>
  match k with
  | 0 => x ⟨r.val / 64, by omega⟩ (samp x y z r) - x ⟨r.val / 64, by omega⟩ (lane x y z r)
  | 1 => y ⟨r.val / 64, by omega⟩ (samp x y z r) - y ⟨r.val / 64, by omega⟩ (lane x y z r)
  | 2 => z ⟨r.val / 64, by omega⟩ (samp x y z r) - z ⟨r.val / 64, by omega⟩ (lane x y z r)

/-- Rows of 128 clouds, by place, cloud and centre. -/
theorem sum_rows (g : ℕ → ℝ) : ∑ t : Fin 8, ∑ a : Fin 128, ∑ n : Fin 8, g (a.val * 64 + (8 * t.val + n.val)) = ∑ q : Fin 8192, g q.val := by
  rw [← Fintype.sum_prod_type']
  rw [← Fintype.sum_prod_type' (f := fun (p : Fin 8 × Fin 128) (n : Fin 8) => g (p.2.val * 64 + (8 * p.1.val + n.val)))]
  refine Finset.sum_bij' (fun p _ => ⟨p.1.2.val * 64 + (8 * p.1.1.val + p.2.val), by omega⟩)
    (fun q _ => ((⟨q.val % 64 / 8, by omega⟩, ⟨q.val / 64, by omega⟩), ⟨q.val % 8, by omega⟩))
    (fun _ _ => Finset.mem_univ _) (fun _ _ => Finset.mem_univ _) (fun p _ => ?_) (fun q _ => Fin.ext (by dsimp only; omega)) (fun _ _ => rfl)
  refine Prod.ext (Prod.ext (Fin.ext ?_) (Fin.ext ?_)) (Fin.ext ?_) <;> dsimp only <;> omega

end Cert.Spec

end
-- ==== Proof.Val.Fill.lean ====
/- The arguments of the network as reals: the clouds' coordinates, and the arrays that the layers after the grouping read, filled
    from the arguments. -/
module

public import proofs.«01_k».proof.Proof.Val.Arrs
public import proofs.«01_k».proof.Proof.Val.Far

@[expose] public section

noncomputable section

namespace Cert.Spec

open Idealize.ShloMosaic

/-- A coordinate of every point of every cloud. -/
def point (k : Fin 3) (p : Arr ⟨4, ![2, 1024, 32, 3]⟩) (a : Fin 2048) (l : Fin 32) : ℝ := (p (ix4 ⟨a.val / 1024, by omega⟩ ⟨a.val % 1024, by omega⟩ l k)).toReal

/-- The clouds and the first layer's weights have real entries. -/
structure Start (p : Arr ⟨4, ![2, 1024, 32, 3]⟩) (w : Arr ⟨2, ![64, 3]⟩) (b : Arr ⟨1, ![64]⟩) : Prop where
  hp : ∀ (a : Fin 2048) l k, p (ix4 ⟨a.val / 1024, by omega⟩ ⟨a.val % 1024, by omega⟩ l k) = ((point k p a l : ℝ) : EReal)
  hw : ∀ o k, w (ix2 o k) = ((mat w o k : ℝ) : EReal)
  hb : ∀ o, b (ix1 o) = ((vec b o : ℝ) : EReal)

/-- The first layer on every sample's offset from its centre. -/
def y1 (p : Arr ⟨4, ![2, 1024, 32, 3]⟩) (w : Arr ⟨2, ![64, 3]⟩) (b : Arr ⟨1, ![64]⟩) : Fin 131072 → Fin 64 → ℝ :=
  lin (offs (point 0 p) (point 1 p) (point 2 p)) (mat w) (vec b)

/-- A coordinate of every centre. -/
def centre (k : Fin 3) (p : Arr ⟨4, ![2, 1024, 32, 3]⟩) : Fin 16384 → ℝ := cen (point 0 p) (point 1 p) (point 2 p) (point k p)

/-- Every centre's coordinate as an array. -/
def centres (k : Fin 3) (p : Arr ⟨4, ![2, 1024, 32, 3]⟩) : Arr ⟨2, ![2048, 8]⟩ := fun i =>
  ((centre k p ⟨(i 0).val * 8 + (i 1).val, by have h0 : (i 0).val < 2048 := (i 0).isLt; have h1 : (i 1).val < 8 := (i 1).isLt; omega⟩ : ℝ) : EReal)

section
variable (p : Arr ⟨4, ![2, 1024, 32, 3]⟩) (w : Arr ⟨2, ![64, 3]⟩) (b : Arr ⟨1, ![64]⟩)
  (a5 : Arr ⟨1, ![64]⟩) (a6 : Arr ⟨1, ![64]⟩) (a7 : Arr ⟨2, ![64, 64]⟩) (a8 : Arr ⟨1, ![64]⟩) (a9 : Arr ⟨1, ![64]⟩) (a10 : Arr ⟨1, ![64]⟩) (a11 : Arr ⟨2, ![128, 64]⟩) (a12 : Arr ⟨1, ![128]⟩) (a13 : Arr ⟨1, ![128]⟩) (a14 : Arr ⟨1, ![128]⟩) (a15 : Arr ⟨2, ![128, 131]⟩) (a16 : Arr ⟨1, ![128]⟩) (a17 : Arr ⟨1, ![128]⟩) (a18 : Arr ⟨1, ![128]⟩) (a19 : Arr ⟨2, ![256, 128]⟩) (a20 : Arr ⟨1, ![256]⟩) (a21 : Arr ⟨1, ![256]⟩) (a22 : Arr ⟨1, ![256]⟩) (a23 : Arr ⟨2, ![512, 256]⟩) (a24 : Arr ⟨1, ![512]⟩) (a25 : Arr ⟨1, ![512]⟩) (a26 : Arr ⟨1, ![512]⟩)

/-- The arrays of the layers, from the arguments. -/
def fill : Arrs where
  a0 := fun i => ((y1 p w b ⟨(i 0).val * 64 + (i 1).val, by have h0 : (i 0).val < 2048 := (i 0).isLt; have h1 : (i 1).val < 64 := (i 1).isLt; omega⟩ (i 2) : ℝ) : EReal)
  a1 := fun i => if (i 0).val = 0 then ((sum1 (y1 p w b) (i 1) : ℝ) : EReal) else ((sum2 (y1 p w b) (i 1) : ℝ) : EReal)
  a2 := centres 0 p
  a3 := centres 1 p
  a4 := centres 2 p
  a5 := a5
  a6 := a6
  a7 := a7
  a8 := a8
  a9 := a9
  a10 := a10
  a11 := a11
  a12 := a12
  a13 := a13
  a14 := a14
  a15 := a15
  a16 := a16
  a17 := a17
  a18 := a18
  a19 := a19
  a20 := a20
  a21 := a21
  a22 := a22
  a23 := a23
  a24 := a24
  a25 := a25
  a26 := a26

theorem rows_fill : rows (fill p w b a5 a6 a7 a8 a9 a10 a11 a12 a13 a14 a15 a16 a17 a18 a19 a20 a21 a22 a23 a24 a25 a26).a0 = y1 p w b := by
  funext r k
  show (EReal.toReal ((y1 p w b ⟨r.val / 64 * 64 + r.val % 64, _⟩ k : ℝ) : EReal)) = _
  rw [EReal.toReal_coe]
  exact congrArg (fun r => y1 p w b r k) (Fin.ext (by dsimp only; omega))

theorem coord_centres (k : Fin 3) : coord (centres k p) = centre k p := by
  funext r
  show (EReal.toReal ((centre k p ⟨r.val / 8 * 8 + r.val % 8, _⟩ : ℝ) : EReal)) = _
  rw [EReal.toReal_coe]
  exact congrArg (centre k p) (Fin.ext (by dsimp only; omega))

theorem good_fill (h5 : ∀ k, a5 (ix1 k) = ((vec a5 k : ℝ) : EReal)) (h6 : ∀ k, a6 (ix1 k) = ((vec a6 k : ℝ) : EReal)) (h7 : ∀ o k, a7 (ix2 o k) = ((mat a7 o k : ℝ) : EReal)) (h8 : ∀ k, a8 (ix1 k) = ((vec a8 k : ℝ) : EReal)) (h9 : ∀ k, a9 (ix1 k) = ((vec a9 k : ℝ) : EReal)) (h10 : ∀ k, a10 (ix1 k) = ((vec a10 k : ℝ) : EReal)) (h11 : ∀ o k, a11 (ix2 o k) = ((mat a11 o k : ℝ) : EReal)) (h12 : ∀ k, a12 (ix1 k) = ((vec a12 k : ℝ) : EReal)) (h13 : ∀ k, a13 (ix1 k) = ((vec a13 k : ℝ) : EReal)) (h14 : ∀ k, a14 (ix1 k) = ((vec a14 k : ℝ) : EReal)) (h15 : ∀ o k, a15 (ix2 o k) = ((mat a15 o k : ℝ) : EReal)) (h16 : ∀ k, a16 (ix1 k) = ((vec a16 k : ℝ) : EReal)) (h17 : ∀ k, a17 (ix1 k) = ((vec a17 k : ℝ) : EReal)) (h18 : ∀ k, a18 (ix1 k) = ((vec a18 k : ℝ) : EReal)) (h19 : ∀ o k, a19 (ix2 o k) = ((mat a19 o k : ℝ) : EReal)) (h20 : ∀ k, a20 (ix1 k) = ((vec a20 k : ℝ) : EReal)) (h21 : ∀ k, a21 (ix1 k) = ((vec a21 k : ℝ) : EReal)) (h22 : ∀ k, a22 (ix1 k) = ((vec a22 k : ℝ) : EReal)) (h23 : ∀ o k, a23 (ix2 o k) = ((mat a23 o k : ℝ) : EReal)) (h24 : ∀ k, a24 (ix1 k) = ((vec a24 k : ℝ) : EReal)) (h25 : ∀ k, a25 (ix1 k) = ((vec a25 k : ℝ) : EReal)) (h26 : ∀ k, a26 (ix1 k) = ((vec a26 k : ℝ) : EReal)) :
    Good (fill p w b a5 a6 a7 a8 a9 a10 a11 a12 a13 a14 a15 a16 a17 a18 a19 a20 a21 a22 a23 a24 a25 a26) :=
  ⟨fun _ _ => rfl, fun k => by rw [rows_fill]; rfl, fun k => by rw [rows_fill]; rfl, fun _ => rfl, fun _ => rfl, fun _ => rfl, h5, h6, h7, h8, h9, h10, h11, h12, h13, h14, h15, h16, h17, h18, h19, h20, h21, h22, h23, h24, h25, h26⟩

end

end Cert.Spec

end
-- ==== Proof.Val.Common.lean ====
/- What the value modules of every region read. -/
module

public import proofs.«01_k».proof.Proof.Val.Spec
public import Idealize.ShloMosaic.Lib.Pipeline.Value
public import Idealize.ShloMosaic.Lib.Pointwise
public import Idealize.ShloMosaic.Lib.Pipeline.ValueKit.Point

@[expose] public section

noncomputable section

namespace Cert.KernelIdeal.Val

theorem hz : (![0, 0] : Fin 2 → Nat) = fun _ => 0 := funext fun a => by fin_cases a <;> rfl

end Cert.KernelIdeal.Val

end
-- ==== Proof.Val.Grp.lean ====
/- The blocks of the group kernel: the point walk, the ball, the ranks and the segment sums, each named once, and the
    payloads of the body as those blocks. -/
module

public import proofs.«01_k».proof.Proof.Val.Common
public import proofs.«01_k».proof.Proof.Gen.KernelIdeal.Skeleton

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- The number of each of the 32 points of a row. -/
abbrev gI : IVec S128x32 32 := iota .tc S128x32 32 [1] iota_S128x32_d1_w32

/-- A coordinate of the point that a mask marks in each row. -/
def gCent (mk : IVec S128x32 1) (v : FVec F S128x32 .f32) : FVec F S128x1 .f32 :=
  shapeCast S128x1 (multiReduction .add [1] S128 (select mk v (broadcast S128x32 (Scalar.ofBits .f32 0x00000000#32)))
    0x00000000#32 reduces_S128x32_S128 (.inl rfl) rfl) shapeCasts_S128_S128x1

/-- A coordinate less that of the marked point. -/
def gDev (mk : IVec S128x32 1) (v : FVec F S128x32 .f32) : FVec F S128x32 .f32 :=
  subf v (broadcastTo S128x32 (gCent mk v) broadcasts_S128x1_S128x32)

/-- The running minimum `d` met with the square distance to the marked point. -/
def gDist (d x y z : FVec F S128x32 .f32) (mk : IVec S128x32 1) : FVec F S128x32 .f32 :=
  minimumf d (addf (addf (mulf (gDev mk x) (gDev mk x)) (mulf (gDev mk y) (gDev mk y))) (mulf (gDev mk z) (gDev mk z)))

/-- The mask of the first point of each row at which `d` is largest. -/
def gMask (d : FVec F S128x32 .f32) : IVec S128x32 1 :=
  cmpi .eq gI (broadcastTo S128x32 (shapeCast S128x1 (multiReductionI .minsi [1] S128
    (select (cmpf .oeq d (broadcastTo S128x32 (shapeCast S128x1 (multiReduction .maximumf [1] S128 d 0xFF800000#32
      reduces_S128x32_S128 (.inl rfl) rfl) shapeCasts_S128_S128x1) broadcasts_S128x1_S128x32)) gI (broadcast S128x32 32#32))
    2147483647#32 reduces_S128x32_S128 rfl) shapeCasts_S128_S128x1) broadcasts_S128x1_S128x32)

/-- The walk: the mask of the point taken and the running minimum after it. -/
def gWalk (x y z : FVec F S128x32 .f32) : ℕ → IVec S128x32 1 × FVec F S128x32 .f32
  | 0 => (k0_pay6, gDist (broadcast S128x32 (Scalar.ofBits .f32 0x501502F9#32)) x y z k0_pay6)
  | n + 1 => (gMask (gWalk x y z n).2, gDist (gWalk x y z n).2 x y z (gMask (gWalk x y z n).2))

section Walk

variable (x0 x1 x2 : FVec F S128x32 .f32)

def gM (n : ℕ) : IVec S128x32 1 := (gWalk (k0_pay3 x0) (k0_pay4 x1) (k0_pay5 x2) n).1
def gD (n : ℕ) : FVec F S128x32 .f32 := (gWalk (k0_pay3 x0) (k0_pay4 x1) (k0_pay5 x2) n).2
def gX (n : ℕ) : FVec F S128x1 .f32 := gCent (gM x0 x1 x2 n) (k0_pay3 x0)
def gY (n : ℕ) : FVec F S128x1 .f32 := gCent (gM x0 x1 x2 n) (k0_pay4 x1)
def gZ (n : ℕ) : FVec F S128x1 .f32 := gCent (gM x0 x1 x2 n) (k0_pay5 x2)

/-- Eight columns, each repeated over 32 lanes. -/
def gRep (c : ℕ → FVec F S128x1 .f32) : FVec F S128x256 .f32 :=
  concatenate S128x256 1
    [⟨S128x32, broadcastTo S128x32 (shapeCast S128x1 (c 0) shapeCasts_S128x1_S128x1) broadcasts_S128x1_S128x32⟩,
     ⟨S128x32, broadcastTo S128x32 (shapeCast S128x1 (c 1) shapeCasts_S128x1_S128x1) broadcasts_S128x1_S128x32⟩,
     ⟨S128x32, broadcastTo S128x32 (shapeCast S128x1 (c 2) shapeCasts_S128x1_S128x1) broadcasts_S128x1_S128x32⟩,
     ⟨S128x32, broadcastTo S128x32 (shapeCast S128x1 (c 3) shapeCasts_S128x1_S128x1) broadcasts_S128x1_S128x32⟩,
     ⟨S128x32, broadcastTo S128x32 (shapeCast S128x1 (c 4) shapeCasts_S128x1_S128x1) broadcasts_S128x1_S128x32⟩,
     ⟨S128x32, broadcastTo S128x32 (shapeCast S128x1 (c 5) shapeCasts_S128x1_S128x1) broadcasts_S128x1_S128x32⟩,
     ⟨S128x32, broadcastTo S128x32 (shapeCast S128x1 (c 6) shapeCasts_S128x1_S128x1) broadcasts_S128x1_S128x32⟩,
     ⟨S128x32, broadcastTo S128x32 (shapeCast S128x1 (c 7) shapeCasts_S128x1_S128x1) broadcasts_S128x1_S128x32⟩]
    concatenates_S128x32_S128x32_S128x32_S128x32_S128x32_S128x32_S128x32_S128x32_S128x256_d1

/-- Eight columns side by side. -/
def gRow (c : ℕ → FVec F S128x1 .f32) : FVec F S128x8 .f32 :=
  concatenate S128x8 1 [⟨S128x1, c 0⟩, ⟨S128x1, c 1⟩, ⟨S128x1, c 2⟩, ⟨S128x1, c 3⟩, ⟨S128x1, c 4⟩, ⟨S128x1, c 5⟩, ⟨S128x1, c 6⟩, ⟨S128x1, c 7⟩]
    concatenates_S128x1_S128x1_S128x1_S128x1_S128x1_S128x1_S128x1_S128x1_S128x8_d1

/-- A row's points eight times over, less the centres. -/
def gOff (x : FVec F S128x32 .f32) (c : ℕ → FVec F S128x1 .f32) : FVec F S128x256 .f32 := subf (k0_pay49 x) (gRep c)

/-- One where the point lies in the centre's ball, zero elsewhere. -/
def gIn (x y z : FVec F S128x32 .f32) (cx cy cz : ℕ → FVec F S128x1 .f32) : FVec F S128x256 .f32 :=
  sitofp .f32 (extui 32 (cmpf .ole (addf (addf (mulf (gOff x cx) (gOff x cx)) (mulf (gOff y cy) (gOff y cy))) (mulf (gOff z cz) (gOff z cz)))
    (broadcast S128x256 (Scalar.ofBits .f32 0x3E23D70A#32))) natLt_1_32)

/-- How many points of the ball come no later. -/
def gRank (v : FVec F S128x256 .f32) : FVec F S128x256 .f32 :=
  k0_pay59 v (iota .tc S256x256 32 [0] iota_S256x256_d0_w32) (iota .tc S256x256 32 [1] iota_S256x256_d1_w32) k0_pay55 32#32 k0_pay56 k0_pay57 k0_pay58

theorem p7 : k0_pay7 x0 = gX x0 x1 x2 0 := rfl
theorem p8 : k0_pay8 x1 = gY x0 x1 x2 0 := rfl
theorem p9 : k0_pay9 x2 = gZ x0 x1 x2 0 := rfl
theorem p10 : k0_pay10 x0 x1 x2 = gD x0 x1 x2 0 := rfl
theorem p13 : k0_pay13 (k0_pay3 x0) gI (k0_pay11 x0 x1 x2) = gX x0 x1 x2 1 := rfl
theorem p14 : k0_pay14 (k0_pay4 x1) gI (k0_pay11 x0 x1 x2) = gY x0 x1 x2 1 := rfl
theorem p15 : k0_pay15 (k0_pay5 x2) gI (k0_pay11 x0 x1 x2) = gZ x0 x1 x2 1 := rfl
theorem p16 : k0_pay16 (k0_pay3 x0) (k0_pay4 x1) (k0_pay5 x2) gI (gD x0 x1 x2 0) (k0_pay11 x0 x1 x2) = gD x0 x1 x2 1 := rfl
theorem p17 : k0_pay17 (k0_pay3 x0) (k0_pay4 x1) (k0_pay5 x2) gI (gD x0 x1 x2 0) (k0_pay11 x0 x1 x2) = gM x0 x1 x2 2 := rfl
theorem p18 : k0_pay18 (k0_pay3 x0) (k0_pay4 x1) (k0_pay5 x2) gI (gD x0 x1 x2 0) (k0_pay11 x0 x1 x2) = gX x0 x1 x2 2 := rfl
theorem p19 : k0_pay19 (k0_pay3 x0) (k0_pay4 x1) (k0_pay5 x2) gI (gD x0 x1 x2 0) (k0_pay11 x0 x1 x2) = gY x0 x1 x2 2 := rfl
theorem p21 : k0_pay21 (k0_pay5 x2) (gM x0 x1 x2 2) k0_pay20 = gZ x0 x1 x2 2 := rfl
theorem p24 : k0_pay24 (k0_pay3 x0) (k0_pay4 x1) (k0_pay5 x2) gI (gD x0 x1 x2 1) (gM x0 x1 x2 2) (gX x0 x1 x2 2) (gY x0 x1 x2 2) k0_pay20 = gX x0 x1 x2 3 := rfl
theorem p25 : k0_pay25 (k0_pay3 x0) (k0_pay4 x1) (k0_pay5 x2) gI (gD x0 x1 x2 1) (gM x0 x1 x2 2) (gX x0 x1 x2 2) (gY x0 x1 x2 2) k0_pay20 = gY x0 x1 x2 3 := rfl
theorem p26 : k0_pay26 (k0_pay3 x0) (k0_pay4 x1) (k0_pay5 x2) gI (gD x0 x1 x2 1) (gM x0 x1 x2 2) (gX x0 x1 x2 2) (gY x0 x1 x2 2) k0_pay20 = gZ x0 x1 x2 3 := rfl
theorem p27 : k0_pay27 (k0_pay3 x0) (k0_pay4 x1) (k0_pay5 x2) gI (gD x0 x1 x2 1) (gM x0 x1 x2 2) (gX x0 x1 x2 2) (gY x0 x1 x2 2) k0_pay20 = gD x0 x1 x2 3 := rfl
theorem p29 : k0_pay29 (k0_pay3 x0) gI (gD x0 x1 x2 3) = gX x0 x1 x2 4 := rfl
theorem p30 : k0_pay30 (k0_pay4 x1) gI (gD x0 x1 x2 3) = gY x0 x1 x2 4 := rfl
theorem p31 : k0_pay31 (k0_pay5 x2) gI (gD x0 x1 x2 3) = gZ x0 x1 x2 4 := rfl
theorem p32 : k0_pay32 (k0_pay3 x0) (k0_pay4 x1) (k0_pay5 x2) gI (gD x0 x1 x2 3) = gD x0 x1 x2 4 := rfl
theorem p33 : k0_pay33 (k0_pay3 x0) (k0_pay4 x1) (k0_pay5 x2) gI (gD x0 x1 x2 3) = gM x0 x1 x2 5 := rfl
theorem p35 : k0_pay35 (k0_pay34 (k0_pay3 x0) (k0_pay4 x1) (k0_pay5 x2) gI (gD x0 x1 x2 3)) = gX x0 x1 x2 5 := rfl
theorem p36 : k0_pay36 (k0_pay4 x1) (gM x0 x1 x2 5) = gY x0 x1 x2 5 := rfl
theorem p37 : k0_pay37 (k0_pay5 x2) (gM x0 x1 x2 5) = gZ x0 x1 x2 5 := rfl

/-- The first sum of the sixth step. -/
def gS : FVec F S128 .f32 := k0_pay34 (k0_pay3 x0) (k0_pay4 x1) (k0_pay5 x2) gI (gD x0 x1 x2 3)

theorem p34 : k0_pay34 (k0_pay3 x0) (k0_pay4 x1) (k0_pay5 x2) gI (gD x0 x1 x2 3) = gS x0 x1 x2 := rfl
theorem p38 : k0_pay38 (k0_pay3 x0) (k0_pay4 x1) (k0_pay5 x2) (gD x0 x1 x2 4) (gM x0 x1 x2 5) (gS x0 x1 x2) = gD x0 x1 x2 5 := rfl
theorem p40 : k0_pay40 (k0_pay3 x0) (k0_pay4 x1) (k0_pay5 x2) gI (gD x0 x1 x2 4) (gM x0 x1 x2 5) (gS x0 x1 x2) = gX x0 x1 x2 6 := rfl
theorem p41 : k0_pay41 (k0_pay3 x0) (k0_pay4 x1) (k0_pay5 x2) gI (gD x0 x1 x2 4) (gM x0 x1 x2 5) (gS x0 x1 x2) = gY x0 x1 x2 6 := rfl
theorem p42 : k0_pay42 (k0_pay3 x0) (k0_pay4 x1) (k0_pay5 x2) gI (gD x0 x1 x2 4) (gM x0 x1 x2 5) (gS x0 x1 x2) = gZ x0 x1 x2 6 := rfl

/-- The first term of the seventh distance, and the second coordinate of its centre over the lanes. -/
def gU : FVec F S128x32 .f32 := k0_pay43 (k0_pay3 x0) (k0_pay4 x1) (k0_pay5 x2) gI (gD x0 x1 x2 4) (gM x0 x1 x2 5) (gS x0 x1 x2)
def gV : FVec F S128x32 .f32 := k0_pay44 (k0_pay3 x0) (k0_pay4 x1) (k0_pay5 x2) gI (gD x0 x1 x2 4) (gM x0 x1 x2 5) (gS x0 x1 x2)

theorem p43 : k0_pay43 (k0_pay3 x0) (k0_pay4 x1) (k0_pay5 x2) gI (gD x0 x1 x2 4) (gM x0 x1 x2 5) (gS x0 x1 x2) = gU x0 x1 x2 := rfl
theorem p44 : k0_pay44 (k0_pay3 x0) (k0_pay4 x1) (k0_pay5 x2) gI (gD x0 x1 x2 4) (gM x0 x1 x2 5) (gS x0 x1 x2) = gV x0 x1 x2 := rfl
theorem p46 : k0_pay46 (k0_pay3 x0) (k0_pay4 x1) (k0_pay5 x2) gI (gD x0 x1 x2 5) (gZ x0 x1 x2 6) (gU x0 x1 x2) (gV x0 x1 x2) = gX x0 x1 x2 7 := rfl
theorem p47 : k0_pay47 (k0_pay4 x1) (k0_pay5 x2) gI (gD x0 x1 x2 5) (gZ x0 x1 x2 6) (gU x0 x1 x2) (gV x0 x1 x2) = gY x0 x1 x2 7 := rfl
theorem p48 : k0_pay48 (k0_pay4 x1) (k0_pay5 x2) gI (gD x0 x1 x2 5) (gZ x0 x1 x2 6) (gU x0 x1 x2) (gV x0 x1 x2) = gZ x0 x1 x2 7 := rfl
theorem p52 : k0_pay52 (k0_pay3 x0) (k0_pay4 x1) (k0_pay5 x2) gI (gX x0 x1 x2 0) (gX x0 x1 x2 1) (gX x0 x1 x2 2) (gX x0 x1 x2 3) (gX x0 x1 x2 4)
    (gX x0 x1 x2 5) (gD x0 x1 x2 5) (gX x0 x1 x2 6) (gZ x0 x1 x2 6) (gU x0 x1 x2) (gV x0 x1 x2) = gRep (gX x0 x1 x2) := rfl
theorem p54 : k0_pay54 (gZ x0 x1 x2 0) (gY x0 x1 x2 1) (gZ x0 x1 x2 1) (gY x0 x1 x2 2) (gZ x0 x1 x2 2) (gY x0 x1 x2 3) (gZ x0 x1 x2 3)
    (gY x0 x1 x2 4) (gZ x0 x1 x2 4) (gY x0 x1 x2 5) (gZ x0 x1 x2 5) (gY x0 x1 x2 6) (gZ x0 x1 x2 6) (gY x0 x1 x2 7) (gZ x0 x1 x2 7)
    (k0_pay49 (k0_pay3 x0)) (k0_pay50 (k0_pay4 x1)) (k0_pay51 (k0_pay5 x2)) (gRep (gX x0 x1 x2)) (k0_pay53 (gY x0 x1 x2 0))
    = gIn (k0_pay3 x0) (k0_pay4 x1) (k0_pay5 x2) (gX x0 x1 x2) (gY x0 x1 x2) (gZ x0 x1 x2) := rfl
theorem p67 : k0_pay67 (gX x0 x1 x2 0) (gX x0 x1 x2 1) (gX x0 x1 x2 2) (gX x0 x1 x2 3) (gX x0 x1 x2 4) (gX x0 x1 x2 5) (gX x0 x1 x2 6) (gX x0 x1 x2 7) = gRow (gX x0 x1 x2) := rfl
theorem p68 : k0_pay68 (gY x0 x1 x2 0) (gY x0 x1 x2 1) (gY x0 x1 x2 2) (gY x0 x1 x2 3) (gY x0 x1 x2 4) (gY x0 x1 x2 5) (gY x0 x1 x2 6) (gY x0 x1 x2 7) = gRow (gY x0 x1 x2) := rfl
theorem p69 : k0_pay69 (gZ x0 x1 x2 0) (gZ x0 x1 x2 1) (gZ x0 x1 x2 2) (gZ x0 x1 x2 3) (gZ x0 x1 x2 4) (gZ x0 x1 x2 5) (gZ x0 x1 x2 6) (gZ x0 x1 x2 7) = gRow (gZ x0 x1 x2) := rfl

end Walk

end Cert.KernelIdeal.Val

end
-- ==== Proof.Val.Grp2.lean ====
/- The blocks of the group kernel, second part: the segment sums that pick each place of the ball, the layer over the
    offsets, and its sums. -/
module

public import proofs.«01_k».proof.Proof.Val.Grp

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- The pattern of the whole number that names place `t` of a ball. -/
def gWord : ℕ → BitVec 32
  | 0 => 0x3F800000#32 | 1 => 0x40000000#32 | 2 => 0x40400000#32 | 3 => 0x40800000#32
  | 4 => 0x40A00000#32 | 5 => 0x40C00000#32 | 6 => 0x40E00000#32 | _ => 0x41000000#32

/-- The map of three offsets: the layer's affine map. -/
def gAff (px py pz cx cy cz : FVec F S128x8 .f32) (a b c e : FVec F S1x1x64 .f32) : FVec F S128x8x64 .f32 :=
  addf (addf (addf
    (mulf (broadcastTo S128x8x64 (shapeCast S128x8x1 (extf .f32 (truncf .bf16 (subf px cx) bitsLt_bf16_f32) bitsLt_bf16_f32) shapeCasts_S128x8_S128x8x1) broadcasts_S128x8x1_S128x8x64)
      (broadcastTo S128x8x64 a broadcasts_S1x1x64_S128x8x64))
    (mulf (broadcastTo S128x8x64 (shapeCast S128x8x1 (extf .f32 (truncf .bf16 (subf py cy) bitsLt_bf16_f32) bitsLt_bf16_f32) shapeCasts_S128x8_S128x8x1) broadcasts_S128x8x1_S128x8x64)
      (broadcastTo S128x8x64 b broadcasts_S1x1x64_S128x8x64)))
    (mulf (broadcastTo S128x8x64 (shapeCast S128x8x1 (extf .f32 (truncf .bf16 (subf pz cz) bitsLt_bf16_f32) bitsLt_bf16_f32) shapeCasts_S128x8_S128x8x1) broadcasts_S128x8x1_S128x8x64)
      (broadcastTo S128x8x64 c broadcasts_S1x1x64_S128x8x64)))
    (broadcastTo S128x8x64 e broadcasts_S1x1x64_S128x8x64)

/-- The place found, or else the first. -/
def gPick (r : FVec F S128x32 .f32) (s f : FVec F S128x8 .f32) : FVec F S128x8 .f32 :=
  select (cmpf .ogt (extractStridedSlice S128x8 ![0, 24] r slices_S128x32_o0_24_S128x8) (broadcast S128x8 (Scalar.ofBits .f32 0x3F000000#32))) s f

def gSum (o : FVec F S128x8x64 .f32) : FVec F S64 .f32 :=
  multiReduction .add [0, 1] S64 o 0x00000000#32 reduces_S128x8x64_S64 (.inl rfl) rfl

/-- The two rows of sums in a block of eight. -/
def gStat (s q : FVec F S64 .f32) : FVec F S8x64 .f32 :=
  addf (select (cmpi .eq (iota .tc S8x64 32 [0] iota_S8x64_d0_w32) (broadcast S8x64 0#32))
      (broadcastTo S8x64 (shapeCast S1x64 (shapeCast S1x64 s shapeCasts_S64_S1x64) shapeCasts_S1x64_S1x64) broadcasts_S1x64_S8x64)
      (broadcast S8x64 (Scalar.ofBits .f32 0x00000000#32)))
    (select k0_pay119 (broadcastTo S8x64 (shapeCast S1x64 (shapeCast S1x64 q shapeCasts_S64_S1x64) shapeCasts_S1x64_S1x64) broadcasts_S1x64_S8x64)
      (broadcast S8x64 (Scalar.ofBits .f32 0x00000000#32)))

/-- Which lane of the 1024 goes to which of the 32 sums. -/
def gSeg : FVec F S1024x32 .f32 :=
  k0_pay66 (iota .tc S1024x32 32 [1] iota_S1024x32_d1_w32)
    (k0_pay64 (k0_pay60 (iota .tc S1024x32 32 [0] iota_S1024x32_d0_w32) 256#32) (k0_pay61 (iota .tc S1024x32 32 [1] iota_S1024x32_d1_w32))
      (k0_pay62 (iota .tc S1024x32 32 [1] iota_S1024x32_d1_w32)) (k0_pay63 (iota .tc S1024x32 32 [1] iota_S1024x32_d1_w32)))
    (k0_pay65 (iota .tc S1024x32 32 [0] iota_S1024x32_d0_w32)) (Scalar.select (Scalar.cmpi .eq 8#32 0#32) 1#32 8#32)

section Pick

variable (tx ty tz v r : FVec F S128x256 .f32) (sg : FVec F S1024x32 .f32) (cx cy cz : FVec F S128x8 .f32) (a b c e : FVec F S1x1x64 .f32)

/-- The mask of place `t`. -/
def gAt (t : ℕ) : FVec F S128x256 .f32 :=
  select (cmpf .oeq r (broadcast S128x256 (Scalar.ofBits .f32 (gWord t)))) v (broadcast S128x256 (Scalar.ofBits .f32 0x00000000#32))

/-- The segment sums of place `t`: three coordinates and the number found. -/
def gSel (t : ℕ) : FVec F S128x32 .f32 :=
  matmul dot_S128x1024_S1024x32_S128x32_1_0_0_1_n_n (some .fp32)
    (concatenate S128x1024 1 [⟨S128x256, mulf (gAt v r t) tx⟩, ⟨S128x256, mulf (gAt v r t) ty⟩, ⟨S128x256, mulf (gAt v r t) tz⟩, ⟨S128x256, gAt v r t⟩]
      concatenates_S128x256_S128x256_S128x256_S128x256_S128x1024_d1) sg (constant S128x32 .f32 0x00000000#32)

def gFx : FVec F S128x8 .f32 := extractStridedSlice S128x8 ![0, 0] (gSel tx ty tz v r sg 0) slices_S128x32_o0_0_S128x8
def gFy : FVec F S128x8 .f32 := extractStridedSlice S128x8 ![0, 8] (gSel tx ty tz v r sg 0) slices_S128x32_o0_8_S128x8
def gFz : FVec F S128x8 .f32 := extractStridedSlice S128x8 ![0, 16] (gSel tx ty tz v r sg 0) slices_S128x32_o0_16_S128x8

def gPx (t : ℕ) : FVec F S128x8 .f32 :=
  gPick (gSel tx ty tz v r sg t) (extractStridedSlice S128x8 ![0, 0] (gSel tx ty tz v r sg t) slices_S128x32_o0_0_S128x8) (gFx tx ty tz v r sg)
def gPy (t : ℕ) : FVec F S128x8 .f32 :=
  gPick (gSel tx ty tz v r sg t) (extractStridedSlice S128x8 ![0, 8] (gSel tx ty tz v r sg t) slices_S128x32_o0_8_S128x8) (gFy tx ty tz v r sg)
def gPz (t : ℕ) : FVec F S128x8 .f32 :=
  gPick (gSel tx ty tz v r sg t) (extractStridedSlice S128x8 ![0, 16] (gSel tx ty tz v r sg t) slices_S128x32_o0_16_S128x8) (gFz tx ty tz v r sg)

/-- The rows of place `t`. -/
def gOut : ℕ → FVec F S128x8x64 .f32
  | 0 => gAff (gFx tx ty tz v r sg) (gFy tx ty tz v r sg) (gFz tx ty tz v r sg) cx cy cz a b c e
  | t + 1 => gAff (gPx tx ty tz v r sg (t + 1)) (gPy tx ty tz v r sg (t + 1)) (gPz tx ty tz v r sg (t + 1)) cx cy cz a b c e

/-- The sums over the places up to `t`. -/
def gAdd : ℕ → FVec F S64 .f32
  | 0 => gSum (gOut tx ty tz v r sg cx cy cz a b c e 0)
  | t + 1 => addf (gAdd t) (gSum (gOut tx ty tz v r sg cx cy cz a b c e (t + 1)))
def gSqs : ℕ → FVec F S64 .f32
  | 0 => gSum (mulf (gOut tx ty tz v r sg cx cy cz a b c e 0) (gOut tx ty tz v r sg cx cy cz a b c e 0))
  | t + 1 => addf (gSqs t) (gSum (mulf (gOut tx ty tz v r sg cx cy cz a b c e (t + 1)) (gOut tx ty tz v r sg cx cy cz a b c e (t + 1))))

theorem q76 : k0_pay76 sg (k0_pay74 tx ty tz v r) = gFx tx ty tz v r sg := rfl
theorem q77 : k0_pay77 sg (k0_pay74 tx ty tz v r) = gFy tx ty tz v r sg := rfl
theorem q78 : k0_pay78 sg (k0_pay74 tx ty tz v r) = gFz tx ty tz v r sg := rfl
theorem q79 : k0_pay79 sg cx cy cz a b c e (k0_pay74 tx ty tz v r) = gOut tx ty tz v r sg cx cy cz a b c e 0 := rfl
theorem q80 : k0_pay80 sg cx cy cz a b c e (k0_pay74 tx ty tz v r) = gAdd tx ty tz v r sg cx cy cz a b c e 0 := rfl
theorem q81 : k0_pay81 sg cx cy cz a b c e (k0_pay74 tx ty tz v r) = gSqs tx ty tz v r sg cx cy cz a b c e 0 := rfl
theorem q87 : k0_pay87 cx cy cz a b c e (gFy tx ty tz v r sg) (gFz tx ty tz v r sg) (k0_pay83 tx ty tz v r sg) (k0_pay84 tx ty tz v r sg)
    (k0_pay85 tx ty tz v r sg) (k0_pay86 tx ty tz v r sg (k0_pay74 tx ty tz v r)) = gOut tx ty tz v r sg cx cy cz a b c e 1 := rfl
theorem q88 : k0_pay88 cx cy cz a b c e (gFy tx ty tz v r sg) (gFz tx ty tz v r sg) (gAdd tx ty tz v r sg cx cy cz a b c e 0) (k0_pay83 tx ty tz v r sg) (k0_pay84 tx ty tz v r sg)
    (k0_pay85 tx ty tz v r sg) (k0_pay86 tx ty tz v r sg (k0_pay74 tx ty tz v r)) = gAdd tx ty tz v r sg cx cy cz a b c e 1 := rfl
theorem q89 : k0_pay89 cx cy cz a b c e (gFy tx ty tz v r sg) (gFz tx ty tz v r sg) (gSqs tx ty tz v r sg cx cy cz a b c e 0) (k0_pay83 tx ty tz v r sg) (k0_pay84 tx ty tz v r sg)
    (k0_pay85 tx ty tz v r sg) (k0_pay86 tx ty tz v r sg (k0_pay74 tx ty tz v r)) = gSqs tx ty tz v r sg cx cy cz a b c e 1 := rfl
theorem q94 : k0_pay94 cx cy cz a b c e (gFx tx ty tz v r sg) (gFy tx ty tz v r sg) (gFz tx ty tz v r sg) (k0_pay90 tx ty tz v r sg)
    (k0_pay91 tx ty tz v r sg) (k0_pay92 tx ty tz v r sg) (k0_pay93 tx ty tz v r sg) = gOut tx ty tz v r sg cx cy cz a b c e 2 := rfl
theorem q95 : k0_pay95 cx cy cz a b c e (gFx tx ty tz v r sg) (gFy tx ty tz v r sg) (gFz tx ty tz v r sg) (gAdd tx ty tz v r sg cx cy cz a b c e 1) (k0_pay90 tx ty tz v r sg)
    (k0_pay91 tx ty tz v r sg) (k0_pay92 tx ty tz v r sg) (k0_pay93 tx ty tz v r sg) = gAdd tx ty tz v r sg cx cy cz a b c e 2 := rfl
theorem q96 : k0_pay96 cx cy cz a b c e (gFx tx ty tz v r sg) (gFy tx ty tz v r sg) (gFz tx ty tz v r sg) (gSqs tx ty tz v r sg cx cy cz a b c e 1) (k0_pay90 tx ty tz v r sg)
    (k0_pay91 tx ty tz v r sg) (k0_pay92 tx ty tz v r sg) (k0_pay93 tx ty tz v r sg) = gSqs tx ty tz v r sg cx cy cz a b c e 2 := rfl
theorem q98 : k0_pay98 sg cx cy cz a b c e (gFx tx ty tz v r sg) (gFy tx ty tz v r sg) (gFz tx ty tz v r sg) (k0_pay97 tx ty tz v r)
    = gOut tx ty tz v r sg cx cy cz a b c e 3 := rfl
theorem q99 : k0_pay99 sg cx cy cz a b c e (gFx tx ty tz v r sg) (gFy tx ty tz v r sg) (gFz tx ty tz v r sg) (gAdd tx ty tz v r sg cx cy cz a b c e 2) (k0_pay97 tx ty tz v r)
    = gAdd tx ty tz v r sg cx cy cz a b c e 3 := rfl
theorem q100 : k0_pay100 sg cx cy cz a b c e (gFx tx ty tz v r sg) (gFy tx ty tz v r sg) (gFz tx ty tz v r sg) (gSqs tx ty tz v r sg cx cy cz a b c e 2) (k0_pay97 tx ty tz v r)
    = gSqs tx ty tz v r sg cx cy cz a b c e 3 := rfl
theorem q103 : k0_pay103 tx ty tz v sg cx cy cz a b c e (gFx tx ty tz v r sg) (gFy tx ty tz v r sg) (gFz tx ty tz v r sg) (k0_pay101 r) k0_pay102
    = gOut tx ty tz v r sg cx cy cz a b c e 4 := rfl
theorem q104 : k0_pay104 tx ty tz v sg cx cy cz a b c e (gFx tx ty tz v r sg) (gFy tx ty tz v r sg) (gFz tx ty tz v r sg) (gAdd tx ty tz v r sg cx cy cz a b c e 3) (k0_pay101 r) k0_pay102
    = gAdd tx ty tz v r sg cx cy cz a b c e 4 := rfl
theorem q105 : k0_pay105 tx ty tz v sg cx cy cz a b c e (gFx tx ty tz v r sg) (gFy tx ty tz v r sg) (gFz tx ty tz v r sg) (gSqs tx ty tz v r sg cx cy cz a b c e 3) (k0_pay101 r) k0_pay102
    = gSqs tx ty tz v r sg cx cy cz a b c e 4 := rfl
theorem q106 : k0_pay106 tx ty tz v r sg cx cy cz a b c e (gFx tx ty tz v r sg) (gFy tx ty tz v r sg) (gFz tx ty tz v r sg)
    = gOut tx ty tz v r sg cx cy cz a b c e 5 := rfl
theorem q108 : k0_pay108 (gAdd tx ty tz v r sg cx cy cz a b c e 4) (k0_pay107 tx ty tz v r sg cx cy cz a b c e (gFx tx ty tz v r sg) (gFy tx ty tz v r sg) (gFz tx ty tz v r sg))
    = gAdd tx ty tz v r sg cx cy cz a b c e 5 := rfl
theorem q109 : k0_pay109 (gSqs tx ty tz v r sg cx cy cz a b c e 4) (gOut tx ty tz v r sg cx cy cz a b c e 5) = gSqs tx ty tz v r sg cx cy cz a b c e 5 := rfl
theorem q110 : k0_pay110 tx ty tz v r sg cx cy cz a b c e (gFx tx ty tz v r sg) (gFy tx ty tz v r sg) (gFz tx ty tz v r sg)
    = gOut tx ty tz v r sg cx cy cz a b c e 6 := rfl
theorem q111 : k0_pay111 (gAdd tx ty tz v r sg cx cy cz a b c e 5) (gOut tx ty tz v r sg cx cy cz a b c e 6) = gAdd tx ty tz v r sg cx cy cz a b c e 6 := rfl
theorem q112 : k0_pay112 (gSqs tx ty tz v r sg cx cy cz a b c e 5) (gOut tx ty tz v r sg cx cy cz a b c e 6) = gSqs tx ty tz v r sg cx cy cz a b c e 6 := rfl

/-- The two terms of the last place. -/
def gXY : FVec F S128x8x64 .f32 := k0_pay115 tx ty tz v r sg cx cy a b (gFx tx ty tz v r sg) (gFy tx ty tz v r sg)
def gZZ : FVec F S128x8x64 .f32 := k0_pay116 tx ty tz v r sg cz c (gFz tx ty tz v r sg)

theorem q115 : k0_pay115 tx ty tz v r sg cx cy a b (gFx tx ty tz v r sg) (gFy tx ty tz v r sg) = gXY tx ty tz v r sg cx cy a b := rfl
theorem q116 : k0_pay116 tx ty tz v r sg cz c (gFz tx ty tz v r sg) = gZZ tx ty tz v r sg cz c := rfl
theorem q117 : k0_pay117 e (gXY tx ty tz v r sg cx cy a b) (gZZ tx ty tz v r sg cz c) = gOut tx ty tz v r sg cx cy cz a b c e 7 := rfl
theorem q1 : k0_pay1 (k0_pay118 e (gAdd tx ty tz v r sg cx cy cz a b c e 6) (gXY tx ty tz v r sg cx cy a b) (gZZ tx ty tz v r sg cz c)) k0_pay119
    (k0_pay120 e (gSqs tx ty tz v r sg cx cy cz a b c e 6) (gXY tx ty tz v r sg cx cy a b) (gZZ tx ty tz v r sg cz c))
    = gStat (gAdd tx ty tz v r sg cx cy cz a b c e 7) (gSqs tx ty tz v r sg cx cy cz a b c e 7) := rfl
theorem q2 (o : FVec F S8x64 .f32) : k0_pay2 (k0_pay118 e (gAdd tx ty tz v r sg cx cy cz a b c e 6) (gXY tx ty tz v r sg cx cy a b) (gZZ tx ty tz v r sg cz c)) k0_pay119
    (k0_pay120 e (gSqs tx ty tz v r sg cx cy cz a b c e 6) (gXY tx ty tz v r sg cx cy a b) (gZZ tx ty tz v r sg cz c)) o
    = addf (shapeCast S8x64 o shapeCasts_S8x64_S8x64) (gStat (gAdd tx ty tz v r sg cx cy cz a b c e 7) (gSqs tx ty tz v r sg cx cy cz a b c e 7)) := rfl

end Pick

end Cert.KernelIdeal.Val

end
-- ==== Proof.Val.GrpEnt.lean ====
/- The blocks of the group kernel at real entries: the walk finds the lanes of the farthest points. -/
module

public import proofs.«01_k».proof.Proof.Val.Grp2
public import proofs.«01_k».proof.Proof.Val.Far

@[expose] public section

set_option maxRecDepth 16384

noncomputable section

namespace Cert.KernelIdeal.Val

open Cert.KernelIdeal Cert.KernelIdeal.Gen Idealize.ShloMosaic Idealize.ShloMosaic.TcCoe Idealize.SL.Sem Cert.Spec

variable (p : Fin 128)

/-- A mask marks lane `f` of row `p`. -/
def Marks (mk : IVec S128x32 1) (f : Fin 32) : Prop := ∀ l : Fin 32, mk (ix2 p l) = if l = f then 1#1 else 0#1

/-- Row `p` of a block holds the numbers `w`. -/
def Holds (v : FVec Ideal S128x32 .f32) (w : Fin 32 → ℝ) : Prop := ∀ l : Fin 32, v (ix2 p l) = ((w l : ℝ) : EReal)

theorem cent_eq (mk : IVec S128x32 1) (v : FVec Ideal S128x32 .f32) (f : Fin 32) (w : Fin 32 → ℝ) (hm : Marks p mk f) (hv : Holds p v w) :
    gCent mk v (ix2 p 0) = ((w f : ℝ) : EReal) := by
  unfold gCent
  pointwise
  simp only [hm _, hv _]
  rw [Finset.sum_eq_single f (fun l _ h => by rw [if_neg h]; rfl) (fun h => absurd (Finset.mem_univ _) h), if_pos rfl]
  rfl

theorem dist_eq (d x y z : FVec Ideal S128x32 .f32) (mk : IVec S128x32 1) (D X Y Z : Fin 32 → ℝ) (f : Fin 32) (hm : Marks p mk f)
    (hd : Holds p d D) (hx : Holds p x X) (hy : Holds p y Y) (hz : Holds p z Z) : Holds p (gDist d x y z mk) (fun l => min (D l) (sqd X Y Z f l)) := by
  intro l
  unfold gDist gDev
  pointwise
  rw [cent_eq p mk x f X hm hx, cent_eq p mk y f Y hm hy, cent_eq p mk z f Z hm hz, hd l, hx l, hy l, hz l]
  simp only [← EReal.coe_mul, ← EReal.coe_sub, ← EReal.coe_add, ← EReal.coe_strictMono.monotone.map_min]
  rfl

/-- A running minimum of words is the least of them. -/
theorem fold_minsi {α : Type} [DecidableEq α] (b : BitVec 32) (g : α → BitVec 32) (s : Finset α) :
    (s.fold IntOp.minsi b g).toInt ≤ b.toInt ∧ (∀ x ∈ s, (s.fold IntOp.minsi b g).toInt ≤ (g x).toInt)
      ∧ (s.fold IntOp.minsi b g = b ∨ ∃ x ∈ s, s.fold IntOp.minsi b g = g x) := by
  induction s using Finset.induction_on with
  | empty => simp
  | insert a s ha ih =>
    obtain ⟨h1, h2, h3⟩ := ih
    rw [Finset.fold_insert ha]
    generalize s.fold IntOp.minsi b g = r at *
    unfold IntOp.minsi
    by_cases h : BitVec.slt (g a) r = true
    · have hl := BitVec.slt_iff_toInt_lt.mp h
      rw [if_pos h]
      refine ⟨by omega, fun x hx => ?_, Or.inr ⟨a, Finset.mem_insert_self _ _, rfl⟩⟩
      rcases Finset.mem_insert.mp hx with rfl | hx
      · exact le_rfl
      · have := h2 x hx; omega
    · have hl := mt BitVec.slt_iff_toInt_lt.mpr h
      rw [if_neg h]
      refine ⟨h1, fun x hx => ?_, ?_⟩
      · rcases Finset.mem_insert.mp hx with rfl | hx
        · omega
        · exact h2 x hx
      · rcases h3 with h3 | ⟨x, hx, h3⟩
        · exact Or.inl h3
        · exact Or.inr ⟨x, Finset.mem_insert_of_mem hx, h3⟩

theorem toInt_lane : ∀ l : Fin 32, (BitVec.ofNat 32 l.val).toInt = (l.val : ℤ) := by decide +kernel

/-- The greatest of 32 real entries. -/
theorem fold_first (D : Fin 32 → ℝ) : Finset.univ.fold max (Ideal.ofBits .f32 0xFF800000#32) (fun x => (D x : EReal)) = ((D (first D) : ℝ) : EReal) := by
  have hb : Ideal.ofBits .f32 0xFF800000#32 = ⊥ := by simp [Ideal.ofBits, Ideal.ieee]
  rw [hb]
  show Finset.univ.sup (fun x => (D x : EReal)) = _
  exact le_antisymm (Finset.sup_le fun x _ => EReal.coe_le_coe_iff.mpr ((first_spec D).1 x)) (Finset.le_sup (f := fun x => (D x : EReal)) (Finset.mem_univ _))

theorem mask_eq (d : FVec Ideal S128x32 .f32) (D : Fin 32 → ℝ) (hd : Holds p d D) : Marks p (gMask d) (first D) := by
  intro l
  unfold gMask
  pointwise
  simp only [hd _]
  rw [fold_first]
  have e : Finset.univ.fold IntOp.minsi (2147483647#32) (fun x : Fin 32 => if ((D x : ℝ) : EReal) = ((D (first D) : ℝ) : EReal) then BitVec.ofNat 32 x.val else 32#32)
      = BitVec.ofNat 32 (first D).val := by
    obtain ⟨-, h2, h3⟩ := fold_minsi (2147483647#32) (fun x : Fin 32 => if ((D x : ℝ) : EReal) = ((D (first D) : ℝ) : EReal) then BitVec.ofNat 32 x.val else 32#32) Finset.univ
    have h2 := h2 (first D) (Finset.mem_univ _)
    rw [if_pos rfl, toInt_lane] at h2
    have hf := (first D).isLt
    rcases h3 with h3 | ⟨x, -, h3⟩
    · rw [h3, show (2147483647#32).toInt = 2147483647 from rfl] at h2; omega
    · rw [h3] at h2 ⊢
      split at h2
      · rename_i hx
        rw [if_pos hx]
        rw [toInt_lane] at h2
        have := (first_spec D).2 x (EReal.coe_eq_coe_iff.mp hx)
        rw [show x = first D from Fin.ext (by have := Fin.le_def.mp this; omega)]
      · rw [show (32#32).toInt = 32 from rfl] at h2; omega
  rw [e]
  generalize first D = f
  revert l f; decide +kernel

theorem zero_eq : Marks p k0_pay6 0 := by
  intro l
  unfold k0_pay6
  pointwise
  revert l; decide +kernel

section
variable (x0 x1 x2 : FVec Ideal S128x32 .f32) (X Y Z : Fin 32 → ℝ)
  (hx : Holds p (k0_pay3 x0) X) (hy : Holds p (k0_pay4 x1) Y) (hz : Holds p (k0_pay5 x2) Z)
include hx hy hz

/-- The walk of row `p` is the walk of its points. -/
theorem walk_eq (n : ℕ) : Marks p (gM x0 x1 x2 n) (far X Y Z n) ∧ Holds p (gD x0 x1 x2 n) (near X Y Z n) := by
  induction n with
  | zero =>
    refine ⟨zero_eq p, ?_⟩
    refine dist_eq p _ _ _ _ _ (fun _ => 10000000000) X Y Z 0 (zero_eq p) (fun l => ?_) hx hy hz
    exact ofBits_far
  | succ n ih =>
    have h : Marks p (gM x0 x1 x2 (n + 1)) (far X Y Z (n + 1)) := mask_eq p _ _ ih.2
    exact ⟨h, dist_eq p _ _ _ _ _ _ X Y Z _ h ih.2 hx hy hz⟩

theorem gX_eq (n : ℕ) : gX x0 x1 x2 n (ix2 p 0) = ((X (far X Y Z n) : ℝ) : EReal) := cent_eq p _ _ _ _ (walk_eq p x0 x1 x2 X Y Z hx hy hz n).1 hx
theorem gY_eq (n : ℕ) : gY x0 x1 x2 n (ix2 p 0) = ((Y (far X Y Z n) : ℝ) : EReal) := cent_eq p _ _ _ _ (walk_eq p x0 x1 x2 X Y Z hx hy hz n).1 hy
theorem gZ_eq (n : ℕ) : gZ x0 x1 x2 n (ix2 p 0) = ((Z (far X Y Z n) : ℝ) : EReal) := cent_eq p _ _ _ _ (walk_eq p x0 x1 x2 X Y Z hx hy hz n).1 hz

end

/-- Eight columns side by side, at a column. -/
theorem row_at (c : ℕ → FVec Ideal S128x1 .f32) (n : Fin 8) : gRow c (ix2 p n) = c n.val (ix2 p 0) := by
  unfold gRow
  fin_cases n <;> pointwise

/-- Eight columns, each over 32 lanes. -/
theorem rep_at (c : ℕ → FVec Ideal S128x1 .f32) (q : Fin 256) : gRep c (ix2 p q) = c (q.val / 32) (ix2 p 0) := by
  unfold gRep
  pointwise
  have := q.isLt
  split_ifs <;> exact congrArg (fun n => c n (ix2 p 0)) (by omega)

theorem tile_at (v : FVec Ideal S128x32 .f32) (q : Fin 256) : k0_pay49 v (ix2 p q) = v (ix2 p ⟨q.val % 32, Nat.mod_lt _ (by decide)⟩) := by
  unfold k0_pay49
  pointwise
  have := q.isLt
  split_ifs <;> exact congrArg (fun n => v (ix2 p n)) (Fin.ext (by dsimp only; omega))

theorem lane_div : ∀ x : Fin 256, Scalar.select
      (IntOp.andi (IntOp.cmpi .ne (IntOp.subi (BitVec.setWidth 32 (IntOp.cmpi .sgt (BitVec.ofNat 32 x.val) 0#32))
            (BitVec.setWidth 32 (IntOp.cmpi .slt (BitVec.ofNat 32 x.val) 0#32)))
          (Scalar.subi (Scalar.extui (Scalar.cmpi .sgt 32#32 0#32)) (Scalar.extui (Scalar.cmpi .slt 32#32 0#32))))
        (IntOp.cmpi .ne (IntOp.remsi .vector (BitVec.ofNat 32 x.val) 32#32) 0#32))
      (IntOp.subi (IntOp.divsi .vector (BitVec.ofNat 32 x.val) 32#32) 1#32)
      (IntOp.divsi .vector (BitVec.ofNat 32 x.val) 32#32) = BitVec.ofNat 32 (x.val / 32) := by decide +kernel

theorem le_word {m n : ℕ} (hm : m < 1024) (hn : n < 1024) : IntOp.cmpi .sle (BitVec.ofNat 32 m) (BitVec.ofNat 32 n) = if m ≤ n then 1#1 else 0#1 := by
  show BitVec.ofBool (BitVec.sle _ _) = _
  have e : BitVec.sle (BitVec.ofNat 32 m) (BitVec.ofNat 32 n) = decide (m ≤ n) := by
    have h1 : (BitVec.ofNat 32 m).toInt = m := by rw [BitVec.toInt_ofNat']; simp [Int.bmod]; omega
    have h2 : (BitVec.ofNat 32 n).toInt = n := by rw [BitVec.toInt_ofNat']; simp [Int.bmod]; omega
    unfold BitVec.sle; rw [h1, h2]; simp
  rw [e]; by_cases h : m ≤ n <;> simp [h]

theorem eq_word {m n : ℕ} (hm : m < 1024) (hn : n < 1024) : IntOp.cmpi .eq (BitVec.ofNat 32 m) (BitVec.ofNat 32 n) = if m = n then 1#1 else 0#1 := by
  show BitVec.ofBool (BitVec.ofNat 32 m == BitVec.ofNat 32 n) = _
  by_cases h : m = n
  · subst h; simp
  · have : BitVec.ofNat 32 m ≠ BitVec.ofNat 32 n := fun e => h (by have := congrArg BitVec.toNat e; simpa [Nat.mod_eq_of_lt (show m < 4294967296 by omega), Nat.mod_eq_of_lt (show n < 4294967296 by omega)] using this)
    rw [if_neg h, beq_eq_false_iff_ne.mpr this]; rfl

/-- A word of a bit as a number. -/
theorem num_bit (c : Prop) [Decidable c] : FloatOps.sitofp (F := Ideal) .f32 (BitVec.setWidth 32 (if c then 1#1 else 0#1)) = ((if c then (1 : ℝ) else 0 : ℝ) : EReal) := by
  split <;> rename_i h
  · show (((BitVec.setWidth 32 1#1).toInt : ℝ) : EReal) = _; simp
  · show (((BitVec.setWidth 32 0#1).toInt : ℝ) : EReal) = _; simp

theorem and_bit (c d : Prop) [Decidable c] [Decidable d] : IntOp.andi (if c then 1#1 else 0#1) (if d then 1#1 else 0#1) = if c ∧ d then 1#1 else 0#1 := by
  by_cases hc : c <;> by_cases hd : d <;> simp [hc, hd] <;> rfl

theorem rank_at (v : FVec Ideal S128x256 .f32) (q : Fin 256) :
    gRank v (ix2 p q) = ∑ x : Fin 256, v (ix2 p x) * ((if x.val ≤ q.val ∧ x.val / 32 = q.val / 32 then (1 : ℝ) else 0 : ℝ) : EReal) := by
  unfold gRank k0_pay59 k0_pay55 k0_pay56 k0_pay57 k0_pay58
  pointwise
  refine Finset.sum_congr rfl fun x _ => congrArg _ ?_
  have := x.isLt
  have := q.isLt
  rw [lane_div, lane_div, le_word (by omega) (by omega), eq_word (by omega) (by omega), and_bit, num_bit]

/-- The sum over the lanes of one of eight segments. -/
theorem sum_seg (n : ℕ) (hn : n < 8) (g : Fin 32 → EReal) :
    ∑ x : Fin 256, (if x.val / 32 = n then g ⟨x.val % 32, Nat.mod_lt _ (by decide)⟩ else 0) = ∑ a, g a := by
  rw [← Finset.sum_filter]
  refine Finset.sum_bij' (fun x _ => ⟨x.val % 32, Nat.mod_lt _ (by decide)⟩) (fun a _ => ⟨32 * n + a.val, by omega⟩) (fun _ _ => Finset.mem_univ _)
    (fun a _ => Finset.mem_filter.mpr ⟨Finset.mem_univ _, by dsimp only; omega⟩) (fun x hx => ?_) (fun a _ => ?_) (fun x _ => rfl)
  · have := (Finset.mem_filter.mp hx).2; exact Fin.ext (by dsimp only; omega)
  · exact Fin.ext (by dsimp only; omega)

/-- The sum over the lanes of one of 32 segments. -/
theorem sum_seg4 (m n : ℕ) (hm : m < 4) (hn : n < 8) (g : Fin 1024 → EReal) :
    ∑ x : Fin 1024, (if x.val / 256 = m ∧ x.val % 256 / 32 = n then g x else 0) = ∑ a : Fin 32, g ⟨256 * m + 32 * n + a.val, by omega⟩ := by
  rw [← Finset.sum_filter]
  refine Finset.sum_bij' (fun x _ => ⟨x.val % 32, Nat.mod_lt _ (by decide)⟩) (fun a _ => ⟨256 * m + 32 * n + a.val, by omega⟩) (fun _ _ => Finset.mem_univ _)
    (fun a _ => Finset.mem_filter.mpr ⟨Finset.mem_univ _, by dsimp only; omega⟩) (fun x hx => ?_) (fun a _ => ?_) (fun x hx => ?_)
  · have := (Finset.mem_filter.mp hx).2; exact Fin.ext (by dsimp only; omega)
  · exact Fin.ext (by dsimp only; omega)
  · have := (Finset.mem_filter.mp hx).2; exact congrArg g (Fin.ext (by dsimp only; omega))

end Cert.KernelIdeal.Val

end
-- ==== Proof.Val.GrpOut.lean ====
/- What a point of the group kernel's grid leaves in each output block, as the blocks named before. -/
module

public import proofs.«01_k».proof.Proof.Val.Grp2
public import proofs.«01_k».proof.Proof.Mem.Region0
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- Blocks of one function that cover leave that function. -/
theorem canon_of_pieces {S : Shape} {e : EltTy} (G : S.Idx → Elt F e) (L : List (View.Piece (Elt F) S e)) (h : View.PiecesOf G L)
    (hc : ∀ y, ∃ p ∈ L, y ∈ p.1.set) : View.canon L = G := by
  funext y
  have := View.canon_append_of_piecesOf G [] L h y (hc y)
  rwa [List.append_nil] at this

section
variable (x0 x1 x2 : Vec F S128x32 .f32) (x3 : Vec F S3x64 .f32) (x4 : Vec F S1x64 .f32)

/-- The ball mask of a point's rows. -/
def gV0 : FVec F S128x256 .f32 := gIn (k0_pay3 x0) (k0_pay4 x1) (k0_pay5 x2) (gX x0 x1 x2) (gY x0 x1 x2) (gZ x0 x1 x2)
def gA0 : FVec F S1x1x64 .f32 := k0_pay70 (View.ld x3 (Rect.unit (s := S3x64) ![0, 0] S1x64.size inb_S3x64_S1x64_0_0))
def gB0 : FVec F S1x1x64 .f32 := k0_pay71 (View.ld x3 (Rect.unit (s := S3x64) ![1, 0] S1x64.size inb_S3x64_S1x64_1_0))
def gC0 : FVec F S1x1x64 .f32 := k0_pay72 (View.ld x3 (Rect.unit (s := S3x64) ![2, 0] S1x64.size inb_S3x64_S1x64_2_0))

/-- The rows of place `t`, its sums and those of its squares. -/
def yb0 (t : ℕ) : FVec F S128x8x64 .f32 :=
  gOut (k0_pay49 (k0_pay3 x0)) (k0_pay50 (k0_pay4 x1)) (k0_pay51 (k0_pay5 x2)) (gV0 x0 x1 x2) (gRank (gV0 x0 x1 x2)) gSeg (gRow (gX x0 x1 x2)) (gRow (gY x0 x1 x2)) (gRow (gZ x0 x1 x2))
    (gA0 x3) (gB0 x3) (gC0 x3) (k0_pay73 x4) t
def sb0 : FVec F S64 .f32 :=
  gAdd (k0_pay49 (k0_pay3 x0)) (k0_pay50 (k0_pay4 x1)) (k0_pay51 (k0_pay5 x2)) (gV0 x0 x1 x2) (gRank (gV0 x0 x1 x2)) gSeg (gRow (gX x0 x1 x2)) (gRow (gY x0 x1 x2)) (gRow (gZ x0 x1 x2))
    (gA0 x3) (gB0 x3) (gC0 x3) (k0_pay73 x4) 7
def qb0 : FVec F S64 .f32 :=
  gSqs (k0_pay49 (k0_pay3 x0)) (k0_pay50 (k0_pay4 x1)) (k0_pay51 (k0_pay5 x2)) (gV0 x0 x1 x2) (gRank (gV0 x0 x1 x2)) gSeg (gRow (gX x0 x1 x2)) (gRow (gY x0 x1 x2)) (gRow (gZ x0 x1 x2))
    (gA0 x3) (gB0 x3) (gC0 x3) (k0_pay73 x4) 7
def st0 : FVec F S8x64 .f32 := gStat (sb0 x0 x1 x2 x3 x4) (qb0 x0 x1 x2 x3 x4)
def ac0 (o : Vec F S8x64 .f32) : FVec F S8x64 .f32 := addf (shapeCast S8x64 o shapeCasts_S8x64_S8x64) (st0 x0 x1 x2 x3 x4)

/-- A point's block of rows: place `t` takes its eight rows from `8 t`. -/
def gBlk : Vec F S128x64x64 .f32 := fun y =>
  yb0 x0 x1 x2 x3 x4 ((y 1).val / 8) (ix3 ⟨(y 0).val, (y 0).isLt⟩ ⟨(y 1).val % 8, Nat.mod_lt _ (by decide)⟩ ⟨(y 2).val, (y 2).isLt⟩)

theorem gBlk_piece (t : ℕ) (ht : t < 8) (inb : ∀ a, (![0, 8 * t, 0] : Fin 3 → ℕ) a + S128x8x64.size a ≤ S128x64x64.size a) :
    ∀ x : (Rect.unit (s := S128x64x64) ![0, 8 * t, 0] S128x8x64.size inb).shape.Idx,
      yb0 x0 x1 x2 x3 x4 t x = gBlk x0 x1 x2 x3 x4 ((Rect.unit (s := S128x64x64) ![0, 8 * t, 0] S128x8x64.size inb).emb x) := by
  intro x
  have h1 : (x 1).val < 8 := (x 1).isLt
  have e0 : ((Rect.unit (s := S128x64x64) ![0, 8 * t, 0] S128x8x64.size inb).emb x 0).val = (x 0).val := by
    rw [Rect.emb_apply]; show 0 + 1 * (x 0).val = _; omega
  have e1 : ((Rect.unit (s := S128x64x64) ![0, 8 * t, 0] S128x8x64.size inb).emb x 1).val = 8 * t + (x 1).val := by
    rw [Rect.emb_apply]; show 8 * t + 1 * (x 1).val = _; omega
  have e2 : ((Rect.unit (s := S128x64x64) ![0, 8 * t, 0] S128x8x64.size inb).emb x 2).val = (x 2).val := by
    rw [Rect.emb_apply]; show 0 + 1 * (x 2).val = _; omega
  show _ = yb0 x0 x1 x2 x3 x4 _ _
  rw [show ((Rect.unit (s := S128x64x64) ![0, 8 * t, 0] S128x8x64.size inb).emb x 1).val / 8 = t by rw [e1]; omega]
  congr 1
  funext a
  fin_cases a
  · exact Fin.ext e0.symm
  · exact Fin.ext (by show (x 1).val = _ % 8; rw [e1]; omega)
  · exact Fin.ext e2.symm

end

theorem p35s (x0 x1 x2 : FVec F S128x32 .f32) : k0_pay35 (gS x0 x1 x2) = gX x0 x1 x2 5 := rfl

theorem rank_fold (v : FVec F S128x256 .f32) :
    k0_pay59 v (iota .tc S256x256 32 [0] iota_S256x256_d0_w32) (iota .tc S256x256 32 [1] iota_S256x256_d1_w32) k0_pay55 32#32 k0_pay56 k0_pay57 k0_pay58 = gRank v := rfl

theorem seg_fold : k0_pay66 (F := F) (iota .tc S1024x32 32 [1] iota_S1024x32_d1_w32)
    (k0_pay64 (k0_pay60 (iota .tc S1024x32 32 [0] iota_S1024x32_d0_w32) 256#32) (k0_pay61 (iota .tc S1024x32 32 [1] iota_S1024x32_d1_w32))
      (k0_pay62 (iota .tc S1024x32 32 [1] iota_S1024x32_d1_w32)) (k0_pay63 (iota .tc S1024x32 32 [1] iota_S1024x32_d1_w32)))
    (k0_pay65 (iota .tc S1024x32 32 [0] iota_S1024x32_d0_w32)) (Scalar.select (Scalar.cmpi .eq 8#32 0#32) 1#32 8#32) = gSeg := rfl

set_option maxHeartbeats 4000000 in
theorem out0_A_5_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : cond0_0 i) (hc1 : ¬cond0_1 i) (x0 : Vec F S128x32 .f32) (x1 : Vec F S128x32 .f32) (x2 : Vec F S128x32 .f32) (x3 : Vec F S3x64 .f32) (x4 : Vec F S1x64 .f32) :
    out0_A_5 c i arg1 harg1 arg2 harg2 arg3 harg3 arg4 harg4 arg5 harg5 arg6 harg6 arg7 harg7 arg8 harg8 arg9 harg9 arg10 harg10 hc0 hc1 x0 x1 x2 x3 x4 = gBlk x0 x1 x2 x3 x4 := by
  unfold out0_A_5
  refine (View.read_writes_eq_canon _ _ _ (fun y => by apply cover0_A_5)).trans (canon_of_pieces _ _ ?_ (fun y => by apply cover0_A_5))
  unfold kernelRun0_A
  dsimp only
  sl_unfold_words
  simp only [View.readAt_eq_ld, harg1.read_unread, harg2.read_unread, harg3.read_unread, harg4.read_unread, harg5.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]
  simp only [rank_fold, seg_fold, q76, q77, q78, q79, q80, q81, q87, q88, q89, q94, q95, q96, q98, q99, q100, q103, q104, q105, q106, q108, q109, q110, q111, q112, q115, q116, q117, q1, q2]
  refine ⟨?_, ?_, ?_, ?_, ?_, ?_, ?_, ?_, trivial⟩
  · exact gBlk_piece x0 x1 x2 x3 x4 7 (by decide) inb_S128x64x64_S128x8x64_0_56_0
  · exact gBlk_piece x0 x1 x2 x3 x4 6 (by decide) inb_S128x64x64_S128x8x64_0_48_0
  · exact gBlk_piece x0 x1 x2 x3 x4 5 (by decide) inb_S128x64x64_S128x8x64_0_40_0
  · exact gBlk_piece x0 x1 x2 x3 x4 4 (by decide) inb_S128x64x64_S128x8x64_0_32_0
  · exact gBlk_piece x0 x1 x2 x3 x4 3 (by decide) inb_S128x64x64_S128x8x64_0_24_0
  · exact gBlk_piece x0 x1 x2 x3 x4 2 (by decide) inb_S128x64x64_S128x8x64_0_16_0
  · exact gBlk_piece x0 x1 x2 x3 x4 1 (by decide) inb_S128x64x64_S128x8x64_0_8_0
  · exact gBlk_piece x0 x1 x2 x3 x4 0 (by decide) inb_S128x64x64_S128x8x64_0_0_0

set_option maxHeartbeats 4000000 in
theorem out0_A_6_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : cond0_0 i) (hc1 : ¬cond0_1 i) (x0 : Vec F S128x32 .f32) (x1 : Vec F S128x32 .f32) (x2 : Vec F S128x32 .f32) (x3 : Vec F S3x64 .f32) (x4 : Vec F S1x64 .f32) :
    out0_A_6 c i arg1 harg1 arg2 harg2 arg3 harg3 arg4 harg4 arg5 harg5 arg6 harg6 arg7 harg7 arg8 harg8 arg9 harg9 arg10 harg10 hc0 hc1 x0 x1 x2 x3 x4 = gRow (gX x0 x1 x2) := by
  unfold out0_A_6
  refine (View.read_writes_eq_canon _ _ _ (fun y => by apply cover0_A_6)).trans ?_
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]

set_option maxHeartbeats 4000000 in
theorem out0_A_7_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : cond0_0 i) (hc1 : ¬cond0_1 i) (x0 : Vec F S128x32 .f32) (x1 : Vec F S128x32 .f32) (x2 : Vec F S128x32 .f32) (x3 : Vec F S3x64 .f32) (x4 : Vec F S1x64 .f32) :
    out0_A_7 c i arg1 harg1 arg2 harg2 arg3 harg3 arg4 harg4 arg5 harg5 arg6 harg6 arg7 harg7 arg8 harg8 arg9 harg9 arg10 harg10 hc0 hc1 x0 x1 x2 x3 x4 = gRow (gY x0 x1 x2) := by
  unfold out0_A_7
  refine (View.read_writes_eq_canon _ _ _ (fun y => by apply cover0_A_7)).trans ?_
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]

set_option maxHeartbeats 4000000 in
theorem out0_A_8_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : cond0_0 i) (hc1 : ¬cond0_1 i) (x0 : Vec F S128x32 .f32) (x1 : Vec F S128x32 .f32) (x2 : Vec F S128x32 .f32) (x3 : Vec F S3x64 .f32) (x4 : Vec F S1x64 .f32) :
    out0_A_8 c i arg1 harg1 arg2 harg2 arg3 harg3 arg4 harg4 arg5 harg5 arg6 harg6 arg7 harg7 arg8 harg8 arg9 harg9 arg10 harg10 hc0 hc1 x0 x1 x2 x3 x4 = gRow (gZ x0 x1 x2) := by
  unfold out0_A_8
  refine (View.read_writes_eq_canon _ _ _ (fun y => by apply cover0_A_8)).trans ?_
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]

set_option maxHeartbeats 4000000 in
theorem out0_A_9_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : cond0_0 i) (hc1 : ¬cond0_1 i) (x0 : Vec F S128x32 .f32) (x1 : Vec F S128x32 .f32) (x2 : Vec F S128x32 .f32) (x3 : Vec F S3x64 .f32) (x4 : Vec F S1x64 .f32) :
    out0_A_9 c i arg1 harg1 arg2 harg2 arg3 harg3 arg4 harg4 arg5 harg5 arg6 harg6 arg7 harg7 arg8 harg8 arg9 harg9 arg10 harg10 hc0 hc1 x0 x1 x2 x3 x4 = st0 x0 x1 x2 x3 x4 := by
  unfold out0_A_9
  refine (View.read_writes_eq_canon _ _ _ (fun y => by apply cover0_A_9)).trans ?_
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]
  simp only [rank_fold, seg_fold, q76, q77, q78, q79, q80, q81, q87, q88, q89, q94, q95, q96, q98, q99, q100, q103, q104, q105, q106, q108, q109, q110, q111, q112, q115, q116, q117, q1, q2]
  rfl

set_option maxHeartbeats 4000000 in
theorem out0_B_5_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : ¬cond0_0 i) (hc1 : cond0_1 i) (x0 : Vec F S128x32 .f32) (x1 : Vec F S128x32 .f32) (x2 : Vec F S128x32 .f32) (x3 : Vec F S3x64 .f32) (x4 : Vec F S1x64 .f32) (xo9 : Vec F S8x64 .f32) :
    out0_B_5 c i arg1 harg1 arg2 harg2 arg3 harg3 arg4 harg4 arg5 harg5 arg6 harg6 arg7 harg7 arg8 harg8 arg9 harg9 arg10 harg10 hc0 hc1 x0 x1 x2 x3 x4 xo9 = gBlk x0 x1 x2 x3 x4 := by
  unfold out0_B_5
  refine (View.read_writes_eq_canon _ _ _ (fun y => by apply cover0_B_5)).trans (canon_of_pieces _ _ ?_ (fun y => by apply cover0_B_5))
  unfold kernelRun0_B
  dsimp only
  sl_unfold_words
  simp only [View.readAt_eq_ld, harg1.read_unread, harg2.read_unread, harg3.read_unread, harg4.read_unread, harg5.read_unread, harg10.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]
  simp only [rank_fold, seg_fold, q76, q77, q78, q79, q80, q81, q87, q88, q89, q94, q95, q96, q98, q99, q100, q103, q104, q105, q106, q108, q109, q110, q111, q112, q115, q116, q117, q1, q2]
  refine ⟨?_, ?_, ?_, ?_, ?_, ?_, ?_, ?_, trivial⟩
  · exact gBlk_piece x0 x1 x2 x3 x4 7 (by decide) inb_S128x64x64_S128x8x64_0_56_0
  · exact gBlk_piece x0 x1 x2 x3 x4 6 (by decide) inb_S128x64x64_S128x8x64_0_48_0
  · exact gBlk_piece x0 x1 x2 x3 x4 5 (by decide) inb_S128x64x64_S128x8x64_0_40_0
  · exact gBlk_piece x0 x1 x2 x3 x4 4 (by decide) inb_S128x64x64_S128x8x64_0_32_0
  · exact gBlk_piece x0 x1 x2 x3 x4 3 (by decide) inb_S128x64x64_S128x8x64_0_24_0
  · exact gBlk_piece x0 x1 x2 x3 x4 2 (by decide) inb_S128x64x64_S128x8x64_0_16_0
  · exact gBlk_piece x0 x1 x2 x3 x4 1 (by decide) inb_S128x64x64_S128x8x64_0_8_0
  · exact gBlk_piece x0 x1 x2 x3 x4 0 (by decide) inb_S128x64x64_S128x8x64_0_0_0

set_option maxHeartbeats 4000000 in
theorem out0_B_6_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : ¬cond0_0 i) (hc1 : cond0_1 i) (x0 : Vec F S128x32 .f32) (x1 : Vec F S128x32 .f32) (x2 : Vec F S128x32 .f32) (x3 : Vec F S3x64 .f32) (x4 : Vec F S1x64 .f32) (xo9 : Vec F S8x64 .f32) :
    out0_B_6 c i arg1 harg1 arg2 harg2 arg3 harg3 arg4 harg4 arg5 harg5 arg6 harg6 arg7 harg7 arg8 harg8 arg9 harg9 arg10 harg10 hc0 hc1 x0 x1 x2 x3 x4 xo9 = gRow (gX x0 x1 x2) := by
  unfold out0_B_6
  refine (View.read_writes_eq_canon _ _ _ (fun y => by apply cover0_B_6)).trans ?_
  unfold kernelRun0_B
  dsimp only
  sl_unfold_words
  rw [View.canon_unit_zero hz]
  simp only [View.readAt_eq_ld, harg1.read_unread, harg2.read_unread, harg3.read_unread, harg4.read_unread, harg5.read_unread, harg10.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]

set_option maxHeartbeats 4000000 in
theorem out0_B_7_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : ¬cond0_0 i) (hc1 : cond0_1 i) (x0 : Vec F S128x32 .f32) (x1 : Vec F S128x32 .f32) (x2 : Vec F S128x32 .f32) (x3 : Vec F S3x64 .f32) (x4 : Vec F S1x64 .f32) (xo9 : Vec F S8x64 .f32) :
    out0_B_7 c i arg1 harg1 arg2 harg2 arg3 harg3 arg4 harg4 arg5 harg5 arg6 harg6 arg7 harg7 arg8 harg8 arg9 harg9 arg10 harg10 hc0 hc1 x0 x1 x2 x3 x4 xo9 = gRow (gY x0 x1 x2) := by
  unfold out0_B_7
  refine (View.read_writes_eq_canon _ _ _ (fun y => by apply cover0_B_7)).trans ?_
  unfold kernelRun0_B
  dsimp only
  sl_unfold_words
  rw [View.canon_unit_zero hz]
  simp only [View.readAt_eq_ld, harg1.read_unread, harg2.read_unread, harg3.read_unread, harg4.read_unread, harg5.read_unread, harg10.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]

set_option maxHeartbeats 4000000 in
theorem out0_B_8_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : ¬cond0_0 i) (hc1 : cond0_1 i) (x0 : Vec F S128x32 .f32) (x1 : Vec F S128x32 .f32) (x2 : Vec F S128x32 .f32) (x3 : Vec F S3x64 .f32) (x4 : Vec F S1x64 .f32) (xo9 : Vec F S8x64 .f32) :
    out0_B_8 c i arg1 harg1 arg2 harg2 arg3 harg3 arg4 harg4 arg5 harg5 arg6 harg6 arg7 harg7 arg8 harg8 arg9 harg9 arg10 harg10 hc0 hc1 x0 x1 x2 x3 x4 xo9 = gRow (gZ x0 x1 x2) := by
  unfold out0_B_8
  refine (View.read_writes_eq_canon _ _ _ (fun y => by apply cover0_B_8)).trans ?_
  unfold kernelRun0_B
  dsimp only
  sl_unfold_words
  rw [View.canon_unit_zero hz]
  simp only [View.readAt_eq_ld, harg1.read_unread, harg2.read_unread, harg3.read_unread, harg4.read_unread, harg5.read_unread, harg10.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]

set_option maxHeartbeats 4000000 in
theorem out0_B_9_eq (c : Dev nD) (i : grid0.Coords) (arg1 : Memref sig .tc .vmem S128x32 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S128x64x64 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x64 .f32) (harg10 : arg10.IsWhole) (hc0 : ¬cond0_0 i) (hc1 : cond0_1 i) (x0 : Vec F S128x32 .f32) (x1 : Vec F S128x32 .f32) (x2 : Vec F S128x32 .f32) (x3 : Vec F S3x64 .f32) (x4 : Vec F S1x64 .f32) (xo9 : Vec F S8x64 .f32) :
    out0_B_9 c i arg1 harg1 arg2 harg2 arg3 harg3 arg4 harg4 arg5 harg5 arg6 harg6 arg7 harg7 arg8 harg8 arg9 harg9 arg10 harg10 hc0 hc1 x0 x1 x2 x3 x4 xo9 = ac0 x0 x1 x2 x3 x4 xo9 := by
  unfold out0_B_9
  refine (View.read_writes_eq_canon _ _ _ (fun y => by apply cover0_B_9)).trans ?_
  unfold kernelRun0_B
  dsimp only
  sl_unfold_words
  rw [View.canon_unit_zero hz]
  simp only [View.readAt_eq_ld, harg1.read_unread, harg2.read_unread, harg3.read_unread, harg4.read_unread, harg5.read_unread, harg10.read_unread, View.ld_unit_zero (S := S1x64) hz, View.ld_unit_zero (S := S128x32) hz, View.ld_unit_zero (S := S8x64) hz]
  simp only [p7 x0 x1 x2, p8 x0 x1 x2, p9 x0 x1 x2, p10 x0 x1 x2, p13 x0 x1 x2, p14 x0 x1 x2, p15 x0 x1 x2, p16 x0 x1 x2, p17 x0 x1 x2, p18 x0 x1 x2, p19 x0 x1 x2, p21 x0 x1 x2, p24 x0 x1 x2, p25 x0 x1 x2, p26 x0 x1 x2, p27 x0 x1 x2, p29 x0 x1 x2, p30 x0 x1 x2, p31 x0 x1 x2, p32 x0 x1 x2, p33 x0 x1 x2, p34 x0 x1 x2, p36 x0 x1 x2, p37 x0 x1 x2, p38 x0 x1 x2, p40 x0 x1 x2, p41 x0 x1 x2, p42 x0 x1 x2, p43 x0 x1 x2, p44 x0 x1 x2, p46 x0 x1 x2, p47 x0 x1 x2, p48 x0 x1 x2, p52 x0 x1 x2, p54 x0 x1 x2, p67 x0 x1 x2, p68 x0 x1 x2, p69 x0 x1 x2, p35s x0 x1 x2]
  simp only [rank_fold, seg_fold, q76, q77, q78, q79, q80, q81, q87, q88, q89, q94, q95, q96, q98, q99, q100, q103, q104, q105, q106, q108, q109, q110, q111, q112, q115, q116, q117, q1, q2]
  rfl

end Cert.KernelIdeal.Val

end
-- ==== Proof.Val.GrpPick.lean ====
/- The blocks of the group kernel at real entries, second part: every place of a ball, the layer over the offsets, its sums. -/
module

public import proofs.«01_k».proof.Proof.Val.GrpEnt
public import proofs.«01_k».proof.Proof.Val.GrpOut

@[expose] public section

set_option maxRecDepth 16384

noncomputable section

namespace Cert.KernelIdeal.Val

open Cert.KernelIdeal Cert.KernelIdeal.Gen Idealize.ShloMosaic Idealize.ShloMosaic.TcCoe Idealize.SL.Sem Cert.Spec

/-- A number that says whether two pairs of words agree. -/
theorem seg_form (A B C D : BitVec 32) (a b c d : ℕ) (ha : a < 1024) (hb : b < 1024) (hc : c < 1024) (hd : d < 1024) (hA : A = BitVec.ofNat 32 a) (hB : B = BitVec.ofNat 32 b)
    (hC : C = BitVec.ofNat 32 c) (hD : D = BitVec.ofNat 32 d) :
    FloatOps.sitofp (F := Ideal) .f32 (BitVec.setWidth 32 (IntOp.andi (IntOp.cmpi .eq A B) (IntOp.cmpi .eq C D))) = ((if a = b ∧ c = d then (1 : ℝ) else 0 : ℝ) : EReal) := by
  rw [hA, hB, hC, hD, eq_word ha hb, eq_word hc hd, and_bit, num_bit]

/-- The weights of the segment sums. -/
theorem seg_at (x : Fin 1024) (j : Fin 32) : gSeg (F := Ideal) (ix2 x j) = ((if x.val / 256 = j.val / 8 ∧ x.val % 256 / 32 = j.val % 8 then (1 : ℝ) else 0 : ℝ) : EReal) := by
  unfold gSeg k0_pay60 k0_pay61 k0_pay62 k0_pay63 k0_pay64 k0_pay65 k0_pay66
  pointwise
  have := x.isLt
  have := j.isLt
  refine seg_form _ _ _ _ (x.val / 256) (j.val / 8) (x.val % 256 / 32) (j.val % 8) (by omega) (by omega) (by omega) (by omega) ?_ ?_ ?_ ?_
  · clear this; revert x; decide +kernel
  · unfold k0_pay61; pointwise; clear this; revert j; decide +kernel
  · clear this; revert x; decide +kernel
  · clear this; revert j; decide +kernel

variable (p : Fin 128)

section
variable (tx ty tz v r : FVec Ideal S128x256 .f32) (cx cy cz : FVec Ideal S128x8 .f32) (a b c e : FVec Ideal S1x1x64 .f32)

/-- What the segment sums of a place add up: the three coordinates and the mask. -/
def part (t : ℕ) : ℕ → Fin 256 → EReal
  | 0 => fun x => gAt v r t (ix2 p x) * tx (ix2 p x)
  | 1 => fun x => gAt v r t (ix2 p x) * ty (ix2 p x)
  | 2 => fun x => gAt v r t (ix2 p x) * tz (ix2 p x)
  | _ => fun x => gAt v r t (ix2 p x)

theorem sel_at (t : ℕ) (m : ℕ) (hm : m < 4) (n : Fin 8) :
    gSel tx ty tz v r gSeg t (ix2 p ⟨8 * m + n.val, by omega⟩) = ∑ l : Fin 32, part p tx ty tz v r t m ⟨32 * n.val + l.val, by omega⟩ := by
  have h : ∀ x : Fin 1024, (if h : x.val < 256 then gAt v r t (ix2 p ⟨x.val, h⟩) * tx (ix2 p ⟨x.val, h⟩)
        else if h' : x.val - 256 < 256 then gAt v r t (ix2 p ⟨x.val - 256, h'⟩) * ty (ix2 p ⟨x.val - 256, h'⟩)
          else if h'' : x.val - 256 - 256 < 256 then gAt v r t (ix2 p ⟨x.val - 256 - 256, h''⟩) * tz (ix2 p ⟨x.val - 256 - 256, h''⟩)
            else gAt v r t (ix2 p ⟨x.val - 256 - 256 - 256, by have := x.isLt; omega⟩))
      = part p tx ty tz v r t (x.val / 256) ⟨x.val % 256, Nat.mod_lt _ (by decide)⟩ := by
    intro x
    have := x.isLt
    split_ifs with h1 h2 h3
    · rw [show x.val / 256 = 0 by omega]; unfold part; simp only [show x.val % 256 = x.val by omega]
    · rw [show x.val / 256 = 1 by omega]; unfold part; simp only [show x.val % 256 = x.val - 256 by omega]
    · rw [show x.val / 256 = 2 by omega]; unfold part; simp only [show x.val % 256 = x.val - 256 - 256 by omega]
    · rw [show x.val / 256 = 3 by omega]; unfold part; simp only [show x.val % 256 = x.val - 256 - 256 - 256 by omega]
  have h' : gSel tx ty tz v r gSeg t (ix2 p ⟨8 * m + n.val, by omega⟩)
      = ∑ x : Fin 1024, (if x.val / 256 = m ∧ x.val % 256 / 32 = n.val then part p tx ty tz v r t (x.val / 256) ⟨x.val % 256, Nat.mod_lt _ (by decide)⟩ else 0) := by
    unfold gSel
    pointwise
    refine Finset.sum_congr rfl fun x _ => ?_
    rw [h x, seg_at]
    dsimp only
    rw [show (8 * m + n.val) / 8 = m by omega, show (8 * m + n.val) % 8 = n.val by omega]
    split
    · exact mul_one _
    · exact mul_zero _
  rw [h', sum_seg4 m n.val hm n.isLt fun x => part p tx ty tz v r t (x.val / 256) ⟨x.val % 256, Nat.mod_lt _ (by decide)⟩]
  refine Finset.sum_congr rfl fun l _ => ?_
  have := l.isLt
  dsimp only
  rw [show (256 * m + 32 * n.val + l.val) / 256 = m by omega]
  exact congrArg _ (Fin.ext (by dsimp only; omega))

theorem pick_at (u : FVec Ideal S128x32 .f32) (s f : FVec Ideal S128x8 .f32) (n : Fin 8) :
    gPick u s f (ix2 p n) = if Ideal.ofBits .f32 0x3F000000#32 < u (ix2 p ⟨24 + n.val, by omega⟩) then s (ix2 p n) else f (ix2 p n) := by
  unfold gPick
  pointwise

theorem aff_at (px py pz : FVec Ideal S128x8 .f32) (n : Fin 8) (o : Fin 64) : gAff px py pz cx cy cz a b c e (ix3 p n o)
    = (px (ix2 p n) - cx (ix2 p n)) * a (ix3 0 0 o) + (py (ix2 p n) - cy (ix2 p n)) * b (ix3 0 0 o) + (pz (ix2 p n) - cz (ix2 p n)) * c (ix3 0 0 o) + e (ix3 0 0 o) := by
  unfold gAff
  pointwise
end

theorem ofBits_word (t : ℕ) (h : t < 8) : Ideal.ofBits .f32 (gWord t) = (((t + 1 : ℕ) : ℝ) : EReal) := by
  interval_cases t <;> simp [gWord, Ideal.ofBits, Ideal.ieee] <;> norm_num [← EReal.coe_mul]

theorem ofBits_half : Ideal.ofBits .f32 0x3F000000#32 = ((1 / 2 : ℝ) : EReal) := by
  simp [Ideal.ofBits, Ideal.ieee]; norm_num [← EReal.coe_mul]

theorem gsum_at (v : FVec Ideal S128x8x64 .f32) (o : Fin 64) : gSum v (ix1 o) = ∑ a : Fin 128, ∑ n : Fin 8, v (ix3 a n o) := by
  unfold gSum
  pointwise
  unfold Ideal.reduceAdd
  rw [← Fintype.sum_prod_type']
  refine Finset.sum_bij' (fun i _ => ((⟨(i 0).val, (i 0).isLt⟩ : Fin 128), (⟨(i 1).val, (i 1).isLt⟩ : Fin 8))) (fun q _ => ix3 q.1 q.2 o) (fun _ _ => Finset.mem_univ _)
    (fun q _ => Finset.mem_filter.mpr ⟨Finset.mem_univ _, ?_⟩) (fun i hi => ?_) (fun q _ => rfl) (fun i hi => ?_)
  · funext a; fin_cases a; rfl
  · have h := congrArg Fin.val (congrFun (Finset.mem_filter.mp hi).2 0)
    funext a
    fin_cases a
    · rfl
    · rfl
    · exact Fin.ext h.symm
  · have h := congrArg Fin.val (congrFun (Finset.mem_filter.mp hi).2 0)
    refine congrArg v ?_
    funext a
    fin_cases a
    · rfl
    · rfl
    · exact Fin.ext h

theorem stat_at0 (s q : FVec Ideal S64 .f32) (o : Fin 64) : gStat s q (ix2 0 o) = s (ix1 o) := by
  unfold gStat k0_pay119
  pointwise
  exact add_zero _
theorem stat_at1 (s q : FVec Ideal S64 .f32) (o : Fin 64) : gStat s q (ix2 1 o) = q (ix1 o) := by
  unfold gStat k0_pay119
  pointwise
  exact zero_add _

section
variable (x0 x1 x2 : FVec Ideal S128x32 .f32) (x3 : FVec Ideal S3x64 .f32) (x4 : FVec Ideal S1x64 .f32) (X Y Z : Fin 32 → ℝ)
  (hx : Holds p (k0_pay3 x0) X) (hy : Holds p (k0_pay4 x1) Y) (hz : Holds p (k0_pay5 x2) Z)
include hx hy hz

/-- The mask at a lane of a centre. -/
theorem v_at (q : Fin 256) : gV0 (F := Ideal) x0 x1 x2 (ix2 p q)
    = ((if sqd X Y Z (far X Y Z (q.val / 32)) ⟨q.val % 32, Nat.mod_lt _ (by decide)⟩ ≤ rad then (1 : ℝ) else 0 : ℝ) : EReal) := by
  unfold gV0 gIn gOff
  pointwise
  simp only [tile_at, rep_at, gX_eq p x0 x1 x2 X Y Z hx hy hz, gY_eq p x0 x1 x2 X Y Z hx hy hz, gZ_eq p x0 x1 x2 X Y Z hx hy hz, hx _, hy _, hz _, ofBits_rad]
  simp only [← EReal.coe_mul, ← EReal.coe_sub, ← EReal.coe_add, EReal.coe_le_coe_iff]
  rw [← num_bit]
  congr 2
  unfold sqd
  split <;> rename_i h <;> simp [h]

/-- The rank at a lane of a centre. -/
theorem r_at (n : Fin 8) (l : Fin 32) : gRank (F := Ideal) (gV0 (F := Ideal) x0 x1 x2) (ix2 p ⟨32 * n.val + l.val, by omega⟩)
    = ((∑ a : Fin 32, (if sqd X Y Z (far X Y Z n.val) a ≤ rad ∧ a ≤ l then (1 : ℝ) else 0) : ℝ) : EReal) := by
  rw [rank_at, ← coe_sum, ← sum_seg n.val n.isLt fun a => ((if sqd X Y Z (far X Y Z n.val) a ≤ rad ∧ a ≤ l then (1 : ℝ) else 0 : ℝ) : EReal)]
  refine Finset.sum_congr rfl fun x _ => ?_
  rw [v_at p x0 x1 x2 X Y Z hx hy hz]
  have := l.isLt
  dsimp only
  rw [show (32 * n.val + l.val) / 32 = n.val by omega, ← EReal.coe_mul]
  by_cases h1 : x.val / 32 = n.val
  · rw [if_pos h1]
    have h2 : (x.val ≤ 32 * n.val + l.val ∧ x.val / 32 = n.val) ↔ (⟨x.val % 32, Nat.mod_lt _ (by decide)⟩ : Fin 32) ≤ l := by
      rw [Fin.le_def]; dsimp only; omega
    simp only [h2, h1]
    refine congrArg _ ?_
    split_ifs <;> simp_all
  · rw [if_neg h1, if_neg (show ¬(x.val ≤ 32 * n.val + l.val ∧ x.val / 32 = n.val) from fun h => h1 h.2), mul_zero]; rfl

/-- A segment sum of a place is a coordinate of it, or the number of it. -/
theorem found_at (t : ℕ) (ht : t < 8) (m : ℕ) (hm : m < 4) (n : Fin 8) (w : Fin 32 → ℝ)
    (hw : ∀ x : Fin 256, part p (k0_pay49 (k0_pay3 x0)) (k0_pay50 (k0_pay4 x1)) (k0_pay51 (k0_pay5 x2)) (gV0 (F := Ideal) x0 x1 x2) (gRank (F := Ideal) (gV0 (F := Ideal) x0 x1 x2)) t m x
      = gAt (gV0 (F := Ideal) x0 x1 x2) (gRank (F := Ideal) (gV0 (F := Ideal) x0 x1 x2)) t (ix2 p x) * ((w ⟨x.val % 32, Nat.mod_lt _ (by decide)⟩ : ℝ) : EReal)) :
    gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t (ix2 p ⟨8 * m + n.val, by omega⟩)
      = ((((ball X Y Z (far X Y Z n.val))[t]?.map w).getD 0 : ℝ) : EReal) := by
  rw [sel_at p _ _ _ _ _ t m hm n, ← sum_pick, ← coe_sum]
  refine Finset.sum_congr rfl fun l _ => ?_
  rw [hw]
  have hl := l.isLt
  have e : gAt (gV0 (F := Ideal) x0 x1 x2) (gRank (F := Ideal) (gV0 (F := Ideal) x0 x1 x2)) t (ix2 p ⟨32 * n.val + l.val, by omega⟩)
      = if gRank (F := Ideal) (gV0 (F := Ideal) x0 x1 x2) (ix2 p ⟨32 * n.val + l.val, by omega⟩) = Ideal.ofBits .f32 (gWord t) then gV0 (F := Ideal) x0 x1 x2 (ix2 p ⟨32 * n.val + l.val, by omega⟩) else 0 := by
    unfold gAt
    pointwise
  rw [e, r_at p x0 x1 x2 X Y Z hx hy hz, v_at p x0 x1 x2 X Y Z hx hy hz, ofBits_word t ht, Nat.cast_succ]
  simp only [EReal.coe_eq_coe_iff, show (32 * n.val + l.val) / 32 = n.val by omega, show (32 * n.val + l.val) % 32 = l.val by omega]
  by_cases h1 : (∑ a : Fin 32, (if sqd X Y Z (far X Y Z n.val) a ≤ rad ∧ a ≤ l then (1 : ℝ) else 0)) = (t : ℝ) + 1
  · by_cases h2 : sqd X Y Z (far X Y Z n.val) l ≤ rad
    · rw [if_pos h1, if_pos h2, if_pos ⟨h1, h2⟩, ← EReal.coe_mul, one_mul]
    · rw [if_pos h1, if_neg h2, if_neg (fun h => h2 h.2), ← EReal.coe_mul, zero_mul]
  · rw [if_neg h1, if_neg (fun h => h1 h.1), zero_mul]; rfl

theorem found_x (t : ℕ) (ht : t < 8) (n : Fin 8) :
    gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t (ix2 p ⟨8 * 0 + n.val, by omega⟩)
      = ((((ball X Y Z (far X Y Z n.val))[t]?.map X).getD 0 : ℝ) : EReal) :=
  found_at p x0 x1 x2 X Y Z hx hy hz t ht 0 (by decide) n X fun x => congrArg (gAt _ _ t (ix2 p x) * ·) ((tile_at p _ x).trans (hx _))
theorem found_y (t : ℕ) (ht : t < 8) (n : Fin 8) :
    gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t (ix2 p ⟨8 * 1 + n.val, by omega⟩)
      = ((((ball X Y Z (far X Y Z n.val))[t]?.map Y).getD 0 : ℝ) : EReal) :=
  found_at p x0 x1 x2 X Y Z hx hy hz t ht 1 (by decide) n Y fun x => congrArg (gAt _ _ t (ix2 p x) * ·) ((tile_at p _ x).trans (hy _))
theorem found_z (t : ℕ) (ht : t < 8) (n : Fin 8) :
    gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t (ix2 p ⟨8 * 2 + n.val, by omega⟩)
      = ((((ball X Y Z (far X Y Z n.val))[t]?.map Z).getD 0 : ℝ) : EReal) :=
  found_at p x0 x1 x2 X Y Z hx hy hz t ht 2 (by decide) n Z fun x => congrArg (gAt _ _ t (ix2 p x) * ·) ((tile_at p _ x).trans (hz _))
theorem found_n (t : ℕ) (ht : t < 8) (n : Fin 8) :
    gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t (ix2 p ⟨8 * 3 + n.val, by omega⟩)
      = ((((ball X Y Z (far X Y Z n.val))[t]?.map fun _ => (1 : ℝ)).getD 0 : ℝ) : EReal) :=
  found_at p x0 x1 x2 X Y Z hx hy hz t ht 3 (by decide) n (fun _ => 1) fun x => (mul_one _).symm

/-- Place `t` of every ball, from the sums of place `t` and of the first place. -/
theorem place_at (t : ℕ) (ht : t < 8) (n : Fin 8) (w : Fin 32 → ℝ) (s f : FVec Ideal S128x8 .f32)
    (hs : s (ix2 p n) = ((((ball X Y Z (far X Y Z n.val))[t]?.map w).getD 0 : ℝ) : EReal))
    (hf : f (ix2 p n) = ((((ball X Y Z (far X Y Z n.val))[0]?.map w).getD 0 : ℝ) : EReal)) :
    gPick (gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t) s f (ix2 p n)
      = ((w (pick X Y Z (far X Y Z n.val) t) : ℝ) : EReal) := by
  rw [pick_at, ofBits_half, hs, hf, ← pick_eq X Y Z w]
  have := found_n p x0 x1 x2 X Y Z hx hy hz t ht n
  simp only [show 8 * 3 = 24 from rfl] at this
  rw [this]
  simp only [EReal.coe_lt_coe_iff]
  split <;> rfl

/-- The first place of every ball. -/
theorem first_eq (n : Fin 8) (w : Fin 32 → ℝ) : ((ball X Y Z (far X Y Z n.val))[0]?.map w).getD 0 = w (pick X Y Z (far X Y Z n.val) 0) := by
  rw [← pick_eq X Y Z w]; split <;> rfl

theorem slice_x (t : ℕ) (ht : t < 8) (n : Fin 8) :
    extractStridedSlice S128x8 ![0, 0] (gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t) slices_S128x32_o0_0_S128x8 (ix2 p n)
      = ((((ball X Y Z (far X Y Z n.val))[t]?.map X).getD 0 : ℝ) : EReal) := by
  rw [← found_x p x0 x1 x2 X Y Z hx hy hz t ht n]; pointwise
theorem slice_y (t : ℕ) (ht : t < 8) (n : Fin 8) :
    extractStridedSlice S128x8 ![0, 8] (gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t) slices_S128x32_o0_8_S128x8 (ix2 p n)
      = ((((ball X Y Z (far X Y Z n.val))[t]?.map Y).getD 0 : ℝ) : EReal) := by
  rw [← found_y p x0 x1 x2 X Y Z hx hy hz t ht n]; pointwise
theorem slice_z (t : ℕ) (ht : t < 8) (n : Fin 8) :
    extractStridedSlice S128x8 ![0, 16] (gSel (F := Ideal) (k0_pay49 (k0_pay3 x0)) (k0_pay50 (k0_pay4 x1)) (k0_pay51 (k0_pay5 x2)) (gV0 (F := Ideal) x0 x1 x2) (gRank (F := Ideal) (gV0 (F := Ideal) x0 x1 x2)) gSeg t) slices_S128x32_o0_16_S128x8 (ix2 p n)
      = ((((ball X Y Z (far X Y Z n.val))[t]?.map Z).getD 0 : ℝ) : EReal) := by
  rw [← found_z p x0 x1 x2 X Y Z hx hy hz t ht n]; pointwise

/-- One row of the layer over the offsets. -/
theorem yb_at (W : Fin 64 → Fin 3 → ℝ) (b : Fin 64 → ℝ) (h3 : ∀ k o, x3 (ix2 k o) = ((W o k : ℝ) : EReal)) (h4 : ∀ o, x4 (ix2 0 o) = ((b o : ℝ) : EReal))
    (t : ℕ) (ht : t < 8) (n : Fin 8) (o : Fin 64) :
    yb0 (F := Ideal) x0 x1 x2 x3 x4 t (ix3 p n o) = ((((X (pick X Y Z (far X Y Z n.val) t) - X (far X Y Z n.val)) * W o 0 + (Y (pick X Y Z (far X Y Z n.val) t) - Y (far X Y Z n.val)) * W o 1
      + (Z (pick X Y Z (far X Y Z n.val) t) - Z (far X Y Z n.val)) * W o 2) + b o : ℝ) : EReal) := by
  have ea : gA0 (F := Ideal) x3 (ix3 0 0 o) = ((W o 0 : ℝ) : EReal) := by rw [← h3]; unfold gA0 k0_pay70; pointwise
  have eb : gB0 (F := Ideal) x3 (ix3 0 0 o) = ((W o 1 : ℝ) : EReal) := by rw [← h3]; unfold gB0 k0_pay71; pointwise
  have ec : gC0 (F := Ideal) x3 (ix3 0 0 o) = ((W o 2 : ℝ) : EReal) := by rw [← h3]; unfold gC0 k0_pay72; pointwise
  have ee : k0_pay73 (F := Ideal) x4 (ix3 0 0 o) = ((b o : ℝ) : EReal) := by rw [← h4]; unfold k0_pay73; pointwise
  have fin : ∀ px py pz : FVec Ideal S128x8 .f32, px (ix2 p n) = ((X (pick X Y Z (far X Y Z n.val) t) : ℝ) : EReal) → py (ix2 p n) = ((Y (pick X Y Z (far X Y Z n.val) t) : ℝ) : EReal)
      → pz (ix2 p n) = ((Z (pick X Y Z (far X Y Z n.val) t) : ℝ) : EReal) →
      gAff px py pz (gRow (gX x0 x1 x2)) (gRow (gY x0 x1 x2)) (gRow (gZ x0 x1 x2)) (gA0 x3) (gB0 x3) (gC0 x3) (k0_pay73 x4) (ix3 p n o)
      = ((((X (pick X Y Z (far X Y Z n.val) t) - X (far X Y Z n.val)) * W o 0 + (Y (pick X Y Z (far X Y Z n.val) t) - Y (far X Y Z n.val)) * W o 1
      + (Z (pick X Y Z (far X Y Z n.val) t) - Z (far X Y Z n.val)) * W o 2) + b o : ℝ) : EReal) := by
    intro px py pz h1 h2 h5
    rw [aff_at, h1, h2, h5, row_at, row_at, row_at, gX_eq p x0 x1 x2 X Y Z hx hy hz, gY_eq p x0 x1 x2 X Y Z hx hy hz, gZ_eq p x0 x1 x2 X Y Z hx hy hz, ea, eb, ec, ee]
    simp only [← EReal.coe_mul, ← EReal.coe_sub, ← EReal.coe_add]
  cases t with
  | zero =>
    refine fin _ _ _ ?_ ?_ ?_
    · exact (slice_x p x0 x1 x2 X Y Z hx hy hz 0 ht n).trans (congrArg _ (first_eq p x0 x1 x2 X Y Z hx hy hz n X))
    · exact (slice_y p x0 x1 x2 X Y Z hx hy hz 0 ht n).trans (congrArg _ (first_eq p x0 x1 x2 X Y Z hx hy hz n Y))
    · exact (slice_z p x0 x1 x2 X Y Z hx hy hz 0 ht n).trans (congrArg _ (first_eq p x0 x1 x2 X Y Z hx hy hz n Z))
  | succ t =>
    refine fin _ _ _ ?_ ?_ ?_
    · exact place_at p x0 x1 x2 X Y Z hx hy hz (t + 1) ht n X _ _ (slice_x p x0 x1 x2 X Y Z hx hy hz (t + 1) ht n) (slice_x p x0 x1 x2 X Y Z hx hy hz 0 (by decide) n)
    · exact place_at p x0 x1 x2 X Y Z hx hy hz (t + 1) ht n Y _ _ (slice_y p x0 x1 x2 X Y Z hx hy hz (t + 1) ht n) (slice_y p x0 x1 x2 X Y Z hx hy hz 0 (by decide) n)
    · exact place_at p x0 x1 x2 X Y Z hx hy hz (t + 1) ht n Z _ _ (slice_z p x0 x1 x2 X Y Z hx hy hz (t + 1) ht n) (slice_z p x0 x1 x2 X Y Z hx hy hz 0 (by decide) n)

end

theorem gadd_at (tx ty tz v r : FVec Ideal S128x256 .f32) (sg : FVec Ideal S1024x32 .f32) (cx cy cz : FVec Ideal S128x8 .f32) (a b c e : FVec Ideal S1x1x64 .f32) (o : Fin 64) :
    gAdd tx ty tz v r sg cx cy cz a b c e 7 (ix1 o) = ∑ t : Fin 8, gSum (gOut tx ty tz v r sg cx cy cz a b c e t.val) (ix1 o) := by
  rw [Fin.sum_univ_eight]
  simp only [gAdd]
  generalize gOut tx ty tz v r sg cx cy cz a b c e = g
  rfl
theorem gsqs_at (tx ty tz v r : FVec Ideal S128x256 .f32) (sg : FVec Ideal S1024x32 .f32) (cx cy cz : FVec Ideal S128x8 .f32) (a b c e : FVec Ideal S1x1x64 .f32) (o : Fin 64) :
    gSqs tx ty tz v r sg cx cy cz a b c e 7 (ix1 o)
      = ∑ t : Fin 8, gSum (mulf (gOut tx ty tz v r sg cx cy cz a b c e t.val) (gOut tx ty tz v r sg cx cy cz a b c e t.val)) (ix1 o) := by
  rw [Fin.sum_univ_eight]
  simp only [gSqs]
  generalize gOut tx ty tz v r sg cx cy cz a b c e = g
  rfl

/-- A point's sums: over the eight places. -/
theorem sb_at (x0 x1 x2 : FVec Ideal S128x32 .f32) (x3 : FVec Ideal S3x64 .f32) (x4 : FVec Ideal S1x64 .f32) (o : Fin 64) :
    st0 (F := Ideal) x0 x1 x2 x3 x4 (ix2 0 o) = ∑ t : Fin 8, ∑ a : Fin 128, ∑ n : Fin 8, yb0 (F := Ideal) x0 x1 x2 x3 x4 t.val (ix3 a n o)
    ∧ st0 (F := Ideal) x0 x1 x2 x3 x4 (ix2 1 o) = ∑ t : Fin 8, ∑ a : Fin 128, ∑ n : Fin 8, yb0 (F := Ideal) x0 x1 x2 x3 x4 t.val (ix3 a n o) * yb0 (F := Ideal) x0 x1 x2 x3 x4 t.val (ix3 a n o) := by
  unfold st0
  rw [stat_at0, stat_at1]
  unfold sb0 qb0
  rw [gadd_at, gsqs_at]
  exact ⟨Finset.sum_congr rfl fun t _ => gsum_at _ o, Finset.sum_congr rfl fun t _ => gsum_at _ o⟩

theorem ac_at (x0 x1 x2 : FVec Ideal S128x32 .f32) (x3 : FVec Ideal S3x64 .f32) (x4 : FVec Ideal S1x64 .f32) (y : Vec Ideal S8x64 .f32) (a : Fin 8) (o : Fin 64) :
    ac0 (F := Ideal) x0 x1 x2 x3 x4 y (ix2 a o) = y (ix2 a o) + st0 (F := Ideal) x0 x1 x2 x3 x4 (ix2 a o) := by
  unfold ac0
  pointwise

end Cert.KernelIdeal.Val

end
-- ==== Proof.Val.KG.lean ====
/- The region of the group kernel: the arrays that it leaves hold the layer over the offsets of every ball's samples, the centres,
    and the sums of the layer's columns and of their squares. -/
module

public import proofs.«01_k».proof.Proof.Val.Common
public import proofs.«01_k».proof.Proof.Val.GrpPick

@[expose] public section

set_option maxRecDepth 16384

noncomputable section

namespace Cert.KernelIdeal.Val

open Cert.KernelIdeal Cert.KernelIdeal.Gen Idealize.ShloMosaic Idealize.ShloMosaic.TcCoe Idealize.SL.Sem Cert.Spec
open Idealize.ShloMosaic.Pipeline (Dat)

section
variable {F : FTy → Type} [FloatOps F]
variable (V : (c : Dev nD) → (b : Ref sig .tc) → Buf (Elt F) ((c : Thread nD τ).loc b))

/-- The block that each window takes at a point. -/
theorem idx0 : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0, 0] ∧ win0_6.index t = ![t.val, 0] ∧ win0_7.index t = ![t.val, 0] ∧ win0_8.index t = ![t.val, 0]
    ∧ win0_9.index t = ![0, 0] := by decide +kernel

theorem lt0 (t : Fin cfg0.N) : t.val < 16 := lt_of_lt_of_eq t.isLt (show cfg0.N = 16 from N_0)

/-- A point's rows … -/
theorem fst0 (c : Dev nD) (t : Fin cfg0.N) : (outsAt0 V c t.val t.isLt).1 = gBlk (iblk0 V c 0 t) (iblk0 V c 1 t) (iblk0 V c 2 t) (iblk0 V c 3 t) (iblk0 V c 4 t) := by
  have := lt0 t
  by_cases h0 : t.val % 16 = 0
  · rw [outsAt0_A V c t h0 (by omega)]; dsimp only; rw [out0_A_5_eq]
  · rw [outsAt0_B V c t h0 (by omega)]; dsimp only; rw [out0_B_5_eq]

/-- … its centres … -/
theorem cenx0 (c : Dev nD) (t : Fin cfg0.N) : (outsAt0 V c t.val t.isLt).2.1 = gRow (gX (iblk0 V c 0 t) (iblk0 V c 1 t) (iblk0 V c 2 t)) := by
  have := lt0 t
  by_cases h0 : t.val % 16 = 0
  · rw [outsAt0_A V c t h0 (by omega)]; dsimp only; rw [out0_A_6_eq]
  · rw [outsAt0_B V c t h0 (by omega)]; dsimp only; rw [out0_B_6_eq]
theorem ceny0 (c : Dev nD) (t : Fin cfg0.N) : (outsAt0 V c t.val t.isLt).2.2.1 = gRow (gY (iblk0 V c 0 t) (iblk0 V c 1 t) (iblk0 V c 2 t)) := by
  have := lt0 t
  by_cases h0 : t.val % 16 = 0
  · rw [outsAt0_A V c t h0 (by omega)]; dsimp only; rw [out0_A_7_eq]
  · rw [outsAt0_B V c t h0 (by omega)]; dsimp only; rw [out0_B_7_eq]
theorem cenz0 (c : Dev nD) (t : Fin cfg0.N) : (outsAt0 V c t.val t.isLt).2.2.2.1 = gRow (gZ (iblk0 V c 0 t) (iblk0 V c 1 t) (iblk0 V c 2 t)) := by
  have := lt0 t
  by_cases h0 : t.val % 16 = 0
  · rw [outsAt0_A V c t h0 (by omega)]; dsimp only; rw [out0_A_8_eq]
  · rw [outsAt0_B V c t h0 (by omega)]; dsimp only; rw [out0_B_8_eq]

/-- … and its sums: the first point starts them, every later one adds to them. -/
theorem snd0_A (c : Dev nD) (t : Fin cfg0.N) (h0 : t.val % 16 = 0) :
    (outsAt0 V c t.val t.isLt).2.2.2.2 = st0 (iblk0 V c 0 t) (iblk0 V c 1 t) (iblk0 V c 2 t) (iblk0 V c 3 t) (iblk0 V c 4 t) := by
  have := lt0 t
  rw [outsAt0_A V c t h0 (by omega)]; dsimp only; rw [out0_A_9_eq]
theorem snd0_B (c : Dev nD) (n : ℕ) (h : n + 1 < cfg0.N) :
    (outsAt0 V c (n + 1) h).2.2.2.2 = ac0 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (outsAt0 V c n (Nat.lt_of_succ_lt h)).2.2.2.2 := by
  have h16 : n + 1 < 16 := lt0 ⟨n + 1, h⟩
  rw [outsAt0_B V c ⟨n + 1, h⟩ (by dsimp only; omega) (by dsimp only; omega)]; dsimp only; rw [out0_B_9_eq]
  rfl
end

section
variable (V : (c : Dev nD) → (b : Ref sig .tc) → Buf (Elt Ideal) ((c : Thread nD τ).loc b)) (c : Dev nD)
variable (x y z : Fin 2048 → Fin 32 → ℝ) (W : Fin 64 → Fin 3 → ℝ) (b : Fin 64 → ℝ)

/-- The region's inputs hold the clouds' coordinates and the layer's parameters. -/
structure In0 : Prop where
  h0 : ∀ r l, V c (Pipeline.arrRef spec0 0) (ix2 r l) = ((x r l : ℝ) : EReal)
  h1 : ∀ r l, V c (Pipeline.arrRef spec0 1) (ix2 r l) = ((y r l : ℝ) : EReal)
  h2 : ∀ r l, V c (Pipeline.arrRef spec0 2) (ix2 r l) = ((z r l : ℝ) : EReal)
  h3 : ∀ k o, V c (Pipeline.arrRef spec0 3) (ix2 k o) = ((W o k : ℝ) : EReal)
  h4 : ∀ o, V c (Pipeline.arrRef spec0 4) (ix2 0 o) = ((b o : ℝ) : EReal)

variable {V c x y z W b} (H : In0 V c x y z W b)
include H

theorem holdx0 (t : Fin cfg0.N) (p : Fin 128) (h : t.val * 128 + p.val < 2048) : Holds p (k0_pay3 (F := Ideal) (iblk0 V c 0 t)) (x ⟨t.val * 128 + p.val, h⟩) := by
  intro l
  rw [← H.h0]
  unfold k0_pay3
  rw [shapeCast_self]
  blk_ext [iblk0, idx0 t]
theorem holdy0 (t : Fin cfg0.N) (p : Fin 128) (h : t.val * 128 + p.val < 2048) : Holds p (k0_pay4 (F := Ideal) (iblk0 V c 1 t)) (y ⟨t.val * 128 + p.val, h⟩) := by
  intro l
  rw [← H.h1]
  unfold k0_pay4
  rw [shapeCast_self]
  blk_ext [iblk0, idx0 t]
theorem holdz0 (t : Fin cfg0.N) (p : Fin 128) (h : t.val * 128 + p.val < 2048) : Holds p (k0_pay5 (F := Ideal) (iblk0 V c 2 t)) (z ⟨t.val * 128 + p.val, h⟩) := by
  intro l
  rw [← H.h2]
  unfold k0_pay5
  rw [shapeCast_self]
  blk_ext [iblk0, idx0 t]

/-- The rows of a place. -/
theorem place0 (t : Fin cfg0.N) (p : Fin 128) (s : ℕ) (hs : s < 8) (n : Fin 8) (o : Fin 64) (h : t.val * 8192 + (p.val * 64 + (8 * s + n.val)) < 131072) :
    yb0 (F := Ideal) (iblk0 V c 0 t) (iblk0 V c 1 t) (iblk0 V c 2 t) (iblk0 V c 3 t) (iblk0 V c 4 t) s (ix3 p n o)
      = ((lin (offs x y z) W b ⟨t.val * 8192 + (p.val * 64 + (8 * s + n.val)), h⟩ o : ℝ) : EReal) := by
  have hp := p.isLt
  have hn := n.isLt
  have hr : t.val * 128 + p.val < 2048 := by have := lt0 t; omega
  rw [yb_at p _ _ _ _ _ _ _ _ (holdx0 H t p hr) (holdy0 H t p hr) (holdz0 H t p hr) W b
    (fun k o => by rw [← H.h3]; blk_ext [iblk0, idx0 t]) (fun o => by rw [← H.h4]; blk_ext [iblk0, idx0 t]) s hs n o]
  have e1 : (t.val * 8192 + (p.val * 64 + (8 * s + n.val))) / 64 = t.val * 128 + p.val := by omega
  have e2 : (t.val * 8192 + (p.val * 64 + (8 * s + n.val))) % 8 = n.val := by omega
  have e3 : (t.val * 8192 + (p.val * 64 + (8 * s + n.val))) % 64 / 8 = s := by omega
  refine congrArg (fun v : ℝ => (v : EReal)) ?_
  unfold lin
  rw [Fin.sum_univ_three]
  unfold offs samp lane
  simp only [e1, e2, e3]

theorem rows0 (t : Fin cfg0.N) (p : Fin 128) (q : Fin 64) (o : Fin 64) (h : (t.val * 128 + p.val) * 64 + q.val < 131072) :
    (outsAt0 V c t.val t.isLt).1 (ix3 p q o) = ((lin (offs x y z) W b ⟨(t.val * 128 + p.val) * 64 + q.val, h⟩ o : ℝ) : EReal) := by
  rw [fst0]
  have hq := q.isLt
  have e : t.val * 8192 + (p.val * 64 + (8 * (q.val / 8) + q.val % 8)) = (t.val * 128 + p.val) * 64 + q.val := by omega
  refine (place0 H t p (q.val / 8) (by omega) ⟨q.val % 8, Nat.mod_lt _ (by decide)⟩ o (by dsimp only; rw [e]; exact h)).trans ?_
  dsimp only
  simp only [e]

/-- The running sums after a point. -/
theorem sums0 (o : Fin 64) (n : ℕ) (h : n < cfg0.N) :
    (outsAt0 V c n h).2.2.2.2 (ix2 0 o) = ((∑ i ∈ Finset.range ((n + 1) * 8192), ext (fun r => lin (offs x y z) W b r o) i : ℝ) : EReal)
    ∧ (outsAt0 V c n h).2.2.2.2 (ix2 1 o) = ((∑ i ∈ Finset.range ((n + 1) * 8192), ext (fun r => lin (offs x y z) W b r o * lin (offs x y z) W b r o) i : ℝ) : EReal) := by
  have e : ∀ (n : ℕ) (h : n < cfg0.N) (t : Fin 8) (a : Fin 128) (k : Fin 8), n * 8192 + (a.val * 64 + (8 * t.val + k.val)) < 131072 := fun n h t a k => by
    have := lt0 ⟨n, h⟩; have := a.isLt; have := t.isLt; have := k.isLt; dsimp only at *; omega
  have s0 : ∀ (n : ℕ) (h : n < cfg0.N), st0 (F := Ideal) (iblk0 V c 0 ⟨n, h⟩) (iblk0 V c 1 ⟨n, h⟩) (iblk0 V c 2 ⟨n, h⟩) (iblk0 V c 3 ⟨n, h⟩) (iblk0 V c 4 ⟨n, h⟩) (ix2 0 o)
      = ((∑ q : Fin 8192, ext (fun r => lin (offs x y z) W b r o) (n * 8192 + q.val) : ℝ) : EReal) := fun n h => by
    rw [(sb_at _ _ _ _ _ o).1, ← sum_rows fun q => ext (fun r => lin (offs x y z) W b r o) (n * 8192 + q), ← coe_sum]
    refine Finset.sum_congr rfl fun t _ => ?_
    rw [← coe_sum]
    refine Finset.sum_congr rfl fun a _ => ?_
    rw [← coe_sum]
    exact Finset.sum_congr rfl fun k _ => by rw [place0 H ⟨n, h⟩ a t.val t.isLt k o (e n h t a k), ext_of _ (e n h t a k)]
  have s1 : ∀ (n : ℕ) (h : n < cfg0.N), st0 (F := Ideal) (iblk0 V c 0 ⟨n, h⟩) (iblk0 V c 1 ⟨n, h⟩) (iblk0 V c 2 ⟨n, h⟩) (iblk0 V c 3 ⟨n, h⟩) (iblk0 V c 4 ⟨n, h⟩) (ix2 1 o)
      = ((∑ q : Fin 8192, ext (fun r => lin (offs x y z) W b r o * lin (offs x y z) W b r o) (n * 8192 + q.val) : ℝ) : EReal) := fun n h => by
    rw [(sb_at _ _ _ _ _ o).2, ← sum_rows fun q => ext (fun r => lin (offs x y z) W b r o * lin (offs x y z) W b r o) (n * 8192 + q), ← coe_sum]
    refine Finset.sum_congr rfl fun t _ => ?_
    rw [← coe_sum]
    refine Finset.sum_congr rfl fun a _ => ?_
    rw [← coe_sum]
    exact Finset.sum_congr rfl fun k _ => by rw [place0 H ⟨n, h⟩ a t.val t.isLt k o (e n h t a k), ext_of _ (e n h t a k), EReal.coe_mul]
  refine ⟨run_sum 8192 _ _ (fun n h => (outsAt0 V c n h).2.2.2.2 (ix2 0 o)) (fun h => ?_) (fun n h => ?_) n h,
    run_sum 8192 _ _ (fun n h => (outsAt0 V c n h).2.2.2.2 (ix2 1 o)) (fun h => ?_) (fun n h => ?_) n h⟩
  · exact (congrFun (snd0_A V c ⟨0, h⟩ rfl) _).trans (s0 0 h)
  · rw [← s0 (n + 1) h, snd0_B, ac_at]
  · exact (congrFun (snd0_A V c ⟨0, h⟩ rfl) _).trans (s1 0 h)
  · rw [← s1 (n + 1) h, snd0_B, ac_at]

/-- The region leaves the layer's rows, … -/
theorem rows_out0 (a : Fin 2048) (s : Fin 64) (o : Fin 64) : (dat0 V c).arrAt 5 cfg0.N (ix3 a s o)
    = ((lin (offs x y z) W b ⟨a.val * 64 + s.val, by omega⟩ o : ℝ) : EReal) := by
  have : (dat0 V c).arrAt 5 cfg0.N = fun i : S2048x64x64.Idx => ((lin (offs x y z) W b ⟨(i 0).val * 64 + (i 1).val, by
      have h0 : (i 0).val < 2048 := (i 0).isLt; have h1 : (i 1).val < 64 := (i 1).isLt; omega⟩ ⟨(i 2).val, (i 2).isLt⟩ : ℝ) : EReal) := by
    refine (dat0 V c).arrAt_eq_of_covers 5 _ (by decide +kernel) fun t hf x => ?_
    blk_simp
    rw [after0_5]
    idx_vars x
    have h : (t.val * 128 + x0.val) * 64 + x1.val < 131072 := by have := lt0 t; have := x0.isLt; have := x1.isLt; omega
    rw [rows0 H t x0 x1 x2 h]
    refine congrArg (fun v : ℝ => (v : EReal)) (congrArg₂ (lin (offs _ _ _) W b) (Fin.ext ?_) (Fin.ext ?_))
    · blk_simp [idx0 t]
    · blk_simp [idx0 t]
  exact congrFun this _

/-- … every centre, … -/
theorem cenx_out0 (a : Fin 2048) (n : Fin 8) : (dat0 V c).arrAt 6 cfg0.N (ix2 a n) = ((x a (far (x a) (y a) (z a) n.val) : ℝ) : EReal) := by
  have : (dat0 V c).arrAt 6 cfg0.N = fun i : S2048x8.Idx => ((x (i 0) (far (x (i 0)) (y (i 0)) (z (i 0)) (i 1).val) : ℝ) : EReal) := by
    refine (dat0 V c).arrAt_eq_of_covers 6 _ (by decide +kernel) fun t hf j => ?_
    blk_simp
    rw [after0_6]
    idx_vars j
    have h : t.val * 128 + j0.val < 2048 := by have := lt0 t; have := j0.isLt; omega
    rw [cenx0, row_at, gX_eq j0 _ _ _ _ _ _ (holdx0 H t j0 h) (holdy0 H t j0 h) (holdz0 H t j0 h)]
    refine congrArg (fun v : ℝ => (v : EReal)) (congrArg₂ (fun r k => x r (far (x r) (y r) (z r) k)) (Fin.ext ?_) ?_)
    · blk_simp [idx0 t]
    · blk_simp [idx0 t]
  exact congrFun this _
theorem ceny_out0 (a : Fin 2048) (n : Fin 8) : (dat0 V c).arrAt 7 cfg0.N (ix2 a n) = ((y a (far (x a) (y a) (z a) n.val) : ℝ) : EReal) := by
  have : (dat0 V c).arrAt 7 cfg0.N = fun i : S2048x8.Idx => ((y (i 0) (far (x (i 0)) (y (i 0)) (z (i 0)) (i 1).val) : ℝ) : EReal) := by
    refine (dat0 V c).arrAt_eq_of_covers 7 _ (by decide +kernel) fun t hf j => ?_
    blk_simp
    rw [after0_7]
    idx_vars j
    have h : t.val * 128 + j0.val < 2048 := by have := lt0 t; have := j0.isLt; omega
    rw [ceny0, row_at, gY_eq j0 _ _ _ _ _ _ (holdx0 H t j0 h) (holdy0 H t j0 h) (holdz0 H t j0 h)]
    refine congrArg (fun v : ℝ => (v : EReal)) (congrArg₂ (fun r k => y r (far (x r) (y r) (z r) k)) (Fin.ext ?_) ?_)
    · blk_simp [idx0 t]
    · blk_simp [idx0 t]
  exact congrFun this _
theorem cenz_out0 (a : Fin 2048) (n : Fin 8) : (dat0 V c).arrAt 8 cfg0.N (ix2 a n) = ((z a (far (x a) (y a) (z a) n.val) : ℝ) : EReal) := by
  have : (dat0 V c).arrAt 8 cfg0.N = fun i : S2048x8.Idx => ((z (i 0) (far (x (i 0)) (y (i 0)) (z (i 0)) (i 1).val) : ℝ) : EReal) := by
    refine (dat0 V c).arrAt_eq_of_covers 8 _ (by decide +kernel) fun t hf j => ?_
    blk_simp
    rw [after0_8]
    idx_vars j
    have h : t.val * 128 + j0.val < 2048 := by have := lt0 t; have := j0.isLt; omega
    rw [cenz0, row_at, gZ_eq j0 _ _ _ _ _ _ (holdx0 H t j0 h) (holdy0 H t j0 h) (holdz0 H t j0 h)]
    refine congrArg (fun v : ℝ => (v : EReal)) (congrArg₂ (fun r k => z r (far (x r) (y r) (z r) k)) (Fin.ext ?_) ?_)
    · blk_simp [idx0 t]
    · blk_simp [idx0 t]
  exact congrFun this _

/-- … and the sums of the layer's columns and of their squares. -/
theorem sums_out0 (o : Fin 64) : (dat0 V c).arrAt 9 cfg0.N (ix2 0 o) = ((sum1 (lin (offs x y z) W b) o : ℝ) : EReal)
    ∧ (dat0 V c).arrAt 9 cfg0.N (ix2 1 o) = ((sum2 (lin (offs x y z) W b) o : ℝ) : EReal) := by
  have hl : 15 < cfg0.N := by rw [show cfg0.N = 16 from N_0]; decide
  have e : ∀ (n : ℕ) (hn : n < cfg0.N), n = 15 → (outsAt0 V c n hn).2.2.2.2 = (outsAt0 V c 15 hl).2.2.2.2 := by rintro _ _ rfl; rfl
  have : (dat0 V c).arrAt 9 cfg0.N = (outsAt0 V c 15 hl).2.2.2.2 := by
    refine (dat0 V c).arrAt_eq_of_covers 9 _ (by decide +kernel) fun t hf j => ?_
    blk_simp
    have := lt0 t
    have h : t.val = 15 := by have := (flush0_9 t).mp hf; omega
    rw [after0_9, e _ _ h]
    idx_vars j
    refine congrArg (outsAt0 V c 15 hl).2.2.2.2 ?_
    blk_ext [idx0 t]
  rw [this]
  have := sums0 H o 15 hl
  rw [sum_ext (R := 131072), sum_ext (R := 131072)] at this
  exact this

end

end Cert.KernelIdeal.Val

end
-- ==== Proof.Val.K1.lean ====
/- The region of layer 2: the arrays that it leaves hold the affine map of the normalised rows, and the sums of that map's
    columns and of their squares. -/
module

public import proofs.«01_k».proof.Proof.Val.Common
public import proofs.«01_k».proof.Proof.Mem.Region1

@[expose] public section

set_option maxRecDepth 16384

noncomputable section

namespace Cert.KernelIdeal.Val

open Cert.KernelIdeal Cert.KernelIdeal.Gen Idealize.ShloMosaic Idealize.ShloMosaic.TcCoe Idealize.SL.Sem Cert.Spec
open Idealize.ShloMosaic.Pipeline (Dat)

variable {F : FTy → Type} [FloatOps F]
variable (V : (c : Dev nD) → (b : Ref sig .tc) → Buf (Elt F) ((c : Thread nD τ).loc b))

/-- The block that each window takes at a point. -/
theorem idx1 : ∀ t : Fin cfg1.N, win1_0.index t = ![t.val, 0] ∧ win1_1.index t = ![0, 0] ∧ win1_2.index t = ![0, 0] ∧ win1_3.index t = ![0, 0]
    ∧ win1_4.index t = ![0, 0] ∧ win1_5.index t = ![0, 0] ∧ win1_6.index t = ![t.val, 0] ∧ win1_7.index t = ![0, 0] := by decide +kernel

/-- The rows that a point computes of its input blocks. -/
def yb1 (x0 : Vec F S8192x64 .f32) (x1 : Vec F S8x64 .f32) (x2 x3 : Vec F S1x64 .f32) (x4 : Vec F S64x64 .f32) (x5 : Vec F S1x64 .f32) : Vec F S8192x64 .f32 :=
  k1_pay3 (View.ld x1 (Rect.unit (s := S8x64) ![0, 0] S1x64.size inb_S8x64_S1x64_0_0))
    (View.ld x1 (Rect.unit (s := S8x64) ![1, 0] S1x64.size inb_S8x64_S1x64_1_0)) x2 x3 x0 x4 x5

theorem out1_A_6_eq (c : Dev nD) (i : grid1.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x64 .f32) (harg8 : arg8.IsWhole) (hc0 : cond1_0 i) (hc1 : ¬cond1_1 i) (x0 : Vec F S8192x64 .f32) (x1 : Vec F S8x64 .f32) (x2 : Vec F S1x64 .f32) (x3 : Vec F S1x64 .f32) (x4 : Vec F S64x64 .f32) (x5 : Vec F S1x64 .f32) :
    out1_A_6 c i arg1 harg1 arg2 harg2 arg3 harg3 arg4 harg4 arg5 harg5 arg6 harg6 arg7 harg7 arg8 harg8 hc0 hc1 x0 x1 x2 x3 x4 x5 = yb1 x0 x1 x2 x3 x4 x5 := by
  unfold out1_A_6
  refine (View.read_writes_eq_canon _ _ _ (fun y => by apply cover1_A_6)).trans ?_
  unfold kernelRun1_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S8x64) hz, View.ld_unit_zero (S := S8192x64) hz, View.ld_unit_zero (S := S64x64) hz, shapeCast_self]
  rfl

theorem out1_A_7_eq (c : Dev nD) (i : grid1.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x64 .f32) (harg8 : arg8.IsWhole) (hc0 : cond1_0 i) (hc1 : ¬cond1_1 i) (x0 : Vec F S8192x64 .f32) (x1 : Vec F S8x64 .f32) (x2 : Vec F S1x64 .f32) (x3 : Vec F S1x64 .f32) (x4 : Vec F S64x64 .f32) (x5 : Vec F S1x64 .f32) :
    out1_A_7 c i arg1 harg1 arg2 harg2 arg3 harg3 arg4 harg4 arg5 harg5 arg6 harg6 arg7 harg7 arg8 harg8 hc0 hc1 x0 x1 x2 x3 x4 x5 = k1_pay1 (yb1 x0 x1 x2 x3 x4 x5) := by
  unfold out1_A_7
  refine (View.read_writes_eq_canon _ _ _ (fun y => by apply cover1_A_7)).trans ?_
  unfold kernelRun1_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S8x64) hz, View.ld_unit_zero (S := S8192x64) hz, View.ld_unit_zero (S := S64x64) hz, shapeCast_self]
  rfl

theorem out1_B_6_eq (c : Dev nD) (i : grid1.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x64 .f32) (harg8 : arg8.IsWhole) (hc0 : ¬cond1_0 i) (hc1 : cond1_1 i) (x0 : Vec F S8192x64 .f32) (x1 : Vec F S8x64 .f32) (x2 : Vec F S1x64 .f32) (x3 : Vec F S1x64 .f32) (x4 : Vec F S64x64 .f32) (x5 : Vec F S1x64 .f32) (xo7 : Vec F S8x64 .f32) :
    out1_B_6 c i arg1 harg1 arg2 harg2 arg3 harg3 arg4 harg4 arg5 harg5 arg6 harg6 arg7 harg7 arg8 harg8 hc0 hc1 x0 x1 x2 x3 x4 x5 xo7 = yb1 x0 x1 x2 x3 x4 x5 := by
  unfold out1_B_6
  refine (View.read_writes_eq_canon _ _ _ (fun y => by apply cover1_B_6)).trans ?_
  unfold kernelRun1_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S8x64) hz, View.ld_unit_zero (S := S8192x64) hz, View.ld_unit_zero (S := S64x64) hz, shapeCast_self]
  rfl

theorem out1_B_7_eq (c : Dev nD) (i : grid1.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x64 .f32) (harg8 : arg8.IsWhole) (hc0 : ¬cond1_0 i) (hc1 : cond1_1 i) (x0 : Vec F S8192x64 .f32) (x1 : Vec F S8x64 .f32) (x2 : Vec F S1x64 .f32) (x3 : Vec F S1x64 .f32) (x4 : Vec F S64x64 .f32) (x5 : Vec F S1x64 .f32) (xo7 : Vec F S8x64 .f32) :
    out1_B_7 c i arg1 harg1 arg2 harg2 arg3 harg3 arg4 harg4 arg5 harg5 arg6 harg6 arg7 harg7 arg8 harg8 hc0 hc1 x0 x1 x2 x3 x4 x5 xo7 = k1_pay2 (yb1 x0 x1 x2 x3 x4 x5) xo7 := by
  unfold out1_B_7
  refine (View.read_writes_eq_canon _ _ _ (fun y => by apply cover1_B_7)).trans ?_
  unfold kernelRun1_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S8x64) hz, View.ld_unit_zero (S := S8192x64) hz, View.ld_unit_zero (S := S64x64) hz, shapeCast_self]
  rfl

theorem lt1 (t : Fin cfg1.N) : t.val < 16 := lt_of_lt_of_eq t.isLt (show cfg1.N = 16 from N_1)

/-- A point's rows. -/
theorem fst1 (c : Dev nD) (t : Fin cfg1.N) : (outsAt1 V c t.val t.isLt).1
    = yb1 (iblk1 V c 0 t) (iblk1 V c 1 t) (iblk1 V c 2 t) (iblk1 V c 3 t) (iblk1 V c 4 t) (iblk1 V c 5 t) := by
  have := lt1 t
  by_cases h0 : t.val % 16 = 0
  · rw [outsAt1_A V c t h0 (by omega)]; dsimp only; rw [out1_A_6_eq]
  · rw [outsAt1_B V c t h0 (by omega)]; dsimp only; rw [out1_B_6_eq]

/-- The first point starts the running sums … -/
theorem snd1_A (c : Dev nD) (t : Fin cfg1.N) (h0 : t.val % 16 = 0) : (outsAt1 V c t.val t.isLt).2 = k1_pay1 (F := F) (outsAt1 V c t.val t.isLt).1 := by
  have := lt1 t
  rw [fst1, outsAt1_A V c t h0 (by omega)]; dsimp only; rw [out1_A_7_eq]

/-- … and every later one adds to them. -/
theorem snd1_B (c : Dev nD) (n : ℕ) (h : n + 1 < cfg1.N) :
    (outsAt1 V c (n + 1) h).2 = k1_pay2 (F := F) (outsAt1 V c (n + 1) h).1 (outsAt1 V c n (Nat.lt_of_succ_lt h)).2 := by
  have h16 : n + 1 < 16 := lt1 ⟨n + 1, h⟩
  rw [fst1 V c ⟨n + 1, h⟩, outsAt1_B V c ⟨n + 1, h⟩ (by dsimp only; omega) (by dsimp only; omega)]; dsimp only; rw [out1_B_7_eq]
  rfl

/-- One row of the layer's affine map, at real entries. -/
theorem row1 (y : Fin 131072 → Fin 64 → ℝ) (g be : Fin 64 → ℝ) (W : Fin 64 → Fin 64 → ℝ) (b : Fin 64 → ℝ)
    (x0 : Vec Ideal S8192x64 .f32) (x1 : Vec Ideal S8x64 .f32) (x2 x3 : Vec Ideal S1x64 .f32) (x4 : Vec Ideal S64x64 .f32) (x5 : Vec Ideal S1x64 .f32)
    (r : Fin 131072) (q : Fin 8192) (o : Fin 64)
    (h0 : ∀ k, x0 (ix2 q k) = ((y r k : ℝ) : EReal))
    (h1 : ∀ k, x1 (ix2 0 k) = ((sum1 y k : ℝ) : EReal)) (h1' : ∀ k, x1 (ix2 1 k) = ((sum2 y k : ℝ) : EReal))
    (h2 : ∀ k, x2 (ix2 0 k) = ((g k : ℝ) : EReal)) (h3 : ∀ k, x3 (ix2 0 k) = ((be k : ℝ) : EReal))
    (h4 : ∀ k o, x4 (ix2 k o) = ((W o k : ℝ) : EReal)) (h5 : ∀ o, x5 (ix2 0 o) = ((b o : ℝ) : EReal)) :
    yb1 x0 x1 x2 x3 x4 x5 (ix2 q o) = ((lin (bn 131072 y g be) W b r o : ℝ) : EReal) := by
  unfold yb1 k1_pay3
  pointwise
  have hc : (Fintype.card (Fin 131072) : ℝ) = 131072 := by simp
  simp only [h0, h1, h1', h2, h3, h4, h5, ofBits_i1, ofBits_eps, ker_bn 131072 (by norm_num) hc, coe_lin]
  rfl

theorem stat1_0 (v : FVec Ideal S8192x64 .f32) (o : Fin 64) : k1_pay1 (F := Ideal) v (ix2 0 o) = ∑ r : Fin 8192, v (ix2 r o) := by
  unfold k1_pay1
  pointwise
  exact add_zero _

theorem stat1_1 (v : FVec Ideal S8192x64 .f32) (o : Fin 64) : k1_pay1 (F := Ideal) v (ix2 1 o) = ∑ r : Fin 8192, v (ix2 r o) * v (ix2 r o) := by
  unfold k1_pay1
  pointwise
  exact zero_add _

theorem acc1 (v : FVec Ideal S8192x64 .f32) (x : Vec Ideal S8x64 .f32) (a : Fin 8) (o : Fin 64) : k1_pay2 (F := Ideal) v x (ix2 a o) = x (ix2 a o) + k1_pay1 (F := Ideal) v (ix2 a o) := by
  unfold k1_pay2
  pointwise

section
variable (V : (c : Dev nD) → (b : Ref sig .tc) → Buf (Elt Ideal) ((c : Thread nD τ).loc b)) (c : Dev nD)
variable (y : Fin 131072 → Fin 64 → ℝ) (g be : Fin 64 → ℝ) (W : Fin 64 → Fin 64 → ℝ) (b : Fin 64 → ℝ)

/-- The region's inputs hold the rows `y`, the sums of their columns and squares, and the layer's parameters. -/
structure In1 : Prop where
  h0 : ∀ r k, V c (Pipeline.arrRef spec1 0) (ix2 r k) = ((y r k : ℝ) : EReal)
  h1 : ∀ k, V c (Pipeline.arrRef spec1 1) (ix2 0 k) = ((sum1 y k : ℝ) : EReal)
  h1' : ∀ k, V c (Pipeline.arrRef spec1 1) (ix2 1 k) = ((sum2 y k : ℝ) : EReal)
  h2 : ∀ k, V c (Pipeline.arrRef spec1 2) (ix2 0 k) = ((g k : ℝ) : EReal)
  h3 : ∀ k, V c (Pipeline.arrRef spec1 3) (ix2 0 k) = ((be k : ℝ) : EReal)
  h4 : ∀ k o, V c (Pipeline.arrRef spec1 4) (ix2 k o) = ((W o k : ℝ) : EReal)
  h5 : ∀ o, V c (Pipeline.arrRef spec1 5) (ix2 0 o) = ((b o : ℝ) : EReal)

variable {V c y g be W b} (H : In1 V c y g be W b)
include H

set_option maxHeartbeats 2000000 in
/-- The rows that a point leaves. -/
theorem rows1 (t : Fin cfg1.N) (q : Fin 8192) (o : Fin 64) (h : t.val * 8192 + q.val < 131072) :
    (outsAt1 V c t.val t.isLt).1 (ix2 q o) = ((lin (bn 131072 y g be) W b ⟨t.val * 8192 + q.val, h⟩ o : ℝ) : EReal) := by
  rw [fst1]
  refine row1 y g be W b _ _ _ _ _ _ _ q o (fun k => ?_) (fun k => ?_) (fun k => ?_) (fun k => ?_) (fun k => ?_) (fun k o => ?_) (fun o => ?_)
  · rw [← H.h0]; blk_ext [iblk1, idx1 t]
  · rw [← H.h1]; blk_ext [iblk1, idx1 t]
  · rw [← H.h1']; blk_ext [iblk1, idx1 t]
  · rw [← H.h2]; blk_ext [iblk1, idx1 t]
  · rw [← H.h3]; blk_ext [iblk1, idx1 t]
  · rw [← H.h4]; blk_ext [iblk1, idx1 t]
  · rw [← H.h5]; blk_ext [iblk1, idx1 t]

/-- The running sums after a point. -/
theorem sums1 (o : Fin 64) (n : ℕ) (h : n < cfg1.N) :
    (outsAt1 V c n h).2 (ix2 0 o) = ((∑ i ∈ Finset.range ((n + 1) * 8192), ext (fun r => lin (bn 131072 y g be) W b r o) i : ℝ) : EReal)
    ∧ (outsAt1 V c n h).2 (ix2 1 o) = ((∑ i ∈ Finset.range ((n + 1) * 8192),
        ext (fun r => lin (bn 131072 y g be) W b r o * lin (bn 131072 y g be) W b r o) i : ℝ) : EReal) := by
  have e : ∀ (n : ℕ) (h : n < cfg1.N) (q : Fin 8192), n * 8192 + q.val < 131072 := fun n h q => by have := lt1 ⟨n, h⟩; have := q.isLt; dsimp only at *; omega
  have s0 : ∀ (n : ℕ) (h : n < cfg1.N), k1_pay1 (F := Ideal) (outsAt1 V c n h).1 (ix2 0 o)
      = ((∑ q : Fin 8192, ext (fun r => lin (bn 131072 y g be) W b r o) (n * 8192 + q.val) : ℝ) : EReal) := fun n h => by
    rw [stat1_0, ← coe_sum]
    exact Finset.sum_congr rfl fun q _ => by rw [rows1 H ⟨n, h⟩ q o (e n h q), ext_of _ (e n h q)]
  have s1 : ∀ (n : ℕ) (h : n < cfg1.N), k1_pay1 (F := Ideal) (outsAt1 V c n h).1 (ix2 1 o)
      = ((∑ q : Fin 8192, ext (fun r => lin (bn 131072 y g be) W b r o * lin (bn 131072 y g be) W b r o) (n * 8192 + q.val) : ℝ) : EReal) := fun n h => by
    rw [stat1_1, ← coe_sum]
    exact Finset.sum_congr rfl fun q _ => by rw [rows1 H ⟨n, h⟩ q o (e n h q), ext_of _ (e n h q), EReal.coe_mul]
  refine ⟨run_sum 8192 _ _ (fun n h => (outsAt1 V c n h).2 (ix2 0 o)) (fun h => ?_) (fun n h => ?_) n h,
    run_sum 8192 _ _ (fun n h => (outsAt1 V c n h).2 (ix2 1 o)) (fun h => ?_) (fun n h => ?_) n h⟩
  · exact (congrFun (snd1_A V c ⟨0, h⟩ rfl) _).trans (s0 0 h)
  · rw [← s0 (n + 1) h, snd1_B, acc1]
  · exact (congrFun (snd1_A V c ⟨0, h⟩ rfl) _).trans (s1 0 h)
  · rw [← s1 (n + 1) h, snd1_B, acc1]

/-- The region leaves the layer's rows. -/
theorem rows_out1 (r : Fin 131072) (o : Fin 64) : (dat1 V c).arrAt 6 cfg1.N (ix2 r o) = ((lin (bn 131072 y g be) W b r o : ℝ) : EReal) := by
  have : (dat1 V c).arrAt 6 cfg1.N = fun i : S131072x64.Idx => ((lin (bn 131072 y g be) W b (i 0) (i 1) : ℝ) : EReal) := by
    refine (dat1 V c).arrAt_eq_of_covers 6 _ (by decide +kernel) fun t hf x => ?_
    blk_simp
    rw [after1_6]
    idx_vars x
    have h : t.val * 8192 + x0.val < 131072 := by have := lt1 t; have := x0.isLt; omega
    rw [rows1 H t x0 x1 h]
    refine congrArg (fun v : ℝ => (v : EReal)) (congrArg₂ (lin (bn 131072 y g be) W b) (Fin.ext ?_) (Fin.ext ?_))
    · blk_simp [idx1 t]
    · blk_simp [idx1 t]
  exact congrFun this _

/-- … and the sums of its columns and of their squares. -/
theorem sums_out1 (o : Fin 64) : (dat1 V c).arrAt 7 cfg1.N (ix2 0 o) = ((sum1 (lin (bn 131072 y g be) W b) o : ℝ) : EReal)
    ∧ (dat1 V c).arrAt 7 cfg1.N (ix2 1 o) = ((sum2 (lin (bn 131072 y g be) W b) o : ℝ) : EReal) := by
  have hl : 15 < cfg1.N := by rw [show cfg1.N = 16 from N_1]; decide
  have e : ∀ (n : ℕ) (hn : n < cfg1.N), n = 15 → (outsAt1 V c n hn).2 = (outsAt1 V c 15 hl).2 := by rintro _ _ rfl; rfl
  have : (dat1 V c).arrAt 7 cfg1.N = (outsAt1 V c 15 hl).2 := by
    refine (dat1 V c).arrAt_eq_of_covers 7 _ (by decide +kernel) fun t hf x => ?_
    blk_simp
    have := lt1 t
    have h : t.val = 15 := by have := (flush1_7 t).mp hf; omega
    rw [after1_7, e _ _ h]
    idx_vars x
    refine congrArg (outsAt1 V c 15 hl).2 ?_
    blk_ext [idx1 t]
  rw [this]
  have := sums1 H o 15 hl
  rw [sum_ext (R := 131072), sum_ext (R := 131072)] at this
  exact this

end

end Cert.KernelIdeal.Val

end
-- ==== Proof.Val.K2.lean ====
/- The region of layer 3: the arrays that it leaves hold the affine map of the normalised rows, and the sums of that map's
    columns and of their squares. -/
module

public import proofs.«01_k».proof.Proof.Val.Common
public import proofs.«01_k».proof.Proof.Mem.Region2

@[expose] public section

set_option maxRecDepth 16384

noncomputable section

namespace Cert.KernelIdeal.Val

open Cert.KernelIdeal Cert.KernelIdeal.Gen Idealize.ShloMosaic Idealize.ShloMosaic.TcCoe Idealize.SL.Sem Cert.Spec
open Idealize.ShloMosaic.Pipeline (Dat)

variable {F : FTy → Type} [FloatOps F]
variable (V : (c : Dev nD) → (b : Ref sig .tc) → Buf (Elt F) ((c : Thread nD τ).loc b))

/-- The block that each window takes at a point. -/
theorem idx2 : ∀ t : Fin cfg2.N, win2_0.index t = ![t.val, 0] ∧ win2_1.index t = ![0, 0] ∧ win2_2.index t = ![0, 0] ∧ win2_3.index t = ![0, 0]
    ∧ win2_4.index t = ![0, 0] ∧ win2_5.index t = ![0, 0] ∧ win2_6.index t = ![t.val, 0] ∧ win2_7.index t = ![0, 0] := by decide +kernel

/-- The rows that a point computes of its input blocks. -/
def yb2 (x0 : Vec F S8192x64 .f32) (x1 : Vec F S8x64 .f32) (x2 x3 : Vec F S1x64 .f32) (x4 : Vec F S64x128 .f32) (x5 : Vec F S1x128 .f32) : Vec F S8192x128 .f32 :=
  k2_pay3 (View.ld x1 (Rect.unit (s := S8x64) ![0, 0] S1x64.size inb_S8x64_S1x64_0_0))
    (View.ld x1 (Rect.unit (s := S8x64) ![1, 0] S1x64.size inb_S8x64_S1x64_1_0)) x2 x3 x0 x4 x5

theorem out2_A_6_eq (c : Dev nD) (i : grid2.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S8x128 .f32) (harg8 : arg8.IsWhole) (hc0 : cond2_0 i) (hc1 : ¬cond2_1 i) (x0 : Vec F S8192x64 .f32) (x1 : Vec F S8x64 .f32) (x2 : Vec F S1x64 .f32) (x3 : Vec F S1x64 .f32) (x4 : Vec F S64x128 .f32) (x5 : Vec F S1x128 .f32) :
    out2_A_6 c i arg1 harg1 arg2 harg2 arg3 harg3 arg4 harg4 arg5 harg5 arg6 harg6 arg7 harg7 arg8 harg8 hc0 hc1 x0 x1 x2 x3 x4 x5 = yb2 x0 x1 x2 x3 x4 x5 := by
  unfold out2_A_6
  refine (View.read_writes_eq_canon _ _ _ (fun y => by apply cover2_A_6)).trans ?_
  unfold kernelRun2_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S1x128) hz, View.ld_unit_zero (S := S8x64) hz, View.ld_unit_zero (S := S8x128) hz, View.ld_unit_zero (S := S8192x64) hz, View.ld_unit_zero (S := S8192x128) hz, View.ld_unit_zero (S := S64x128) hz, shapeCast_self]
  rfl

theorem out2_A_7_eq (c : Dev nD) (i : grid2.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S8x128 .f32) (harg8 : arg8.IsWhole) (hc0 : cond2_0 i) (hc1 : ¬cond2_1 i) (x0 : Vec F S8192x64 .f32) (x1 : Vec F S8x64 .f32) (x2 : Vec F S1x64 .f32) (x3 : Vec F S1x64 .f32) (x4 : Vec F S64x128 .f32) (x5 : Vec F S1x128 .f32) :
    out2_A_7 c i arg1 harg1 arg2 harg2 arg3 harg3 arg4 harg4 arg5 harg5 arg6 harg6 arg7 harg7 arg8 harg8 hc0 hc1 x0 x1 x2 x3 x4 x5 = k2_pay1 (yb2 x0 x1 x2 x3 x4 x5) := by
  unfold out2_A_7
  refine (View.read_writes_eq_canon _ _ _ (fun y => by apply cover2_A_7)).trans ?_
  unfold kernelRun2_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S1x128) hz, View.ld_unit_zero (S := S8x64) hz, View.ld_unit_zero (S := S8x128) hz, View.ld_unit_zero (S := S8192x64) hz, View.ld_unit_zero (S := S8192x128) hz, View.ld_unit_zero (S := S64x128) hz, shapeCast_self]
  rfl

theorem out2_B_6_eq (c : Dev nD) (i : grid2.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S8x128 .f32) (harg8 : arg8.IsWhole) (hc0 : ¬cond2_0 i) (hc1 : cond2_1 i) (x0 : Vec F S8192x64 .f32) (x1 : Vec F S8x64 .f32) (x2 : Vec F S1x64 .f32) (x3 : Vec F S1x64 .f32) (x4 : Vec F S64x128 .f32) (x5 : Vec F S1x128 .f32) (xo7 : Vec F S8x128 .f32) :
    out2_B_6 c i arg1 harg1 arg2 harg2 arg3 harg3 arg4 harg4 arg5 harg5 arg6 harg6 arg7 harg7 arg8 harg8 hc0 hc1 x0 x1 x2 x3 x4 x5 xo7 = yb2 x0 x1 x2 x3 x4 x5 := by
  unfold out2_B_6
  refine (View.read_writes_eq_canon _ _ _ (fun y => by apply cover2_B_6)).trans ?_
  unfold kernelRun2_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S1x128) hz, View.ld_unit_zero (S := S8x64) hz, View.ld_unit_zero (S := S8x128) hz, View.ld_unit_zero (S := S8192x64) hz, View.ld_unit_zero (S := S8192x128) hz, View.ld_unit_zero (S := S64x128) hz, shapeCast_self]
  rfl

theorem out2_B_7_eq (c : Dev nD) (i : grid2.Coords) (arg1 : Memref sig .tc .vmem S8192x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S8x128 .f32) (harg8 : arg8.IsWhole) (hc0 : ¬cond2_0 i) (hc1 : cond2_1 i) (x0 : Vec F S8192x64 .f32) (x1 : Vec F S8x64 .f32) (x2 : Vec F S1x64 .f32) (x3 : Vec F S1x64 .f32) (x4 : Vec F S64x128 .f32) (x5 : Vec F S1x128 .f32) (xo7 : Vec F S8x128 .f32) :
    out2_B_7 c i arg1 harg1 arg2 harg2 arg3 harg3 arg4 harg4 arg5 harg5 arg6 harg6 arg7 harg7 arg8 harg8 hc0 hc1 x0 x1 x2 x3 x4 x5 xo7 = k2_pay2 (yb2 x0 x1 x2 x3 x4 x5) xo7 := by
  unfold out2_B_7
  refine (View.read_writes_eq_canon _ _ _ (fun y => by apply cover2_B_7)).trans ?_
  unfold kernelRun2_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x64) hz, View.ld_unit_zero (S := S1x128) hz, View.ld_unit_zero (S := S8x64) hz, View.ld_unit_zero (S := S8x128) hz, View.ld_unit_zero (S := S8192x64) hz, View.ld_unit_zero (S := S8192x128) hz, View.ld_unit_zero (S := S64x128) hz, shapeCast_self]
  rfl

theorem lt2 (t : Fin cfg2.N) : t.val < 16 := lt_of_lt_of_eq t.isLt (show cfg2.N = 16 from N_2)

/-- A point's rows. -/
theorem fst2 (c : Dev nD) (t : Fin cfg2.N) : (outsAt2 V c t.val t.isLt).1
    = yb2 (iblk2 V c 0 t) (iblk2 V c 1 t) (iblk2 V c 2 t) (iblk2 V c 3 t) (iblk2 V c 4 t) (iblk2 V c 5 t) := by
  have := lt2 t
  by_cases h0 : t.val % 16 = 0
  · rw [outsAt2_A V c t h0 (by omega)]; dsimp only; rw [out2_A_6_eq]
  · rw [outsAt2_B V c t h0 (by omega)]; dsimp only; rw [out2_B_6_eq]

/-- The first point starts the running sums … -/
theorem snd2_A (c : Dev nD) (t : Fin cfg2.N) (h0 : t.val % 16 = 0) : (outsAt2 V c t.val t.isLt).2 = k2_pay1 (F := F) (outsAt2 V c t.val t.isLt).1 := by
  have := lt2 t
  rw [fst2, outsAt2_A V c t h0 (by omega)]; dsimp only; rw [out2_A_7_eq]

/-- … and every later one adds to them. -/
theorem snd2_B (c : Dev nD) (n : ℕ) (h : n + 1 < cfg2.N) :
    (outsAt2 V c (n + 1) h).2 = k2_pay2 (F := F) (outsAt2 V c (n + 1) h).1 (outsAt2 V c n (Nat.lt_of_succ_lt h)).2 := by
  have h16 : n + 1 < 16 := lt2 ⟨n + 1, h⟩
  rw [fst2 V c ⟨n + 1, h⟩, outsAt2_B V c ⟨n + 1, h⟩ (by dsimp only; omega) (by dsimp only; omega)]; dsimp only; rw [out2_B_7_eq]
  rfl

/-- One row of the layer's affine map, at real entries. -/
theorem row2 (y : Fin 131072 → Fin 64 → ℝ) (g be : Fin 64 → ℝ) (W : Fin 128 → Fin 64 → ℝ) (b : Fin 128 → ℝ)
    (x0 : Vec Ideal S8192x64 .f32) (x1 : Vec Ideal S8x64 .f32) (x2 x3 : Vec Ideal S1x64 .f32) (x4 : Vec Ideal S64x128 .f32) (x5 : Vec Ideal S1x128 .f32)
    (r : Fin 131072) (q : Fin 8192) (o : Fin 128)
    (h0 : ∀ k, x0 (ix2 q k) = ((y r k : ℝ) : EReal))
    (h1 : ∀ k, x1 (ix2 0 k) = ((sum1 y k : ℝ) : EReal)) (h1' : ∀ k, x1 (ix2 1 k) = ((sum2 y k : ℝ) : EReal))
    (h2 : ∀ k, x2 (ix2 0 k) = ((g k : ℝ) : EReal)) (h3 : ∀ k, x3 (ix2 0 k) = ((be k : ℝ) : EReal))
    (h4 : ∀ k o, x4 (ix2 k o) = ((W o k : ℝ) : EReal)) (h5 : ∀ o, x5 (ix2 0 o) = ((b o : ℝ) : EReal)) :
    yb2 x0 x1 x2 x3 x4 x5 (ix2 q o) = ((lin (bn 131072 y g be) W b r o : ℝ) : EReal) := by
  unfold yb2 k2_pay3
  pointwise
  have hc : (Fintype.card (Fin 131072) : ℝ) = 131072 := by simp
  simp only [h0, h1, h1', h2, h3, h4, h5, ofBits_i1, ofBits_eps, ker_bn 131072 (by norm_num) hc, coe_lin]
  rfl

theorem stat2_0 (v : FVec Ideal S8192x128 .f32) (o : Fin 128) : k2_pay1 (F := Ideal) v (ix2 0 o) = ∑ r : Fin 8192, v (ix2 r o) := by
  unfold k2_pay1
  pointwise
  exact add_zero _

theorem stat2_1 (v : FVec Ideal S8192x128 .f32) (o : Fin 128) : k2_pay1 (F := Ideal) v (ix2 1 o) = ∑ r : Fin 8192, v (ix2 r o) * v (ix2 r o) := by
  unfold k2_pay1
  pointwise
  exact zero_add _

theorem acc2 (v : FVec Ideal S8192x128 .f32) (x : Vec Ideal S8x128 .f32) (a : Fin 8) (o : Fin 128) : k2_pay2 (F := Ideal) v x (ix2 a o) = x (ix2 a o) + k2_pay1 (F := Ideal) v (ix2 a o) := by
  unfold k2_pay2
  pointwise

section
variable (V : (c : Dev nD) → (b : Ref sig .tc) → Buf (Elt Ideal) ((c : Thread nD τ).loc b)) (c : Dev nD)
variable (y : Fin 131072 → Fin 64 → ℝ) (g be : Fin 64 → ℝ) (W : Fin 128 → Fin 64 → ℝ) (b : Fin 128 → ℝ)

/-- The region's inputs hold the rows `y`, the sums of their columns and squares, and the layer's parameters. -/
structure In2 : Prop where
  h0 : ∀ r k, V c (Pipeline.arrRef spec2 0) (ix2 r k) = ((y r k : ℝ) : EReal)
  h1 : ∀ k, V c (Pipeline.arrRef spec2 1) (ix2 0 k) = ((sum1 y k : ℝ) : EReal)
  h1' : ∀ k, V c (Pipeline.arrRef spec2 1) (ix2 1 k) = ((sum2 y k : ℝ) : EReal)
  h2 : ∀ k, V c (Pipeline.arrRef spec2 2) (ix2 0 k) = ((g k : ℝ) : EReal)
  h3 : ∀ k, V c (Pipeline.arrRef spec2 3) (ix2 0 k) = ((be k : ℝ) : EReal)
  h4 : ∀ k o, V c (Pipeline.arrRef spec2 4) (ix2 k o) = ((W o k : ℝ) : EReal)
  h5 : ∀ o, V c (Pipeline.arrRef spec2 5) (ix2 0 o) = ((b o : ℝ) : EReal)

variable {V c y g be W b} (H : In2 V c y g be W b)
include H

set_option maxHeartbeats 2000000 in
/-- The rows that a point leaves. -/
theorem rows2 (t : Fin cfg2.N) (q : Fin 8192) (o : Fin 128) (h : t.val * 8192 + q.val < 131072) :
    (outsAt2 V c t.val t.isLt).1 (ix2 q o) = ((lin (bn 131072 y g be) W b ⟨t.val * 8192 + q.val, h⟩ o : ℝ) : EReal) := by
  rw [fst2]
  refine row2 y g be W b _ _ _ _ _ _ _ q o (fun k => ?_) (fun k => ?_) (fun k => ?_) (fun k => ?_) (fun k => ?_) (fun k o => ?_) (fun o => ?_)
  · rw [← H.h0]; blk_ext [iblk2, idx2 t]
  · rw [← H.h1]; blk_ext [iblk2, idx2 t]
  · rw [← H.h1']; blk_ext [iblk2, idx2 t]
  · rw [← H.h2]; blk_ext [iblk2, idx2 t]
  · rw [← H.h3]; blk_ext [iblk2, idx2 t]
  · rw [← H.h4]; blk_ext [iblk2, idx2 t]
  · rw [← H.h5]; blk_ext [iblk2, idx2 t]

/-- The running sums after a point. -/
theorem sums2 (o : Fin 128) (n : ℕ) (h : n < cfg2.N) :
    (outsAt2 V c n h).2 (ix2 0 o) = ((∑ i ∈ Finset.range ((n + 1) * 8192), ext (fun r => lin (bn 131072 y g be) W b r o) i : ℝ) : EReal)
    ∧ (outsAt2 V c n h).2 (ix2 1 o) = ((∑ i ∈ Finset.range ((n + 1) * 8192),
        ext (fun r => lin (bn 131072 y g be) W b r o * lin (bn 131072 y g be) W b r o) i : ℝ) : EReal) := by
  have e : ∀ (n : ℕ) (h : n < cfg2.N) (q : Fin 8192), n * 8192 + q.val < 131072 := fun n h q => by have := lt2 ⟨n, h⟩; have := q.isLt; dsimp only at *; omega
  have s0 : ∀ (n : ℕ) (h : n < cfg2.N), k2_pay1 (F := Ideal) (outsAt2 V c n h).1 (ix2 0 o)
      = ((∑ q : Fin 8192, ext (fun r => lin (bn 131072 y g be) W b r o) (n * 8192 + q.val) : ℝ) : EReal) := fun n h => by
    rw [stat2_0, ← coe_sum]
    exact Finset.sum_congr rfl fun q _ => by rw [rows2 H ⟨n, h⟩ q o (e n h q), ext_of _ (e n h q)]
  have s1 : ∀ (n : ℕ) (h : n < cfg2.N), k2_pay1 (F := Ideal) (outsAt2 V c n h).1 (ix2 1 o)
      = ((∑ q : Fin 8192, ext (fun r => lin (bn 131072 y g be) W b r o * lin (bn 131072 y g be) W b r o) (n * 8192 + q.val) : ℝ) : EReal) := fun n h => by
    rw [stat2_1, ← coe_sum]
    exact Finset.sum_congr rfl fun q _ => by rw [rows2 H ⟨n, h⟩ q o (e n h q), ext_of _ (e n h q), EReal.coe_mul]
  refine ⟨run_sum 8192 _ _ (fun n h => (outsAt2 V c n h).2 (ix2 0 o)) (fun h => ?_) (fun n h => ?_) n h,
    run_sum 8192 _ _ (fun n h => (outsAt2 V c n h).2 (ix2 1 o)) (fun h => ?_) (fun n h => ?_) n h⟩
  · exact (congrFun (snd2_A V c ⟨0, h⟩ rfl) _).trans (s0 0 h)
  · rw [← s0 (n + 1) h, snd2_B, acc2]
  · exact (congrFun (snd2_A V c ⟨0, h⟩ rfl) _).trans (s1 0 h)
  · rw [← s1 (n + 1) h, snd2_B, acc2]

/-- The region leaves the layer's rows. -/
theorem rows_out2 (r : Fin 131072) (o : Fin 128) : (dat2 V c).arrAt 6 cfg2.N (ix2 r o) = ((lin (bn 131072 y g be) W b r o : ℝ) : EReal) := by
  have : (dat2 V c).arrAt 6 cfg2.N = fun i : S131072x128.Idx => ((lin (bn 131072 y g be) W b (i 0) (i 1) : ℝ) : EReal) := by
    refine (dat2 V c).arrAt_eq_of_covers 6 _ (by decide +kernel) fun t hf x => ?_
    blk_simp
    rw [after2_6]
    idx_vars x
    have h : t.val * 8192 + x0.val < 131072 := by have := lt2 t; have := x0.isLt; omega
    rw [rows2 H t x0 x1 h]
    refine congrArg (fun v : ℝ => (v : EReal)) (congrArg₂ (lin (bn 131072 y g be) W b) (Fin.ext ?_) (Fin.ext ?_))
    · blk_simp [idx2 t]
    · blk_simp [idx2 t]
  exact congrFun this _

/-- … and the sums of its columns and of their squares. -/
theorem sums_out2 (o : Fin 128) : (dat2 V c).arrAt 7 cfg2.N (ix2 0 o) = ((sum1 (lin (bn 131072 y g be) W b) o : ℝ) : EReal)
    ∧ (dat2 V c).arrAt 7 cfg2.N (ix2 1 o) = ((sum2 (lin (bn 131072 y g be) W b) o : ℝ) : EReal) := by
  have hl : 15 < cfg2.N := by rw [show cfg2.N = 16 from N_2]; decide
  have e : ∀ (n : ℕ) (hn : n < cfg2.N), n = 15 → (outsAt2 V c n hn).2 = (outsAt2 V c 15 hl).2 := by rintro _ _ rfl; rfl
  have : (dat2 V c).arrAt 7 cfg2.N = (outsAt2 V c 15 hl).2 := by
    refine (dat2 V c).arrAt_eq_of_covers 7 _ (by decide +kernel) fun t hf x => ?_
    blk_simp
    have := lt2 t
    have h : t.val = 15 := by have := (flush2_7 t).mp hf; omega
    rw [after2_7, e _ _ h]
    idx_vars x
    refine congrArg (outsAt2 V c 15 hl).2 ?_
    blk_ext [idx2 t]
  rw [this]
  have := sums2 H o 15 hl
  rw [sum_ext (R := 131072), sum_ext (R := 131072)] at this
  exact this

end

end Cert.KernelIdeal.Val

end
-- ==== Proof.Val.K3.lean ====
/- The region of layer 4: the maximum of the normalised rows over the samples, and the affine map of the centres' coordinates beside
    it; the arrays that it leaves hold that map, and the sums of its columns and of their squares. -/
module

public import proofs.«01_k».proof.Proof.Val.Common
public import proofs.«01_k».proof.Proof.Mem.Region3

@[expose] public section

set_option maxRecDepth 16384

noncomputable section

namespace Cert.KernelIdeal.Val

open Cert.KernelIdeal Cert.KernelIdeal.Gen Idealize.ShloMosaic Idealize.ShloMosaic.TcCoe Idealize.SL.Sem Cert.Spec
open Idealize.ShloMosaic.Pipeline (Dat)

variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl

/-- The block that each window takes at a point. -/
theorem idx3 : ∀ t : Fin cfg3.N, win3_0.index t = ![t.val, 0, 0] ∧ win3_1.index t = ![0, 0] ∧ win3_2.index t = ![0, 0] ∧ win3_3.index t = ![0, 0]
    ∧ win3_4.index t = ![t.val, 0] ∧ win3_5.index t = ![t.val, 0] ∧ win3_6.index t = ![t.val, 0] ∧ win3_7.index t = ![0, 0]
    ∧ win3_8.index t = ![0, 0] ∧ win3_9.index t = ![0, 0] ∧ win3_10.index t = ![0, 0] ∧ win3_11.index t = ![0, 0]
    ∧ win3_12.index t = ![t.val, 0] ∧ win3_13.index t = ![0, 0] := by decide +kernel

/-- The rows that a point computes of its input blocks … -/
def yb3 (x0 : Vec F S128x64x128 .f32) (x1 : Vec F S8x128 .f32) (x2 x3 : Vec F S1x128 .f32) (x4 x5 x6 : Vec F S1024x1 .f32) (x7 x8 x9 : Vec F S1x128 .f32)
    (x10 : Vec F S128x128 .f32) (x11 : Vec F S1x128 .f32) : Vec F S1024x128 .f32 :=
  k3_pay4 (k3_pay3 (View.ld x1 (Rect.unit (s := S8x128) ![0, 0] S1x128.size inb_S8x128_S1x128_0_0))
    (View.ld x1 (Rect.unit (s := S8x128) ![1, 0] S1x128.size inb_S8x128_S1x128_1_0)) x2 x3 x0 x10) x4 x5 x6 x7 x8 x9 x11
/-- … the sums of those … -/
def st3 (v : FVec F S1024x128 .f32) : FVec F S8x128 .f32 :=
  k3_pay1 (multiReduction .add [0] S128 v 0x00000000#32 reduces_S1024x128_S128 (.inl rfl) rfl) (mulf v v)
/-- … and the running sums with those added. -/
def ac3 (v : FVec F S1024x128 .f32) (x : Vec F S8x128 .f32) : FVec F S8x128 .f32 :=
  k3_pay2 (multiReduction .add [0] S128 v 0x00000000#32 reduces_S1024x128_S128 (.inl rfl) rfl) (mulf v v) x

theorem out3_A_12_eq (c : Dev nD) (i : grid3.Coords) (arg1 : Memref sig .tc .vmem S128x64x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S8x128 .f32) (harg14 : arg14.IsWhole) (hc0 : cond3_0 i) (hc1 : ¬cond3_1 i) (x0 : Vec F S128x64x128 .f32) (x1 : Vec F S8x128 .f32) (x2 : Vec F S1x128 .f32) (x3 : Vec F S1x128 .f32) (x4 : Vec F S1024x1 .f32) (x5 : Vec F S1024x1 .f32) (x6 : Vec F S1024x1 .f32) (x7 : Vec F S1x128 .f32) (x8 : Vec F S1x128 .f32) (x9 : Vec F S1x128 .f32) (x10 : Vec F S128x128 .f32) (x11 : Vec F S1x128 .f32) :
    out3_A_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 = yb3 x0 x1 x2 x3 x4 x5 x6 x7 x8 x9 x10 x11 := by
  unfold out3_A_12
  refine (View.read_writes_eq_canon _ _ _ (fun y => by apply cover3_A_12)).trans ?_
  unfold kernelRun3_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S1x128) hz, View.ld_unit_zero (S := S8x128) hz, View.ld_unit_zero (S := S1024x1) hz, View.ld_unit_zero (S := S128x128) hz, View.ld_unit_zero (S := S1024x128) hz, View.ld_unit_zero (S := S128x64x128) hz3, shapeCast_self]
  rfl

theorem out3_A_13_eq (c : Dev nD) (i : grid3.Coords) (arg1 : Memref sig .tc .vmem S128x64x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S8x128 .f32) (harg14 : arg14.IsWhole) (hc0 : cond3_0 i) (hc1 : ¬cond3_1 i) (x0 : Vec F S128x64x128 .f32) (x1 : Vec F S8x128 .f32) (x2 : Vec F S1x128 .f32) (x3 : Vec F S1x128 .f32) (x4 : Vec F S1024x1 .f32) (x5 : Vec F S1024x1 .f32) (x6 : Vec F S1024x1 .f32) (x7 : Vec F S1x128 .f32) (x8 : Vec F S1x128 .f32) (x9 : Vec F S1x128 .f32) (x10 : Vec F S128x128 .f32) (x11 : Vec F S1x128 .f32) :
    out3_A_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 = st3 (yb3 x0 x1 x2 x3 x4 x5 x6 x7 x8 x9 x10 x11) := by
  unfold out3_A_13
  refine (View.read_writes_eq_canon _ _ _ (fun y => by apply cover3_A_13)).trans ?_
  unfold kernelRun3_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S1x128) hz, View.ld_unit_zero (S := S8x128) hz, View.ld_unit_zero (S := S1024x1) hz, View.ld_unit_zero (S := S128x128) hz, View.ld_unit_zero (S := S1024x128) hz, View.ld_unit_zero (S := S128x64x128) hz3, shapeCast_self]
  rfl

theorem out3_B_12_eq (c : Dev nD) (i : grid3.Coords) (arg1 : Memref sig .tc .vmem S128x64x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S8x128 .f32) (harg14 : arg14.IsWhole) (hc0 : ¬cond3_0 i) (hc1 : cond3_1 i) (x0 : Vec F S128x64x128 .f32) (x1 : Vec F S8x128 .f32) (x2 : Vec F S1x128 .f32) (x3 : Vec F S1x128 .f32) (x4 : Vec F S1024x1 .f32) (x5 : Vec F S1024x1 .f32) (x6 : Vec F S1024x1 .f32) (x7 : Vec F S1x128 .f32) (x8 : Vec F S1x128 .f32) (x9 : Vec F S1x128 .f32) (x10 : Vec F S128x128 .f32) (x11 : Vec F S1x128 .f32) (xo13 : Vec F S8x128 .f32) :
    out3_B_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13 = yb3 x0 x1 x2 x3 x4 x5 x6 x7 x8 x9 x10 x11 := by
  unfold out3_B_12
  refine (View.read_writes_eq_canon _ _ _ (fun y => by apply cover3_B_12)).trans ?_
  unfold kernelRun3_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S1x128) hz, View.ld_unit_zero (S := S8x128) hz, View.ld_unit_zero (S := S1024x1) hz, View.ld_unit_zero (S := S128x128) hz, View.ld_unit_zero (S := S1024x128) hz, View.ld_unit_zero (S := S128x64x128) hz3, shapeCast_self]
  rfl

theorem out3_B_13_eq (c : Dev nD) (i : grid3.Coords) (arg1 : Memref sig .tc .vmem S128x64x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S8x128 .f32) (harg14 : arg14.IsWhole) (hc0 : ¬cond3_0 i) (hc1 : cond3_1 i) (x0 : Vec F S128x64x128 .f32) (x1 : Vec F S8x128 .f32) (x2 : Vec F S1x128 .f32) (x3 : Vec F S1x128 .f32) (x4 : Vec F S1024x1 .f32) (x5 : Vec F S1024x1 .f32) (x6 : Vec F S1024x1 .f32) (x7 : Vec F S1x128 .f32) (x8 : Vec F S1x128 .f32) (x9 : Vec F S1x128 .f32) (x10 : Vec F S128x128 .f32) (x11 : Vec F S1x128 .f32) (xo13 : Vec F S8x128 .f32) :
    out3_B_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo13 = ac3 (yb3 x0 x1 x2 x3 x4 x5 x6 x7 x8 x9 x10 x11) xo13 := by
  unfold out3_B_13
  refine (View.read_writes_eq_canon _ _ _ (fun y => by apply cover3_B_13)).trans ?_
  unfold kernelRun3_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S1x128) hz, View.ld_unit_zero (S := S8x128) hz, View.ld_unit_zero (S := S1024x1) hz, View.ld_unit_zero (S := S128x128) hz, View.ld_unit_zero (S := S1024x128) hz, View.ld_unit_zero (S := S128x64x128) hz3, shapeCast_self]
  rfl

theorem lt3 (t : Fin cfg3.N) : t.val < 16 := lt_of_lt_of_eq t.isLt (show cfg3.N = 16 from N_3)

set_option maxHeartbeats 2000000 in
/-- A point's rows. -/
theorem fst3 (c : Dev nD) (t : Fin cfg3.N) : (outsAt3 V c t.val t.isLt).1
    = yb3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by
  have := lt3 t
  by_cases h0 : t.val % 16 = 0
  · rw [outsAt3_A V c t h0 (by omega)]; dsimp only; rw [out3_A_12_eq]
  · rw [outsAt3_B V c t h0 (by omega)]; dsimp only; rw [out3_B_12_eq]

set_option maxHeartbeats 2000000 in
/-- The first point starts the running sums … -/
theorem snd3_A (c : Dev nD) (t : Fin cfg3.N) (h0 : t.val % 16 = 0) : (outsAt3 V c t.val t.isLt).2 = st3 (F := F) (outsAt3 V c t.val t.isLt).1 := by
  have := lt3 t
  rw [fst3, outsAt3_A V c t h0 (by omega)]; dsimp only; rw [out3_A_13_eq]

set_option maxHeartbeats 2000000 in
/-- … and every later one adds to them. -/
theorem snd3_B (c : Dev nD) (n : ℕ) (h : n + 1 < cfg3.N) :
    (outsAt3 V c (n + 1) h).2 = ac3 (F := F) (outsAt3 V c (n + 1) h).1 (outsAt3 V c n (Nat.lt_of_succ_lt h)).2 := by
  have h16 : n + 1 < 16 := lt3 ⟨n + 1, h⟩
  rw [fst3 V c ⟨n + 1, h⟩, outsAt3_B V c ⟨n + 1, h⟩ (by dsimp only; omega) (by dsimp only; omega)]; dsimp only; rw [out3_B_13_eq]
  rfl

/-- One row of the layer's affine map, at real entries. -/
theorem row3 (y : Fin 131072 → Fin 128 → ℝ) (g be : Fin 128 → ℝ) (px py pz : Fin 16384 → ℝ) (W : Fin 128 → Fin 131 → ℝ) (b : Fin 128 → ℝ)
    (x0 : Vec Ideal S128x64x128 .f32) (x1 : Vec Ideal S8x128 .f32) (x2 x3 : Vec Ideal S1x128 .f32) (x4 x5 x6 : Vec Ideal S1024x1 .f32) (x7 x8 x9 : Vec Ideal S1x128 .f32)
    (x10 : Vec Ideal S128x128 .f32) (x11 : Vec Ideal S1x128 .f32)
    (r : Fin 16384) (q : Fin 1024) (o : Fin 128)
    (h0 : ∀ (a : Fin 8) (h : q.val / 8 < 128) (h' : a.val * 8 + q.val % 8 < 64) (k : Fin 128),
      x0 (ix3 ⟨q.val / 8, h⟩ ⟨a.val * 8 + q.val % 8, h'⟩ k) = ((y ⟨r.val / 8 * 64 + (a.val * 8 + r.val % 8), by omega⟩ k : ℝ) : EReal))
    (h1 : ∀ k, x1 (ix2 0 k) = ((sum1 y k : ℝ) : EReal)) (h1' : ∀ k, x1 (ix2 1 k) = ((sum2 y k : ℝ) : EReal))
    (h2 : ∀ k, x2 (ix2 0 k) = ((g k : ℝ) : EReal)) (h3 : ∀ k, x3 (ix2 0 k) = ((be k : ℝ) : EReal))
    (h4 : x4 (ix2 q 0) = ((px r : ℝ) : EReal)) (h5 : x5 (ix2 q 0) = ((py r : ℝ) : EReal)) (h6 : x6 (ix2 q 0) = ((pz r : ℝ) : EReal))
    (h7 : ∀ o, x7 (ix2 0 o) = ((W o 0 : ℝ) : EReal)) (h8 : ∀ o, x8 (ix2 0 o) = ((W o 1 : ℝ) : EReal)) (h9 : ∀ o, x9 (ix2 0 o) = ((W o 2 : ℝ) : EReal))
    (h10 : ∀ (k : Fin 128) o, x10 (ix2 k o) = ((W o ⟨k.val + 3, by omega⟩ : ℝ) : EReal)) (h11 : ∀ o, x11 (ix2 0 o) = ((b o : ℝ) : EReal)) :
    yb3 x0 x1 x2 x3 x4 x5 x6 x7 x8 x9 x10 x11 (ix2 q o) = (((lin (cat px py pz (pool (bn 131072 y g be))) W b) r o : ℝ) : EReal) := by
  unfold yb3 k3_pay4 k3_pay3
  pointwise
  have hc : (Fintype.card (Fin 131072) : ℝ) = 131072 := by simp
  simp only [h0, h1, h1', h2, h3, h4, h5, h6, h7, h8, h9, h10, h11, ofBits_i1, ofBits_eps, ker_bn 131072 (by norm_num) hc, fold_max]
  simp only [← EReal.coe_mul, coe_sum, ← EReal.coe_add, lin_cat]
  rfl

theorem stat3_0 (v : FVec Ideal S1024x128 .f32) (o : Fin 128) : st3 (F := Ideal) v (ix2 0 o) = ∑ r : Fin 1024, v (ix2 r o) := by
  unfold st3 k3_pay1
  pointwise
  exact add_zero _

theorem stat3_1 (v : FVec Ideal S1024x128 .f32) (o : Fin 128) : st3 (F := Ideal) v (ix2 1 o) = ∑ r : Fin 1024, v (ix2 r o) * v (ix2 r o) := by
  unfold st3 k3_pay1
  pointwise
  exact zero_add _

theorem acc3 (v : FVec Ideal S1024x128 .f32) (x : Vec Ideal S8x128 .f32) (a : Fin 8) (o : Fin 128) : ac3 (F := Ideal) v x (ix2 a o) = x (ix2 a o) + st3 (F := Ideal) v (ix2 a o) := by
  unfold ac3 st3 k3_pay2
  pointwise

section
variable (V : (c : Dev nD) → (b : Ref sig .tc) → Buf (Elt Ideal) ((c : Thread nD τ).loc b)) (c : Dev nD)
variable (y : Fin 131072 → Fin 128 → ℝ) (g be : Fin 128 → ℝ) (px py pz : Fin 16384 → ℝ) (W : Fin 128 → Fin 131 → ℝ) (b : Fin 128 → ℝ)

/-- The region's inputs hold the rows `y`, the sums of their columns and squares, the centres and the layer's parameters. -/
structure In3 : Prop where
  h0 : ∀ (a : Fin 2048) (s : Fin 64) k, V c (Pipeline.arrRef spec3 0) (ix3 a s k) = ((y ⟨a.val * 64 + s.val, by omega⟩ k : ℝ) : EReal)
  h1 : ∀ k, V c (Pipeline.arrRef spec3 1) (ix2 0 k) = ((sum1 y k : ℝ) : EReal)
  h1' : ∀ k, V c (Pipeline.arrRef spec3 1) (ix2 1 k) = ((sum2 y k : ℝ) : EReal)
  h2 : ∀ k, V c (Pipeline.arrRef spec3 2) (ix2 0 k) = ((g k : ℝ) : EReal)
  h3 : ∀ k, V c (Pipeline.arrRef spec3 3) (ix2 0 k) = ((be k : ℝ) : EReal)
  h4 : ∀ r, V c (Pipeline.arrRef spec3 4) (ix2 r 0) = ((px r : ℝ) : EReal)
  h5 : ∀ r, V c (Pipeline.arrRef spec3 5) (ix2 r 0) = ((py r : ℝ) : EReal)
  h6 : ∀ r, V c (Pipeline.arrRef spec3 6) (ix2 r 0) = ((pz r : ℝ) : EReal)
  h7 : ∀ o, V c (Pipeline.arrRef spec3 7) (ix2 0 o) = ((W o 0 : ℝ) : EReal)
  h8 : ∀ o, V c (Pipeline.arrRef spec3 8) (ix2 0 o) = ((W o 1 : ℝ) : EReal)
  h9 : ∀ o, V c (Pipeline.arrRef spec3 9) (ix2 0 o) = ((W o 2 : ℝ) : EReal)
  h10 : ∀ (k : Fin 128) o, V c (Pipeline.arrRef spec3 10) (ix2 k o) = ((W o ⟨k.val + 3, by omega⟩ : ℝ) : EReal)
  h11 : ∀ o, V c (Pipeline.arrRef spec3 11) (ix2 0 o) = ((b o : ℝ) : EReal)

variable {V c y g be px py pz W b} (H : In3 V c y g be px py pz W b)
include H

set_option maxHeartbeats 4000000 in
/-- The rows that a point leaves. -/
theorem rows3 (t : Fin cfg3.N) (q : Fin 1024) (o : Fin 128) (h : t.val * 1024 + q.val < 16384) :
    (outsAt3 V c t.val t.isLt).1 (ix2 q o) = (((lin (cat px py pz (pool (bn 131072 y g be))) W b) ⟨t.val * 1024 + q.val, h⟩ o : ℝ) : EReal) := by
  rw [fst3]
  have ht := lt3 t
  have hq := q.isLt
  refine row3 y g be px py pz W b _ _ _ _ _ _ _ _ _ _ _ _ _ q o (fun a h h' k => ?_) (fun k => ?_) (fun k => ?_) (fun k => ?_) (fun k => ?_) ?_ ?_ ?_
    (fun o => ?_) (fun o => ?_) (fun o => ?_) (fun k o => ?_) (fun o => ?_)
  · have e : (⟨(t.val * 1024 + q.val) / 8 * 64 + (a.val * 8 + (t.val * 1024 + q.val) % 8), by omega⟩ : Fin 131072)
        = ⟨(t.val * 128 + q.val / 8) * 64 + (a.val * 8 + q.val % 8), by omega⟩ := Fin.ext (by dsimp only; omega)
    rw [e]
    refine Eq.trans ?_ (H.h0 ⟨t.val * 128 + q.val / 8, by omega⟩ ⟨a.val * 8 + q.val % 8, h'⟩ k)
    blk_ext [iblk3, idx3 t]
  · rw [← H.h1]; blk_ext [iblk3, idx3 t]
  · rw [← H.h1']; blk_ext [iblk3, idx3 t]
  · rw [← H.h2]; blk_ext [iblk3, idx3 t]
  · rw [← H.h3]; blk_ext [iblk3, idx3 t]
  · rw [← H.h4]; blk_ext [iblk3, idx3 t]
  · rw [← H.h5]; blk_ext [iblk3, idx3 t]
  · rw [← H.h6]; blk_ext [iblk3, idx3 t]
  · rw [← H.h7]; blk_ext [iblk3, idx3 t]
  · rw [← H.h8]; blk_ext [iblk3, idx3 t]
  · rw [← H.h9]; blk_ext [iblk3, idx3 t]
  · rw [← H.h10]; blk_ext [iblk3, idx3 t]
  · rw [← H.h11]; blk_ext [iblk3, idx3 t]

/-- The running sums after a point. -/
theorem sums3 (o : Fin 128) (n : ℕ) (h : n < cfg3.N) :
    (outsAt3 V c n h).2 (ix2 0 o) = ((∑ i ∈ Finset.range ((n + 1) * 1024), ext (fun r => (lin (cat px py pz (pool (bn 131072 y g be))) W b) r o) i : ℝ) : EReal)
    ∧ (outsAt3 V c n h).2 (ix2 1 o) = ((∑ i ∈ Finset.range ((n + 1) * 1024),
        ext (fun r => (lin (cat px py pz (pool (bn 131072 y g be))) W b) r o * (lin (cat px py pz (pool (bn 131072 y g be))) W b) r o) i : ℝ) : EReal) := by
  have e : ∀ (n : ℕ) (h : n < cfg3.N) (q : Fin 1024), n * 1024 + q.val < 16384 := fun n h q => by have := lt3 ⟨n, h⟩; have := q.isLt; dsimp only at *; omega
  have s0 : ∀ (n : ℕ) (h : n < cfg3.N), st3 (F := Ideal) (outsAt3 V c n h).1 (ix2 0 o)
      = ((∑ q : Fin 1024, ext (fun r => (lin (cat px py pz (pool (bn 131072 y g be))) W b) r o) (n * 1024 + q.val) : ℝ) : EReal) := fun n h => by
    rw [stat3_0, ← coe_sum]
    exact Finset.sum_congr rfl fun q _ => by rw [rows3 H ⟨n, h⟩ q o (e n h q), ext_of _ (e n h q)]
  have s1 : ∀ (n : ℕ) (h : n < cfg3.N), st3 (F := Ideal) (outsAt3 V c n h).1 (ix2 1 o)
      = ((∑ q : Fin 1024, ext (fun r => (lin (cat px py pz (pool (bn 131072 y g be))) W b) r o * (lin (cat px py pz (pool (bn 131072 y g be))) W b) r o) (n * 1024 + q.val) : ℝ) : EReal) := fun n h => by
    rw [stat3_1, ← coe_sum]
    exact Finset.sum_congr rfl fun q _ => by rw [rows3 H ⟨n, h⟩ q o (e n h q), ext_of _ (e n h q), EReal.coe_mul]
  refine ⟨run_sum 1024 _ _ (fun n h => (outsAt3 V c n h).2 (ix2 0 o)) (fun h => ?_) (fun n h => ?_) n h,
    run_sum 1024 _ _ (fun n h => (outsAt3 V c n h).2 (ix2 1 o)) (fun h => ?_) (fun n h => ?_) n h⟩
  · exact (congrFun (snd3_A V c ⟨0, h⟩ rfl) _).trans (s0 0 h)
  · rw [← s0 (n + 1) h, snd3_B, acc3]
  · exact (congrFun (snd3_A V c ⟨0, h⟩ rfl) _).trans (s1 0 h)
  · rw [← s1 (n + 1) h, snd3_B, acc3]

/-- The region leaves the layer's rows. -/
theorem rows_out3 (r : Fin 16384) (o : Fin 128) : (dat3 V c).arrAt 12 cfg3.N (ix2 r o) = (((lin (cat px py pz (pool (bn 131072 y g be))) W b) r o : ℝ) : EReal) := by
  have : (dat3 V c).arrAt 12 cfg3.N = fun i : S16384x128.Idx => (((lin (cat px py pz (pool (bn 131072 y g be))) W b) (i 0) (i 1) : ℝ) : EReal) := by
    refine (dat3 V c).arrAt_eq_of_covers 12 _ (by decide +kernel) fun t hf x => ?_
    blk_simp
    rw [after3_12]
    idx_vars x
    have h : t.val * 1024 + x0.val < 16384 := by have := lt3 t; have := x0.isLt; omega
    rw [rows3 H t x0 x1 h]
    refine congrArg (fun v : ℝ => (v : EReal)) (congrArg₂ (lin (cat px py pz (pool (bn 131072 y g be))) W b) (Fin.ext ?_) (Fin.ext ?_))
    · blk_simp [idx3 t]
    · blk_simp [idx3 t]
  exact congrFun this _

/-- … and the sums of its columns and of their squares. -/
theorem sums_out3 (o : Fin 128) : (dat3 V c).arrAt 13 cfg3.N (ix2 0 o) = ((sum1 (lin (cat px py pz (pool (bn 131072 y g be))) W b) o : ℝ) : EReal)
    ∧ (dat3 V c).arrAt 13 cfg3.N (ix2 1 o) = ((sum2 (lin (cat px py pz (pool (bn 131072 y g be))) W b) o : ℝ) : EReal) := by
  have hl : 15 < cfg3.N := by rw [show cfg3.N = 16 from N_3]; decide
  have e : ∀ (n : ℕ) (hn : n < cfg3.N), n = 15 → (outsAt3 V c n hn).2 = (outsAt3 V c 15 hl).2 := by rintro _ _ rfl; rfl
  have : (dat3 V c).arrAt 13 cfg3.N = (outsAt3 V c 15 hl).2 := by
    refine (dat3 V c).arrAt_eq_of_covers 13 _ (by decide +kernel) fun t hf x => ?_
    blk_simp
    have := lt3 t
    have h : t.val = 15 := by have := (flush3_13 t).mp hf; omega
    rw [after3_13, e _ _ h]
    idx_vars x
    refine congrArg (outsAt3 V c 15 hl).2 ?_
    blk_ext [idx3 t]
  rw [this]
  have := sums3 H o 15 hl
  rw [sum_ext (R := 16384), sum_ext (R := 16384)] at this
  exact this

end

end Cert.KernelIdeal.Val

end
-- ==== Proof.Val.K4.lean ====
/- The region of layer 5: the arrays that it leaves hold the affine map of the normalised rows, and the sums of that map's
    columns and of their squares. -/
module

public import proofs.«01_k».proof.Proof.Val.Common
public import proofs.«01_k».proof.Proof.Mem.Region4

@[expose] public section

set_option maxRecDepth 16384

noncomputable section

namespace Cert.KernelIdeal.Val

open Cert.KernelIdeal Cert.KernelIdeal.Gen Idealize.ShloMosaic Idealize.ShloMosaic.TcCoe Idealize.SL.Sem Cert.Spec
open Idealize.ShloMosaic.Pipeline (Dat)

variable {F : FTy → Type} [FloatOps F]
variable (V : (c : Dev nD) → (b : Ref sig .tc) → Buf (Elt F) ((c : Thread nD τ).loc b))

/-- The block that each window takes at a point. -/
theorem idx4 : ∀ t : Fin cfg4.N, win4_0.index t = ![t.val, 0] ∧ win4_1.index t = ![0, 0] ∧ win4_2.index t = ![0, 0] ∧ win4_3.index t = ![0, 0]
    ∧ win4_4.index t = ![0, 0] ∧ win4_5.index t = ![0, 0] ∧ win4_6.index t = ![t.val, 0] ∧ win4_7.index t = ![0, 0] := by decide +kernel

/-- The rows that a point computes of its input blocks. -/
def yb4 (x0 : Vec F S4096x128 .f32) (x1 : Vec F S8x128 .f32) (x2 x3 : Vec F S1x128 .f32) (x4 : Vec F S128x256 .f32) (x5 : Vec F S1x256 .f32) : Vec F S4096x256 .f32 :=
  k4_pay3 (View.ld x1 (Rect.unit (s := S8x128) ![0, 0] S1x128.size inb_S8x128_S1x128_0_0))
    (View.ld x1 (Rect.unit (s := S8x128) ![1, 0] S1x128.size inb_S8x128_S1x128_1_0)) x2 x3 x0 x4 x5

theorem out4_A_6_eq (c : Dev nD) (i : grid4.Coords) (arg1 : Memref sig .tc .vmem S4096x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S4096x256 .f32) (harg7 : arg7.IsWhole) (arg8 : Memref sig .tc .vmem S8x256 .f32) (harg8 : arg8.IsWhole) (hc0 : cond4_0 i) (hc1 : ¬cond4_1 i) (x0 : Vec F S4096x128 .f32) (x1 : Vec F S8x128 .f32) (x2 : Vec F S1x128 .f32) (x3 : Vec F S1x128 .f32) (x4 : Vec F S128x256 .f32) (x5 : Vec F S1x256 .f32) :
    out4_A_6 c i arg1 harg1 arg2 harg2 arg3 harg3 arg4 harg4 arg5 harg5 arg6 harg6 arg7 harg7 arg8 harg8 hc0 hc1 x0 x1 x2 x3 x4 x5 = yb4 x0 x1 x2 x3 x4 x5 := by
  unfold out4_A_6
  refine (View.read_writes_eq_canon _ _ _ (fun y => by apply cover4_A_6)).trans ?_
  unfold kernelRun4_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x128) hz, View.ld_unit_zero (S := S1x256) hz, View.ld_unit_zero (S := S8x128) hz, View.ld_unit_zero (S := S8x256) hz, View.ld_unit_zero (S := S4096x128) hz, View.ld_unit_zero (S := S4096x256) hz, View.ld_unit_zero (S := S128x256) hz, shapeCast_self]
  rfl

theorem out4_A_7_eq (c : Dev nD) (i : grid4.Coords) (arg1 : Memref sig .tc .vmem S4096x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S4096x256 .f32) (harg7 : arg7.IsWhole) (arg8 : Memref sig .tc .vmem S8x256 .f32) (harg8 : arg8.IsWhole) (hc0 : cond4_0 i) (hc1 : ¬cond4_1 i) (x0 : Vec F S4096x128 .f32) (x1 : Vec F S8x128 .f32) (x2 : Vec F S1x128 .f32) (x3 : Vec F S1x128 .f32) (x4 : Vec F S128x256 .f32) (x5 : Vec F S1x256 .f32) :
    out4_A_7 c i arg1 harg1 arg2 harg2 arg3 harg3 arg4 harg4 arg5 harg5 arg6 harg6 arg7 harg7 arg8 harg8 hc0 hc1 x0 x1 x2 x3 x4 x5 = k4_pay1 (yb4 x0 x1 x2 x3 x4 x5) := by
  unfold out4_A_7
  refine (View.read_writes_eq_canon _ _ _ (fun y => by apply cover4_A_7)).trans ?_
  unfold kernelRun4_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x128) hz, View.ld_unit_zero (S := S1x256) hz, View.ld_unit_zero (S := S8x128) hz, View.ld_unit_zero (S := S8x256) hz, View.ld_unit_zero (S := S4096x128) hz, View.ld_unit_zero (S := S4096x256) hz, View.ld_unit_zero (S := S128x256) hz, shapeCast_self]
  rfl

theorem out4_B_6_eq (c : Dev nD) (i : grid4.Coords) (arg1 : Memref sig .tc .vmem S4096x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S4096x256 .f32) (harg7 : arg7.IsWhole) (arg8 : Memref sig .tc .vmem S8x256 .f32) (harg8 : arg8.IsWhole) (hc0 : ¬cond4_0 i) (hc1 : cond4_1 i) (x0 : Vec F S4096x128 .f32) (x1 : Vec F S8x128 .f32) (x2 : Vec F S1x128 .f32) (x3 : Vec F S1x128 .f32) (x4 : Vec F S128x256 .f32) (x5 : Vec F S1x256 .f32) (xo7 : Vec F S8x256 .f32) :
    out4_B_6 c i arg1 harg1 arg2 harg2 arg3 harg3 arg4 harg4 arg5 harg5 arg6 harg6 arg7 harg7 arg8 harg8 hc0 hc1 x0 x1 x2 x3 x4 x5 xo7 = yb4 x0 x1 x2 x3 x4 x5 := by
  unfold out4_B_6
  refine (View.read_writes_eq_canon _ _ _ (fun y => by apply cover4_B_6)).trans ?_
  unfold kernelRun4_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x128) hz, View.ld_unit_zero (S := S1x256) hz, View.ld_unit_zero (S := S8x128) hz, View.ld_unit_zero (S := S8x256) hz, View.ld_unit_zero (S := S4096x128) hz, View.ld_unit_zero (S := S4096x256) hz, View.ld_unit_zero (S := S128x256) hz, shapeCast_self]
  rfl

theorem out4_B_7_eq (c : Dev nD) (i : grid4.Coords) (arg1 : Memref sig .tc .vmem S4096x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S4096x256 .f32) (harg7 : arg7.IsWhole) (arg8 : Memref sig .tc .vmem S8x256 .f32) (harg8 : arg8.IsWhole) (hc0 : ¬cond4_0 i) (hc1 : cond4_1 i) (x0 : Vec F S4096x128 .f32) (x1 : Vec F S8x128 .f32) (x2 : Vec F S1x128 .f32) (x3 : Vec F S1x128 .f32) (x4 : Vec F S128x256 .f32) (x5 : Vec F S1x256 .f32) (xo7 : Vec F S8x256 .f32) :
    out4_B_7 c i arg1 harg1 arg2 harg2 arg3 harg3 arg4 harg4 arg5 harg5 arg6 harg6 arg7 harg7 arg8 harg8 hc0 hc1 x0 x1 x2 x3 x4 x5 xo7 = k4_pay2 (yb4 x0 x1 x2 x3 x4 x5) xo7 := by
  unfold out4_B_7
  refine (View.read_writes_eq_canon _ _ _ (fun y => by apply cover4_B_7)).trans ?_
  unfold kernelRun4_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x128) hz, View.ld_unit_zero (S := S1x256) hz, View.ld_unit_zero (S := S8x128) hz, View.ld_unit_zero (S := S8x256) hz, View.ld_unit_zero (S := S4096x128) hz, View.ld_unit_zero (S := S4096x256) hz, View.ld_unit_zero (S := S128x256) hz, shapeCast_self]
  rfl

theorem lt4 (t : Fin cfg4.N) : t.val < 4 := lt_of_lt_of_eq t.isLt (show cfg4.N = 4 from N_4)

/-- A point's rows. -/
theorem fst4 (c : Dev nD) (t : Fin cfg4.N) : (outsAt4 V c t.val t.isLt).1
    = yb4 (iblk4 V c 0 t) (iblk4 V c 1 t) (iblk4 V c 2 t) (iblk4 V c 3 t) (iblk4 V c 4 t) (iblk4 V c 5 t) := by
  have := lt4 t
  by_cases h0 : t.val % 4 = 0
  · rw [outsAt4_A V c t h0 (by omega)]; dsimp only; rw [out4_A_6_eq]
  · rw [outsAt4_B V c t h0 (by omega)]; dsimp only; rw [out4_B_6_eq]

/-- The first point starts the running sums … -/
theorem snd4_A (c : Dev nD) (t : Fin cfg4.N) (h0 : t.val % 4 = 0) : (outsAt4 V c t.val t.isLt).2 = k4_pay1 (F := F) (outsAt4 V c t.val t.isLt).1 := by
  have := lt4 t
  rw [fst4, outsAt4_A V c t h0 (by omega)]; dsimp only; rw [out4_A_7_eq]

/-- … and every later one adds to them. -/
theorem snd4_B (c : Dev nD) (n : ℕ) (h : n + 1 < cfg4.N) :
    (outsAt4 V c (n + 1) h).2 = k4_pay2 (F := F) (outsAt4 V c (n + 1) h).1 (outsAt4 V c n (Nat.lt_of_succ_lt h)).2 := by
  have h16 : n + 1 < 4 := lt4 ⟨n + 1, h⟩
  rw [fst4 V c ⟨n + 1, h⟩, outsAt4_B V c ⟨n + 1, h⟩ (by dsimp only; omega) (by dsimp only; omega)]; dsimp only; rw [out4_B_7_eq]
  rfl

/-- One row of the layer's affine map, at real entries. -/
theorem row4 (y : Fin 16384 → Fin 128 → ℝ) (g be : Fin 128 → ℝ) (W : Fin 256 → Fin 128 → ℝ) (b : Fin 256 → ℝ)
    (x0 : Vec Ideal S4096x128 .f32) (x1 : Vec Ideal S8x128 .f32) (x2 x3 : Vec Ideal S1x128 .f32) (x4 : Vec Ideal S128x256 .f32) (x5 : Vec Ideal S1x256 .f32)
    (r : Fin 16384) (q : Fin 4096) (o : Fin 256)
    (h0 : ∀ k, x0 (ix2 q k) = ((y r k : ℝ) : EReal))
    (h1 : ∀ k, x1 (ix2 0 k) = ((sum1 y k : ℝ) : EReal)) (h1' : ∀ k, x1 (ix2 1 k) = ((sum2 y k : ℝ) : EReal))
    (h2 : ∀ k, x2 (ix2 0 k) = ((g k : ℝ) : EReal)) (h3 : ∀ k, x3 (ix2 0 k) = ((be k : ℝ) : EReal))
    (h4 : ∀ k o, x4 (ix2 k o) = ((W o k : ℝ) : EReal)) (h5 : ∀ o, x5 (ix2 0 o) = ((b o : ℝ) : EReal)) :
    yb4 x0 x1 x2 x3 x4 x5 (ix2 q o) = ((lin (bn 16384 y g be) W b r o : ℝ) : EReal) := by
  unfold yb4 k4_pay3
  pointwise
  have hc : (Fintype.card (Fin 16384) : ℝ) = 16384 := by simp
  simp only [h0, h1, h1', h2, h3, h4, h5, ofBits_i2, ofBits_eps, ker_bn 16384 (by norm_num) hc, coe_lin]
  rfl

theorem stat4_0 (v : FVec Ideal S4096x256 .f32) (o : Fin 256) : k4_pay1 (F := Ideal) v (ix2 0 o) = ∑ r : Fin 4096, v (ix2 r o) := by
  unfold k4_pay1
  pointwise
  exact add_zero _

theorem stat4_1 (v : FVec Ideal S4096x256 .f32) (o : Fin 256) : k4_pay1 (F := Ideal) v (ix2 1 o) = ∑ r : Fin 4096, v (ix2 r o) * v (ix2 r o) := by
  unfold k4_pay1
  pointwise
  exact zero_add _

theorem acc4 (v : FVec Ideal S4096x256 .f32) (x : Vec Ideal S8x256 .f32) (a : Fin 8) (o : Fin 256) : k4_pay2 (F := Ideal) v x (ix2 a o) = x (ix2 a o) + k4_pay1 (F := Ideal) v (ix2 a o) := by
  unfold k4_pay2
  pointwise

section
variable (V : (c : Dev nD) → (b : Ref sig .tc) → Buf (Elt Ideal) ((c : Thread nD τ).loc b)) (c : Dev nD)
variable (y : Fin 16384 → Fin 128 → ℝ) (g be : Fin 128 → ℝ) (W : Fin 256 → Fin 128 → ℝ) (b : Fin 256 → ℝ)

/-- The region's inputs hold the rows `y`, the sums of their columns and squares, and the layer's parameters. -/
structure In4 : Prop where
  h0 : ∀ r k, V c (Pipeline.arrRef spec4 0) (ix2 r k) = ((y r k : ℝ) : EReal)
  h1 : ∀ k, V c (Pipeline.arrRef spec4 1) (ix2 0 k) = ((sum1 y k : ℝ) : EReal)
  h1' : ∀ k, V c (Pipeline.arrRef spec4 1) (ix2 1 k) = ((sum2 y k : ℝ) : EReal)
  h2 : ∀ k, V c (Pipeline.arrRef spec4 2) (ix2 0 k) = ((g k : ℝ) : EReal)
  h3 : ∀ k, V c (Pipeline.arrRef spec4 3) (ix2 0 k) = ((be k : ℝ) : EReal)
  h4 : ∀ k o, V c (Pipeline.arrRef spec4 4) (ix2 k o) = ((W o k : ℝ) : EReal)
  h5 : ∀ o, V c (Pipeline.arrRef spec4 5) (ix2 0 o) = ((b o : ℝ) : EReal)

variable {V c y g be W b} (H : In4 V c y g be W b)
include H

set_option maxHeartbeats 2000000 in
/-- The rows that a point leaves. -/
theorem rows4 (t : Fin cfg4.N) (q : Fin 4096) (o : Fin 256) (h : t.val * 4096 + q.val < 16384) :
    (outsAt4 V c t.val t.isLt).1 (ix2 q o) = ((lin (bn 16384 y g be) W b ⟨t.val * 4096 + q.val, h⟩ o : ℝ) : EReal) := by
  rw [fst4]
  refine row4 y g be W b _ _ _ _ _ _ _ q o (fun k => ?_) (fun k => ?_) (fun k => ?_) (fun k => ?_) (fun k => ?_) (fun k o => ?_) (fun o => ?_)
  · rw [← H.h0]; blk_ext [iblk4, idx4 t]
  · rw [← H.h1]; blk_ext [iblk4, idx4 t]
  · rw [← H.h1']; blk_ext [iblk4, idx4 t]
  · rw [← H.h2]; blk_ext [iblk4, idx4 t]
  · rw [← H.h3]; blk_ext [iblk4, idx4 t]
  · rw [← H.h4]; blk_ext [iblk4, idx4 t]
  · rw [← H.h5]; blk_ext [iblk4, idx4 t]

/-- The running sums after a point. -/
theorem sums4 (o : Fin 256) (n : ℕ) (h : n < cfg4.N) :
    (outsAt4 V c n h).2 (ix2 0 o) = ((∑ i ∈ Finset.range ((n + 1) * 4096), ext (fun r => lin (bn 16384 y g be) W b r o) i : ℝ) : EReal)
    ∧ (outsAt4 V c n h).2 (ix2 1 o) = ((∑ i ∈ Finset.range ((n + 1) * 4096),
        ext (fun r => lin (bn 16384 y g be) W b r o * lin (bn 16384 y g be) W b r o) i : ℝ) : EReal) := by
  have e : ∀ (n : ℕ) (h : n < cfg4.N) (q : Fin 4096), n * 4096 + q.val < 16384 := fun n h q => by have := lt4 ⟨n, h⟩; have := q.isLt; dsimp only at *; omega
  have s0 : ∀ (n : ℕ) (h : n < cfg4.N), k4_pay1 (F := Ideal) (outsAt4 V c n h).1 (ix2 0 o)
      = ((∑ q : Fin 4096, ext (fun r => lin (bn 16384 y g be) W b r o) (n * 4096 + q.val) : ℝ) : EReal) := fun n h => by
    rw [stat4_0, ← coe_sum]
    exact Finset.sum_congr rfl fun q _ => by rw [rows4 H ⟨n, h⟩ q o (e n h q), ext_of _ (e n h q)]
  have s1 : ∀ (n : ℕ) (h : n < cfg4.N), k4_pay1 (F := Ideal) (outsAt4 V c n h).1 (ix2 1 o)
      = ((∑ q : Fin 4096, ext (fun r => lin (bn 16384 y g be) W b r o * lin (bn 16384 y g be) W b r o) (n * 4096 + q.val) : ℝ) : EReal) := fun n h => by
    rw [stat4_1, ← coe_sum]
    exact Finset.sum_congr rfl fun q _ => by rw [rows4 H ⟨n, h⟩ q o (e n h q), ext_of _ (e n h q), EReal.coe_mul]
  refine ⟨run_sum 4096 _ _ (fun n h => (outsAt4 V c n h).2 (ix2 0 o)) (fun h => ?_) (fun n h => ?_) n h,
    run_sum 4096 _ _ (fun n h => (outsAt4 V c n h).2 (ix2 1 o)) (fun h => ?_) (fun n h => ?_) n h⟩
  · exact (congrFun (snd4_A V c ⟨0, h⟩ rfl) _).trans (s0 0 h)
  · rw [← s0 (n + 1) h, snd4_B, acc4]
  · exact (congrFun (snd4_A V c ⟨0, h⟩ rfl) _).trans (s1 0 h)
  · rw [← s1 (n + 1) h, snd4_B, acc4]

/-- The region leaves the layer's rows. -/
theorem rows_out4 (r : Fin 16384) (o : Fin 256) : (dat4 V c).arrAt 6 cfg4.N (ix2 r o) = ((lin (bn 16384 y g be) W b r o : ℝ) : EReal) := by
  have : (dat4 V c).arrAt 6 cfg4.N = fun i : S16384x256.Idx => ((lin (bn 16384 y g be) W b (i 0) (i 1) : ℝ) : EReal) := by
    refine (dat4 V c).arrAt_eq_of_covers 6 _ (by decide +kernel) fun t hf x => ?_
    blk_simp
    rw [after4_6]
    idx_vars x
    have h : t.val * 4096 + x0.val < 16384 := by have := lt4 t; have := x0.isLt; omega
    rw [rows4 H t x0 x1 h]
    refine congrArg (fun v : ℝ => (v : EReal)) (congrArg₂ (lin (bn 16384 y g be) W b) (Fin.ext ?_) (Fin.ext ?_))
    · blk_simp [idx4 t]
    · blk_simp [idx4 t]
  exact congrFun this _

/-- … and the sums of its columns and of their squares. -/
theorem sums_out4 (o : Fin 256) : (dat4 V c).arrAt 7 cfg4.N (ix2 0 o) = ((sum1 (lin (bn 16384 y g be) W b) o : ℝ) : EReal)
    ∧ (dat4 V c).arrAt 7 cfg4.N (ix2 1 o) = ((sum2 (lin (bn 16384 y g be) W b) o : ℝ) : EReal) := by
  have hl : 3 < cfg4.N := by rw [show cfg4.N = 4 from N_4]; decide
  have e : ∀ (n : ℕ) (hn : n < cfg4.N), n = 3 → (outsAt4 V c n hn).2 = (outsAt4 V c 3 hl).2 := by rintro _ _ rfl; rfl
  have : (dat4 V c).arrAt 7 cfg4.N = (outsAt4 V c 3 hl).2 := by
    refine (dat4 V c).arrAt_eq_of_covers 7 _ (by decide +kernel) fun t hf x => ?_
    blk_simp
    have := lt4 t
    have h : t.val = 3 := by have := (flush4_7 t).mp hf; omega
    rw [after4_7, e _ _ h]
    idx_vars x
    refine congrArg (outsAt4 V c 3 hl).2 ?_
    blk_ext [idx4 t]
  rw [this]
  have := sums4 H o 3 hl
  rw [sum_ext (R := 16384), sum_ext (R := 16384)] at this
  exact this

end

end Cert.KernelIdeal.Val

end
-- ==== Proof.Val.K5.lean ====
/- The region of layer 6: the arrays that it leaves hold the affine map of the normalised rows, and the sums of that map's
    columns and of their squares. -/
module

public import proofs.«01_k».proof.Proof.Val.Common
public import proofs.«01_k».proof.Proof.Mem.Region5

@[expose] public section

set_option maxRecDepth 16384

noncomputable section

namespace Cert.KernelIdeal.Val

open Cert.KernelIdeal Cert.KernelIdeal.Gen Idealize.ShloMosaic Idealize.ShloMosaic.TcCoe Idealize.SL.Sem Cert.Spec
open Idealize.ShloMosaic.Pipeline (Dat)

variable {F : FTy → Type} [FloatOps F]
variable (V : (c : Dev nD) → (b : Ref sig .tc) → Buf (Elt F) ((c : Thread nD τ).loc b))

/-- The block that each window takes at a point. -/
theorem idx5 : ∀ t : Fin cfg5.N, win5_0.index t = ![t.val, 0] ∧ win5_1.index t = ![0, 0] ∧ win5_2.index t = ![0, 0] ∧ win5_3.index t = ![0, 0]
    ∧ win5_4.index t = ![0, 0] ∧ win5_5.index t = ![0, 0] ∧ win5_6.index t = ![t.val, 0] ∧ win5_7.index t = ![0, 0] := by decide +kernel

/-- The rows that a point computes of its input blocks. -/
def yb5 (x0 : Vec F S2048x256 .f32) (x1 : Vec F S8x256 .f32) (x2 x3 : Vec F S1x256 .f32) (x4 : Vec F S256x512 .f32) (x5 : Vec F S1x512 .f32) : Vec F S2048x512 .f32 :=
  k5_pay3 (View.ld x1 (Rect.unit (s := S8x256) ![0, 0] S1x256.size inb_S8x256_S1x256_0_0))
    (View.ld x1 (Rect.unit (s := S8x256) ![1, 0] S1x256.size inb_S8x256_S1x256_1_0)) x2 x3 x0 x4 x5

theorem out5_A_6_eq (c : Dev nD) (i : grid5.Coords) (arg1 : Memref sig .tc .vmem S2048x256 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S8x512 .f32) (harg8 : arg8.IsWhole) (hc0 : cond5_0 i) (hc1 : ¬cond5_1 i) (x0 : Vec F S2048x256 .f32) (x1 : Vec F S8x256 .f32) (x2 : Vec F S1x256 .f32) (x3 : Vec F S1x256 .f32) (x4 : Vec F S256x512 .f32) (x5 : Vec F S1x512 .f32) :
    out5_A_6 c i arg1 harg1 arg2 harg2 arg3 harg3 arg4 harg4 arg5 harg5 arg6 harg6 arg7 harg7 arg8 harg8 hc0 hc1 x0 x1 x2 x3 x4 x5 = yb5 x0 x1 x2 x3 x4 x5 := by
  unfold out5_A_6
  refine (View.read_writes_eq_canon _ _ _ (fun y => by apply cover5_A_6)).trans ?_
  unfold kernelRun5_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x256) hz, View.ld_unit_zero (S := S1x512) hz, View.ld_unit_zero (S := S8x256) hz, View.ld_unit_zero (S := S8x512) hz, View.ld_unit_zero (S := S2048x256) hz, View.ld_unit_zero (S := S2048x512) hz, View.ld_unit_zero (S := S256x512) hz, shapeCast_self]
  rfl

theorem out5_A_7_eq (c : Dev nD) (i : grid5.Coords) (arg1 : Memref sig .tc .vmem S2048x256 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S8x512 .f32) (harg8 : arg8.IsWhole) (hc0 : cond5_0 i) (hc1 : ¬cond5_1 i) (x0 : Vec F S2048x256 .f32) (x1 : Vec F S8x256 .f32) (x2 : Vec F S1x256 .f32) (x3 : Vec F S1x256 .f32) (x4 : Vec F S256x512 .f32) (x5 : Vec F S1x512 .f32) :
    out5_A_7 c i arg1 harg1 arg2 harg2 arg3 harg3 arg4 harg4 arg5 harg5 arg6 harg6 arg7 harg7 arg8 harg8 hc0 hc1 x0 x1 x2 x3 x4 x5 = k5_pay1 (yb5 x0 x1 x2 x3 x4 x5) := by
  unfold out5_A_7
  refine (View.read_writes_eq_canon _ _ _ (fun y => by apply cover5_A_7)).trans ?_
  unfold kernelRun5_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x256) hz, View.ld_unit_zero (S := S1x512) hz, View.ld_unit_zero (S := S8x256) hz, View.ld_unit_zero (S := S8x512) hz, View.ld_unit_zero (S := S2048x256) hz, View.ld_unit_zero (S := S2048x512) hz, View.ld_unit_zero (S := S256x512) hz, shapeCast_self]
  rfl

theorem out5_B_6_eq (c : Dev nD) (i : grid5.Coords) (arg1 : Memref sig .tc .vmem S2048x256 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S8x512 .f32) (harg8 : arg8.IsWhole) (hc0 : ¬cond5_0 i) (hc1 : cond5_1 i) (x0 : Vec F S2048x256 .f32) (x1 : Vec F S8x256 .f32) (x2 : Vec F S1x256 .f32) (x3 : Vec F S1x256 .f32) (x4 : Vec F S256x512 .f32) (x5 : Vec F S1x512 .f32) (xo7 : Vec F S8x512 .f32) :
    out5_B_6 c i arg1 harg1 arg2 harg2 arg3 harg3 arg4 harg4 arg5 harg5 arg6 harg6 arg7 harg7 arg8 harg8 hc0 hc1 x0 x1 x2 x3 x4 x5 xo7 = yb5 x0 x1 x2 x3 x4 x5 := by
  unfold out5_B_6
  refine (View.read_writes_eq_canon _ _ _ (fun y => by apply cover5_B_6)).trans ?_
  unfold kernelRun5_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x256) hz, View.ld_unit_zero (S := S1x512) hz, View.ld_unit_zero (S := S8x256) hz, View.ld_unit_zero (S := S8x512) hz, View.ld_unit_zero (S := S2048x256) hz, View.ld_unit_zero (S := S2048x512) hz, View.ld_unit_zero (S := S256x512) hz, shapeCast_self]
  rfl

theorem out5_B_7_eq (c : Dev nD) (i : grid5.Coords) (arg1 : Memref sig .tc .vmem S2048x256 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S8x512 .f32) (harg8 : arg8.IsWhole) (hc0 : ¬cond5_0 i) (hc1 : cond5_1 i) (x0 : Vec F S2048x256 .f32) (x1 : Vec F S8x256 .f32) (x2 : Vec F S1x256 .f32) (x3 : Vec F S1x256 .f32) (x4 : Vec F S256x512 .f32) (x5 : Vec F S1x512 .f32) (xo7 : Vec F S8x512 .f32) :
    out5_B_7 c i arg1 harg1 arg2 harg2 arg3 harg3 arg4 harg4 arg5 harg5 arg6 harg6 arg7 harg7 arg8 harg8 hc0 hc1 x0 x1 x2 x3 x4 x5 xo7 = k5_pay2 (yb5 x0 x1 x2 x3 x4 x5) xo7 := by
  unfold out5_B_7
  refine (View.read_writes_eq_canon _ _ _ (fun y => by apply cover5_B_7)).trans ?_
  unfold kernelRun5_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S1x256) hz, View.ld_unit_zero (S := S1x512) hz, View.ld_unit_zero (S := S8x256) hz, View.ld_unit_zero (S := S8x512) hz, View.ld_unit_zero (S := S2048x256) hz, View.ld_unit_zero (S := S2048x512) hz, View.ld_unit_zero (S := S256x512) hz, shapeCast_self]
  rfl

theorem lt5 (t : Fin cfg5.N) : t.val < 8 := lt_of_lt_of_eq t.isLt (show cfg5.N = 8 from N_5)

/-- A point's rows. -/
theorem fst5 (c : Dev nD) (t : Fin cfg5.N) : (outsAt5 V c t.val t.isLt).1
    = yb5 (iblk5 V c 0 t) (iblk5 V c 1 t) (iblk5 V c 2 t) (iblk5 V c 3 t) (iblk5 V c 4 t) (iblk5 V c 5 t) := by
  have := lt5 t
  by_cases h0 : t.val % 8 = 0
  · rw [outsAt5_A V c t h0 (by omega)]; dsimp only; rw [out5_A_6_eq]
  · rw [outsAt5_B V c t h0 (by omega)]; dsimp only; rw [out5_B_6_eq]

/-- The first point starts the running sums … -/
theorem snd5_A (c : Dev nD) (t : Fin cfg5.N) (h0 : t.val % 8 = 0) : (outsAt5 V c t.val t.isLt).2 = k5_pay1 (F := F) (outsAt5 V c t.val t.isLt).1 := by
  have := lt5 t
  rw [fst5, outsAt5_A V c t h0 (by omega)]; dsimp only; rw [out5_A_7_eq]

/-- … and every later one adds to them. -/
theorem snd5_B (c : Dev nD) (n : ℕ) (h : n + 1 < cfg5.N) :
    (outsAt5 V c (n + 1) h).2 = k5_pay2 (F := F) (outsAt5 V c (n + 1) h).1 (outsAt5 V c n (Nat.lt_of_succ_lt h)).2 := by
  have h16 : n + 1 < 8 := lt5 ⟨n + 1, h⟩
  rw [fst5 V c ⟨n + 1, h⟩, outsAt5_B V c ⟨n + 1, h⟩ (by dsimp only; omega) (by dsimp only; omega)]; dsimp only; rw [out5_B_7_eq]
  rfl

/-- One row of the layer's affine map, at real entries. -/
theorem row5 (y : Fin 16384 → Fin 256 → ℝ) (g be : Fin 256 → ℝ) (W : Fin 512 → Fin 256 → ℝ) (b : Fin 512 → ℝ)
    (x0 : Vec Ideal S2048x256 .f32) (x1 : Vec Ideal S8x256 .f32) (x2 x3 : Vec Ideal S1x256 .f32) (x4 : Vec Ideal S256x512 .f32) (x5 : Vec Ideal S1x512 .f32)
    (r : Fin 16384) (q : Fin 2048) (o : Fin 512)
    (h0 : ∀ k, x0 (ix2 q k) = ((y r k : ℝ) : EReal))
    (h1 : ∀ k, x1 (ix2 0 k) = ((sum1 y k : ℝ) : EReal)) (h1' : ∀ k, x1 (ix2 1 k) = ((sum2 y k : ℝ) : EReal))
    (h2 : ∀ k, x2 (ix2 0 k) = ((g k : ℝ) : EReal)) (h3 : ∀ k, x3 (ix2 0 k) = ((be k : ℝ) : EReal))
    (h4 : ∀ k o, x4 (ix2 k o) = ((W o k : ℝ) : EReal)) (h5 : ∀ o, x5 (ix2 0 o) = ((b o : ℝ) : EReal)) :
    yb5 x0 x1 x2 x3 x4 x5 (ix2 q o) = ((lin (bn 16384 y g be) W b r o : ℝ) : EReal) := by
  unfold yb5 k5_pay3
  pointwise
  have hc : (Fintype.card (Fin 16384) : ℝ) = 16384 := by simp
  simp only [h0, h1, h1', h2, h3, h4, h5, ofBits_i2, ofBits_eps, ker_bn 16384 (by norm_num) hc, coe_lin]
  rfl

theorem stat5_0 (v : FVec Ideal S2048x512 .f32) (o : Fin 512) : k5_pay1 (F := Ideal) v (ix2 0 o) = ∑ r : Fin 2048, v (ix2 r o) := by
  unfold k5_pay1
  pointwise
  exact add_zero _

theorem stat5_1 (v : FVec Ideal S2048x512 .f32) (o : Fin 512) : k5_pay1 (F := Ideal) v (ix2 1 o) = ∑ r : Fin 2048, v (ix2 r o) * v (ix2 r o) := by
  unfold k5_pay1
  pointwise
  exact zero_add _

theorem acc5 (v : FVec Ideal S2048x512 .f32) (x : Vec Ideal S8x512 .f32) (a : Fin 8) (o : Fin 512) : k5_pay2 (F := Ideal) v x (ix2 a o) = x (ix2 a o) + k5_pay1 (F := Ideal) v (ix2 a o) := by
  unfold k5_pay2
  pointwise

section
variable (V : (c : Dev nD) → (b : Ref sig .tc) → Buf (Elt Ideal) ((c : Thread nD τ).loc b)) (c : Dev nD)
variable (y : Fin 16384 → Fin 256 → ℝ) (g be : Fin 256 → ℝ) (W : Fin 512 → Fin 256 → ℝ) (b : Fin 512 → ℝ)

/-- The region's inputs hold the rows `y`, the sums of their columns and squares, and the layer's parameters. -/
structure In5 : Prop where
  h0 : ∀ r k, V c (Pipeline.arrRef spec5 0) (ix2 r k) = ((y r k : ℝ) : EReal)
  h1 : ∀ k, V c (Pipeline.arrRef spec5 1) (ix2 0 k) = ((sum1 y k : ℝ) : EReal)
  h1' : ∀ k, V c (Pipeline.arrRef spec5 1) (ix2 1 k) = ((sum2 y k : ℝ) : EReal)
  h2 : ∀ k, V c (Pipeline.arrRef spec5 2) (ix2 0 k) = ((g k : ℝ) : EReal)
  h3 : ∀ k, V c (Pipeline.arrRef spec5 3) (ix2 0 k) = ((be k : ℝ) : EReal)
  h4 : ∀ k o, V c (Pipeline.arrRef spec5 4) (ix2 k o) = ((W o k : ℝ) : EReal)
  h5 : ∀ o, V c (Pipeline.arrRef spec5 5) (ix2 0 o) = ((b o : ℝ) : EReal)

variable {V c y g be W b} (H : In5 V c y g be W b)
include H

set_option maxHeartbeats 2000000 in
/-- The rows that a point leaves. -/
theorem rows5 (t : Fin cfg5.N) (q : Fin 2048) (o : Fin 512) (h : t.val * 2048 + q.val < 16384) :
    (outsAt5 V c t.val t.isLt).1 (ix2 q o) = ((lin (bn 16384 y g be) W b ⟨t.val * 2048 + q.val, h⟩ o : ℝ) : EReal) := by
  rw [fst5]
  refine row5 y g be W b _ _ _ _ _ _ _ q o (fun k => ?_) (fun k => ?_) (fun k => ?_) (fun k => ?_) (fun k => ?_) (fun k o => ?_) (fun o => ?_)
  · rw [← H.h0]; blk_ext [iblk5, idx5 t]
  · rw [← H.h1]; blk_ext [iblk5, idx5 t]
  · rw [← H.h1']; blk_ext [iblk5, idx5 t]
  · rw [← H.h2]; blk_ext [iblk5, idx5 t]
  · rw [← H.h3]; blk_ext [iblk5, idx5 t]
  · rw [← H.h4]; blk_ext [iblk5, idx5 t]
  · rw [← H.h5]; blk_ext [iblk5, idx5 t]

/-- The running sums after a point. -/
theorem sums5 (o : Fin 512) (n : ℕ) (h : n < cfg5.N) :
    (outsAt5 V c n h).2 (ix2 0 o) = ((∑ i ∈ Finset.range ((n + 1) * 2048), ext (fun r => lin (bn 16384 y g be) W b r o) i : ℝ) : EReal)
    ∧ (outsAt5 V c n h).2 (ix2 1 o) = ((∑ i ∈ Finset.range ((n + 1) * 2048),
        ext (fun r => lin (bn 16384 y g be) W b r o * lin (bn 16384 y g be) W b r o) i : ℝ) : EReal) := by
  have e : ∀ (n : ℕ) (h : n < cfg5.N) (q : Fin 2048), n * 2048 + q.val < 16384 := fun n h q => by have := lt5 ⟨n, h⟩; have := q.isLt; dsimp only at *; omega
  have s0 : ∀ (n : ℕ) (h : n < cfg5.N), k5_pay1 (F := Ideal) (outsAt5 V c n h).1 (ix2 0 o)
      = ((∑ q : Fin 2048, ext (fun r => lin (bn 16384 y g be) W b r o) (n * 2048 + q.val) : ℝ) : EReal) := fun n h => by
    rw [stat5_0, ← coe_sum]
    exact Finset.sum_congr rfl fun q _ => by rw [rows5 H ⟨n, h⟩ q o (e n h q), ext_of _ (e n h q)]
  have s1 : ∀ (n : ℕ) (h : n < cfg5.N), k5_pay1 (F := Ideal) (outsAt5 V c n h).1 (ix2 1 o)
      = ((∑ q : Fin 2048, ext (fun r => lin (bn 16384 y g be) W b r o * lin (bn 16384 y g be) W b r o) (n * 2048 + q.val) : ℝ) : EReal) := fun n h => by
    rw [stat5_1, ← coe_sum]
    exact Finset.sum_congr rfl fun q _ => by rw [rows5 H ⟨n, h⟩ q o (e n h q), ext_of _ (e n h q), EReal.coe_mul]
  refine ⟨run_sum 2048 _ _ (fun n h => (outsAt5 V c n h).2 (ix2 0 o)) (fun h => ?_) (fun n h => ?_) n h,
    run_sum 2048 _ _ (fun n h => (outsAt5 V c n h).2 (ix2 1 o)) (fun h => ?_) (fun n h => ?_) n h⟩
  · exact (congrFun (snd5_A V c ⟨0, h⟩ rfl) _).trans (s0 0 h)
  · rw [← s0 (n + 1) h, snd5_B, acc5]
  · exact (congrFun (snd5_A V c ⟨0, h⟩ rfl) _).trans (s1 0 h)
  · rw [← s1 (n + 1) h, snd5_B, acc5]

/-- The region leaves the layer's rows. -/
theorem rows_out5 (r : Fin 16384) (o : Fin 512) : (dat5 V c).arrAt 6 cfg5.N (ix2 r o) = ((lin (bn 16384 y g be) W b r o : ℝ) : EReal) := by
  have : (dat5 V c).arrAt 6 cfg5.N = fun i : S16384x512.Idx => ((lin (bn 16384 y g be) W b (i 0) (i 1) : ℝ) : EReal) := by
    refine (dat5 V c).arrAt_eq_of_covers 6 _ (by decide +kernel) fun t hf x => ?_
    blk_simp
    rw [after5_6]
    idx_vars x
    have h : t.val * 2048 + x0.val < 16384 := by have := lt5 t; have := x0.isLt; omega
    rw [rows5 H t x0 x1 h]
    refine congrArg (fun v : ℝ => (v : EReal)) (congrArg₂ (lin (bn 16384 y g be) W b) (Fin.ext ?_) (Fin.ext ?_))
    · blk_simp [idx5 t]
    · blk_simp [idx5 t]
  exact congrFun this _

/-- … and the sums of its columns and of their squares. -/
theorem sums_out5 (o : Fin 512) : (dat5 V c).arrAt 7 cfg5.N (ix2 0 o) = ((sum1 (lin (bn 16384 y g be) W b) o : ℝ) : EReal)
    ∧ (dat5 V c).arrAt 7 cfg5.N (ix2 1 o) = ((sum2 (lin (bn 16384 y g be) W b) o : ℝ) : EReal) := by
  have hl : 7 < cfg5.N := by rw [show cfg5.N = 8 from N_5]; decide
  have e : ∀ (n : ℕ) (hn : n < cfg5.N), n = 7 → (outsAt5 V c n hn).2 = (outsAt5 V c 7 hl).2 := by rintro _ _ rfl; rfl
  have : (dat5 V c).arrAt 7 cfg5.N = (outsAt5 V c 7 hl).2 := by
    refine (dat5 V c).arrAt_eq_of_covers 7 _ (by decide +kernel) fun t hf x => ?_
    blk_simp
    have := lt5 t
    have h : t.val = 7 := by have := (flush5_7 t).mp hf; omega
    rw [after5_7, e _ _ h]
    idx_vars x
    refine congrArg (outsAt5 V c 7 hl).2 ?_
    blk_ext [idx5 t]
  rw [this]
  have := sums5 H o 7 hl
  rw [sum_ext (R := 16384), sum_ext (R := 16384)] at this
  exact this

end

end Cert.KernelIdeal.Val

end
-- ==== Proof.Val.K6.lean ====
/- The last region: the maximum of the normalised rows over every cloud's centres. -/
module

public import proofs.«01_k».proof.Proof.Val.Common
public import proofs.«01_k».proof.Proof.Mem.Region6

@[expose] public section

set_option maxRecDepth 16384

noncomputable section

namespace Cert.KernelIdeal.Val

open Cert.KernelIdeal Cert.KernelIdeal.Gen Idealize.ShloMosaic Idealize.ShloMosaic.TcCoe Idealize.SL.Sem Cert.Spec
open Idealize.ShloMosaic.Pipeline (Dat)

/-- The block that each window takes at a point. -/
theorem idx6 : ∀ t : Fin cfg6.N, win6_0.index t = ![t.val, 0] ∧ win6_1.index t = ![0, 0] ∧ win6_2.index t = ![0, 0] ∧ win6_3.index t = ![0, 0]
    ∧ win6_4.index t = ![t.val, 0] := by decide +kernel

theorem lt6 (t : Fin cfg6.N) : t.val < 8 := lt_of_lt_of_eq t.isLt (show cfg6.N = 8 from N_6)

/-- One entry of a point's block, at real entries. -/
theorem row6 (y : Fin 16384 → Fin 512 → ℝ) (g be : Fin 512 → ℝ)
    (x0 : Vec Ideal S2048x512 .f32) (x1 : Vec Ideal S8x512 .f32) (x2 x3 : Vec Ideal S1x512 .f32)
    (r : Fin 2048) (q : Fin 256) (o : Fin 512)
    (h0 : ∀ (a : Fin 8) (h : q.val * 8 + a.val < 2048) (k : Fin 512), x0 (ix2 ⟨q.val * 8 + a.val, h⟩ k) = ((y ⟨r.val * 8 + a.val, by omega⟩ k : ℝ) : EReal))
    (h1 : ∀ k, x1 (ix2 0 k) = ((sum1 y k : ℝ) : EReal)) (h1' : ∀ k, x1 (ix2 1 k) = ((sum2 y k : ℝ) : EReal))
    (h2 : ∀ k, x2 (ix2 0 k) = ((g k : ℝ) : EReal)) (h3 : ∀ k, x3 (ix2 0 k) = ((be k : ℝ) : EReal)) :
    out6_4 x0 x1 x2 x3 (ix2 q o) = ((peak (bn 16384 y g be) r o : ℝ) : EReal) := by
  unfold out6_4 k6_pay1
  rw [View.canon_unit_zero hz, View.ld_unit_zero (S := S1x512) hz, View.ld_unit_zero (S := S1x512) hz, View.ld_unit_zero (S := S2048x512) hz]
  pointwise
  have hc : (Fintype.card (Fin 16384) : ℝ) = 16384 := by simp
  simp only [h0, h1, h1', h2, h3, ofBits_i2, ofBits_eps, ker_bn 16384 (by norm_num) hc, fold_max]
  rfl

section
variable (V : (c : Dev nD) → (b : Ref sig .tc) → Buf (Elt Ideal) ((c : Thread nD τ).loc b)) (c : Dev nD)
variable (y : Fin 16384 → Fin 512 → ℝ) (g be : Fin 512 → ℝ)

/-- The region's inputs hold the rows `y`, the sums of their columns and squares, and the layer's parameters. -/
structure In6 : Prop where
  h0 : ∀ r k, V c (Pipeline.arrRef spec6 0) (ix2 r k) = ((y r k : ℝ) : EReal)
  h1 : ∀ k, V c (Pipeline.arrRef spec6 1) (ix2 0 k) = ((sum1 y k : ℝ) : EReal)
  h1' : ∀ k, V c (Pipeline.arrRef spec6 1) (ix2 1 k) = ((sum2 y k : ℝ) : EReal)
  h2 : ∀ k, V c (Pipeline.arrRef spec6 2) (ix2 0 k) = ((g k : ℝ) : EReal)
  h3 : ∀ k, V c (Pipeline.arrRef spec6 3) (ix2 0 k) = ((be k : ℝ) : EReal)

variable {V c y g be} (H : In6 V c y g be)
include H

set_option maxHeartbeats 2000000 in
/-- The region leaves every cloud's maxima. -/
theorem out6 (r : Fin 2048) (o : Fin 512) : (dat6 V c).arrAt 4 cfg6.N (ix2 r o) = ((peak (bn 16384 y g be) r o : ℝ) : EReal) := by
  have : (dat6 V c).arrAt 4 cfg6.N = fun i : S2048x512.Idx => ((peak (bn 16384 y g be) (i 0) (i 1) : ℝ) : EReal) := by
    refine (dat6 V c).arrAt_eq_of_covers 4 _ (by decide +kernel) fun t hf x => ?_
    blk_simp
    rw [after6_4]
    idx_vars x
    have ht := lt6 t
    have hx := x0.isLt
    rw [row6 y g be _ _ _ _ ⟨t.val * 256 + x0.val, by omega⟩ x0 x1 (fun a h k => ?_) (fun k => ?_) (fun k => ?_) (fun k => ?_) (fun k => ?_)]
    · refine congrArg (fun v : ℝ => (v : EReal)) (congrArg₂ (peak (bn 16384 y g be)) (Fin.ext ?_) (Fin.ext ?_))
      · blk_simp [idx6 t]
      · blk_simp [idx6 t]
    · have e : (⟨(t.val * 256 + x0.val) * 8 + a.val, by omega⟩ : Fin 16384) = ⟨t.val * 2048 + (x0.val * 8 + a.val), by omega⟩ := Fin.ext (by dsimp only; omega)
      dsimp only
      rw [e, ← H.h0]; blk_ext [iblk6, idx6 t]
    · rw [← H.h1]; blk_ext [iblk6, idx6 t]
    · rw [← H.h1']; blk_ext [iblk6, idx6 t]
    · rw [← H.h2]; blk_ext [iblk6, idx6 t]
    · rw [← H.h3]; blk_ext [iblk6, idx6 t]
  exact congrFun this _

end

end Cert.KernelIdeal.Val

end
-- ==== Proof.Val.Chain.lean ====
/- The regions one after another: what every one's arrays hold when it is entered, from the arguments alone. -/
module

public import proofs.«01_k».proof.Proof.Val.Arrs
public import proofs.«01_k».proof.Proof.Val.Host
public import proofs.«01_k».proof.Proof.Val.Fill
public import proofs.«01_k».proof.Proof.Val.KG
public import proofs.«01_k».proof.Proof.Val.K1
public import proofs.«01_k».proof.Proof.Val.K2
public import proofs.«01_k».proof.Proof.Val.K3
public import proofs.«01_k».proof.Proof.Val.K4
public import proofs.«01_k».proof.Proof.Val.K5
public import proofs.«01_k».proof.Proof.Val.K6
public import proofs.«01_k».proof.Proof.Mem.Fold0

@[expose] public section

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

/-- The arguments that a core starts from. -/
def arrs : Arrs :=
  fill (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

/-- The clouds that a core starts from. -/
abbrev cloud : Arr ⟨4, ![2, 1024, 32, 3]⟩ := m ((c : Thread nD τ).loc main_arg0)

variable (S : Start (m ((c : Thread nD τ).loc main_arg0)) (m ((c : Thread nD τ).loc main_arg1)) (m ((c : Thread nD τ).loc main_arg2)))
include S

theorem in0 : In0 (V1 m ρ) c (point 0 (cloud m c)) (point 1 (cloud m c)) (point 2 (cloud m c)) (mat (m ((c : Thread nD τ).loc main_arg1) : Arr ⟨2, ![64, 3]⟩)) (vec (m ((c : Thread nD τ).loc main_arg2) : Arr ⟨1, ![64]⟩)) where
  h0 := fun a l => (h0_px (W0 m ρ c) a l).trans ((congrFun (W0_args m ρ c main_arg0 (by decide)) _).trans (S.hp a l 0))
  h1 := fun a l => (h0_py (W0 m ρ c) a l).trans ((congrFun (W0_args m ρ c main_arg0 (by decide)) _).trans (S.hp a l 1))
  h2 := fun a l => (h0_pz (W0 m ρ c) a l).trans ((congrFun (W0_args m ρ c main_arg0 (by decide)) _).trans (S.hp a l 2))
  h3 := fun k o => (h0_8 (W0 m ρ c) k o).trans ((congrFun (W0_args m ρ c main_arg1 (by decide)) _).trans (S.hw o k))
  h4 := fun o => (h0_9 (W0 m ρ c) o).trans ((congrFun (W0_args m ρ c main_arg2 (by decide)) _).trans (S.hb o))

theorem sumsIn1 (k : Fin 64) : V3 m ρ c main_v10_4 (ix2 0 k) = ((sum1 (rows (arrs m c).a0) k : ℝ) : EReal)
    ∧ V3 m ρ c main_v10_4 (ix2 1 k) = ((sum2 (rows (arrs m c).a0) k : ℝ) : EReal) := by
  have e : V3 m ρ c main_v10_4 = (dat0 (V1 m ρ) c).arrAt 9 cfg0.N := (W3_of m ρ c main_v10_4 (by decide)).trans (hF0 m ρ c 9).symm
  have q : rows (arrs m c).a0 = y1 (m ((c : Thread nD τ).loc main_arg0)) (m ((c : Thread nD τ).loc main_arg1)) (m ((c : Thread nD τ).loc main_arg2)) := rows_fill ..
  rw [e, q]; exact sums_out0 (in0 m ρ c S) k

theorem rowsIn1 (r : Fin 131072) (k : Fin 64) : W2 m ρ c (Proc.devRef .tc main_v10_0) (ix3 ⟨r.val / 64, by omega⟩ ⟨r.val % 64, by omega⟩ k)
    = (arrs m c).a0 (ix3 ⟨r.val / 64, by omega⟩ ⟨r.val % 64, by omega⟩ k) := by
  have e : W2 m ρ c (Proc.devRef .tc main_v10_0) = (dat0 (V1 m ρ) c).arrAt 5 cfg0.N := (hF0 m ρ c 5).symm
  rw [e]; exact rows_out0 (in0 m ρ c S) _ _ k

/-- A centre's place in the arrays of the centres. -/
theorem cen_at (k : Fin 3) (r : Fin 16384) : ((point k (cloud m c) ⟨r.val / 8, by omega⟩ (far (point 0 (cloud m c) ⟨r.val / 8, by omega⟩) (point 1 (cloud m c) ⟨r.val / 8, by omega⟩)
    (point 2 (cloud m c) ⟨r.val / 8, by omega⟩) (r.val % 8)) : ℝ) : EReal) = ((coord (centres k (cloud m c)) r : ℝ) : EReal) := by
  rw [coord_centres]; rfl

theorem cenIn_x (r : Fin 16384) : W6 m ρ c (Proc.devRef .tc main_v10_1) (ix2 ⟨r.val / 8, by omega⟩ ⟨r.val % 8, by omega⟩) = ((coord (arrs m c).a2 r : ℝ) : EReal) := by
  have e : W6 m ρ c (Proc.devRef .tc main_v10_1) = (dat0 (V1 m ρ) c).arrAt 6 cfg0.N :=
    (W6_of m ρ c main_v10_1 (by decide)).trans ((W5_of m ρ c main_v10_1 (by decide)).trans ((W4_of m ρ c main_v10_1 (by decide)).trans ((W3_of m ρ c main_v10_1 (by decide)).trans (hF0 m ρ c 6).symm)))
  rw [e]; exact (cenx_out0 (in0 m ρ c S) _ _).trans (cen_at m c S 0 r)

theorem cenIn_y (r : Fin 16384) : W6 m ρ c (Proc.devRef .tc main_v10_2) (ix2 ⟨r.val / 8, by omega⟩ ⟨r.val % 8, by omega⟩) = ((coord (arrs m c).a3 r : ℝ) : EReal) := by
  have e : W6 m ρ c (Proc.devRef .tc main_v10_2) = (dat0 (V1 m ρ) c).arrAt 7 cfg0.N :=
    (W6_of m ρ c main_v10_2 (by decide)).trans ((W5_of m ρ c main_v10_2 (by decide)).trans ((W4_of m ρ c main_v10_2 (by decide)).trans ((W3_of m ρ c main_v10_2 (by decide)).trans (hF0 m ρ c 7).symm)))
  rw [e]; exact (ceny_out0 (in0 m ρ c S) _ _).trans (cen_at m c S 1 r)

theorem cenIn_z (r : Fin 16384) : W6 m ρ c (Proc.devRef .tc main_v10_3) (ix2 ⟨r.val / 8, by omega⟩ ⟨r.val % 8, by omega⟩) = ((coord (arrs m c).a4 r : ℝ) : EReal) := by
  have e : W6 m ρ c (Proc.devRef .tc main_v10_3) = (dat0 (V1 m ρ) c).arrAt 8 cfg0.N :=
    (W6_of m ρ c main_v10_3 (by decide)).trans ((W5_of m ρ c main_v10_3 (by decide)).trans ((W4_of m ρ c main_v10_3 (by decide)).trans ((W3_of m ρ c main_v10_3 (by decide)).trans (hF0 m ρ c 8).symm)))
  rw [e]; exact (cenz_out0 (in0 m ρ c S) _ _).trans (cen_at m c S 2 r)

variable (G : Good (arrs m c))
include G

theorem in1 : In1 (V3 m ρ) c (rows (arrs m c).a0) (vec (arrs m c).a5) (vec (arrs m c).a6) (mat (arrs m c).a7) (vec (arrs m c).a8) where
  h0 := fun r k => (h1_11 (W2 m ρ c) r k).trans ((rowsIn1 m ρ c S r k).trans (G.h0 r k))
  h1 := fun k => (sumsIn1 m ρ c S k).1
  h1' := fun k => (sumsIn1 m ρ c S k).2
  h2 := fun k => (h1_12 (W2 m ρ c) k).trans ((congrFun (W2_args m ρ c main_arg3 (by decide)) _).trans (G.h5 k))
  h3 := fun k => (h1_13 (W2 m ρ c) k).trans ((congrFun (W2_args m ρ c main_arg4 (by decide)) _).trans (G.h6 k))
  h4 := fun k o => (h1_14 (W2 m ρ c) k o).trans ((congrFun (W2_args m ρ c main_arg5 (by decide)) _).trans (G.h7 o k))
  h5 := fun k => (h1_15 (W2 m ρ c) k).trans ((congrFun (W2_args m ρ c main_arg6 (by decide)) _).trans (G.h8 k))

theorem sumsIn2 (k : Fin _) : V5 m ρ c main_v16_1 (ix2 0 k) = ((sum1 (arrs m c).y2 k : ℝ) : EReal)
    ∧ V5 m ρ c main_v16_1 (ix2 1 k) = ((sum2 (arrs m c).y2 k : ℝ) : EReal) := by
  have e : V5 m ρ c main_v16_1 = (dat1 (V3 m ρ) c).arrAt 7 cfg1.N := (W5_of m ρ c main_v16_1 (by decide)).trans (hF1 m ρ c 7).symm
  rw [e]; exact sums_out1 (in1 m ρ c S G) k

theorem rowsIn2 (r : Fin _) (k : Fin _) : V5 m ρ c main_v16_0 (ix2 r k) = (((arrs m c).y2 r k : ℝ) : EReal) := by
  have e : V5 m ρ c main_v16_0 = (dat1 (V3 m ρ) c).arrAt 6 cfg1.N := (W5_of m ρ c main_v16_0 (by decide)).trans (hF1 m ρ c 6).symm
  rw [e]; exact rows_out1 (in1 m ρ c S G) r k

theorem in2 : In2 (V5 m ρ) c (arrs m c).y2 (vec (arrs m c).a9) (vec (arrs m c).a10) (mat (arrs m c).a11) (vec (arrs m c).a12) where
  h0 := fun r k => rowsIn2 m ρ c S G r k
  h1 := fun k => (sumsIn2 m ρ c S G k).1
  h1' := fun k => (sumsIn2 m ρ c S G k).2
  h2 := fun k => (h2_17 (W4 m ρ c) k).trans ((congrFun (W4_args m ρ c main_arg7 (by decide)) _).trans (G.h9 k))
  h3 := fun k => (h2_18 (W4 m ρ c) k).trans ((congrFun (W4_args m ρ c main_arg8 (by decide)) _).trans (G.h10 k))
  h4 := fun k o => (h2_19 (W4 m ρ c) k o).trans ((congrFun (W4_args m ρ c main_arg9 (by decide)) _).trans (G.h11 o k))
  h5 := fun k => (h2_20 (W4 m ρ c) k).trans ((congrFun (W4_args m ρ c main_arg10 (by decide)) _).trans (G.h12 k))

theorem sumsIn3 (k : Fin _) : V7 m ρ c main_v21_1 (ix2 0 k) = ((sum1 (arrs m c).y3 k : ℝ) : EReal)
    ∧ V7 m ρ c main_v21_1 (ix2 1 k) = ((sum2 (arrs m c).y3 k : ℝ) : EReal) := by
  have e : V7 m ρ c main_v21_1 = (dat2 (V5 m ρ) c).arrAt 7 cfg2.N := (W7_of m ρ c main_v21_1 (by decide)).trans (hF2 m ρ c 7).symm
  rw [e]; exact sums_out2 (in2 m ρ c S G) k

theorem rowsIn3 (r : Fin 131072) (k : Fin 128) : W6 m ρ c (Proc.devRef .tc main_v21_0) (ix2 r k) = (((arrs m c).y3 r k : ℝ) : EReal) := by
  have e : W6 m ρ c (Proc.devRef .tc main_v21_0) = (dat2 (V5 m ρ) c).arrAt 6 cfg2.N := (hF2 m ρ c 6).symm
  rw [e]; exact rows_out2 (in2 m ρ c S G) r k

theorem in3 : In3 (V7 m ρ) c (arrs m c).y3 (vec (arrs m c).a13) (vec (arrs m c).a14) (coord (arrs m c).a2) (coord (arrs m c).a3) (coord (arrs m c).a4) (mat (arrs m c).a15) (vec (arrs m c).a16) where
  h0 := fun a s k => (h3_22 (W6 m ρ c) a s k).trans (rowsIn3 m ρ c S G _ k)
  h1 := fun k => (sumsIn3 m ρ c S G k).1
  h1' := fun k => (sumsIn3 m ρ c S G k).2
  h2 := fun k => (h3_23 (W6 m ρ c) k).trans ((congrFun (W6_args m ρ c main_arg11 (by decide)) _).trans (G.h13 k))
  h3 := fun k => (h3_24 (W6 m ρ c) k).trans ((congrFun (W6_args m ρ c main_arg12 (by decide)) _).trans (G.h14 k))
  h4 := fun r => (h3_25 (W6 m ρ c) r).trans (cenIn_x m ρ c S r)
  h5 := fun r => (h3_26 (W6 m ρ c) r).trans (cenIn_y m ρ c S r)
  h6 := fun r => (h3_27 (W6 m ρ c) r).trans (cenIn_z m ρ c S r)
  h7 := fun o => (h3_30 (W6 m ρ c) o).trans ((congrFun (W6_args m ρ c main_arg13 (by decide)) _).trans (G.h15 o 0))
  h8 := fun o => (h3_33 (W6 m ρ c) o).trans ((congrFun (W6_args m ρ c main_arg13 (by decide)) _).trans (G.h15 o 1))
  h9 := fun o => (h3_36 (W6 m ρ c) o).trans ((congrFun (W6_args m ρ c main_arg13 (by decide)) _).trans (G.h15 o 2))
  h10 := fun k o => (h3_38 (W6 m ρ c) k o).trans ((congrFun (W6_args m ρ c main_arg13 (by decide)) _).trans (G.h15 o _))
  h11 := fun k => (h3_39 (W6 m ρ c) k).trans ((congrFun (W6_args m ρ c main_arg14 (by decide)) _).trans (G.h16 k))

theorem sumsIn4 (k : Fin _) : V9 m ρ c main_v40_1 (ix2 0 k) = ((sum1 (arrs m c).y4 k : ℝ) : EReal)
    ∧ V9 m ρ c main_v40_1 (ix2 1 k) = ((sum2 (arrs m c).y4 k : ℝ) : EReal) := by
  have e : V9 m ρ c main_v40_1 = (dat3 (V7 m ρ) c).arrAt 13 cfg3.N := (W9_of m ρ c main_v40_1 (by decide)).trans (hF3 m ρ c 13).symm
  rw [e]; exact sums_out3 (in3 m ρ c S G) k

theorem rowsIn4 (r : Fin _) (k : Fin _) : V9 m ρ c main_v40_0 (ix2 r k) = (((arrs m c).y4 r k : ℝ) : EReal) := by
  have e : V9 m ρ c main_v40_0 = (dat3 (V7 m ρ) c).arrAt 12 cfg3.N := (W9_of m ρ c main_v40_0 (by decide)).trans (hF3 m ρ c 12).symm
  rw [e]; exact rows_out3 (in3 m ρ c S G) r k

theorem in4 : In4 (V9 m ρ) c (arrs m c).y4 (vec (arrs m c).a17) (vec (arrs m c).a18) (mat (arrs m c).a19) (vec (arrs m c).a20) where
  h0 := fun r k => rowsIn4 m ρ c S G r k
  h1 := fun k => (sumsIn4 m ρ c S G k).1
  h1' := fun k => (sumsIn4 m ρ c S G k).2
  h2 := fun k => (h4_41 (W8 m ρ c) k).trans ((congrFun (W8_args m ρ c main_arg15 (by decide)) _).trans (G.h17 k))
  h3 := fun k => (h4_42 (W8 m ρ c) k).trans ((congrFun (W8_args m ρ c main_arg16 (by decide)) _).trans (G.h18 k))
  h4 := fun k o => (h4_43 (W8 m ρ c) k o).trans ((congrFun (W8_args m ρ c main_arg17 (by decide)) _).trans (G.h19 o k))
  h5 := fun k => (h4_44 (W8 m ρ c) k).trans ((congrFun (W8_args m ρ c main_arg18 (by decide)) _).trans (G.h20 k))

theorem sumsIn5 (k : Fin _) : V11 m ρ c main_v45_1 (ix2 0 k) = ((sum1 (arrs m c).y5 k : ℝ) : EReal)
    ∧ V11 m ρ c main_v45_1 (ix2 1 k) = ((sum2 (arrs m c).y5 k : ℝ) : EReal) := by
  have e : V11 m ρ c main_v45_1 = (dat4 (V9 m ρ) c).arrAt 7 cfg4.N := (W11_of m ρ c main_v45_1 (by decide)).trans (hF4 m ρ c 7).symm
  rw [e]; exact sums_out4 (in4 m ρ c S G) k

theorem rowsIn5 (r : Fin _) (k : Fin _) : V11 m ρ c main_v45_0 (ix2 r k) = (((arrs m c).y5 r k : ℝ) : EReal) := by
  have e : V11 m ρ c main_v45_0 = (dat4 (V9 m ρ) c).arrAt 6 cfg4.N := (W11_of m ρ c main_v45_0 (by decide)).trans (hF4 m ρ c 6).symm
  rw [e]; exact rows_out4 (in4 m ρ c S G) r k

theorem in5 : In5 (V11 m ρ) c (arrs m c).y5 (vec (arrs m c).a21) (vec (arrs m c).a22) (mat (arrs m c).a23) (vec (arrs m c).a24) where
  h0 := fun r k => rowsIn5 m ρ c S G r k
  h1 := fun k => (sumsIn5 m ρ c S G k).1
  h1' := fun k => (sumsIn5 m ρ c S G k).2
  h2 := fun k => (h5_46 (W10 m ρ c) k).trans ((congrFun (W10_args m ρ c main_arg19 (by decide)) _).trans (G.h21 k))
  h3 := fun k => (h5_47 (W10 m ρ c) k).trans ((congrFun (W10_args m ρ c main_arg20 (by decide)) _).trans (G.h22 k))
  h4 := fun k o => (h5_48 (W10 m ρ c) k o).trans ((congrFun (W10_args m ρ c main_arg21 (by decide)) _).trans (G.h23 o k))
  h5 := fun k => (h5_49 (W10 m ρ c) k).trans ((congrFun (W10_args m ρ c main_arg22 (by decide)) _).trans (G.h24 k))

theorem sumsIn6 (k : Fin _) : V13 m ρ c main_v50_1 (ix2 0 k) = ((sum1 (arrs m c).y6 k : ℝ) : EReal)
    ∧ V13 m ρ c main_v50_1 (ix2 1 k) = ((sum2 (arrs m c).y6 k : ℝ) : EReal) := by
  have e : V13 m ρ c main_v50_1 = (dat5 (V11 m ρ) c).arrAt 7 cfg5.N := (W13_of m ρ c main_v50_1 (by decide)).trans (hF5 m ρ c 7).symm
  rw [e]; exact sums_out5 (in5 m ρ c S G) k

theorem rowsIn6 (r : Fin _) (k : Fin _) : V13 m ρ c main_v50_0 (ix2 r k) = (((arrs m c).y6 r k : ℝ) : EReal) := by
  have e : V13 m ρ c main_v50_0 = (dat5 (V11 m ρ) c).arrAt 6 cfg5.N := (W13_of m ρ c main_v50_0 (by decide)).trans (hF5 m ρ c 6).symm
  rw [e]; exact rows_out5 (in5 m ρ c S G) r k

theorem in6 : In6 (V13 m ρ) c (arrs m c).y6 (vec (arrs m c).a25) (vec (arrs m c).a26) where
  h0 := fun r k => rowsIn6 m ρ c S G r k
  h1 := fun k => (sumsIn6 m ρ c S G k).1
  h1' := fun k => (sumsIn6 m ρ c S G k).2
  h2 := fun k => (h6_51 (W12 m ρ c) k).trans ((congrFun (W12_args m ρ c main_arg23 (by decide)) _).trans (G.h25 k))
  h3 := fun k => (h6_52 (W12 m ρ c) k).trans ((congrFun (W12_args m ρ c main_arg24 (by decide)) _).trans (G.h26 k))

/-- The program's result, entry by entry. -/
theorem result (p : Fin 2) (q : Fin 1024) (o : Fin 512) : W15 m ρ c (Proc.devRef .tc main_v54) (ix3 p q o)
    = (((arrs m c).out ⟨p.val * 1024 + q.val, by omega⟩ o : ℝ) : EReal) := by
  refine (h7_54 (W14 m ρ c) p q o).trans ?_
  have e : W14 m ρ c (Proc.devRef .tc main_v53) = (dat6 (V13 m ρ) c).arrAt 4 cfg6.N := (hF6 m ρ c 4).symm
  rw [e]; exact out6 (in6 m ρ c S G) _ o

end Cert.KernelIdeal.Val
-- ==== Proof.Val.Pre.lean ====
/- What the precondition says: every entry of every argument is a real number. -/
module

public import proofs.«01_k».proof.Pre_finite
public import proofs.«01_k».proof.Proof.Val.Fill
public import Idealize.ShloMosaic.Lib.Affine
public import Idealize.ShloMosaic.Lib.Pointwise
public import Idealize.ShloMosaic.Lib.ReduceAll

@[expose] public section

set_option maxRecDepth 16384

noncomputable section

namespace Cert.Pre_finite

open Idealize.ShloMosaic Idealize.SL.Sem Cert.Spec

theorem facts : Facts := by constructor <;> decide

instance : Facts := facts

/-- Every entry is a real number. -/
def Reals {s : Shape} (x : FVec Ideal s .f32) : Prop := ∀ i, ∃ r : ℝ, x i = (r : EReal)

theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem reals_of {s t u : Shape} [Subsingleton t.Idx] {axes : List (Fin s.rank)} (x : FVec Ideal s .f32) (hb : S_.BroadcastsInDim s (![] : Fin 0 → Fin s.rank))
    (init : u.Idx → BitVec 1) (h : s.ReducesTo axes t) (hu : 0 < u.numel) (j : t.Idx)
    (e : Host.reduce IntOp.andi (cmpf .olt (Host.absf x) (broadcastInDim s ![] hb (constant (F := Ideal) S_ .f32 0x7F800000#32))) init h hu j = 1#1) :
    Reals x := fun i => real_of_lt (x i) (Host.reduce_andi_all _ init h hu j e i)

instance : Subsingleton S_.Idx := ⟨fun a b => funext fun i => i.elim0⟩

variable (a0 : FVec Ideal S2x1024x32x3 .f32) (a1 : FVec Ideal S64x3 .f32) (a2 : FVec Ideal S64 .f32) (a3 : FVec Ideal S64 .f32) (a4 : FVec Ideal S64 .f32) (a5 : FVec Ideal S64x64 .f32) (a6 : FVec Ideal S64 .f32) (a7 : FVec Ideal S64 .f32) (a8 : FVec Ideal S64 .f32) (a9 : FVec Ideal S128x64 .f32) (a10 : FVec Ideal S128 .f32) (a11 : FVec Ideal S128 .f32) (a12 : FVec Ideal S128 .f32) (a13 : FVec Ideal S128x131 .f32) (a14 : FVec Ideal S128 .f32) (a15 : FVec Ideal S128 .f32) (a16 : FVec Ideal S128 .f32) (a17 : FVec Ideal S256x128 .f32) (a18 : FVec Ideal S256 .f32) (a19 : FVec Ideal S256 .f32) (a20 : FVec Ideal S256 .f32) (a21 : FVec Ideal S512x256 .f32) (a22 : FVec Ideal S512 .f32) (a23 : FVec Ideal S512 .f32) (a24 : FVec Ideal S512 .f32)

theorem of_fn (h : fn a0 a1 a2 a3 a4 a5 a6 a7 a8 a9 a10 a11 a12 a13 a14 a15 a16 a17 a18 a19 a20 a21 a22 a23 a24 = fun _ => 1#1) :
    Reals a0 ∧ Reals a1 ∧ Reals a2 ∧ Reals a3 ∧ Reals a4 ∧ Reals a5 ∧ Reals a6 ∧ Reals a7 ∧ Reals a8 ∧ Reals a9 ∧ Reals a10 ∧ Reals a11 ∧ Reals a12 ∧ Reals a13 ∧ Reals a14 ∧ Reals a15 ∧ Reals a16 ∧ Reals a17 ∧ Reals a18 ∧ Reals a19 ∧ Reals a20 ∧ Reals a21 ∧ Reals a22 ∧ Reals a23 ∧ Reals a24 := by
  have e := congrFun h ix0
  simp only [fn, fn_part1, fn_part2, fn_part3, fn_part4, fn_part5, fn_part6, fn_part7, andi, IntOp.andi_eq_one] at e
  obtain ⟨⟨⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩ := e
  exact ⟨reals_of _ _ _ _ _ _ e0, reals_of _ _ _ _ _ _ e1, reals_of _ _ _ _ _ _ e2, reals_of _ _ _ _ _ _ e3, reals_of _ _ _ _ _ _ e4, reals_of _ _ _ _ _ _ e5, reals_of _ _ _ _ _ _ e6, reals_of _ _ _ _ _ _ e7, reals_of _ _ _ _ _ _ e8, reals_of _ _ _ _ _ _ e9, reals_of _ _ _ _ _ _ e10, reals_of _ _ _ _ _ _ e11, reals_of _ _ _ _ _ _ e12, reals_of _ _ _ _ _ _ e13, reals_of _ _ _ _ _ _ e14, reals_of _ _ _ _ _ _ e15, reals_of _ _ _ _ _ _ e16, reals_of _ _ _ _ _ _ e17, reals_of _ _ _ _ _ _ e18, reals_of _ _ _ _ _ _ e19, reals_of _ _ _ _ _ _ e20, reals_of _ _ _ _ _ _ e21, reals_of _ _ _ _ _ _ e22, reals_of _ _ _ _ _ _ e23, reals_of _ _ _ _ _ _ e24⟩

/-- The arguments that meet the precondition are as the value theorems want them. -/
theorem good (h : fn a0 a1 a2 a3 a4 a5 a6 a7 a8 a9 a10 a11 a12 a13 a14 a15 a16 a17 a18 a19 a20 a21 a22 a23 a24 = fun _ => 1#1) : Start a0 a1 a2 ∧ Good (fill a0 a1 a2 a3 a4 a5 a6 a7 a8 a9 a10 a11 a12 a13 a14 a15 a16 a17 a18 a19 a20 a21 a22 a23 a24) := by
  obtain ⟨e0, e1, e2, e3, e4, e5, e6, e7, e8, e9, e10, e11, e12, e13, e14, e15, e16, e17, e18, e19, e20, e21, e22, e23, e24⟩ := of_fn a0 a1 a2 a3 a4 a5 a6 a7 a8 a9 a10 a11 a12 a13 a14 a15 a16 a17 a18 a19 a20 a21 a22 a23 a24 h
  exact ⟨⟨fun _ _ _ => coe_of (e0 _), fun _ _ => coe_of (e1 _), fun _ => coe_of (e2 _)⟩, good_fill a0 a1 a2 _ _ _ _ _ _ _ _ _ _ _ _ _ _ _ _ _ _ _ _ _ _ (fun _ => coe_of (e3 _)) (fun _ => coe_of (e4 _)) (fun _ _ => coe_of (e5 _)) (fun _ => coe_of (e6 _)) (fun _ => coe_of (e7 _)) (fun _ => coe_of (e8 _)) (fun _ _ => coe_of (e9 _)) (fun _ => coe_of (e10 _)) (fun _ => coe_of (e11 _)) (fun _ => coe_of (e12 _)) (fun _ _ => coe_of (e13 _)) (fun _ => coe_of (e14 _)) (fun _ => coe_of (e15 _)) (fun _ => coe_of (e16 _)) (fun _ _ => coe_of (e17 _)) (fun _ => coe_of (e18 _)) (fun _ => coe_of (e19 _)) (fun _ => coe_of (e20 _)) (fun _ _ => coe_of (e21 _)) (fun _ => coe_of (e22 _)) (fun _ => coe_of (e23 _)) (fun _ => coe_of (e24 _))⟩

end Cert.Pre_finite
-- ==== Proof.Val.Turn.lean ====
/- The two orders of a cloud's rows: the centres before their samples, and the samples before their centres. -/
module

public import proofs.«01_k».proof.Proof.Val.Spec

@[expose] public section

noncomputable section

namespace Cert.Spec

/-- The row of the other order that holds the same sample of the same centre. -/
def turn (r : Fin 131072) : Fin 131072 := ⟨r.val / 64 * 64 + (r.val % 8 * 8 + r.val % 64 / 8), by omega⟩

theorem turn_cloud (r : Fin 131072) : (turn r).val / 64 = r.val / 64 := by simp only [turn]; omega
theorem turn_centre (r : Fin 131072) : (turn r).val % 64 / 8 = r.val % 8 := by
  have h : (turn r).val % 64 = r.val % 8 * 8 + r.val % 64 / 8 := by simp only [turn]; omega
  rw [h]
  omega
theorem turn_sample (r : Fin 131072) : (turn r).val % 8 = r.val % 64 / 8 := by simp only [turn]; omega

theorem turn_turn (r : Fin 131072) : turn (turn r) = r := by
  refine Fin.ext ?_
  show (turn r).val / 64 * 64 + ((turn r).val % 8 * 8 + (turn r).val % 64 / 8) = r.val
  rw [turn_cloud, turn_centre, turn_sample]
  omega

/-- The change of order, as a bijection. -/
def turns : Fin 131072 ≃ Fin 131072 := ⟨turn, turn, turn_turn, turn_turn⟩

variable {C : Type}

theorem sum_turn (f : Fin 131072 → ℝ) : ∑ r, f (turn r) = ∑ r, f r := Equiv.sum_comp turns f

theorem mean_turn (n : ℝ) (y : Fin 131072 → C → ℝ) (c : C) : mean n (fun r => y (turn r)) c = mean n y c :=
  congrArg (· / n) (sum_turn fun r => y r c)

theorem var_turn (n : ℝ) (y : Fin 131072 → C → ℝ) (c : C) : var n (fun r => y (turn r)) c = var n y c := by
  unfold var
  rw [mean_turn]
  exact congrArg (· / n) (sum_turn fun r => (y r c - mean n y c) * (y r c - mean n y c))

/-- The normalisation does not depend on the order of the rows. -/
theorem bn_turn (n : ℝ) (y : Fin 131072 → C → ℝ) (g be : C → ℝ) (r : Fin 131072) (c : C) :
    bn n (fun r => y (turn r)) g be r c = bn n y g be (turn r) c := by
  unfold bn
  rw [mean_turn, var_turn]

end Cert.Spec

end
-- ==== Proof.Val.Ref.lean ====
/- What every stretch of the reference's line computes of real entries. -/
module

public import proofs.«01_k».proof.Proof.Ref.Writes
public import proofs.«01_k».proof.Proof.Val.Arrs
public import proofs.«01_k».proof.Proof.Val.Turn
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Spec

variable (V : Valuation τ sig (Elt Ideal))

theorem v227 (u0 : A Ideal S2048x8x3 .f32) (u1 : A Ideal S2048x8x128 .f32) (a : Fin 2048) (j : Fin 8) (k : Fin 131) :
    fn_main_v226 u0 u1 (ix3 a j k) = if h : k.val < 3 then u0 (ix3 a j ⟨k.val, h⟩) else u1 (ix3 a j ⟨k.val - 3, by omega⟩) := by
  unfold fn_main_v226
  pointwise

theorem row131 (w : A Ideal S2048x8x131 .f32) (r : Fin 16384) (k : Fin 131) :
    shapeCast S16384x131 w shapeCasts_S2048x8x131_S16384x131 (ix2 r k) = w (ix3 ⟨r.val / 8, by omega⟩ ⟨r.val % 8, by omega⟩ k) := by
  pointwise

theorem cat_eq (r : Fin 16384) (k : Fin 131) : after (Value.cat (F := Ideal)) V (Proc.devRef .tc main_v227) (ix2 r k)
    = fn_main_v226 (V (Proc.devRef .tc main_v101)) (V (Proc.devRef .tc main_v225)) (ix3 ⟨r.val / 8, by omega⟩ ⟨r.val % 8, by omega⟩ k) := by
  unfold Value.cat
  after_results
  refine (row131 _ r k).trans ?_
  rfl

theorem cat_val (px py pz : Fin 16384 → ℝ) (z : Fin 16384 → Fin 128 → ℝ)
    (hx : ∀ r : Fin 16384, V (Proc.devRef .tc main_v101) (ix3 ⟨r.val / 8, by omega⟩ ⟨r.val % 8, by omega⟩ 0) = ((px r : ℝ) : EReal))
    (hy : ∀ r : Fin 16384, V (Proc.devRef .tc main_v101) (ix3 ⟨r.val / 8, by omega⟩ ⟨r.val % 8, by omega⟩ 1) = ((py r : ℝ) : EReal))
    (hz : ∀ r : Fin 16384, V (Proc.devRef .tc main_v101) (ix3 ⟨r.val / 8, by omega⟩ ⟨r.val % 8, by omega⟩ 2) = ((pz r : ℝ) : EReal))
    (hv : ∀ (a : Fin 2048) (j : Fin 8) k, V (Proc.devRef .tc main_v225) (ix3 a j k) = ((z ⟨a.val * 8 + j.val, by omega⟩ k : ℝ) : EReal))
    (r : Fin 16384) (k : Fin 131) : after (Value.cat (F := Ideal)) V (Proc.devRef .tc main_v227) (ix2 r k) = ((Spec.cat px py pz z r k : ℝ) : EReal) := by
  rw [cat_eq, v227]
  split
  · next h =>
    obtain ⟨k, hk⟩ := k
    have : k = 0 ∨ k = 1 ∨ k = 2 := by simp only at h; omega
    rcases this with rfl | rfl | rfl
    · exact hx r
    · exact hy r
    · exact hz r
  · next h =>
    obtain ⟨k, hk⟩ := k
    obtain ⟨i, rfl⟩ : ∃ i, k = i + 3 := ⟨k - 3, by simp only at h; omega⟩
    rw [hv]
    have e : (⟨r.val / 8 * 8 + r.val % 8, by omega⟩ : Fin 16384) = r := Fin.ext (by simp only; omega)
    simp only [e, Nat.add_sub_cancel]
    rfl

/-- The normalisation as the reference writes it, on real entries. -/
theorem norm {N : ℕ} {C : Type} [Fintype C] (n : ℝ) (hn : 0 < n) (w : EReal) (hw : w = (n : EReal)) (Y : Fin N → C → EReal) (G B : C → EReal) (y : Fin N → C → ℝ) (g be : C → ℝ)
    (hy : ∀ r k, Y r k = ((y r k : ℝ) : EReal)) (hg : ∀ k, G k = ((g k : ℝ) : EReal)) (hb : ∀ k, B k = ((be k : ℝ) : EReal)) (r : Fin N) (k : C) :
    max (Ideal.div (Y r k - Ideal.div (∑ x, Y x k) w) (Ideal.sqrt (Ideal.div (∑ x, (Y x k - Ideal.div (∑ x, Y x k) w) * (Y x k - Ideal.div (∑ x, Y x k) w)) w
      + Ideal.ofBits .f32 0x3727C5AC#32)) * G k + B k) 0 = ((bn n y g be r k : ℝ) : EReal) := by
  have hm : Ideal.div (∑ x, Y x k) w = ((mean n y k : ℝ) : EReal) := by
    simp only [hy, hw, coe_sum, coe_div _ _ hn.ne']; rfl
  have hv : Ideal.div (∑ x, (Y x k - Ideal.div (∑ x, Y x k) w) * (Y x k - Ideal.div (∑ x, Y x k) w)) w = ((var n y k : ℝ) : EReal) := by
    simp only [hm, hy, ← EReal.coe_sub, ← EReal.coe_mul, coe_sum, hw, coe_div _ _ hn.ne']; rfl
  rw [hv, hm, hy, hg, hb, ofBits_eps]
  exact ref_bn n hn y g be r k

/-- The affine map, on real entries. -/
theorem affine {N : ℕ} {C D : Type} [Fintype C] (Z : Fin N → C → EReal) (U : D → C → EReal) (B : D → EReal) (z : Fin N → C → ℝ) (W : D → C → ℝ) (b : D → ℝ)
    (hz : ∀ r k, Z r k = ((z r k : ℝ) : EReal)) (hW : ∀ o k, U o k = ((W o k : ℝ) : EReal)) (hb : ∀ o, B o = ((b o : ℝ) : EReal)) (r : Fin N) (o : D) :
    ∑ x, Z r x * U o x + B o = ((lin z W b r o : ℝ) : EReal) := by
  simp only [hz, hW, hb]; exact coe_lin _ _ _

theorem lin1_val (z : Fin 131072 → Fin 3 → ℝ) (W : Fin 64 → Fin 3 → ℝ) (b : Fin 64 → ℝ) (hz : ∀ r k, V (Proc.devRef .tc main_v130) (ix2 r k) = ((z r k : ℝ) : EReal))
    (hW : ∀ o k, V (Proc.devRef .tc main_arg1) (ix2 o k) = ((W o k : ℝ) : EReal)) (hb : ∀ k, V (Proc.devRef .tc main_arg2) (ix1 k) = ((b k : ℝ) : EReal))
    (r : Fin 131072) (o : Fin 64) : after (lin1 (F := Ideal)) V (Proc.devRef .tc main_v134) (ix2 r o) = ((lin z W b r o : ℝ) : EReal) := by
  unfold lin1
  after_reads_at
  exact affine (fun r k => V (Proc.devRef .tc main_v130) (ix2 r k)) (fun o k => V (Proc.devRef .tc main_arg1) (ix2 o k)) (fun k => V (Proc.devRef .tc main_arg2) (ix1 k))
    z W b hz hW hb r o

theorem pool_val (z : Fin 131072 → Fin 128 → ℝ) (hz : ∀ r k, V (Proc.devRef .tc main_v223) (ix2 r k) = ((z (turn r) k : ℝ) : EReal))
    (a : Fin 2048) (j : Fin 8) (k : Fin 128) : after (Value.pool (F := Ideal)) V (Proc.devRef .tc main_v225) (ix3 a j k)
      = ((Spec.pool z ⟨a.val * 8 + j.val, by omega⟩ k : ℝ) : EReal) := by
  unfold Value.pool
  after_reads_at
  simp only [hz]
  refine (fold_max _).trans ?_
  unfold Spec.pool
  congr 2
  funext t
  congr 1
  exact Fin.ext (by simp only [turn]; omega)

theorem fin_val (z : Fin 16384 → Fin 512 → ℝ) (hz : ∀ r k, V (Proc.devRef .tc main_v320) (ix2 r k) = ((z r k : ℝ) : EReal))
    (p : Fin 2) (q : Fin 1024) (o : Fin 512) : after (Value.fin (F := Ideal)) V (Proc.devRef .tc main_v323) (ix3 p q o)
      = ((peak z ⟨p.val * 1024 + q.val, by omega⟩ o : ℝ) : EReal) := by
  unfold Value.fin
  after_reads_at
  simp only [hz]
  exact fold_max _

theorem bn1_val (y : Fin 131072 → Fin 64 → ℝ) (g be : Fin 64 → ℝ) (hy : ∀ r k, V (Proc.devRef .tc main_v134) (ix2 r k) = ((y r k : ℝ) : EReal))
    (hg : ∀ k, V (Proc.devRef .tc main_arg3) (ix1 k) = ((g k : ℝ) : EReal)) (hb : ∀ k, V (Proc.devRef .tc main_arg4) (ix1 k) = ((be k : ℝ) : EReal))
    (r : Fin 131072) (k : Fin 64) : after (bn1 (F := Ideal)) V (Proc.devRef .tc main_v161) (ix2 r k) = ((bn 131072 y g be r k : ℝ) : EReal) := by
  unfold bn1
  after_reads_at
  exact norm 131072 (by norm_num) _ ofBits_n1 (fun r k => V (Proc.devRef .tc main_v134) (ix2 r k)) (fun k => V (Proc.devRef .tc main_arg3) (ix1 k))
    (fun k => V (Proc.devRef .tc main_arg4) (ix1 k)) y g be hy hg hb r k

theorem bn2_val (y : Fin 131072 → Fin 64 → ℝ) (g be : Fin 64 → ℝ) (hy : ∀ r k, V (Proc.devRef .tc main_v165) (ix2 r k) = ((y r k : ℝ) : EReal))
    (hg : ∀ k, V (Proc.devRef .tc main_arg7) (ix1 k) = ((g k : ℝ) : EReal)) (hb : ∀ k, V (Proc.devRef .tc main_arg8) (ix1 k) = ((be k : ℝ) : EReal))
    (r : Fin 131072) (k : Fin 64) : after (bn2 (F := Ideal)) V (Proc.devRef .tc main_v192) (ix2 r k) = ((bn 131072 y g be r k : ℝ) : EReal) := by
  unfold bn2
  after_reads_at
  exact norm 131072 (by norm_num) _ ofBits_n1 (fun r k => V (Proc.devRef .tc main_v165) (ix2 r k)) (fun k => V (Proc.devRef .tc main_arg7) (ix1 k))
    (fun k => V (Proc.devRef .tc main_arg8) (ix1 k)) y g be hy hg hb r k

theorem bn3_val (y : Fin 131072 → Fin 128 → ℝ) (g be : Fin 128 → ℝ) (hy : ∀ r k, V (Proc.devRef .tc main_v196) (ix2 r k) = ((y r k : ℝ) : EReal))
    (hg : ∀ k, V (Proc.devRef .tc main_arg11) (ix1 k) = ((g k : ℝ) : EReal)) (hb : ∀ k, V (Proc.devRef .tc main_arg12) (ix1 k) = ((be k : ℝ) : EReal))
    (r : Fin 131072) (k : Fin 128) : after (bn3 (F := Ideal)) V (Proc.devRef .tc main_v223) (ix2 r k) = ((bn 131072 y g be r k : ℝ) : EReal) := by
  unfold bn3
  after_reads_at
  exact norm 131072 (by norm_num) _ ofBits_n1 (fun r k => V (Proc.devRef .tc main_v196) (ix2 r k)) (fun k => V (Proc.devRef .tc main_arg11) (ix1 k))
    (fun k => V (Proc.devRef .tc main_arg12) (ix1 k)) y g be hy hg hb r k

theorem bn4_val (y : Fin 16384 → Fin 128 → ℝ) (g be : Fin 128 → ℝ) (hy : ∀ r k, V (Proc.devRef .tc main_v231) (ix2 r k) = ((y r k : ℝ) : EReal))
    (hg : ∀ k, V (Proc.devRef .tc main_arg15) (ix1 k) = ((g k : ℝ) : EReal)) (hb : ∀ k, V (Proc.devRef .tc main_arg16) (ix1 k) = ((be k : ℝ) : EReal))
    (r : Fin 16384) (k : Fin 128) : after (bn4 (F := Ideal)) V (Proc.devRef .tc main_v258) (ix2 r k) = ((bn 16384 y g be r k : ℝ) : EReal) := by
  unfold bn4
  after_reads_at
  exact norm 16384 (by norm_num) _ ofBits_n2 (fun r k => V (Proc.devRef .tc main_v231) (ix2 r k)) (fun k => V (Proc.devRef .tc main_arg15) (ix1 k))
    (fun k => V (Proc.devRef .tc main_arg16) (ix1 k)) y g be hy hg hb r k

theorem bn5_val (y : Fin 16384 → Fin 256 → ℝ) (g be : Fin 256 → ℝ) (hy : ∀ r k, V (Proc.devRef .tc main_v262) (ix2 r k) = ((y r k : ℝ) : EReal))
    (hg : ∀ k, V (Proc.devRef .tc main_arg19) (ix1 k) = ((g k : ℝ) : EReal)) (hb : ∀ k, V (Proc.devRef .tc main_arg20) (ix1 k) = ((be k : ℝ) : EReal))
    (r : Fin 16384) (k : Fin 256) : after (bn5 (F := Ideal)) V (Proc.devRef .tc main_v289) (ix2 r k) = ((bn 16384 y g be r k : ℝ) : EReal) := by
  unfold bn5
  after_reads_at
  exact norm 16384 (by norm_num) _ ofBits_n2 (fun r k => V (Proc.devRef .tc main_v262) (ix2 r k)) (fun k => V (Proc.devRef .tc main_arg19) (ix1 k))
    (fun k => V (Proc.devRef .tc main_arg20) (ix1 k)) y g be hy hg hb r k

theorem bn6_val (y : Fin 16384 → Fin 512 → ℝ) (g be : Fin 512 → ℝ) (hy : ∀ r k, V (Proc.devRef .tc main_v293) (ix2 r k) = ((y r k : ℝ) : EReal))
    (hg : ∀ k, V (Proc.devRef .tc main_arg23) (ix1 k) = ((g k : ℝ) : EReal)) (hb : ∀ k, V (Proc.devRef .tc main_arg24) (ix1 k) = ((be k : ℝ) : EReal))
    (r : Fin 16384) (k : Fin 512) : after (bn6 (F := Ideal)) V (Proc.devRef .tc main_v320) (ix2 r k) = ((bn 16384 y g be r k : ℝ) : EReal) := by
  unfold bn6
  after_reads_at
  exact norm 16384 (by norm_num) _ ofBits_n2 (fun r k => V (Proc.devRef .tc main_v293) (ix2 r k)) (fun k => V (Proc.devRef .tc main_arg23) (ix1 k))
    (fun k => V (Proc.devRef .tc main_arg24) (ix1 k)) y g be hy hg hb r k

theorem lin2_val (z : Fin 131072 → Fin 64 → ℝ) (W : Fin 64 → Fin 64 → ℝ) (b : Fin 64 → ℝ) (hz : ∀ r k, V (Proc.devRef .tc main_v161) (ix2 r k) = ((z r k : ℝ) : EReal))
    (hW : ∀ o k, V (Proc.devRef .tc main_arg5) (ix2 o k) = ((W o k : ℝ) : EReal)) (hb : ∀ k, V (Proc.devRef .tc main_arg6) (ix1 k) = ((b k : ℝ) : EReal))
    (r : Fin 131072) (o : Fin 64) : after (lin2 (F := Ideal)) V (Proc.devRef .tc main_v165) (ix2 r o) = ((lin z W b r o : ℝ) : EReal) := by
  unfold lin2
  after_reads_at
  exact affine (fun r k => V (Proc.devRef .tc main_v161) (ix2 r k)) (fun o k => V (Proc.devRef .tc main_arg5) (ix2 o k)) (fun k => V (Proc.devRef .tc main_arg6) (ix1 k))
    z W b hz hW hb r o

theorem lin3_val (z : Fin 131072 → Fin 64 → ℝ) (W : Fin 128 → Fin 64 → ℝ) (b : Fin 128 → ℝ) (hz : ∀ r k, V (Proc.devRef .tc main_v192) (ix2 r k) = ((z r k : ℝ) : EReal))
    (hW : ∀ o k, V (Proc.devRef .tc main_arg9) (ix2 o k) = ((W o k : ℝ) : EReal)) (hb : ∀ k, V (Proc.devRef .tc main_arg10) (ix1 k) = ((b k : ℝ) : EReal))
    (r : Fin 131072) (o : Fin 128) : after (lin3 (F := Ideal)) V (Proc.devRef .tc main_v196) (ix2 r o) = ((lin z W b r o : ℝ) : EReal) := by
  unfold lin3
  after_reads_at
  exact affine (fun r k => V (Proc.devRef .tc main_v192) (ix2 r k)) (fun o k => V (Proc.devRef .tc main_arg9) (ix2 o k)) (fun k => V (Proc.devRef .tc main_arg10) (ix1 k))
    z W b hz hW hb r o

theorem lin4_val (z : Fin 16384 → Fin 131 → ℝ) (W : Fin 128 → Fin 131 → ℝ) (b : Fin 128 → ℝ) (hz : ∀ r k, V (Proc.devRef .tc main_v227) (ix2 r k) = ((z r k : ℝ) : EReal))
    (hW : ∀ o k, V (Proc.devRef .tc main_arg13) (ix2 o k) = ((W o k : ℝ) : EReal)) (hb : ∀ k, V (Proc.devRef .tc main_arg14) (ix1 k) = ((b k : ℝ) : EReal))
    (r : Fin 16384) (o : Fin 128) : after (lin4 (F := Ideal)) V (Proc.devRef .tc main_v231) (ix2 r o) = ((lin z W b r o : ℝ) : EReal) := by
  unfold lin4
  after_reads_at
  exact affine (fun r k => V (Proc.devRef .tc main_v227) (ix2 r k)) (fun o k => V (Proc.devRef .tc main_arg13) (ix2 o k)) (fun k => V (Proc.devRef .tc main_arg14) (ix1 k))
    z W b hz hW hb r o

theorem lin5_val (z : Fin 16384 → Fin 128 → ℝ) (W : Fin 256 → Fin 128 → ℝ) (b : Fin 256 → ℝ) (hz : ∀ r k, V (Proc.devRef .tc main_v258) (ix2 r k) = ((z r k : ℝ) : EReal))
    (hW : ∀ o k, V (Proc.devRef .tc main_arg17) (ix2 o k) = ((W o k : ℝ) : EReal)) (hb : ∀ k, V (Proc.devRef .tc main_arg18) (ix1 k) = ((b k : ℝ) : EReal))
    (r : Fin 16384) (o : Fin 256) : after (lin5 (F := Ideal)) V (Proc.devRef .tc main_v262) (ix2 r o) = ((lin z W b r o : ℝ) : EReal) := by
  unfold lin5
  after_reads_at
  exact affine (fun r k => V (Proc.devRef .tc main_v258) (ix2 r k)) (fun o k => V (Proc.devRef .tc main_arg17) (ix2 o k)) (fun k => V (Proc.devRef .tc main_arg18) (ix1 k))
    z W b hz hW hb r o

theorem lin6_val (z : Fin 16384 → Fin 256 → ℝ) (W : Fin 512 → Fin 256 → ℝ) (b : Fin 512 → ℝ) (hz : ∀ r k, V (Proc.devRef .tc main_v289) (ix2 r k) = ((z r k : ℝ) : EReal))
    (hW : ∀ o k, V (Proc.devRef .tc main_arg21) (ix2 o k) = ((W o k : ℝ) : EReal)) (hb : ∀ k, V (Proc.devRef .tc main_arg22) (ix1 k) = ((b k : ℝ) : EReal))
    (r : Fin 16384) (o : Fin 512) : after (lin6 (F := Ideal)) V (Proc.devRef .tc main_v293) (ix2 r o) = ((lin z W b r o : ℝ) : EReal) := by
  unfold lin6
  after_reads_at
  exact affine (fun r k => V (Proc.devRef .tc main_v289) (ix2 r k)) (fun o k => V (Proc.devRef .tc main_arg21) (ix2 o k)) (fun k => V (Proc.devRef .tc main_arg22) (ix1 k))
    z W b hz hW hb r o

end Cert.ReferenceIdeal.Value
-- ==== Proof.Val.RefFar.lean ====
/- The reference's operations of the grouping, each of arrays that hold real entries: the first lane at which a row is greatest, the
    point that a gather takes, the ascending sort of the lanes in a ball. -/
module

public import proofs.«01_k».proof.Proof.Ref.Ops
public import proofs.«01_k».proof.Proof.Val.Far
public import Idealize.ShloMosaic.Lib.StableHlo.ReadAt
public import Idealize.ShloMosaic.Lib.SortFacts

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Spec

/-! ## The first greatest -/

/-- The pair `p` has a greater value than `q`, or the same value and no greater a word. -/
def Best (p q : Ideal .f32 × BitVec 32) : Prop := q.1 < p.1 ∨ (q.1 = p.1 ∧ p.2.toInt ≤ q.2.toInt)

theorem Best.refl (p : Ideal .f32 × BitVec 32) : Best p p := Or.inr ⟨rfl, le_refl _⟩

theorem Best.trans {p q r : Ideal .f32 × BitVec 32} (h : Best p q) (h' : Best q r) : Best p r := by
  rcases h with h | ⟨e, h⟩ <;> rcases h' with h' | ⟨e', h'⟩
  · exact Or.inl (lt_trans h' h)
  · exact Or.inl (e' ▸ h)
  · exact Or.inl (e ▸ h')
  · exact Or.inr ⟨e'.trans e, h.trans h'⟩

theorem reducer_spec (a b : Ideal .f32 × BitVec 32) :
    (reducer_argmax_f32_i32 a b = a ∨ reducer_argmax_f32_i32 a b = b)
      ∧ Best (reducer_argmax_f32_i32 a b) a ∧ Best (reducer_argmax_f32_i32 a b) b := by
  obtain ⟨a1, a2⟩ := a
  obtain ⟨b1, b2⟩ := b
  have key : reducer_argmax_f32_i32 (F := Ideal) (a1, a2) (b1, b2) = if b1 < a1 then (a1, a2) else if a1 = b1 ∧ a2.toInt < b2.toInt then (a1, a2) else (b1, b2) := by
    rcases lt_trichotomy (α := EReal) a1 b1 with h | h | h
    · have h' : ¬ (b1 : EReal) < a1 := not_lt.mpr h.le
      simp [reducer_argmax_f32_i32, Ideal.cmpf_def, Ideal.cmp, h', h.ne, IntOp.ori, IntOp.andi, IntOp.cmpi, Scalar.select]
    · have h : a1 = b1 := h
      subst h
      by_cases h2 : a2.toInt < b2.toInt <;>
        simp [reducer_argmax_f32_i32, Ideal.cmpf_def, Ideal.cmp, IntOp.ori, IntOp.andi, IntOp.cmpi, Scalar.select, BitVec.slt, h2]
    · have h2 : ¬ a1 = b1 := h.ne'
      simp [reducer_argmax_f32_i32, Ideal.cmpf_def, Ideal.cmp, h, h2, IntOp.ori, IntOp.andi, IntOp.cmpi, Scalar.select]
  rw [key]
  split
  · next h => exact ⟨Or.inl rfl, Best.refl _, Or.inl h⟩
  · next h =>
    split
    · next h2 => exact ⟨Or.inl rfl, Best.refl _, Or.inr ⟨h2.1.symm, h2.2.le⟩⟩
    · next h2 =>
      refine ⟨Or.inr rfl, ?_, Best.refl _⟩
      rcases lt_or_eq_of_le (not_lt.mp h) with h3 | h3
      · exact Or.inl h3
      · exact Or.inr ⟨h3, not_lt.mp fun h4 => h2 ⟨h3, h4⟩⟩

theorem fold_best (L : List (Ideal .f32 × BitVec 32)) (i : Ideal .f32 × BitVec 32) :
    (L.foldl reducer_argmax_f32_i32 i = i ∨ L.foldl reducer_argmax_f32_i32 i ∈ L) ∧ Best (L.foldl reducer_argmax_f32_i32 i) i
      ∧ ∀ p ∈ L, Best (L.foldl reducer_argmax_f32_i32 i) p := by
  induction L generalizing i with
  | nil => exact ⟨Or.inl rfl, Best.refl _, fun p hp => absurd hp (List.not_mem_nil)⟩
  | cons a L ih =>
    obtain ⟨h1, h2, h3⟩ := ih (reducer_argmax_f32_i32 i a)
    obtain ⟨g1, g2, g3⟩ := reducer_spec i a
    rw [List.foldl_cons]
    refine ⟨?_, h2.trans g2, fun p hp => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.mp hp with rfl | hp
      · exact h2.trans g3
      · exact h3 p hp

theorem lane_int (f : Fin 32) : (BitVec.ofNat 32 f.val).toInt = (f.val : ℤ) := by revert f; decide

theorem fiber_mem (D : A Ideal S2048x32 .f32) (a : Fin 2048) (p : Ideal .f32 × BitVec 32) :
    p ∈ Host.argReduceFiber D (iotaInDim S2048x32 32 1) reducesTo_S2048x32_S2048_d1 (ix1 a) ↔ ∃ l : Fin 32, p = (D (ix2 a l), BitVec.ofNat 32 l.val) := by
  unfold Host.argReduceFiber
  rw [List.mem_map]
  constructor
  · rintro ⟨n, hn, rfl⟩
    obtain ⟨i, rfl⟩ : ∃ i, n = S2048x32.rowMajor i := ⟨_, (Equiv.apply_symm_apply S2048x32.rowMajor n).symm⟩
    rw [Equiv.symm_apply_apply]
    have hn := hn
    rw [List.mem_filter, Equiv.symm_apply_apply] at hn
    have h := congrArg Fin.val (congrFun (of_decide_eq_true hn.2) 0)
    have e : i = ix2 a (i 1) := by
      funext b
      fin_cases b
      · exact Fin.ext h
      · rfl
    refine ⟨i 1, ?_⟩
    rw [e]; rfl
  · rintro ⟨l, rfl⟩
    refine ⟨S2048x32.rowMajor (ix2 a l), List.mem_filter.mpr ⟨List.mem_finRange _, decide_eq_true ?_⟩, ?_⟩
    · rw [Equiv.symm_apply_apply]
      funext b; fin_cases b; rfl
    · rw [Equiv.symm_apply_apply]; rfl

theorem argmax_at (D : A Ideal S2048x32 .f32) (a : Fin 2048) (d : Fin 32 → ℝ) (hD : ∀ l, D (ix2 a l) = ((d l : ℝ) : EReal)) :
    (Host.argReduce (F := Ideal) reducer_argmax_f32_i32 D (iotaInDim S2048x32 32 1) (constant S_ .f32 0xFF800000#32) (constantI S_ 32 0#32) reducesTo_S2048x32_S2048_d1 h_S_ (ix1 a)).2
      = BitVec.ofNat 32 (first d).val := by
  rw [Ideal.argReduce_eq_reduce2, Host.reduce2_eq_foldl_fiber]
  obtain ⟨h1, -, h3⟩ := fold_best (Host.argReduceFiber D (iotaInDim S2048x32 32 1) reducesTo_S2048x32_S2048_d1 (ix1 a))
    (constant (F := Ideal) S_ .f32 0xFF800000#32 (Shape.Idx.first h_S_), constantI S_ 32 0#32 (Shape.Idx.first h_S_))
  have hb : constant (F := Ideal) S_ .f32 0xFF800000#32 (Shape.Idx.first h_S_) = (⊥ : EReal) := by
    show Ideal.ofBits .f32 0xFF800000#32 = ⊥
    simp [Ideal.ofBits, Ideal.ieee]
  rw [hb] at h1 h3 ⊢
  generalize List.foldl _ _ _ = r at h1 h3 ⊢
  have h3 : ∀ l : Fin 32, Best r (D (ix2 a l), BitVec.ofNat 32 l.val) := fun l => h3 _ ((fiber_mem D a _).mpr ⟨l, rfl⟩)
  rcases h1 with h1 | h1
  · have := h3 0
    rw [h1, hD] at this
    rcases this with h | ⟨h, -⟩
    · exact absurd h not_lt_bot
    · exact absurd h (EReal.coe_ne_bot _)
  · obtain ⟨f, rfl⟩ := (fiber_mem D a _).mp h1
    have hs := first_spec d
    have hf : IsFirst d f := by
      constructor
      · intro l
        rcases h3 l with h | ⟨h, -⟩
        · simp only [hD] at h; exact (EReal.coe_lt_coe_iff.mp h).le
        · simp only [hD] at h; exact (EReal.coe_eq_coe_iff.mp h).le
      · intro l e
        rcases h3 l with h | ⟨-, h⟩
        · simp only [hD, e] at h; exact absurd h (lt_irrefl _)
        · simp only [lane_int] at h; exact Fin.le_def.mpr (by exact_mod_cast h)
    have : f = first d := le_antisymm (hf.2 _ (le_antisymm (hf.1 _) (hs.1 _))) (hs.2 _ (le_antisymm (hs.1 _) (hf.1 _)))
    rw [this]

/-! ## The gathers -/

theorem gather1_at (x : A Ideal S2048x32x3 .f32) (w : A Ideal S2048x1x1 .i32) (a : Fin 2048) (k : Fin 3) (f : Fin 32) (h : w (ix3 a 0 0) = BitVec.ofNat 32 f.val) :
    Host.gather gather_S2048x32x3_S2048x1x1_S2048x1x3_2_1_0_0_1_2_113 x w (ix3 a 0 k) = x (ix3 a f k) := by
  unfold Host.gather
  refine congrArg x ?_
  funext b
  apply Fin.ext
  fin_cases b
  · show 0 + a.val + 0 = a.val
    omega
  · have e : gather_S2048x32x3_S2048x1x1_S2048x1x3_2_1_0_0_1_2_113.siIdx (ix3 a 0 k) ⟨0, Nat.one_pos⟩ = ix3 a 0 0 := by
      funext b; fin_cases b <;> rfl
    show min (w (gather_S2048x32x3_S2048x1x1_S2048x1x3_2_1_0_0_1_2_113.siIdx (ix3 a 0 k) ⟨0, Nat.one_pos⟩)).toInt.toNat 31 + 0 + 0 = f.val
    rw [e, h, lane_int]; omega
  · show 0 + 0 + k.val = k.val
    omega

theorem gather2_at (x : A Ideal S2048x32x3 .f32) (w : A Ideal S2048x8x8x1 .i32) (a : Fin 2048) (j t : Fin 8) (k : Fin 3) (f : Fin 32) (h : w (ix4 a j t 0) = BitVec.ofNat 32 f.val) :
    Host.gather gather_S2048x32x3_S2048x8x8x1_S2048x8x8x3_3_1_0_0_1_3_113 x w (ix4 a j t k) = x (ix3 a f k) := by
  unfold Host.gather
  refine congrArg x ?_
  funext b
  apply Fin.ext
  fin_cases b
  · show 0 + a.val + 0 = a.val
    omega
  · have e : gather_S2048x32x3_S2048x8x8x1_S2048x8x8x3_3_1_0_0_1_3_113.siIdx (ix4 a j t k) ⟨0, Nat.one_pos⟩ = ix4 a j t 0 := by
      funext b; fin_cases b <;> rfl
    show min (w (gather_S2048x32x3_S2048x8x8x1_S2048x8x8x3_3_1_0_0_1_3_113.siIdx (ix4 a j t k) ⟨0, Nat.one_pos⟩)).toInt.toNat 31 + 0 + 0 = f.val
    rw [e, h, lane_int]; omega
  · show 0 + 0 + k.val = k.val
    omega

/-- A lane's word is not negative, so it is taken as it is. -/
theorem wrap_lane (f : Fin 32) : Scalar.select (IntOp.cmpi .slt (BitVec.ofNat 32 f.val) 0#32) (IntOp.addi (BitVec.ofNat 32 f.val) 32#32) (BitVec.ofNat 32 f.val)
    = BitVec.ofNat 32 f.val := by revert f; decide

/-! ## The sort -/

/-- What a stable sort leaves at place `t`, of keys that a sorted list rearranges. -/
theorem sorted_key (key : Fin 32 → ℕ) (before : Fin 32 → Fin 32 → Bool) (hb : ∀ k k', before k k' = decide (key k < key k'))
    (L : List ℕ) (hp : L.Perm ((List.finRange 32).map key)) (hs : L.Pairwise (· ≤ ·)) (t : Fin 32) : L[t.val]? = some (key (sortedFrom before t)) := by
  have hsort : (stableSort before (List.finRange 32)).Pairwise fun b c => before c b = false :=
    pairwise_stableSort before before (fun a b h => by simp only [hb, decide_eq_true_eq, decide_eq_false_iff_not] at h ⊢; omega) (fun _ _ h => h)
      (fun a b c h h' => by simp only [hb, decide_eq_false_iff_not] at h h' ⊢; omega) _
  have e : L = (stableSort before (List.finRange 32)).map key := by
    refine List.Perm.eq_of_pairwise (fun a b _ _ h h' => le_antisymm h h') hs ?_ (hp.trans ((perm_stableSort before (List.finRange 32)).map key).symm)
    rw [List.pairwise_map]
    refine hsort.imp fun {a b} h => ?_
    simp only [hb, decide_eq_false_iff_not] at h
    omega
  rw [e, List.getElem?_map]
  have hl : t.val < (stableSort before (List.finRange 32)).length := by rw [length_stableSort, List.length_finRange]; exact t.isLt
  rw [List.getElem?_eq_getElem hl]
  rfl

open Classical in
/-- A point's number in the ball's sort. -/
def num (x y z : Fin 32 → ℝ) (f l : Fin 32) : ℕ := if sqd x y z f l ≤ rad then l.val else 32

theorem num_le (x y z : Fin 32 → ℝ) (f l : Fin 32) : num x y z f l ≤ 32 := by unfold num; split <;> omega

open Classical in
/-- The ball's lanes in order, then 32 as often as is needed. -/
theorem sorted_num (x y z : Fin 32 → ℝ) (f : Fin 32) (before : Fin 32 → Fin 32 → Bool) (hb : ∀ k k', before k k' = decide (num x y z f k < num x y z f k')) (t : Fin 32) :
    num x y z f (sortedFrom before t) = ((ball x y z f)[t.val]?.map Fin.val).getD 32 := by
  let R := (List.finRange 32).filter fun l => !decide (sqd x y z f l ≤ rad)
  have hp : ((ball x y z f).map Fin.val ++ R.map fun _ => 32).Perm ((List.finRange 32).map (num x y z f)) := by
    have h1 : (ball x y z f).map Fin.val = (ball x y z f).map (num x y z f) := List.map_congr_left fun l hl => by
      unfold num; rw [if_pos ((mem_ball x y z f l).mp hl)]
    have h2 : (R.map fun _ => 32) = R.map (num x y z f) := List.map_congr_left fun l hl => by
      have := (List.mem_filter.mp hl).2
      unfold num; rw [if_neg (by simpa using this)]
    rw [h1, h2, ← List.map_append]
    exact (List.filter_append_perm _ _).map _
  have hs : ((ball x y z f).map Fin.val ++ R.map fun _ => 32).Pairwise (· ≤ ·) := by
    rw [List.pairwise_append]
    refine ⟨?_, ?_, ?_⟩
    · rw [List.pairwise_map]; exact (ball_lt x y z f).imp fun h => le_of_lt h
    · rw [List.pairwise_map]; exact List.pairwise_of_forall fun _ _ => le_refl _
    · intro a ha b hb
      obtain ⟨l, -, rfl⟩ := List.mem_map.mp ha
      obtain ⟨-, -, rfl⟩ := List.mem_map.mp hb
      omega
  have h := sorted_key _ before hb _ hp hs t
  have hlen := hp.length_eq
  rw [List.length_append, List.length_map, List.length_map, List.length_map, List.length_finRange] at hlen
  by_cases ht : t.val < (ball x y z f).length
  · rw [List.getElem?_append_left (by rwa [List.length_map]), List.getElem?_map, List.getElem?_eq_getElem ht] at h
    rw [List.getElem?_eq_getElem ht]
    exact (Option.some.inj h).symm
  · rw [List.getElem?_append_right (by rw [List.length_map]; omega), List.getElem?_map, List.length_map, List.getElem?_eq_getElem (by omega)] at h
    rw [List.getElem?_eq_none (by omega)]
    exact (Option.some.inj h).symm

theorem slt_small (m n : ℕ) (hm : m ≤ 32) (hn : n ≤ 32) : (comparator_i32_d2 (BitVec.ofNat 32 m) (BitVec.ofNat 32 n) == 1#1) = decide (m < n) := by
  have : ∀ m n : Fin 33, (comparator_i32_d2 (BitVec.ofNat 32 m.val) (BitVec.ofNat 32 n.val) == 1#1) = decide (m.val < n.val) := by decide +kernel
  exact this ⟨m, by omega⟩ ⟨n, by omega⟩

theorem sort_along (s : Shape) (d : Fin s.rank) (cmp : BitVec 32 → BitVec 32 → BitVec 1) (K : s.Idx → BitVec 32) (j : s.Idx) :
    Host.sort s d.val cmp K j = K (j.along d (sortedFrom (fun k k' => cmp (K (j.along d k)) (K (j.along d k')) == 1#1) (j d))) := dif_pos d.isLt

theorem sort_at (K : A Ideal S2048x8x32 .i32) (a : Fin 2048) (j : Fin 8) (x y z : Fin 32 → ℝ) (f : Fin 32)
    (hK : ∀ l : Fin 32, K (ix3 a j l) = BitVec.ofNat 32 (num x y z f l)) (t : Fin 32) :
    Host.sort S2048x8x32 2 comparator_i32_d2 K (ix3 a j t) = BitVec.ofNat 32 (((ball x y z f)[t.val]?.map Fin.val).getD 32) := by
  have e : ∀ k : Fin 32, (ix3 a j t : S2048x8x32.Idx).along 2 k = ix3 a j k := fun k => by
    funext b; fin_cases b <;> rfl
  refine (sort_along S2048x8x32 2 comparator_i32_d2 K (ix3 a j t)).trans ?_
  refine (congrArg K (e _)).trans ((hK _).trans ?_)
  refine congrArg (BitVec.ofNat 32) (sorted_num x y z f _ (fun k k' => ?_) t)
  rw [e, e, hK, hK]; exact slt_small _ _ (num_le ..) (num_le ..)

/-- The word of sample `t`: the sorted word, or the first of them where that is 32. -/
theorem pick_word (x y z : Fin 32 → ℝ) (f : Fin 32) (t : ℕ) :
    Scalar.select (IntOp.cmpi .eq (BitVec.ofNat 32 (((ball x y z f)[t]?.map Fin.val).getD 32)) 32#32)
      (BitVec.ofNat 32 (((ball x y z f)[0]?.map Fin.val).getD 32)) (BitVec.ofNat 32 (((ball x y z f)[t]?.map Fin.val).getD 32))
      = BitVec.ofNat 32 (pick x y z f t).val := by
  unfold pick
  rw [List.getElem?_eq_getElem (ball_pos x y z f)]
  cases h : (ball x y z f)[t]? with
  | none => rfl
  | some l =>
    have : ∀ (l : Fin 32) (w : BitVec 32), Scalar.select (IntOp.cmpi .eq (BitVec.ofNat 32 l.val) 32#32) w (BitVec.ofNat 32 l.val) = BitVec.ofNat 32 l.val := by
      intro l w
      have : IntOp.cmpi .eq (BitVec.ofNat 32 l.val) 32#32 = 0#1 := by revert l; decide
      rw [this]; rfl
    exact this l _

end Cert.ReferenceIdeal.Value

end
-- ==== Proof.Val.RefStep.lean ====
/- The reference's grouping: after its first stretches the rows that the first layer takes are the samples' offsets from their centres, and
    the centres are the farthest-point walk's. -/
module

public import proofs.«01_k».proof.Proof.Ref.Writes
public import proofs.«01_k».proof.Proof.Val.Fill
public import proofs.«01_k».proof.Proof.Val.RefFar

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Spec

/-! ## One step of the walk -/

/-- Every point's distance to the nearest centre, with one centre more. -/
def minOf (x : FVec Ideal S2048x32x3 .f32) (c : FVec Ideal S2048x1x3 .f32) (m : FVec Ideal S2048x32 .f32) : FVec Ideal S2048x32 .f32 :=
  minimumf m (Host.reduceAdd (mulf (subf x (broadcastInDim S2048x32x3 ![0, 1, 2] bcast_S2048x1x3_S2048x32x3_0_1_2 c))
    (subf x (broadcastInDim S2048x32x3 ![0, 1, 2] bcast_S2048x1x3_S2048x32x3_0_1_2 c))) (constant S_ .f32 0x00000000#32) reducesTo_S2048x32x3_S2048x32_d2 h_S_)

/-- The first lane at which a row is greatest, as a word. -/
def lastOf (D : FVec Ideal S2048x32 .f32) : IVec S2048 32 := fun j =>
  (Host.argReduce reducer_argmax_f32_i32 D (iotaInDim S2048x32 32 1) (constant (F := Ideal) S_ .f32 0xFF800000#32) (constantI S_ 32 0#32) reducesTo_S2048x32_S2048_d1 h_S_ j).2

/-- Those lanes as the gather takes them. -/
def laneOf (w : IVec S2048 32) : IVec S2048x1x1 32 :=
  broadcastInDim S2048x1x1 ![0, 1] bcast_S2048x1_S2048x1x1_0_1 (select
    (cmpi .slt (broadcastInDim S2048x1 ![0] bcast_S2048_S2048x1_0 w) (broadcastInDim S2048x1 ![] bcast_S_S2048x1 (constantI S_ 32 0#32)))
    (addi (broadcastInDim S2048x1 ![0] bcast_S2048_S2048x1_0 w) (broadcastInDim S2048x1 ![] bcast_S_S2048x1 (constantI S_ 32 32#32)))
    (broadcastInDim S2048x1 ![0] bcast_S2048_S2048x1_0 w))

/-- The points at those lanes. -/
def cenOf (x : FVec Ideal S2048x32x3 .f32) (D : FVec Ideal S2048x32 .f32) : FVec Ideal S2048x1x3 .f32 :=
  Host.gather gather_S2048x32x3_S2048x1x1_S2048x1x3_2_1_0_0_1_2_113 x (laneOf (lastOf D))

theorem minOf_at (x : FVec Ideal S2048x32x3 .f32) (c : FVec Ideal S2048x1x3 .f32) (m : FVec Ideal S2048x32 .f32) (a : Fin 2048) (l : Fin 32) :
    minOf x c m (ix2 a l) = min (m (ix2 a l)) (∑ k : Fin 3, (x (ix3 a l k) - c (ix3 a 0 k)) * (x (ix3 a l k) - c (ix3 a 0 k))) := by
  unfold minOf
  pointwise

theorem laneOf_at (w : IVec S2048 32) (a : Fin 2048) :
    laneOf w (ix3 a 0 0) = Scalar.select (IntOp.cmpi .slt (w (ix1 a)) 0#32) (IntOp.addi (w (ix1 a)) 32#32) (w (ix1 a)) := by
  unfold laneOf
  pointwise

variable (P : Fin 3 → Fin 2048 → Fin 32 → ℝ)

/-- The lane of centre `n` of cloud `a`. -/
abbrev at' (n : ℕ) (a : Fin 2048) : Fin 32 := far (P 0 a) (P 1 a) (P 2 a) n
/-- The nearest distances of cloud `a` after `n` steps. -/
abbrev near' (n : ℕ) (a : Fin 2048) : Fin 32 → ℝ := near (P 0 a) (P 1 a) (P 2 a) n

/-- The array holds the clouds' points. -/
def Pts (x : A Ideal S2048x32x3 .f32) : Prop := ∀ a l k, x (ix3 a l k) = ((P k a l : ℝ) : EReal)
/-- The array holds centre `n` of every cloud. -/
def Cen (n : ℕ) (c : A Ideal S2048x1x3 .f32) : Prop := ∀ a k, c (ix3 a 0 k) = ((P k a (at' P n a) : ℝ) : EReal)
/-- The array holds the nearest distances after `n` steps. -/
def Near (n : ℕ) (m : A Ideal S2048x32 .f32) : Prop := ∀ a l, m (ix2 a l) = ((near' P n a l : ℝ) : EReal)

variable {P}

theorem min_real {x : A Ideal S2048x32x3 .f32} {c : A Ideal S2048x1x3 .f32} {m : A Ideal S2048x32 .f32} {n : ℕ} (hx : Pts P x) (hc : Cen P n c)
    (a : Fin 2048) (l : Fin 32) (d : ℝ) (hm : m (ix2 a l) = ((d : ℝ) : EReal)) :
    minOf x c m (ix2 a l) = ((min d (sqd (P 0 a) (P 1 a) (P 2 a) (at' P n a) l) : ℝ) : EReal) := by
  rw [minOf_at, hm]
  simp only [hx a l, hc a, Fin.sum_univ_three, ← EReal.coe_sub, ← EReal.coe_mul, ← EReal.coe_add]
  exact (EReal.coe_strictMono.monotone.map_min).symm

theorem near_zero {x : A Ideal S2048x32x3 .f32} {c : A Ideal S2048x1x3 .f32} {m : A Ideal S2048x32 .f32} (hx : Pts P x) (hc : Cen P 0 c)
    (hm : ∀ a l, m (ix2 a l) = ((10000000000 : ℝ) : EReal)) : Near P 0 (minOf x c m) := fun a l => min_real hx hc a l _ (hm a l)

theorem near_succ {x : A Ideal S2048x32x3 .f32} {c : A Ideal S2048x1x3 .f32} {m : A Ideal S2048x32 .f32} {n : ℕ} (hx : Pts P x) (hc : Cen P (n + 1) c)
    (hm : Near P n m) : Near P (n + 1) (minOf x c m) := fun a l => min_real hx hc a l _ (hm a l)

theorem cen_succ {x : A Ideal S2048x32x3 .f32} {m : A Ideal S2048x32 .f32} {n : ℕ} (hx : Pts P x) (hm : Near P n m) : Cen P (n + 1) (cenOf x m) := fun a k => by
  have h : lastOf m (ix1 a) = BitVec.ofNat 32 (first (near' P n a)).val := argmax_at m a _ (hm a)
  refine (gather1_at x _ a k (at' P (n + 1) a) ?_).trans (hx a _ k)
  rw [laneOf_at, h]
  exact wrap_lane _

variable (V : Valuation τ sig (Elt Ideal))

/-! ## The stretches -/

theorem start_points (a : Fin 2048) (l : Fin 32) (k : Fin 3) : after (start (F := Ideal)) V (Proc.devRef .tc main_v0) (ix3 a l k)
    = V (Proc.devRef .tc main_arg0) (ix4 ⟨a.val / 1024, by omega⟩ ⟨a.val % 1024, by omega⟩ l k) := by
  unfold start
  after_reads_at

theorem start_first (a : Fin 2048) (k : Fin 3) : after (start (F := Ideal)) V (Proc.devRef .tc main_v2) (ix3 a 0 k)
    = V (Proc.devRef .tc main_arg0) (ix4 ⟨a.val / 1024, by omega⟩ ⟨a.val % 1024, by omega⟩ 0 k) := by
  unfold start
  after_reads_at

theorem start_far (a : Fin 2048) (l : Fin 32) : after (start (F := Ideal)) V (Proc.devRef .tc main_v1) (ix2 a l) = ((10000000000 : ℝ) : EReal) := by
  unfold start
  after_reads_at
  exact ofBits_far

theorem step0_min : after (step0 (F := Ideal)) V (Proc.devRef .tc main_v7) = minOf (V (Proc.devRef .tc main_v0)) (V (Proc.devRef .tc main_v2)) (V (Proc.devRef .tc main_v1)) := by
  unfold step0 minOf; after_results
theorem step0_cen : after (step0 (F := Ideal)) V (Proc.devRef .tc main_v16) = cenOf (V (Proc.devRef .tc main_v0)) (minOf (V (Proc.devRef .tc main_v0)) (V (Proc.devRef .tc main_v2)) (V (Proc.devRef .tc main_v1))) := by
  unfold step0 cenOf laneOf lastOf minOf; after_results; rfl

theorem step1_min : after (step1 (F := Ideal)) V (Proc.devRef .tc main_v21) = minOf (V (Proc.devRef .tc main_v0)) (V (Proc.devRef .tc main_v16)) (V (Proc.devRef .tc main_v7)) := by
  unfold step1 minOf; after_results
theorem step1_cen : after (step1 (F := Ideal)) V (Proc.devRef .tc main_v30) = cenOf (V (Proc.devRef .tc main_v0)) (minOf (V (Proc.devRef .tc main_v0)) (V (Proc.devRef .tc main_v16)) (V (Proc.devRef .tc main_v7))) := by
  unfold step1 cenOf laneOf lastOf minOf; after_results; rfl

theorem step2_min : after (step2 (F := Ideal)) V (Proc.devRef .tc main_v35) = minOf (V (Proc.devRef .tc main_v0)) (V (Proc.devRef .tc main_v30)) (V (Proc.devRef .tc main_v21)) := by
  unfold step2 minOf; after_results
theorem step2_cen : after (step2 (F := Ideal)) V (Proc.devRef .tc main_v44) = cenOf (V (Proc.devRef .tc main_v0)) (minOf (V (Proc.devRef .tc main_v0)) (V (Proc.devRef .tc main_v30)) (V (Proc.devRef .tc main_v21))) := by
  unfold step2 cenOf laneOf lastOf minOf; after_results; rfl

theorem step3_min : after (step3 (F := Ideal)) V (Proc.devRef .tc main_v49) = minOf (V (Proc.devRef .tc main_v0)) (V (Proc.devRef .tc main_v44)) (V (Proc.devRef .tc main_v35)) := by
  unfold step3 minOf; after_results
theorem step3_cen : after (step3 (F := Ideal)) V (Proc.devRef .tc main_v58) = cenOf (V (Proc.devRef .tc main_v0)) (minOf (V (Proc.devRef .tc main_v0)) (V (Proc.devRef .tc main_v44)) (V (Proc.devRef .tc main_v35))) := by
  unfold step3 cenOf laneOf lastOf minOf; after_results; rfl

theorem step4_min : after (step4 (F := Ideal)) V (Proc.devRef .tc main_v63) = minOf (V (Proc.devRef .tc main_v0)) (V (Proc.devRef .tc main_v58)) (V (Proc.devRef .tc main_v49)) := by
  unfold step4 minOf; after_results
theorem step4_cen : after (step4 (F := Ideal)) V (Proc.devRef .tc main_v72) = cenOf (V (Proc.devRef .tc main_v0)) (minOf (V (Proc.devRef .tc main_v0)) (V (Proc.devRef .tc main_v58)) (V (Proc.devRef .tc main_v49))) := by
  unfold step4 cenOf laneOf lastOf minOf; after_results; rfl

theorem step5_min : after (step5 (F := Ideal)) V (Proc.devRef .tc main_v77) = minOf (V (Proc.devRef .tc main_v0)) (V (Proc.devRef .tc main_v72)) (V (Proc.devRef .tc main_v63)) := by
  unfold step5 minOf; after_results
theorem step5_cen : after (step5 (F := Ideal)) V (Proc.devRef .tc main_v86) = cenOf (V (Proc.devRef .tc main_v0)) (minOf (V (Proc.devRef .tc main_v0)) (V (Proc.devRef .tc main_v72)) (V (Proc.devRef .tc main_v63))) := by
  unfold step5 cenOf laneOf lastOf minOf; after_results; rfl

theorem step6_min : after (step6 (F := Ideal)) V (Proc.devRef .tc main_v91) = minOf (V (Proc.devRef .tc main_v0)) (V (Proc.devRef .tc main_v86)) (V (Proc.devRef .tc main_v77)) := by
  unfold step6 minOf; after_results
theorem step6_cen : after (step6 (F := Ideal)) V (Proc.devRef .tc main_v100) = cenOf (V (Proc.devRef .tc main_v0)) (minOf (V (Proc.devRef .tc main_v0)) (V (Proc.devRef .tc main_v86)) (V (Proc.devRef .tc main_v77))) := by
  unfold step6 cenOf laneOf lastOf minOf; after_results; rfl

theorem cents_at (a : Fin 2048) (j : Fin 8) (k : Fin 3) : after (cents (F := Ideal)) V (Proc.devRef .tc main_v101) (ix3 a j k)
    = (![V (Proc.devRef .tc main_v2) (ix3 a 0 k), V (Proc.devRef .tc main_v16) (ix3 a 0 k), V (Proc.devRef .tc main_v30) (ix3 a 0 k), V (Proc.devRef .tc main_v44) (ix3 a 0 k),
        V (Proc.devRef .tc main_v58) (ix3 a 0 k), V (Proc.devRef .tc main_v72) (ix3 a 0 k), V (Proc.devRef .tc main_v86) (ix3 a 0 k), V (Proc.devRef .tc main_v100) (ix3 a 0 k)]
        : Fin 8 → EReal) j := by
  unfold cents
  after_results
  simp only [Matrix.cons_val_zero, Matrix.cons_val_one, Matrix.cons_val]
  have h : ∀ (u0 u1 u2 u3 u4 u5 u6 u7 : A Ideal S2048x1x3 .f32) (j : Fin 8), fn_main_v101 (F := Ideal) u0 u1 u2 u3 u4 u5 u6 u7 (ix3 a j k)
      = (![u0 (ix3 a 0 k), u1 (ix3 a 0 k), u2 (ix3 a 0 k), u3 (ix3 a 0 k), u4 (ix3 a 0 k), u5 (ix3 a 0 k), u6 (ix3 a 0 k), u7 (ix3 a 0 k)] : Fin 8 → EReal) j := by
    intro u0 u1 u2 u3 u4 u5 u6 u7 j
    unfold fn_main_v101
    fin_cases j <;> pointwise
  exact h _ _ _ _ _ _ _ _ j

theorem dists_at (a : Fin 2048) (j : Fin 8) (l : Fin 32) (c p : Fin 3 → ℝ) (hc : ∀ k, V (Proc.devRef .tc main_v101) (ix3 a j k) = ((c k : ℝ) : EReal))
    (hp : ∀ k, V (Proc.devRef .tc main_v0) (ix3 a l k) = ((p k : ℝ) : EReal)) :
    after (dists (F := Ideal)) V (Proc.devRef .tc main_v108) (ix3 a j l) = ((∑ k : Fin 3, (c k - p k) * (c k - p k) : ℝ) : EReal) := by
  unfold dists
  after_reads_at
  simp only [hc, hp, ← EReal.coe_sub, ← EReal.coe_mul, coe_sum]

theorem keys_at (a : Fin 2048) (j : Fin 8) (l : Fin 32) (d : ℝ) (hd : (V (Proc.devRef .tc main_v108) : A Ideal S2048x8x32 .f32) (ix3 a j l) = ((d : ℝ) : EReal)) :
    (after (keys (F := Ideal)) V (Proc.devRef .tc main_v113) : A Ideal S2048x8x32 .i32) (ix3 a j l) = if rad < d then 32#32 else BitVec.ofNat 32 l.val := by
  unfold keys
  after_reads_at
  simp only [hd, ofBits_rad, EReal.coe_lt_coe_iff]
  rfl

theorem sorted_at (a : Fin 2048) (j t : Fin 8) : (after (sorted (F := Ideal)) V (Proc.devRef .tc main_v115) : A Ideal S2048x8x8 .i32) (ix3 a j t)
    = Host.sort S2048x8x32 2 comparator_i32_d2 (V (Proc.devRef .tc main_v113) : A Ideal S2048x8x32 .i32) (ix3 a j ⟨t.val, by omega⟩) := by
  unfold sorted
  after_results
  have h : ∀ y : IVec S2048x8x32 32, extractStridedSlice S2048x8x8 ![0, 0, 0] y slices_S2048x8x32_S2048x8x8_0_0_0 (ix3 a j t) = y (ix3 a j ⟨t.val, by omega⟩) := by
    intro y; pointwise
  exact h _

theorem picks_at (a : Fin 2048) (j t : Fin 8) (w : BitVec 32)
    (hw : Scalar.select (IntOp.cmpi .eq ((V (Proc.devRef .tc main_v115) : A Ideal S2048x8x8 .i32) (ix3 a j t)) 32#32)
      ((V (Proc.devRef .tc main_v115) : A Ideal S2048x8x8 .i32) (ix3 a j 0)) ((V (Proc.devRef .tc main_v115) : A Ideal S2048x8x8 .i32) (ix3 a j t)) = w) :
    (after (picks (F := Ideal)) V (Proc.devRef .tc main_v125) : A Ideal S2048x8x8x1 .i32) (ix4 a j t 0)
      = Scalar.select (IntOp.cmpi .slt w 0#32) (IntOp.addi w 32#32) w := by
  unfold picks
  after_reads_at
  subst hw
  rfl

theorem offsets_at (r : Fin 131072) (k : Fin 3) (g c : ℝ)
    (hg : Host.gather gather_S2048x32x3_S2048x8x8x1_S2048x8x8x3_3_1_0_0_1_3_113 (V (Proc.devRef .tc main_v0) : A Ideal S2048x32x3 .f32) (V (Proc.devRef .tc main_v125) : A Ideal S2048x8x8x1 .i32)
        (ix4 ⟨r.val / 64, by omega⟩ ⟨r.val % 64 / 8, by omega⟩ ⟨r.val % 8, by omega⟩ k) = ((g : ℝ) : EReal))
    (hc : V (Proc.devRef .tc main_v101) (ix3 ⟨r.val / 64, by omega⟩ ⟨r.val % 64 / 8, by omega⟩ k) = ((c : ℝ) : EReal)) :
    after (offsets (F := Ideal)) V (Proc.devRef .tc main_v130) (ix2 r k) = ((g - c : ℝ) : EReal) := by
  unfold offsets
  after_results
  have h : ∀ (y : FVec Ideal S2048x8x8x3 .f32) (u : FVec Ideal S2048x8x3 .f32), shapeCast S131072x3 (subf y
      (broadcastInDim S2048x8x8x3 ![0, 1, 2, 3] bcast_S2048x8x1x3_S2048x8x8x3_0_1_2_3 (broadcastInDim S2048x8x1x3 ![0, 1, 3] bcast_S2048x8x3_S2048x8x1x3_0_1_3 u))) shapeCasts_S2048x8x8x3_S131072x3 (ix2 r k)
      = y (ix4 ⟨r.val / 64, by omega⟩ ⟨r.val % 64 / 8, by omega⟩ ⟨r.val % 8, by omega⟩ k) - u (ix3 ⟨r.val / 64, by omega⟩ ⟨r.val % 64 / 8, by omega⟩ k) := by
    intro y u
    have e : (⟨r.val / 8 % 8, by omega⟩ : Fin 8) = ⟨r.val % 64 / 8, by omega⟩ := Fin.ext (by show r.val / 8 % 8 = r.val % 64 / 8; omega)
    pointwise
    rw [e]
  refine (h _ _).trans ?_
  rw [hg, hc, EReal.coe_sub]

end Cert.ReferenceIdeal.Value

end
-- ==== Proof.Val.RefGrp.lean ====
/- The reference's grouping, stretch after stretch: the farthest-point walk, the balls' samples, and their offsets from the centres. -/
module

public import proofs.«01_k».proof.Proof.Val.RefStep
public import proofs.«01_k».proof.Proof.Val.Turn

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Spec

/-- What the buffers hold. -/
abbrev Val : Type := Valuation τ sig (Elt Ideal)

variable (V : Val)

/-- The buffers once `start` has run. -/
abbrev g0 : Val := after (Value.start (F := Ideal)) V
/-- The buffers once `step0` has run. -/
abbrev g1 : Val := after (Value.step0 (F := Ideal)) (g0 V)
/-- The buffers once `step1` has run. -/
abbrev g2 : Val := after (Value.step1 (F := Ideal)) (g1 V)
/-- The buffers once `step2` has run. -/
abbrev g3 : Val := after (Value.step2 (F := Ideal)) (g2 V)
/-- The buffers once `step3` has run. -/
abbrev g4 : Val := after (Value.step3 (F := Ideal)) (g3 V)
/-- The buffers once `step4` has run. -/
abbrev g5 : Val := after (Value.step4 (F := Ideal)) (g4 V)
/-- The buffers once `step5` has run. -/
abbrev g6 : Val := after (Value.step5 (F := Ideal)) (g5 V)
/-- The buffers once `step6` has run. -/
abbrev g7 : Val := after (Value.step6 (F := Ideal)) (g6 V)
/-- The buffers once `cents` has run. -/
abbrev g8 : Val := after (Value.cents (F := Ideal)) (g7 V)
/-- The buffers once `dists` has run. -/
abbrev g9 : Val := after (Value.dists (F := Ideal)) (g8 V)
/-- The buffers once `keys` has run. -/
abbrev g10 : Val := after (Value.keys (F := Ideal)) (g9 V)
/-- The buffers once `sorted` has run. -/
abbrev g11 : Val := after (Value.sorted (F := Ideal)) (g10 V)
/-- The buffers once `picks` has run. -/
abbrev g12 : Val := after (Value.picks (F := Ideal)) (g11 V)
/-- The buffers once `offsets` has run. -/
abbrev g13 : Val := after (Value.offsets (F := Ideal)) (g12 V)

/-- The clouds' coordinates. -/
abbrev pts : Fin 3 → Fin 2048 → Fin 32 → ℝ := fun k => point k (V (Proc.devRef .tc main_arg0))

theorem b0 (a : Ref sig .tc) (h : a ∈ args) : g0 V (Proc.devRef .tc a) = V (Proc.devRef .tc a) := start_keep V (start_args a h)
theorem b1 (a : Ref sig .tc) (h : a ∈ args) : g1 V (Proc.devRef .tc a) = V (Proc.devRef .tc a) := (step0_keep _ (step0_args a h)).trans (b0 V a h)
theorem b2 (a : Ref sig .tc) (h : a ∈ args) : g2 V (Proc.devRef .tc a) = V (Proc.devRef .tc a) := (step1_keep _ (step1_args a h)).trans (b1 V a h)
theorem b3 (a : Ref sig .tc) (h : a ∈ args) : g3 V (Proc.devRef .tc a) = V (Proc.devRef .tc a) := (step2_keep _ (step2_args a h)).trans (b2 V a h)
theorem b4 (a : Ref sig .tc) (h : a ∈ args) : g4 V (Proc.devRef .tc a) = V (Proc.devRef .tc a) := (step3_keep _ (step3_args a h)).trans (b3 V a h)
theorem b5 (a : Ref sig .tc) (h : a ∈ args) : g5 V (Proc.devRef .tc a) = V (Proc.devRef .tc a) := (step4_keep _ (step4_args a h)).trans (b4 V a h)
theorem b6 (a : Ref sig .tc) (h : a ∈ args) : g6 V (Proc.devRef .tc a) = V (Proc.devRef .tc a) := (step5_keep _ (step5_args a h)).trans (b5 V a h)
theorem b7 (a : Ref sig .tc) (h : a ∈ args) : g7 V (Proc.devRef .tc a) = V (Proc.devRef .tc a) := (step6_keep _ (step6_args a h)).trans (b6 V a h)
theorem b8 (a : Ref sig .tc) (h : a ∈ args) : g8 V (Proc.devRef .tc a) = V (Proc.devRef .tc a) := (cents_keep _ (cents_args a h)).trans (b7 V a h)
theorem b9 (a : Ref sig .tc) (h : a ∈ args) : g9 V (Proc.devRef .tc a) = V (Proc.devRef .tc a) := (dists_keep _ (dists_args a h)).trans (b8 V a h)
theorem b10 (a : Ref sig .tc) (h : a ∈ args) : g10 V (Proc.devRef .tc a) = V (Proc.devRef .tc a) := (keys_keep _ (keys_args a h)).trans (b9 V a h)
theorem b11 (a : Ref sig .tc) (h : a ∈ args) : g11 V (Proc.devRef .tc a) = V (Proc.devRef .tc a) := (sorted_keep _ (sorted_args a h)).trans (b10 V a h)
theorem b12 (a : Ref sig .tc) (h : a ∈ args) : g12 V (Proc.devRef .tc a) = V (Proc.devRef .tc a) := (picks_keep _ (picks_args a h)).trans (b11 V a h)
theorem b13 (a : Ref sig .tc) (h : a ∈ args) : g13 V (Proc.devRef .tc a) = V (Proc.devRef .tc a) := (offsets_keep _ (offsets_args a h)).trans (b12 V a h)

/-! ## What the walk leaves alone -/

theorem to6 {r : Ref sig .tc} (h6 : r ∉ step6_W) : g7 V (Proc.devRef .tc r) = g6 V (Proc.devRef .tc r) := step6_keep _ h6
theorem to5 {r : Ref sig .tc} (h5 : r ∉ step5_W) (h6 : r ∉ step6_W) : g7 V (Proc.devRef .tc r) = g5 V (Proc.devRef .tc r) := (to6 V h6).trans (step5_keep _ h5)
theorem to4 {r : Ref sig .tc} (h4 : r ∉ step4_W) (h5 : r ∉ step5_W) (h6 : r ∉ step6_W) : g7 V (Proc.devRef .tc r) = g4 V (Proc.devRef .tc r) := (to5 V h5 h6).trans (step4_keep _ h4)
theorem to3 {r : Ref sig .tc} (h3 : r ∉ step3_W) (h4 : r ∉ step4_W) (h5 : r ∉ step5_W) (h6 : r ∉ step6_W) : g7 V (Proc.devRef .tc r) = g3 V (Proc.devRef .tc r) := (to4 V h4 h5 h6).trans (step3_keep _ h3)
theorem to2 {r : Ref sig .tc} (h2 : r ∉ step2_W) (h3 : r ∉ step3_W) (h4 : r ∉ step4_W) (h5 : r ∉ step5_W) (h6 : r ∉ step6_W) : g7 V (Proc.devRef .tc r) = g2 V (Proc.devRef .tc r) := (to3 V h3 h4 h5 h6).trans (step2_keep _ h2)
theorem to1 {r : Ref sig .tc} (h1 : r ∉ step1_W) (h2 : r ∉ step2_W) (h3 : r ∉ step3_W) (h4 : r ∉ step4_W) (h5 : r ∉ step5_W) (h6 : r ∉ step6_W) : g7 V (Proc.devRef .tc r) = g1 V (Proc.devRef .tc r) := (to2 V h2 h3 h4 h5 h6).trans (step1_keep _ h1)
theorem to0 {r : Ref sig .tc} (h0 : r ∉ step0_W) (h1 : r ∉ step1_W) (h2 : r ∉ step2_W) (h3 : r ∉ step3_W) (h4 : r ∉ step4_W) (h5 : r ∉ step5_W) (h6 : r ∉ step6_W) : g7 V (Proc.devRef .tc r) = g0 V (Proc.devRef .tc r) := (to1 V h1 h2 h3 h4 h5 h6).trans (step0_keep _ h0)

/-! ## The walk -/

variable {P : Fin 3 → Fin 2048 → Fin 32 → ℝ} in
theorem Near.of {n : ℕ} {m m' : A Ideal S2048x32 .f32} (e : m = m') (h : Near P n m') : Near P n m := e ▸ h
variable {P : Fin 3 → Fin 2048 → Fin 32 → ℝ} in
theorem Cen.of {n : ℕ} {c c' : A Ideal S2048x1x3 .f32} (e : c = c') (h : Cen P n c') : Cen P n c := e ▸ h
variable {P : Fin 3 → Fin 2048 → Fin 32 → ℝ} in
theorem Pts.of {x x' : A Ideal S2048x32x3 .f32} (e : x = x') (h : Pts P x') : Pts P x := e ▸ h

variable (S : Start (V (Proc.devRef .tc main_arg0)) (V (Proc.devRef .tc main_arg1)) (V (Proc.devRef .tc main_arg2)))
include S

theorem x0 : Pts (pts V) (g0 V (Proc.devRef .tc main_v0)) := fun a l k => (start_points V a l k).trans (S.hp a l k)
theorem c0 : Cen (pts V) 0 (g0 V (Proc.devRef .tc main_v2)) := fun a k => (start_first V a k).trans (S.hp a 0 k)
theorem m0 : Near (pts V) 0 (g1 V (Proc.devRef .tc main_v7)) := .of (step0_min (g0 V)) (near_zero (x0 V S) (c0 V S) (start_far V))
theorem c1 : Cen (pts V) 1 (g1 V (Proc.devRef .tc main_v16)) := .of (step0_cen (g0 V)) (cen_succ (x0 V S) (near_zero (x0 V S) (c0 V S) (start_far V)))
theorem x1 : Pts (pts V) (g1 V (Proc.devRef .tc main_v0)) := .of (step0_keep (g0 V) (by decide)) (x0 V S)
theorem m1 : Near (pts V) 1 (g2 V (Proc.devRef .tc main_v21)) := .of (step1_min (g1 V)) (near_succ (x1 V S) (c1 V S) (m0 V S))
theorem c2 : Cen (pts V) 2 (g2 V (Proc.devRef .tc main_v30)) := .of (step1_cen (g1 V)) (cen_succ (x1 V S) (near_succ (x1 V S) (c1 V S) (m0 V S)))
theorem x2 : Pts (pts V) (g2 V (Proc.devRef .tc main_v0)) := .of (step1_keep (g1 V) (by decide)) (x1 V S)
theorem m2 : Near (pts V) 2 (g3 V (Proc.devRef .tc main_v35)) := .of (step2_min (g2 V)) (near_succ (x2 V S) (c2 V S) (m1 V S))
theorem c3 : Cen (pts V) 3 (g3 V (Proc.devRef .tc main_v44)) := .of (step2_cen (g2 V)) (cen_succ (x2 V S) (near_succ (x2 V S) (c2 V S) (m1 V S)))
theorem x3 : Pts (pts V) (g3 V (Proc.devRef .tc main_v0)) := .of (step2_keep (g2 V) (by decide)) (x2 V S)
theorem m3 : Near (pts V) 3 (g4 V (Proc.devRef .tc main_v49)) := .of (step3_min (g3 V)) (near_succ (x3 V S) (c3 V S) (m2 V S))
theorem c4 : Cen (pts V) 4 (g4 V (Proc.devRef .tc main_v58)) := .of (step3_cen (g3 V)) (cen_succ (x3 V S) (near_succ (x3 V S) (c3 V S) (m2 V S)))
theorem x4 : Pts (pts V) (g4 V (Proc.devRef .tc main_v0)) := .of (step3_keep (g3 V) (by decide)) (x3 V S)
theorem m4 : Near (pts V) 4 (g5 V (Proc.devRef .tc main_v63)) := .of (step4_min (g4 V)) (near_succ (x4 V S) (c4 V S) (m3 V S))
theorem c5 : Cen (pts V) 5 (g5 V (Proc.devRef .tc main_v72)) := .of (step4_cen (g4 V)) (cen_succ (x4 V S) (near_succ (x4 V S) (c4 V S) (m3 V S)))
theorem x5 : Pts (pts V) (g5 V (Proc.devRef .tc main_v0)) := .of (step4_keep (g4 V) (by decide)) (x4 V S)
theorem m5 : Near (pts V) 5 (g6 V (Proc.devRef .tc main_v77)) := .of (step5_min (g5 V)) (near_succ (x5 V S) (c5 V S) (m4 V S))
theorem c6 : Cen (pts V) 6 (g6 V (Proc.devRef .tc main_v86)) := .of (step5_cen (g5 V)) (cen_succ (x5 V S) (near_succ (x5 V S) (c5 V S) (m4 V S)))
theorem x6 : Pts (pts V) (g6 V (Proc.devRef .tc main_v0)) := .of (step5_keep (g5 V) (by decide)) (x5 V S)
theorem m6 : Near (pts V) 6 (g7 V (Proc.devRef .tc main_v91)) := .of (step6_min (g6 V)) (near_succ (x6 V S) (c6 V S) (m5 V S))
theorem c7 : Cen (pts V) 7 (g7 V (Proc.devRef .tc main_v100)) := .of (step6_cen (g6 V)) (cen_succ (x6 V S) (near_succ (x6 V S) (c6 V S) (m5 V S)))
theorem x7 : Pts (pts V) (g7 V (Proc.devRef .tc main_v0)) := .of (step6_keep (g6 V) (by decide)) (x6 V S)
theorem x8 : Pts (pts V) (g8 V (Proc.devRef .tc main_v0)) := .of (cents_keep (g7 V) (by decide)) (x7 V S)

/-- The centres, cloud by cloud. -/
theorem cen8 (a : Fin 2048) (j : Fin 8) (k : Fin 3) : g8 V (Proc.devRef .tc main_v101) (ix3 a j k) = ((pts V k a (at' (pts V) j.val a) : ℝ) : EReal) := by
  refine (cents_at (g7 V) a j k).trans ?_
  fin_cases j
  · exact (congrFun (to0 V (by decide) (by decide) (by decide) (by decide) (by decide) (by decide) (by decide)) _).trans (c0 V S a k)
  · exact (congrFun (to1 V (by decide) (by decide) (by decide) (by decide) (by decide) (by decide)) _).trans (c1 V S a k)
  · exact (congrFun (to2 V (by decide) (by decide) (by decide) (by decide) (by decide)) _).trans (c2 V S a k)
  · exact (congrFun (to3 V (by decide) (by decide) (by decide) (by decide)) _).trans (c3 V S a k)
  · exact (congrFun (to4 V (by decide) (by decide) (by decide)) _).trans (c4 V S a k)
  · exact (congrFun (to5 V (by decide) (by decide)) _).trans (c5 V S a k)
  · exact (congrFun (to6 V (by decide)) _).trans (c6 V S a k)
  · exact c7 V S a k

/-! ## The balls -/

/-- A ball's lanes from the coordinates of its cloud. -/
theorem dist9 (a : Fin 2048) (j : Fin 8) (l : Fin 32) : g9 V (Proc.devRef .tc main_v108) (ix3 a j l)
    = ((sqd (pts V 0 a) (pts V 1 a) (pts V 2 a) (at' (pts V) j.val a) l : ℝ) : EReal) := by
  refine (dists_at (g8 V) a j l (fun k => pts V k a (at' (pts V) j.val a)) (fun k => pts V k a l) (cen8 V S a j) (x8 V S a l)).trans (congrArg Real.toEReal ?_)
  rw [Fin.sum_univ_three]; unfold sqd; ring

theorem key10 (a : Fin 2048) (j : Fin 8) (l : Fin 32) : (g10 V (Proc.devRef .tc main_v113) : A Ideal S2048x8x32 .i32) (ix3 a j l)
    = BitVec.ofNat 32 (num (pts V 0 a) (pts V 1 a) (pts V 2 a) (at' (pts V) j.val a) l) := by
  refine (keys_at (g9 V) a j l _ (dist9 V S a j l)).trans ?_
  unfold num
  by_cases h : sqd (pts V 0 a) (pts V 1 a) (pts V 2 a) (at' (pts V) j.val a) l ≤ rad
  · rw [if_neg (not_lt.mpr h), if_pos h]
  · rw [if_pos (not_le.mp h), if_neg h]

theorem sort11 (a : Fin 2048) (j t : Fin 8) : (g11 V (Proc.devRef .tc main_v115) : A Ideal S2048x8x8 .i32) (ix3 a j t)
    = BitVec.ofNat 32 (((ball (pts V 0 a) (pts V 1 a) (pts V 2 a) (at' (pts V) j.val a))[t.val]?.map Fin.val).getD 32) :=
  (sorted_at (g10 V) a j t).trans (sort_at _ a j _ _ _ _ (key10 V S a j) _)

theorem pick12 (a : Fin 2048) (j t : Fin 8) : (g12 V (Proc.devRef .tc main_v125) : A Ideal S2048x8x8x1 .i32) (ix4 a j t 0)
    = BitVec.ofNat 32 (pick (pts V 0 a) (pts V 1 a) (pts V 2 a) (at' (pts V) j.val a) t.val).val := by
  refine (picks_at (g11 V) a j t _ ?_).trans (wrap_lane _)
  rw [sort11 V S a j t, sort11 V S a j 0]
  exact pick_word _ _ _ _ _

theorem x12 : Pts (pts V) (g12 V (Proc.devRef .tc main_v0)) :=
  .of ((picks_keep _ (by decide)).trans ((sorted_keep _ (by decide)).trans ((keys_keep _ (by decide)).trans (dists_keep (g8 V) (by decide))))) (x8 V S)

theorem cen12 (a : Fin 2048) (j : Fin 8) (k : Fin 3) : g12 V (Proc.devRef .tc main_v101) (ix3 a j k) = ((pts V k a (at' (pts V) j.val a) : ℝ) : EReal) :=
  (congrFun ((picks_keep _ (by decide)).trans ((sorted_keep _ (by decide)).trans ((keys_keep _ (by decide)).trans (dists_keep (g8 V) (by decide))))) _).trans (cen8 V S a j k)

theorem cen13 (a : Fin 2048) (j : Fin 8) (k : Fin 3) : g13 V (Proc.devRef .tc main_v101) (ix3 a j k) = ((pts V k a (at' (pts V) j.val a) : ℝ) : EReal) :=
  (congrFun (offsets_keep _ (by decide)) _).trans (cen12 V S a j k)

/-- The rows that the first layer takes. -/
theorem offs13 (r : Fin 131072) (k : Fin 3) : g13 V (Proc.devRef .tc main_v130) (ix2 r k) = ((offs (pts V 0) (pts V 1) (pts V 2) (turn r) k : ℝ) : EReal) := by
  have h : ∀ q : Fin 131072, g13 V (Proc.devRef .tc main_v130) (ix2 (turn q) k) = ((offs (pts V 0) (pts V 1) (pts V 2) q k : ℝ) : EReal) := by
    intro q
    have e0 : (⟨(turn q).val / 64, by omega⟩ : Fin 2048) = ⟨q.val / 64, by omega⟩ := Fin.ext (turn_cloud q)
    have e1 : (⟨(turn q).val % 64 / 8, by omega⟩ : Fin 8) = ⟨q.val % 8, by omega⟩ := Fin.ext (turn_centre q)
    have e2 : (⟨(turn q).val % 8, by omega⟩ : Fin 8) = ⟨q.val % 64 / 8, by omega⟩ := Fin.ext (turn_sample q)
    refine (offsets_at (g12 V) (turn q) k _ _ (by rw [e0, e1, e2]; exact (gather2_at _ _ _ _ _ k _ (pick12 V S _ _ _)).trans (x12 V S _ _ k))
      (by rw [e0, e1]; exact cen12 V S _ _ k)).trans (congrArg Real.toEReal ?_)
    fin_cases k <;> rfl
  rw [← turn_turn r]
  rw [h, turn_turn]

end Cert.ReferenceIdeal.Value

end
-- ==== Proof.Val.RefChain.lean ====
/- The reference's line, stretch after stretch: its result from the arguments alone. -/
module

public import proofs.«01_k».proof.Proof.Val.Ref
public import proofs.«01_k».proof.Proof.Val.RefGrp

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Spec

variable (V : Val)

/-- The arrays of the layers, from the arguments that a core starts from. -/
def arrs : Arrs :=
  fill (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24))

/-- The buffers once `lin1` has run. -/
abbrev s0 : Val := after (Value.lin1 (F := Ideal)) (g13 V)
/-- The buffers once `bn1` has run. -/
abbrev s1 : Val := after (Value.bn1 (F := Ideal)) (s0 V)
/-- The buffers once `lin2` has run. -/
abbrev s2 : Val := after (Value.lin2 (F := Ideal)) (s1 V)
/-- The buffers once `bn2` has run. -/
abbrev s3 : Val := after (Value.bn2 (F := Ideal)) (s2 V)
/-- The buffers once `lin3` has run. -/
abbrev s4 : Val := after (Value.lin3 (F := Ideal)) (s3 V)
/-- The buffers once `bn3` has run. -/
abbrev s5 : Val := after (Value.bn3 (F := Ideal)) (s4 V)
/-- The buffers once `pool` has run. -/
abbrev s6 : Val := after (Value.pool (F := Ideal)) (s5 V)
/-- The buffers once `cat` has run. -/
abbrev s7 : Val := after (Value.cat (F := Ideal)) (s6 V)
/-- The buffers once `lin4` has run. -/
abbrev s8 : Val := after (Value.lin4 (F := Ideal)) (s7 V)
/-- The buffers once `bn4` has run. -/
abbrev s9 : Val := after (Value.bn4 (F := Ideal)) (s8 V)
/-- The buffers once `lin5` has run. -/
abbrev s10 : Val := after (Value.lin5 (F := Ideal)) (s9 V)
/-- The buffers once `bn5` has run. -/
abbrev s11 : Val := after (Value.bn5 (F := Ideal)) (s10 V)
/-- The buffers once `lin6` has run. -/
abbrev s12 : Val := after (Value.lin6 (F := Ideal)) (s11 V)
/-- The buffers once `bn6` has run. -/
abbrev s13 : Val := after (Value.bn6 (F := Ideal)) (s12 V)
/-- The buffers once `fin` has run. -/
abbrev s14 : Val := after (Value.fin (F := Ideal)) (s13 V)

theorem a0 (a : Ref sig .tc) (h : a ∈ args) : s0 V (Proc.devRef .tc a) = V (Proc.devRef .tc a) := (lin1_keep _ (lin1_args a h)).trans (b13 V a h)
theorem a1 (a : Ref sig .tc) (h : a ∈ args) : s1 V (Proc.devRef .tc a) = V (Proc.devRef .tc a) := (bn1_keep _ (bn1_args a h)).trans (a0 V a h)
theorem a2 (a : Ref sig .tc) (h : a ∈ args) : s2 V (Proc.devRef .tc a) = V (Proc.devRef .tc a) := (lin2_keep _ (lin2_args a h)).trans (a1 V a h)
theorem a3 (a : Ref sig .tc) (h : a ∈ args) : s3 V (Proc.devRef .tc a) = V (Proc.devRef .tc a) := (bn2_keep _ (bn2_args a h)).trans (a2 V a h)
theorem a4 (a : Ref sig .tc) (h : a ∈ args) : s4 V (Proc.devRef .tc a) = V (Proc.devRef .tc a) := (lin3_keep _ (lin3_args a h)).trans (a3 V a h)
theorem a5 (a : Ref sig .tc) (h : a ∈ args) : s5 V (Proc.devRef .tc a) = V (Proc.devRef .tc a) := (bn3_keep _ (bn3_args a h)).trans (a4 V a h)
theorem a6 (a : Ref sig .tc) (h : a ∈ args) : s6 V (Proc.devRef .tc a) = V (Proc.devRef .tc a) := (pool_keep _ (pool_args a h)).trans (a5 V a h)
theorem a7 (a : Ref sig .tc) (h : a ∈ args) : s7 V (Proc.devRef .tc a) = V (Proc.devRef .tc a) := (cat_keep _ (cat_args a h)).trans (a6 V a h)
theorem a8 (a : Ref sig .tc) (h : a ∈ args) : s8 V (Proc.devRef .tc a) = V (Proc.devRef .tc a) := (lin4_keep _ (lin4_args a h)).trans (a7 V a h)
theorem a9 (a : Ref sig .tc) (h : a ∈ args) : s9 V (Proc.devRef .tc a) = V (Proc.devRef .tc a) := (bn4_keep _ (bn4_args a h)).trans (a8 V a h)
theorem a10 (a : Ref sig .tc) (h : a ∈ args) : s10 V (Proc.devRef .tc a) = V (Proc.devRef .tc a) := (lin5_keep _ (lin5_args a h)).trans (a9 V a h)
theorem a11 (a : Ref sig .tc) (h : a ∈ args) : s11 V (Proc.devRef .tc a) = V (Proc.devRef .tc a) := (bn5_keep _ (bn5_args a h)).trans (a10 V a h)
theorem a12 (a : Ref sig .tc) (h : a ∈ args) : s12 V (Proc.devRef .tc a) = V (Proc.devRef .tc a) := (lin6_keep _ (lin6_args a h)).trans (a11 V a h)
theorem a13 (a : Ref sig .tc) (h : a ∈ args) : s13 V (Proc.devRef .tc a) = V (Proc.devRef .tc a) := (bn6_keep _ (bn6_args a h)).trans (a12 V a h)

variable (S : Start (V (Proc.devRef .tc main_arg0)) (V (Proc.devRef .tc main_arg1)) (V (Proc.devRef .tc main_arg2))) (G : Good (arrs V))
include S

/-- The centres reach the layer that reads them. -/
theorem cen6 (a : Fin 2048) (j : Fin 8) (k : Fin 3) : s6 V (Proc.devRef .tc main_v101) (ix3 a j k) = ((pts V k a (at' (pts V) j.val a) : ℝ) : EReal) :=
  (congrFun ((pool_keep _ (by decide)).trans ((bn3_keep _ (by decide)).trans ((lin3_keep _ (by decide)).trans ((bn2_keep _ (by decide)).trans
    ((lin2_keep _ (by decide)).trans ((bn1_keep _ (by decide)).trans (lin1_keep (g13 V) (by decide)))))))) _).trans (cen13 V S a j k)

theorem cent6 (k : Fin 3) (r : Fin 16384) : s6 V (Proc.devRef .tc main_v101) (ix3 ⟨r.val / 8, by omega⟩ ⟨r.val % 8, by omega⟩ k)
    = ((coord (centres k (V (Proc.devRef .tc main_arg0))) r : ℝ) : EReal) := by
  rw [coord_centres]
  exact cen6 V S _ _ k

theorem r0 (r : Fin _) (k : Fin _) : s0 V (Proc.devRef .tc main_v134) (ix2 r k) = ((rows (arrs V).a0 (turn r) k : ℝ) : EReal) := by
  unfold arrs
  rw [rows_fill]
  exact lin1_val (g13 V) _ _ _ (offs13 V S) (fun o k => (congrFun (b13 V main_arg1 (by decide)) _).trans (S.hw o k))
    (fun k => (congrFun (b13 V main_arg2 (by decide)) _).trans (S.hb k)) r k

include G

theorem r1 (r : Fin _) (k : Fin _) : s1 V (Proc.devRef .tc main_v161) (ix2 r k) = (((arrs V).z1 (turn r) k : ℝ) : EReal) :=
  (bn1_val _ _ _ _ (r0 V S) (fun k => (congrFun (a0 V main_arg3 (by decide)) _).trans (G.h5 k)) (fun k => (congrFun (a0 V main_arg4 (by decide)) _).trans (G.h6 k)) r k).trans (congrArg Real.toEReal (bn_turn _ _ _ _ r k))
theorem r2 (r : Fin _) (k : Fin _) : s2 V (Proc.devRef .tc main_v165) (ix2 r k) = (((arrs V).y2 (turn r) k : ℝ) : EReal) :=
  lin2_val _ _ _ _ (r1 V S G) (fun o k => (congrFun (a1 V main_arg5 (by decide)) _).trans (G.h7 o k)) (fun k => (congrFun (a1 V main_arg6 (by decide)) _).trans (G.h8 k)) r k
theorem r3 (r : Fin _) (k : Fin _) : s3 V (Proc.devRef .tc main_v192) (ix2 r k) = (((arrs V).z2 (turn r) k : ℝ) : EReal) :=
  (bn2_val _ _ _ _ (r2 V S G) (fun k => (congrFun (a2 V main_arg7 (by decide)) _).trans (G.h9 k)) (fun k => (congrFun (a2 V main_arg8 (by decide)) _).trans (G.h10 k)) r k).trans (congrArg Real.toEReal (bn_turn _ _ _ _ r k))
theorem r4 (r : Fin _) (k : Fin _) : s4 V (Proc.devRef .tc main_v196) (ix2 r k) = (((arrs V).y3 (turn r) k : ℝ) : EReal) :=
  lin3_val _ _ _ _ (r3 V S G) (fun o k => (congrFun (a3 V main_arg9 (by decide)) _).trans (G.h11 o k)) (fun k => (congrFun (a3 V main_arg10 (by decide)) _).trans (G.h12 k)) r k
theorem r5 (r : Fin _) (k : Fin _) : s5 V (Proc.devRef .tc main_v223) (ix2 r k) = (((arrs V).z3 (turn r) k : ℝ) : EReal) :=
  (bn3_val _ _ _ _ (r4 V S G) (fun k => (congrFun (a4 V main_arg11 (by decide)) _).trans (G.h13 k)) (fun k => (congrFun (a4 V main_arg12 (by decide)) _).trans (G.h14 k)) r k).trans (congrArg Real.toEReal (bn_turn _ _ _ _ r k))
theorem r6 (a : Fin 2048) (j : Fin 8) (k : Fin 128) : s6 V (Proc.devRef .tc main_v225) (ix3 a j k) = ((Spec.pool (arrs V).z3 ⟨a.val * 8 + j.val, by omega⟩ k : ℝ) : EReal) :=
  pool_val _ _ (r5 V S G) a j k
theorem r7 (r : Fin _) (k : Fin _) : s7 V (Proc.devRef .tc main_v227) (ix2 r k) = (((arrs V).x4 r k : ℝ) : EReal) :=
  cat_val _ _ _ _ _ (cent6 V S 0) (cent6 V S 1) (cent6 V S 2) (r6 V S G) r k
theorem r8 (r : Fin _) (k : Fin _) : s8 V (Proc.devRef .tc main_v231) (ix2 r k) = (((arrs V).y4 r k : ℝ) : EReal) :=
  lin4_val _ _ _ _ (r7 V S G) (fun o k => (congrFun (a7 V main_arg13 (by decide)) _).trans (G.h15 o k)) (fun k => (congrFun (a7 V main_arg14 (by decide)) _).trans (G.h16 k)) r k
theorem r9 (r : Fin _) (k : Fin _) : s9 V (Proc.devRef .tc main_v258) (ix2 r k) = (((arrs V).z4 r k : ℝ) : EReal) :=
  bn4_val _ _ _ _ (r8 V S G) (fun k => (congrFun (a8 V main_arg15 (by decide)) _).trans (G.h17 k)) (fun k => (congrFun (a8 V main_arg16 (by decide)) _).trans (G.h18 k)) r k
theorem r10 (r : Fin _) (k : Fin _) : s10 V (Proc.devRef .tc main_v262) (ix2 r k) = (((arrs V).y5 r k : ℝ) : EReal) :=
  lin5_val _ _ _ _ (r9 V S G) (fun o k => (congrFun (a9 V main_arg17 (by decide)) _).trans (G.h19 o k)) (fun k => (congrFun (a9 V main_arg18 (by decide)) _).trans (G.h20 k)) r k
theorem r11 (r : Fin _) (k : Fin _) : s11 V (Proc.devRef .tc main_v289) (ix2 r k) = (((arrs V).z5 r k : ℝ) : EReal) :=
  bn5_val _ _ _ _ (r10 V S G) (fun k => (congrFun (a10 V main_arg19 (by decide)) _).trans (G.h21 k)) (fun k => (congrFun (a10 V main_arg20 (by decide)) _).trans (G.h22 k)) r k
theorem r12 (r : Fin _) (k : Fin _) : s12 V (Proc.devRef .tc main_v293) (ix2 r k) = (((arrs V).y6 r k : ℝ) : EReal) :=
  lin6_val _ _ _ _ (r11 V S G) (fun o k => (congrFun (a11 V main_arg21 (by decide)) _).trans (G.h23 o k)) (fun k => (congrFun (a11 V main_arg22 (by decide)) _).trans (G.h24 k)) r k
theorem r13 (r : Fin _) (k : Fin _) : s13 V (Proc.devRef .tc main_v320) (ix2 r k) = (((arrs V).z6 r k : ℝ) : EReal) :=
  bn6_val _ _ _ _ (r12 V S G) (fun k => (congrFun (a12 V main_arg23 (by decide)) _).trans (G.h25 k)) (fun k => (congrFun (a12 V main_arg24 (by decide)) _).trans (G.h26 k)) r k

/-- The reference's result, entry by entry. -/
theorem result (p : Fin 2) (q : Fin 1024) (o : Fin 512) : after (ops (F := Ideal)) V (Proc.devRef .tc main_v323) (ix3 p q o)
    = (((arrs V).out ⟨p.val * 1024 + q.val, by omega⟩ o : ℝ) : EReal) := by
  simp only [ops, after_append]
  exact fin_val (s13 V) _ (r13 V S G) p q o

end Cert.ReferenceIdeal.Value
-- ==== Proof.Val.Equal.lean ====
/- The program and its reference leave equal results: both are the same function of the arguments. -/
module

public import proofs.«01_k».proof.Defs
public import proofs.«01_k».proof.Proof.Mem.Run
public import proofs.«01_k».proof.Proof.Ref.Frame
public import proofs.«01_k».proof.Proof.Val.Chain
public import proofs.«01_k».proof.Proof.Val.Pre
public import proofs.«01_k».proof.Proof.Val.RefChain

@[expose] public section

set_option maxRecDepth 16384

noncomputable section

namespace Cert.Proof

open Idealize.ShloMosaic Idealize.ShloMosaic.TcCoe Idealize.SL.Sem Idealize.ShloMosaic.StableHlo Cert.Spec

/-- From arguments that meet the precondition the two programs end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hpre hargs => by
  have H := fun c => Cert.Pre_finite.good _ _ _ _ _ _ _ _ _ _ _ _ _ _ _ _ _ _ _ _ _ _ _ _ _ (hpre c)
  have E : ∀ c : Dev Cert.KernelIdeal.nD, Cert.ReferenceIdeal.Value.arrs (launchContents m' c) = Cert.KernelIdeal.Val.arrs m c := fun c => by
    obtain ⟨e0, e1, e2, e3, e4, e5, e6, e7, e8, e9, e10, e11, e12, e13, e14, e15, e16, e17, e18, e19, e20, e21, e22, e23, e24⟩ := hargs c
    unfold Cert.KernelIdeal.Val.arrs
    rw [← e0, ← e1, ← e2, ← e3, ← e4, ← e5, ← e6, ← e7, ← e8, ← e9, ← e10, ← e11, ← e12, ← e13, ← e14, ← e15, ← e16, ← e17, ← e18, ← e19, ← e20, ← e21, ← e22, ← e23, ← e24]
    rfl
  refine ⟨fun c => Cert.KernelIdeal.Gen.W15 m g c (Proc.devRef .tc Cert.KernelIdeal.main_v54), ?_, ?_⟩
  · exact (θ_run Cert.KernelIdeal.defs _ _).mono (fun r h c => by
      have k : ∀ a ∈ Cert.KernelIdeal.Gen.argRefs, Proc.devRef .tc a ∈ Pipeline.ucRefs Cert.KernelIdeal.τ Cert.KernelIdeal.sig →
          r.2.mem ((c.tc : Thread Cert.KernelIdeal.nD Cert.KernelIdeal.τ).loc a) = m ((c.tc : Thread Cert.KernelIdeal.nD Cert.KernelIdeal.τ).loc a) := fun a ha hu =>
        (h.1 c _ hu).trans (Cert.KernelIdeal.Gen.W15_args m g c a ha)
      exact ⟨h.1 c _ (Cert.KernelIdeal.Gen.mem_uc Cert.KernelIdeal.main_v54 (by decide)), k Cert.KernelIdeal.main_arg0 (by decide) (Cert.KernelIdeal.Gen.mem_uc Cert.KernelIdeal.main_arg0 (by decide)), k Cert.KernelIdeal.main_arg1 (by decide) (Cert.KernelIdeal.Gen.mem_uc Cert.KernelIdeal.main_arg1 (by decide)), k Cert.KernelIdeal.main_arg2 (by decide) (Cert.KernelIdeal.Gen.mem_uc Cert.KernelIdeal.main_arg2 (by decide)), k Cert.KernelIdeal.main_arg3 (by decide) (Cert.KernelIdeal.Gen.mem_uc Cert.KernelIdeal.main_arg3 (by decide)), k Cert.KernelIdeal.main_arg4 (by decide) (Cert.KernelIdeal.Gen.mem_uc Cert.KernelIdeal.main_arg4 (by decide)), k Cert.KernelIdeal.main_arg5 (by decide) (Cert.KernelIdeal.Gen.mem_uc Cert.KernelIdeal.main_arg5 (by decide)), k Cert.KernelIdeal.main_arg6 (by decide) (Cert.KernelIdeal.Gen.mem_uc Cert.KernelIdeal.main_arg6 (by decide)), k Cert.KernelIdeal.main_arg7 (by decide) (Cert.KernelIdeal.Gen.mem_uc Cert.KernelIdeal.main_arg7 (by decide)), k Cert.KernelIdeal.main_arg8 (by decide) (Cert.KernelIdeal.Gen.mem_uc Cert.KernelIdeal.main_arg8 (by decide)), k Cert.KernelIdeal.main_arg9 (by decide) (Cert.KernelIdeal.Gen.mem_uc Cert.KernelIdeal.main_arg9 (by decide)), k Cert.KernelIdeal.main_arg10 (by decide) (Cert.KernelIdeal.Gen.mem_uc Cert.KernelIdeal.main_arg10 (by decide)), k Cert.KernelIdeal.main_arg11 (by decide) (Cert.KernelIdeal.Gen.mem_uc Cert.KernelIdeal.main_arg11 (by decide)), k Cert.KernelIdeal.main_arg12 (by decide) (Cert.KernelIdeal.Gen.mem_uc Cert.KernelIdeal.main_arg12 (by decide)), k Cert.KernelIdeal.main_arg13 (by decide) (Cert.KernelIdeal.Gen.mem_uc Cert.KernelIdeal.main_arg13 (by decide)), k Cert.KernelIdeal.main_arg14 (by decide) (Cert.KernelIdeal.Gen.mem_uc Cert.KernelIdeal.main_arg14 (by decide)), k Cert.KernelIdeal.main_arg15 (by decide) (Cert.KernelIdeal.Gen.mem_uc Cert.KernelIdeal.main_arg15 (by decide)), k Cert.KernelIdeal.main_arg16 (by decide) (Cert.KernelIdeal.Gen.mem_uc Cert.KernelIdeal.main_arg16 (by decide)), k Cert.KernelIdeal.main_arg17 (by decide) (Cert.KernelIdeal.Gen.mem_uc Cert.KernelIdeal.main_arg17 (by decide)), k Cert.KernelIdeal.main_arg18 (by decide) (Cert.KernelIdeal.Gen.mem_uc Cert.KernelIdeal.main_arg18 (by decide)), k Cert.KernelIdeal.main_arg19 (by decide) (Cert.KernelIdeal.Gen.mem_uc Cert.KernelIdeal.main_arg19 (by decide)), k Cert.KernelIdeal.main_arg20 (by decide) (Cert.KernelIdeal.Gen.mem_uc Cert.KernelIdeal.main_arg20 (by decide)), k Cert.KernelIdeal.main_arg21 (by decide) (Cert.KernelIdeal.Gen.mem_uc Cert.KernelIdeal.main_arg21 (by decide)), k Cert.KernelIdeal.main_arg22 (by decide) (Cert.KernelIdeal.Gen.mem_uc Cert.KernelIdeal.main_arg22 (by decide)), k Cert.KernelIdeal.main_arg23 (by decide) (Cert.KernelIdeal.Gen.mem_uc Cert.KernelIdeal.main_arg23 (by decide)), k Cert.KernelIdeal.main_arg24 (by decide) (Cert.KernelIdeal.Gen.mem_uc Cert.KernelIdeal.main_arg24 (by decide))⟩)
      (Cert.KernelIdeal.Gen.run (F := Ideal) m g)
  · exact (θ_run Cert.ReferenceIdeal.defs _ _).mono (fun r h c => by
      have k : ∀ a ∈ Cert.ReferenceIdeal.Value.args, r.2.mem ((c.tc : Thread Cert.ReferenceIdeal.nD Cert.ReferenceIdeal.τ).loc a) = m' ((c.tc : Thread Cert.ReferenceIdeal.nD Cert.ReferenceIdeal.τ).loc a) :=
        fun a ha => (h c a).trans (Cert.ReferenceIdeal.Value.ops_args (launchContents m' c) a ha)
      refine ⟨(h c _).trans (funext fun i => ?_), k Cert.ReferenceIdeal.main_arg0 (by decide), k Cert.ReferenceIdeal.main_arg1 (by decide), k Cert.ReferenceIdeal.main_arg2 (by decide), k Cert.ReferenceIdeal.main_arg3 (by decide), k Cert.ReferenceIdeal.main_arg4 (by decide), k Cert.ReferenceIdeal.main_arg5 (by decide), k Cert.ReferenceIdeal.main_arg6 (by decide), k Cert.ReferenceIdeal.main_arg7 (by decide), k Cert.ReferenceIdeal.main_arg8 (by decide), k Cert.ReferenceIdeal.main_arg9 (by decide), k Cert.ReferenceIdeal.main_arg10 (by decide), k Cert.ReferenceIdeal.main_arg11 (by decide), k Cert.ReferenceIdeal.main_arg12 (by decide), k Cert.ReferenceIdeal.main_arg13 (by decide), k Cert.ReferenceIdeal.main_arg14 (by decide), k Cert.ReferenceIdeal.main_arg15 (by decide), k Cert.ReferenceIdeal.main_arg16 (by decide), k Cert.ReferenceIdeal.main_arg17 (by decide), k Cert.ReferenceIdeal.main_arg18 (by decide), k Cert.ReferenceIdeal.main_arg19 (by decide), k Cert.ReferenceIdeal.main_arg20 (by decide), k Cert.ReferenceIdeal.main_arg21 (by decide), k Cert.ReferenceIdeal.main_arg22 (by decide), k Cert.ReferenceIdeal.main_arg23 (by decide), k Cert.ReferenceIdeal.main_arg24 (by decide)⟩
      have S' : Start (launchContents m' c (Proc.devRef .tc Cert.ReferenceIdeal.main_arg0)) (launchContents m' c (Proc.devRef .tc Cert.ReferenceIdeal.main_arg1))
          (launchContents m' c (Proc.devRef .tc Cert.ReferenceIdeal.main_arg2)) := by
        obtain ⟨e0, e1, e2, -⟩ := hargs c
        have S := (H c).1
        rw [← e0, ← e1, ← e2] at S
        exact S
      have G : Good (Cert.KernelIdeal.Val.arrs m c) := (H c).2
      have q := Cert.ReferenceIdeal.Value.result (launchContents m' c) S' (E c ▸ G) (i 0) (i 1) (i 2)
      have p := Cert.KernelIdeal.Val.result m g c (H c).1 G (i 0) (i 1) (i 2)
      rw [E c] at q
      have hi : i = ix3 (i 0) (i 1) (i 2) := by funext d; fin_cases d <;> rfl
      rw [hi]
      exact q.trans p.symm)
      (Cert.ReferenceIdeal.Value.run (F := Ideal) m' g')

end Cert.Proof
-- ==== Proof.lean ====
module

public import proofs.«01_k».proof.Defs
public import proofs.«01_k».proof.Proof.Bits
public import proofs.«01_k».proof.Proof.Mem.Run
public import proofs.«01_k».proof.Proof.Ref.Frame
public import proofs.«01_k».proof.Proof.Val.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.facts,
    frame_Kernel, fun m ρ _ => Cert.KernelIdeal.Gen.frame m ρ, fun m ρ _ => Cert.KernelIdeal.Gen.frame m ρ,
    frame_ReferenceIdeal, fun m ρ _ => frame_ReferenceIdeal m ρ trivial, trivial, algebraic⟩

end Cert.Proof

end
